-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "scale" .f32 0x3E38AA3B#32 (((1 / 8) * (Real.log 2)⁻¹ : ℝ) : EReal)
  ∧ IdealRules.named_const.Statement Cert.Kernel2Ideal.κ "slope" .f32 0x40B8AA3B#32 ((4 * (Real.log 2)⁻¹ : ℝ) : EReal)
  ∧ IdealRules.named_const.Statement Cert.Kernel2Ideal.κ "mask" .f32 0xF149F2CA#32 ⊥
  ∧ IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_1)) (v2 : (c : Dev Cert.Kernel5Ideal.nD) → Buf (Elt Ideal) ((c.tc : Thread Cert.Kernel5Ideal.nD Cert.Kernel5Ideal.τ).loc Cert.Kernel5Ideal.main_v32_2)) (v3 : (c : Dev Cert.Kernel5Ideal.nD) → Buf (Elt Ideal) ((c.tc : Thread Cert.Kernel5Ideal.nD Cert.Kernel5Ideal.τ).loc Cert.Kernel5Ideal.main_v32_3)) (v4 : (c : Dev Cert.Kernel5Ideal.nD) → Buf (Elt Ideal) ((c.tc : Thread Cert.Kernel5Ideal.nD Cert.Kernel5Ideal.τ).loc Cert.Kernel5Ideal.main_v32_4)) (v5 : (c : Dev Cert.Kernel5Ideal.nD) → Buf (Elt Ideal) ((c.tc : Thread Cert.Kernel5Ideal.nD Cert.Kernel5Ideal.τ).loc Cert.Kernel5Ideal.main_v32_5)) (v6 : (c : Dev Cert.Kernel5Ideal.nD) → Buf (Elt Ideal) ((c.tc : Thread Cert.Kernel5Ideal.nD Cert.Kernel5Ideal.τ).loc Cert.Kernel5Ideal.main_v32_6)) (v7 : (c : Dev Cert.Kernel5Ideal.nD) → Buf (Elt Ideal) ((c.tc : Thread Cert.Kernel5Ideal.nD Cert.Kernel5Ideal.τ).loc Cert.Kernel5Ideal.main_v32_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_1) = v1 c
          ∧ r.2.mem ((c.tc : Thread Cert.Kernel5Ideal.nD Cert.Kernel5Ideal.τ).loc Cert.Kernel5Ideal.main_v32_2) = v2 c
          ∧ r.2.mem ((c.tc : Thread Cert.Kernel5Ideal.nD Cert.Kernel5Ideal.τ).loc Cert.Kernel5Ideal.main_v32_3) = v3 c
          ∧ r.2.mem ((c.tc : Thread Cert.Kernel5Ideal.nD Cert.Kernel5Ideal.τ).loc Cert.Kernel5Ideal.main_v32_4) = v4 c
          ∧ r.2.mem ((c.tc : Thread Cert.Kernel5Ideal.nD Cert.Kernel5Ideal.τ).loc Cert.Kernel5Ideal.main_v32_5) = v5 c
          ∧ r.2.mem ((c.tc : Thread Cert.Kernel5Ideal.nD Cert.Kernel5Ideal.τ).loc Cert.Kernel5Ideal.main_v32_6) = v6 c
          ∧ r.2.mem ((c.tc : Thread Cert.Kernel5Ideal.nD Cert.Kernel5Ideal.τ).loc Cert.Kernel5Ideal.main_v32_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_v3) = v2 c
          ∧ r.2.mem ((c.tc : Thread Cert.Reference5Ideal.nD Cert.Reference5Ideal.τ).loc Cert.Reference5Ideal.main_v22) = v3 c
          ∧ r.2.mem ((c.tc : Thread Cert.Reference5Ideal.nD Cert.Reference5Ideal.τ).loc Cert.Reference5Ideal.main_v26) = v4 c
          ∧ r.2.mem ((c.tc : Thread Cert.Reference5Ideal.nD Cert.Reference5Ideal.τ).loc Cert.Reference5Ideal.main_v31) = v5 c
          ∧ r.2.mem ((c.tc : Thread Cert.Reference5Ideal.nD Cert.Reference5Ideal.τ).loc Cert.Reference5Ideal.main_v35) = v6 c
          ∧ r.2.mem ((c.tc : Thread Cert.Reference5Ideal.nD Cert.Reference5Ideal.τ).loc Cert.Reference5Ideal.main_v12) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v57_0)) (v1 : (c : Dev Cert.Kernel7Ideal.nD) → Buf (Elt Ideal) ((c.tc : Thread Cert.Kernel7Ideal.nD Cert.Kernel7Ideal.τ).loc Cert.Kernel7Ideal.main_v57_1)) (v2 : (c : Dev Cert.Kernel7Ideal.nD) → Buf (Elt Ideal) ((c.tc : Thread Cert.Kernel7Ideal.nD Cert.Kernel7Ideal.τ).loc Cert.Kernel7Ideal.main_v57_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v57_0) = v0 c
          ∧ r.2.mem ((c.tc : Thread Cert.Kernel7Ideal.nD Cert.Kernel7Ideal.τ).loc Cert.Kernel7Ideal.main_v57_1) = v1 c
          ∧ r.2.mem ((c.tc : Thread Cert.Kernel7Ideal.nD Cert.Kernel7Ideal.τ).loc Cert.Kernel7Ideal.main_v57_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v113) = v0 c
          ∧ r.2.mem ((c.tc : Thread Cert.Reference7Ideal.nD Cert.Reference7Ideal.τ).loc Cert.Reference7Ideal.main_v115) = v1 c
          ∧ r.2.mem ((c.tc : Thread Cert.Reference7Ideal.nD Cert.Reference7Ideal.τ).loc Cert.Reference7Ideal.main_v118) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_routed : Cert.Pre_routed.Facts) (hPre_finite2 : Cert.Pre_finite2.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite2.lean ====
abbrev S32x2048x1536 : Shape := ⟨3, ![32, 2048, 1536]⟩
abbrev S_ : Shape := ⟨0, ![]⟩

class Facts : Prop where
  bcast_S_S32x2048x1536 : S_.BroadcastsInDim S32x2048x1536 (![] : Fin 0 → Fin S32x2048x1536.rank)

variable [Facts]

def fn {F : FTy → Type} [FloatOps F] (main_arg0 : FVec F S32x2048x1536 .bf16) : IVec S32x2048x1536 1 :=
  let main_v0 : FVec F S32x2048x1536 .bf16 := Host.absf main_arg0
  let main_cst : FVec F S_ .bf16 := constant S_ .bf16 0x7F80#16
  let main_v1 : FVec F S32x2048x1536 .bf16 := broadcastInDim S32x2048x1536 ![] bcast_S_S32x2048x1536 main_cst
  let main_v2 : IVec S32x2048x1536 1 := cmpf .olt main_v0 main_v1
  main_v2
-- ==== Pre_routed.lean ====
abbrev S152 : Shape := ⟨1, ![152]⟩
abbrev S1 : Shape := ⟨1, ![1]⟩
abbrev S77824x1152 : Shape := ⟨2, ![77824, 1152]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S152 : S_.BroadcastsInDim S152 (![] : Fin 0 → Fin S152.rank)

variable [Facts]

def fn {F : FTy → Type} [FloatOps F] (main_arg0 : IVec S152 32) (main_arg1 : IVec S152 32) (main_arg2 : IVec S1 32) (main_arg3 : FVec F S77824x1152 .f32) (main_arg4 : FVec F S16x1024x512 .f32) (main_arg5 : FVec F S16x1024x512 .f32) (main_arg6 : FVec F S16x512x1024 .f32) (main_arg7 : FVec F S1024 .f32) (main_arg8 : FVec F S1024 .f32) : IVec S152 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 32 := constantI S_ 32 0#32
  let main_v5 : IVec S152 32 := broadcastInDim S152 ![] bcast_S_S152 main_c_1
  let main_v6 : IVec S152 1 := cmpi .sge main_arg1 main_v5
  let main_v7 : IVec S152 1 := andi main_v4 main_v6
  let main_c_2 : IVec S_ 32 := constantI S_ 32 16#32
  let main_v8 : IVec S152 32 := broadcastInDim S152 ![] bcast_S_S152 main_c_2
  let main_v9 : IVec S152 1 := cmpi .slt main_arg1 main_v8
  let main_v10 : IVec S152 1 := andi main_v7 main_v9
  let main_v11 : IVec S152 1 := cmpi .ne main_arg0 main_arg1
  let main_v12 : IVec S152 1 := andi main_v10 main_v11
  main_v12
-- ==== Kernel.lean ====
abbrev S152 : Shape := ⟨1, ![152]⟩
abbrev S1 : Shape := ⟨1, ![1]⟩
abbrev S77824x1152 : Shape := ⟨2, ![77824, 1152]⟩
abbrev S16x1024x512 : Shape := ⟨3, ![16, 1024, 512]⟩
abbrev S16x512x1024 : Shape := ⟨3, ![16, 512, 1024]⟩
abbrev S1024 : Shape := ⟨1, ![1024]⟩
abbrev S1x1024 : Shape := ⟨2, ![1, 1024]⟩
abbrev S77824x1024 : Shape := ⟨2, ![77824, 1024]⟩
abbrev S512x1152 : Shape := ⟨2, ![512, 1152]⟩
abbrev S1x1024x512 : Shape := ⟨3, ![1, 1024, 512]⟩
abbrev S1x512x1024 : Shape := ⟨3, ![1, 512, 1024]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 18
  | .smem => 3
  | _ => 0

abbrev bufTy : (tb : Table) → Fin (tcTables nBuf tb) → BufTy
  | .hbm, ⟨0, _⟩ => ⟨S77824x1152, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S1024, .f32⟩
  | .hbm, ⟨5, _⟩ => ⟨S1024, .f32⟩
  | .hbm, ⟨6, _⟩ => ⟨S16x1024x512, .bf16⟩
  | .hbm, ⟨7, _⟩ => ⟨S16x1024x512, .bf16⟩
  | .hbm, ⟨8, _⟩ => ⟨S16x512x1024, .bf16⟩
  | .hbm, ⟨9, _⟩ => ⟨S1x1024, .f32⟩
  | .hbm, ⟨10, _⟩ => ⟨S1x1024, .f32⟩
  | .hbm, ⟨11, _⟩ => ⟨S77824x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S77824x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S152 : Shape := ⟨1, ![152]⟩
abbrev S1 : Shape := ⟨1, ![1]⟩
abbrev S77824x1152 : Shape := ⟨2, ![77824, 1152]⟩
abbrev S16x1024x512 : Shape := ⟨3, ![16, 1024, 512]⟩
abbrev S16x512x1024 : Shape := ⟨3, ![16, 512, 1024]⟩
abbrev S1024 : Shape := ⟨1, ![1024]⟩
abbrev S77824x1024 : Shape := ⟨2, ![77824, 1024]⟩
abbrev S77824x2 : Shape := ⟨2, ![77824, 2]⟩
abbrev S152x1 : Shape := ⟨2, ![152, 1]⟩
abbrev S152x512 : Shape := ⟨2, ![152, 512]⟩
abbrev S77824 : Shape := ⟨1, ![77824]⟩
abbrev S77824x1 : Shape := ⟨2, ![77824, 1]⟩
abbrev S77824x2x1 : Shape := ⟨3, ![77824, 2, 1]⟩
abbrev S1x1x16 : Shape := ⟨3, ![1, 1, 16]⟩
abbrev S77824x2x16 : Shape := ⟨3, ![77824, 2, 16]⟩
abbrev S_ : Shape := ⟨0, ![]⟩
abbrev S77824x16 : Shape := ⟨2, ![77824, 16]⟩
abbrev S16x512x77824 : Shape := ⟨3, ![16, 512, 77824]⟩
abbrev S16x77824x512 : Shape := ⟨3, ![16, 77824, 512]⟩
abbrev S16x77824 : Shape := ⟨2, ![16, 77824]⟩
abbrev S16x77824x1 : Shape := ⟨3, ![16, 77824, 1]⟩
abbrev S16x77824x1024 : Shape := ⟨3, ![16, 77824, 1024]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S1, .i32⟩
  | .hbm, ⟨3, _⟩ => ⟨S77824x1152, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024, .f32⟩
  | .hbm, ⟨9, _⟩ => ⟨S77824x1024, .f32⟩
  | .hbm, ⟨10, _⟩ => ⟨S77824x2, .f32⟩
  | .hbm, ⟨11, _⟩ => ⟨S152x1, .i32⟩
  | .hbm, ⟨12, _⟩ => ⟨S152x512, .i32⟩
  | .hbm, ⟨13, _⟩ => ⟨S77824, .i32⟩
  | .hbm, ⟨14, _⟩ => ⟨S152x1, .i32⟩
  | .hbm, ⟨15, _⟩ => ⟨S152x512, .i32⟩
  | .hbm, ⟨16, _⟩ => ⟨S77824, .i32⟩
  | .hbm, ⟨17, _⟩ => ⟨S77824x1, .i32⟩
  | .hbm, ⟨18, _⟩ => ⟨S77824x1, .i32⟩
  | .hbm, ⟨19, _⟩ => ⟨S77824x2, .i32⟩
  | .hbm, ⟨20, _⟩ => ⟨S77824x2x1, .i32⟩
  | .hbm, ⟨21, _⟩ => ⟨S1x1x16, .i32⟩
  | .hbm, ⟨22, _⟩ => ⟨S77824x2x16, .i32⟩
  | .hbm, ⟨23, _⟩ => ⟨S77824x2x16, .i32⟩
  | .hbm, ⟨24, _⟩ => ⟨S77824x2x16, .i1⟩
  | .hbm, ⟨25, _⟩ => ⟨S77824x2x16, .f32⟩
  | .hbm, ⟨26, _⟩ => ⟨S77824x2x1, .f32⟩
  | .hbm, ⟨27, _⟩ => ⟨S77824x2x16, .f32⟩
  | .hbm, ⟨28, _⟩ => ⟨S77824x2x16, .f32⟩
  | .hbm, ⟨29, _⟩ => ⟨S_, .f32⟩
  | .hbm, ⟨30, _⟩ => ⟨S77824x16, .f32⟩
  | .hbm, ⟨31, _⟩ => ⟨S16x512x77824, .f32⟩
  | .hbm, ⟨32, _⟩ => ⟨S16x77824x512, .f32⟩
  | .hbm, ⟨33, _⟩ => ⟨S16x77824x512, .f32⟩
  | .hbm, ⟨34, _⟩ => ⟨S16x77824x512, .f32⟩
  | .hbm, ⟨35, _⟩ => ⟨S_, .f32⟩
  | .hbm, ⟨36, _⟩ => ⟨S16x77824x512, .f32⟩
  | .hbm, ⟨37, _⟩ => ⟨S16x77824x512, .f32⟩
  | .hbm, ⟨38, _⟩ => ⟨S_, .f32⟩
  | .hbm, ⟨39, _⟩ => ⟨S16x77824x512, .f32⟩
  | .hbm, ⟨40, _⟩ => ⟨S16x77824x512, .f32⟩
  | .hbm, ⟨41, _⟩ => ⟨S16x77824x512, .f32⟩
  | .hbm, ⟨42, _⟩ => ⟨S16x512x77824, .f32⟩
  | .hbm, ⟨43, _⟩ => ⟨S16x77824x512, .f32⟩
  | .hbm, ⟨44, _⟩ => ⟨S16x77824x512, .f32⟩
  | .hbm, ⟨45, _⟩ => ⟨S16x77824, .f32⟩
  | .hbm, ⟨46, _⟩ => ⟨S16x77824x1, .f32⟩
  | .hbm, ⟨47, _⟩ => ⟨S16x77824x1024, .f32⟩
  | .hbm, ⟨48, _⟩ => ⟨S16x77824x1024, .f32⟩
  | .hbm, ⟨49, _⟩ => ⟨S16x77824x1024, .f32⟩
  | .hbm, ⟨50, _⟩ => ⟨S_, .f32⟩
  | .hbm, ⟨51, _⟩ => ⟨S77824x1024, .f32⟩
  | .hbm, ⟨52, _⟩ => ⟨S_, .f32⟩
  | .hbm, ⟨53, _⟩ => ⟨S77824x1024, .f32⟩
  | .hbm, ⟨54, _⟩ => ⟨S77824x1024, .f32⟩
  | .hbm, ⟨55, _⟩ => ⟨S77824x1024, .f32⟩
  | .hbm, ⟨56, _⟩ => ⟨S_, .f32⟩
  | .hbm, ⟨57, _⟩ => ⟨S77824, .f32⟩
  | .hbm, ⟨58, _⟩ => ⟨S77824x1, .f32⟩
  | .hbm, ⟨59, _⟩ => ⟨S_, .f32⟩
  | .hbm, ⟨60, _⟩ => ⟨S77824x1, .f32⟩
  | .hbm, ⟨61, _⟩ => ⟨S77824x1, .f32⟩
  | .hbm, ⟨62, _⟩ => ⟨S77824x1024, .f32⟩
  | .hbm, ⟨63, _⟩ => ⟨S77824x1024, .f32⟩
  | .hbm, ⟨64, _⟩ => ⟨S77824x1024, .f32⟩
  | .hbm, ⟨65, _⟩ => ⟨S_, .f32⟩
  | .hbm, ⟨66, _⟩ => ⟨S77824, .f32⟩
  | .hbm, ⟨67, _⟩ => ⟨S77824x1, .f32⟩
  | .hbm, ⟨68, _⟩ => ⟨S_, .f32⟩
  | .hbm, ⟨69, _⟩ => ⟨S77824x1, .f32⟩
  | .hbm, ⟨70, _⟩ => ⟨S77824x1, .f32⟩
  | .hbm, ⟨71, _⟩ => ⟨S77824x1024, .f32⟩
  | .hbm, ⟨72, _⟩ => ⟨S77824x1024, .f32⟩
  | .hbm, ⟨73, _⟩ => ⟨S_, .f32⟩
  | .hbm, ⟨74, _⟩ => ⟨S77824x1, .f32⟩
  | .hbm, ⟨75, _⟩ => ⟨S77824x1, .f32⟩
  | .hbm, ⟨76, _⟩ => ⟨S77824x1, .f32⟩
  | .hbm, ⟨77, _⟩ => ⟨S77824x1024, .f32⟩
  | .hbm, ⟨78, _⟩ => ⟨S77824x1024, .f32⟩
  | .hbm, ⟨79, _⟩ => ⟨S1x1024, .f32⟩
  | .hbm, ⟨80, _⟩ => ⟨S77824x1024, .f32⟩
  | .hbm, ⟨81, _⟩ => ⟨S77824x1024, .f32⟩
  | .hbm, ⟨82, _⟩ => ⟨S1x1024, .f32⟩
  | .hbm, ⟨83, _⟩ => ⟨S77824x1024, .f32⟩
  | .hbm, ⟨84, _⟩ => ⟨S77824x1024, .f32⟩
  | .hbm, ⟨85, _⟩ => ⟨S152, .i32⟩
  | .hbm, ⟨86, _⟩ => ⟨S152x1, .i32⟩
  | .hbm, ⟨87, _⟩ => ⟨S152x512, .i32⟩
  | .hbm, ⟨88, _⟩ => ⟨S77824, .i32⟩
  | .hbm, ⟨89, _⟩ => ⟨S_, .i32⟩
  | .hbm, ⟨90, _⟩ => ⟨S77824, .i32⟩
  | .hbm, ⟨91, _⟩ => ⟨S77824, .i1⟩
  | .hbm, ⟨92, _⟩ => ⟨S77824x1, .i1⟩
  | .hbm, ⟨93, _⟩ => ⟨S_, .f32⟩
  | .hbm, ⟨94, _⟩ => ⟨S_, .f32⟩
  | .hbm, ⟨95, _⟩ => ⟨S77824x1024, .i1⟩
  | .hbm, ⟨96, _⟩ => ⟨S77824x1024, .f32⟩
  | .hbm, ⟨97, _⟩ => ⟨S77824x1024, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_0 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v63 : Ref sig .tc := ⟨.hbm, 97, rfl⟩

abbrev nD : Nat := 1
abbrev τ : Topo := Topo.v7x

variable {F : FTy → Type} [FloatOps F]
-- ==== Kernel2.lean ====
abbrev S32x2048x1536 : Shape := ⟨3, ![32, 2048, 1536]⟩
abbrev S8 : Shape := ⟨1, ![8]⟩
abbrev S32x512x6144 : Shape := ⟨3, ![32, 512, 6144]⟩
abbrev S32x512x2048 : Shape := ⟨3, ![32, 512, 2048]⟩
abbrev S32x512x512 : Shape := ⟨3, ![32, 512, 512]⟩
abbrev S1x128x512 : Shape := ⟨3, ![1, 128, 512]⟩
abbrev S1x512x512 : Shape := ⟨3, ![1, 512, 512]⟩
abbrev S1x128x128 : Shape := ⟨3, ![1, 128, 128]⟩
abbrev S128x128 : Shape := ⟨2, ![128, 128]⟩
abbrev S256x128 : Shape := ⟨2, ![256, 128]⟩
abbrev S1 : Shape := ⟨1, ![1]⟩
abbrev S128x1 : Shape := ⟨2, ![128, 1]⟩
abbrev S256x1 : Shape := ⟨2, ![256, 1]⟩
abbrev S256 : Shape := ⟨1, ![256]⟩

abbrev nBuf : Space → Nat
  | .hbm => 5
  | .vmem => 10
  | .smem => 1
  | _ => 0

abbrev bufTy : (tb : Table) → Fin (tcTables nBuf tb) → BufTy
  | .hbm, ⟨0, _⟩ => ⟨S32x2048x1536, .bf16⟩
  | .hbm, ⟨1, _⟩ => ⟨S8, .f32⟩
  | .hbm, ⟨2, _⟩ => ⟨S32x512x6144, .bf16⟩
  | .hbm, ⟨3, _⟩ => ⟨S32x512x2048, .bf16⟩
  | .hbm, ⟨4, _⟩ => ⟨S32x512x512, .f32⟩
  | .local _ .vmem, ⟨0, _⟩ => ⟨S1x128x512, .bf16⟩
  | .local _ .vmem, ⟨1, _⟩ => ⟨S1x128x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x128, .f32⟩
  | .local _ .vmem, ⟨9, _⟩ => ⟨S1x128x128, .f32⟩
  | .local _ .smem, ⟨0, _⟩ => ⟨S8, .f32⟩
  | _, _ => ⟨S32x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 4, 4], ![false, false, false]⟩

def k0_mult1 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32 : BitVec 32 := 128#32
  let v45 : BitVec 32 := Scalar.muli v7 c128_i32
  v45
def k0_off1 (i : grid0.Coords) : Fin 3 → Nat :=
  let c0_14 : Index := 0#32
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32 : BitVec 32 := 128#32
  let v45 : BitVec 32 := Scalar.muli v7 c128_i32
  let v46 : BitVec 32 := v45
  let v47 : Index := Scalar.indexCast v46
  let c0_15 : Index := 0#32
  ![0, v47.toNat, 0]
def k0_mult2 (i : grid0.Coords) : BitVec 32 :=
  let arg2 : BitVec 32 := BitVec.ofNat 32 (i 2).val
  let c128_i32_16 : BitVec 32 := 128#32
  let v50 : BitVec 32 := Scalar.muli arg2 c128_i32_16
  v50
def k0_off2 (i : grid0.Coords) : Fin 3 → Nat :=
  let c0_17 : Index := 0#32
  let arg2 : BitVec 32 := BitVec.ofNat 32 (i 2).val
  let c128_i32_16 : BitVec 32 := 128#32
  let v50 : BitVec 32 := Scalar.muli arg2 c128_i32_16
  let v51 : BitVec 32 := v50
  let v52 : Index := Scalar.indexCast v51
  let c0_18 : Index := 0#32
  ![0, v52.toNat, 0]
def k0_mult3 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_19 : BitVec 32 := 128#32
  let v55 : BitVec 32 := Scalar.muli v7 c128_i32_19
  v55
def k0_mult4 (i : grid0.Coords) : BitVec 32 :=
  let arg2 : BitVec 32 := BitVec.ofNat 32 (i 2).val
  let c128_i32_22 : BitVec 32 := 128#32
  let v60 : BitVec 32 := Scalar.muli arg2 c128_i32_22
  v60
def k0_mult5 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_51 : BitVec 32 := 128#32
  let v148 : BitVec 32 := Scalar.muli v7 c128_i32_51
  v148
def k0_off3 (i : grid0.Coords) : Fin 3 → Nat :=
  let c0_52 : Index := 0#32
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_51 : BitVec 32 := 128#32
  let v148 : BitVec 32 := Scalar.muli v7 c128_i32_51
  let v149 : BitVec 32 := v148
  let v150 : Index := Scalar.indexCast v149
  let c128_53 : Index := 128#32
  ![0, v150.toNat, 128]
def k0_mult6 (i : grid0.Coords) : BitVec 32 :=
  let arg2 : BitVec 32 := BitVec.ofNat 32 (i 2).val
  let c128_i32_54 : BitVec 32 := 128#32
  let v153 : BitVec 32 := Scalar.muli arg2 c128_i32_54
  v153
def k0_off4 (i : grid0.Coords) : Fin 3 → Nat :=
  let c0_55 : Index := 0#32
  let arg2 : BitVec 32 := BitVec.ofNat 32 (i 2).val
  let c128_i32_54 : BitVec 32 := 128#32
  let v153 : BitVec 32 := Scalar.muli arg2 c128_i32_54
  let v154 : BitVec 32 := v153
  let v155 : Index := Scalar.indexCast v154
  let c128_56 : Index := 128#32
  ![0, v155.toNat, 128]
def k0_mult7 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_57 : BitVec 32 := 128#32
  let v158 : BitVec 32 := Scalar.muli v7 c128_i32_57
  v158
def k0_mult8 (i : grid0.Coords) : BitVec 32 :=
  let arg2 : BitVec 32 := BitVec.ofNat 32 (i 2).val
  let c128_i32_60 : BitVec 32 := 128#32
  let v163 : BitVec 32 := Scalar.muli arg2 c128_i32_60
  v163
def k0_mult9 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_87 : BitVec 32 := 128#32
  let v251 : BitVec 32 := Scalar.muli v7 c128_i32_87
  v251
def k0_off5 (i : grid0.Coords) : Fin 3 → Nat :=
  let c0_88 : Index := 0#32
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_87 : BitVec 32 := 128#32
  let v251 : BitVec 32 := Scalar.muli v7 c128_i32_87
  let v252 : BitVec 32 := v251
  let v253 : Index := Scalar.indexCast v252
  let c256_89 : Index := 256#32
  ![0, v253.toNat, 256]
def k0_mult10 (i : grid0.Coords) : BitVec 32 :=
  let arg2 : BitVec 32 := BitVec.ofNat 32 (i 2).val
  let c128_i32_90 : BitVec 32 := 128#32
  let v256 : BitVec 32 := Scalar.muli arg2 c128_i32_90
  v256
def k0_off6 (i : grid0.Coords) : Fin 3 → Nat :=
  let c0_91 : Index := 0#32
  let arg2 : BitVec 32 := BitVec.ofNat 32 (i 2).val
  let c128_i32_90 : BitVec 32 := 128#32
  let v256 : BitVec 32 := Scalar.muli arg2 c128_i32_90
  let v257 : BitVec 32 := v256
  let v258 : Index := Scalar.indexCast v257
  let c256_92 : Index := 256#32
  ![0, v258.toNat, 256]
def k0_mult11 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_93 : BitVec 32 := 128#32
  let v261 : BitVec 32 := Scalar.muli v7 c128_i32_93
  v261
def k0_mult12 (i : grid0.Coords) : BitVec 32 :=
  let arg2 : BitVec 32 := BitVec.ofNat 32 (i 2).val
  let c128_i32_96 : BitVec 32 := 128#32
  let v266 : BitVec 32 := Scalar.muli arg2 c128_i32_96
  v266
def k0_mult13 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_123 : BitVec 32 := 128#32
  let v354 : BitVec 32 := Scalar.muli v7 c128_i32_123
  v354
def k0_off7 (i : grid0.Coords) : Fin 3 → Nat :=
  let c0_124 : Index := 0#32
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_123 : BitVec 32 := 128#32
  let v354 : BitVec 32 := Scalar.muli v7 c128_i32_123
  let v355 : BitVec 32 := v354
  let v356 : Index := Scalar.indexCast v355
  let c384_125 : Index := 384#32
  ![0, v356.toNat, 384]
def k0_mult14 (i : grid0.Coords) : BitVec 32 :=
  let arg2 : BitVec 32 := BitVec.ofNat 32 (i 2).val
  let c128_i32_126 : BitVec 32 := 128#32
  let v359 : BitVec 32 := Scalar.muli arg2 c128_i32_126
  v359
def k0_off8 (i : grid0.Coords) : Fin 3 → Nat :=
  let c0_127 : Index := 0#32
  let arg2 : BitVec 32 := BitVec.ofNat 32 (i 2).val
  let c128_i32_126 : BitVec 32 := 128#32
  let v359 : BitVec 32 := Scalar.muli arg2 c128_i32_126
  let v360 : BitVec 32 := v359
  let v361 : Index := Scalar.indexCast v360
  let c384_128 : Index := 384#32
  ![0, v361.toNat, 384]
def k0_mult15 (i : grid0.Coords) : BitVec 32 :=
  let arg2 : BitVec 32 := BitVec.ofNat 32 (i 2).val
  let c1_i32 : BitVec 32 := 1#32
  let v6 : BitVec 32 := Scalar.subi arg2 c1_i32
  let c0_i32 : BitVec 32 := 0#32
  let v7 : BitVec 32 := Scalar.maxsi v6 c0_i32
  let c128_i32_129 : BitVec 32 := 128#32
  let v364 : BitVec 32 := Scalar.muli v7 c128_i32_129
  v364
def k0_mult16 (i : grid0.Coords) : BitVec 32 :=
  let arg2 : BitVec 32 := BitVec.ofNat 32 (i 2).val
  let c128_i32_132 : BitVec 32 := 128#32
  let v369 : BitVec 32 := Scalar.muli arg2 c128_i32_132
  v369
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let c0_i32_0 : BitVec 32 := 0#32
  ![arg0.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | "slope" => some ((4 * (Real.log 2)⁻¹ : ℝ) : EReal)
  | _ => none
-- ==== Reference2Ideal.lean ====
abbrev S32x2048x1536 : Shape := ⟨3, ![32, 2048, 1536]⟩
abbrev S32x2048x3x8x64 : Shape := ⟨5, ![32, 2048, 3, 8, 64]⟩
abbrev S32x2048x1x8x64 : Shape := ⟨5, ![32, 2048, 1, 8, 64]⟩
abbrev S32x2048x8x64 : Shape := ⟨4, ![32, 2048, 8, 64]⟩
abbrev S129 : Shape := ⟨1, ![129]⟩
abbrev S_ : Shape := ⟨0, ![]⟩
abbrev S2048 : Shape := ⟨1, ![2048]⟩
abbrev S2048x1 : Shape := ⟨2, ![2048, 1]⟩
abbrev S1x129 : Shape := ⟨2, ![1, 129]⟩
abbrev S2048x129 : Shape := ⟨2, ![2048, 129]⟩
abbrev S2048x129x1 : Shape := ⟨3, ![2048, 129, 1]⟩
abbrev S32x2048x129x8x64 : Shape := ⟨5, ![32, 2048, 129, 8, 64]⟩
abbrev S32x8x2048x129 : Shape := ⟨4, ![32, 8, 2048, 129]⟩
abbrev S8 : Shape := ⟨1, ![8]⟩
abbrev S8x1x1 : Shape := ⟨3, ![8, 1, 1]⟩
abbrev S1x1x129 : Shape := ⟨3, ![1, 1, 129]⟩
abbrev S8x1x129 : Shape := ⟨3, ![8, 1, 129]⟩
abbrev S1x8x1x129 : Shape := ⟨4, ![1, 8, 1, 129]⟩
abbrev S32x8x2048 : Shape := ⟨3, ![32, 8, 2048]⟩
abbrev S32x8x2048x1 : Shape := ⟨4, ![32, 8, 2048, 1]⟩
abbrev S32x2048x8 : Shape := ⟨3, ![32, 2048, 8]⟩
abbrev S32x2048x120 : Shape := ⟨3, ![32, 2048, 120]⟩
abbrev S32x2048x128 : Shape := ⟨3, ![32, 2048, 128]⟩
abbrev S32x512x2048 : Shape := ⟨3, ![32, 512, 2048]⟩
abbrev S32x512x512 : Shape := ⟨3, ![32, 512, 512]⟩

abbrev nBuf : Space → Nat
  | .hbm => 101
  | .vmem => 0
  | .smem => 0
  | _ => 0

abbrev bufTy : (tb : Table) → Fin (tcTables nBuf tb) → BufTy
  | .hbm, ⟨0, _⟩ => ⟨S32x2048x1536, .bf16⟩
  | .hbm, ⟨1, _⟩ => ⟨S32x2048x1536, .f32⟩
  | .hbm, ⟨2, _⟩ => ⟨S32x2048x3x8x64, .f32⟩
  | .hbm, ⟨3, _⟩ => ⟨S32x2048x1x8x64, .f32⟩
  | .hbm, ⟨4, _⟩ => ⟨S32x2048x8x64, .f32⟩
  | .hbm, ⟨5, _⟩ => ⟨S32x2048x1x8x64, .f32⟩
  | .hbm, ⟨6, _⟩ => ⟨S32x2048x8x64, .f32⟩
  | .hbm, ⟨7, _⟩ => ⟨S32x2048x1x8x64, .f32⟩
  | .hbm, ⟨8, _⟩ => ⟨S32x2048x8x64, .f32⟩
  | .hbm, ⟨9, _⟩ => ⟨S129, .i32⟩
  | .hbm, ⟨10, _⟩ => ⟨S_, .i32⟩
  | .hbm, ⟨11, _⟩ => ⟨S129, .i32⟩
  | .hbm, ⟨12, _⟩ => ⟨S129, .i32⟩
  | .hbm, ⟨13, _⟩ => ⟨S2048, .i32⟩
  | .hbm, ⟨14, _⟩ => ⟨S2048x1, .i32⟩
  | .hbm, ⟨15, _⟩ => ⟨S1x129, .i32⟩
  | .hbm, ⟨16, _⟩ => ⟨S2048x129, .i32⟩
  | .hbm, ⟨17, _⟩ => ⟨S2048x129, .i32⟩
  | .hbm, ⟨18, _⟩ => ⟨S2048x129, .i32⟩
  | .hbm, ⟨19, _⟩ => ⟨S_, .i32⟩
  | .hbm, ⟨20, _⟩ => ⟨S2048x129, .i32⟩
  | .hbm, ⟨21, _⟩ => ⟨S2048x129, .i1⟩
  | .hbm, ⟨22, _⟩ => ⟨S_, .i32⟩
  | .hbm, ⟨23, _⟩ => ⟨S2048x129, .i32⟩
  | .hbm, ⟨24, _⟩ => ⟨S2048x129, .i32⟩
  | .hbm, ⟨25, _⟩ => ⟨S_, .i32⟩
  | .hbm, ⟨26, _⟩ => ⟨S2048x129, .i32⟩
  | .hbm, ⟨27, _⟩ => ⟨S2048x129, .i1⟩
  | .hbm, ⟨28, _⟩ => ⟨S_, .i32⟩
  | .hbm, ⟨29, _⟩ => ⟨S2048x129, .i32⟩
  | .hbm, ⟨30, _⟩ => ⟨S2048x129, .i32⟩
  | .hbm, ⟨31, _⟩ => ⟨S2048x129, .i32⟩
  | .hbm, ⟨32, _⟩ => ⟨S2048x129x1, .i32⟩
  | .hbm, ⟨33, _⟩ => ⟨S32x2048x129x8x64, .f32⟩
  | .hbm, ⟨34, _⟩ => ⟨S_, .i32⟩
  | .hbm, ⟨35, _⟩ => ⟨S2048x129, .i32⟩
  | .hbm, ⟨36, _⟩ => ⟨S2048x129, .i1⟩
  | .hbm, ⟨37, _⟩ => ⟨S_, .i32⟩
  | .hbm, ⟨38, _⟩ => ⟨S2048x129, .i32⟩
  | .hbm, ⟨39, _⟩ => ⟨S2048x129, .i32⟩
  | .hbm, ⟨40, _⟩ => ⟨S2048x129, .i32⟩
  | .hbm, ⟨41, _⟩ => ⟨S2048x129x1, .i32⟩
  | .hbm, ⟨42, _⟩ => ⟨S32x2048x129x8x64, .f32⟩
  | .hbm, ⟨43, _⟩ => ⟨S32x8x2048x129, .f32⟩
  | .hbm, ⟨44, _⟩ => ⟨S_, .f32⟩
  | .hbm, ⟨45, _⟩ => ⟨S32x8x2048x129, .f32⟩
  | .hbm, ⟨46, _⟩ => ⟨S32x8x2048x129, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S8x1x1, .f32⟩
  | .hbm, ⟨63, _⟩ => ⟨S129, .f32⟩
  | .hbm, ⟨64, _⟩ => ⟨S1x1x129, .f32⟩
  | .hbm, ⟨65, _⟩ => ⟨S8x1x129, .f32⟩
  | .hbm, ⟨66, _⟩ => ⟨S8x1x129, .f32⟩
  | .hbm, ⟨67, _⟩ => ⟨S8x1x129, .f32⟩
  | .hbm, ⟨68, _⟩ => ⟨S1x8x1x129, .f32⟩
  | .hbm, ⟨69, _⟩ => ⟨S32x8x2048x129, .f32⟩
  | .hbm, ⟨70, _⟩ => ⟨S32x8x2048x129, .f32⟩
  | .hbm, ⟨71, _⟩ => ⟨S_, .f32⟩
  | .hbm, ⟨72, _⟩ => ⟨S_, .f32⟩
  | .hbm, ⟨73, _⟩ => ⟨S32x8x2048x129, .i1⟩
  | .hbm, ⟨74, _⟩ => ⟨S32x8x2048x129, .f32⟩
  | .hbm, ⟨75, _⟩ => ⟨S32x8x2048x129, .f32⟩
  | .hbm, ⟨76, _⟩ => ⟨S_, .f32⟩
  | .hbm, ⟨77, _⟩ => ⟨S32x8x2048, .f32⟩
  | .hbm, ⟨78, _⟩ => ⟨S32x8x2048x1, .f32⟩
  | .hbm, ⟨79, _⟩ => ⟨S32x8x2048x129, .f32⟩
  | .hbm, ⟨80, _⟩ => ⟨S32x8x2048x129, .f32⟩
  | .hbm, ⟨81, _⟩ => ⟨S32x8x2048x129, .f32⟩
  | .hbm, ⟨82, _⟩ => ⟨S_, .f32⟩
  | .hbm, ⟨83, _⟩ => ⟨S32x8x2048, .f32⟩
  | .hbm, ⟨84, _⟩ => ⟨S32x8x2048x1, .f32⟩
  | .hbm, ⟨85, _⟩ => ⟨S32x8x2048x129, .f32⟩
  | .hbm, ⟨86, _⟩ => ⟨S32x8x2048x129, .f32⟩
  | .hbm, ⟨87, _⟩ => ⟨S32x2048x8x64, .f32⟩
  | .hbm, ⟨88, _⟩ => ⟨S32x8x2048, .f32⟩
  | .hbm, ⟨89, _⟩ => ⟨S32x8x2048, .f32⟩
  | .hbm, ⟨90, _⟩ => ⟨S_, .f32⟩
  | .hbm, ⟨91, _⟩ => ⟨S_, .f32⟩
  | .hbm, ⟨92, _⟩ => ⟨S32x8x2048, .f32⟩
  | .hbm, ⟨93, _⟩ => ⟨S32x8x2048, .f32⟩
  | .hbm, ⟨94, _⟩ => ⟨S32x2048x8, .f32⟩
  | .hbm, ⟨95, _⟩ => ⟨S_, .f32⟩
  | .hbm, ⟨96, _⟩ => ⟨S32x2048x120, .f32⟩
  | .hbm, ⟨97, _⟩ => ⟨S32x2048x128, .f32⟩
  | .hbm, ⟨98, _⟩ => ⟨S32x512x2048, .f32⟩
  | .hbm, ⟨99, _⟩ => ⟨S32x512x2048, .bf16⟩
  | .hbm, ⟨100, _⟩ => ⟨S32x512x512, .f32⟩
  | _, _ => ⟨S32x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_c_3 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_c_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_10 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Kernel3.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S65536x1024 : Shape := ⟨2, ![65536, 1024]⟩
abbrev S1024x3072 : Shape := ⟨2, ![1024, 3072]⟩
abbrev S65536x3072 : Shape := ⟨2, ![65536, 3072]⟩
abbrev S512x1024 : Shape := ⟨2, ![512, 1024]⟩
abbrev S512x3072 : Shape := ⟨2, ![512, 3072]⟩
abbrev S1024x512 : Shape := ⟨2, ![1024, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S1024x3072, .bf16⟩
  | .hbm, ⟨3, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S65536x1024 : Shape := ⟨2, ![65536, 1024]⟩
abbrev S1024x3072 : Shape := ⟨2, ![1024, 3072]⟩
abbrev S65536x3072 : Shape := ⟨2, ![65536, 3072]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S65536x3072, .f32⟩
  | .hbm, ⟨3, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S65536x1024 : Shape := ⟨2, ![65536, 1024]⟩
abbrev S1024x2608 : Shape := ⟨2, ![1024, 2608]⟩
abbrev S1024x1024 : Shape := ⟨2, ![1024, 1024]⟩
abbrev S1024x256 : Shape := ⟨2, ![1024, 256]⟩
abbrev S1024x48 : Shape := ⟨2, ![1024, 48]⟩
abbrev S_ : Shape := ⟨0, ![]⟩
abbrev S1024x80 : Shape := ⟨2, ![1024, 80]⟩
abbrev S1024x128 : Shape := ⟨2, ![1024, 128]⟩
abbrev S1024x16x64 : Shape := ⟨3, ![1024, 16, 64]⟩
abbrev S1024x16x128 : Shape := ⟨3, ![1024, 16, 128]⟩
abbrev S1024x2048 : Shape := ⟨2, ![1024, 2048]⟩
abbrev S1024x4x64 : Shape := ⟨3, ![1024, 4, 64]⟩
abbrev S1024x4x128 : Shape := ⟨3, ![1024, 4, 128]⟩
abbrev S1024x512 : Shape := ⟨2, ![1024, 512]⟩
abbrev S1024x4736 : Shape := ⟨2, ![1024, 4736]⟩
abbrev S65536x2048 : Shape := ⟨2, ![65536, 2048]⟩
abbrev S65536x256 : Shape := ⟨2, ![65536, 256]⟩
abbrev S65536x512 : Shape := ⟨2, ![65536, 512]⟩
abbrev S65536x128 : Shape := ⟨2, ![65536, 128]⟩
abbrev S512x1024 : Shape := ⟨2, ![512, 1024]⟩
abbrev S512x2048 : Shape := ⟨2, ![512, 2048]⟩
abbrev S512x256 : Shape := ⟨2, ![512, 256]⟩
abbrev S512x512 : Shape := ⟨2, ![512, 512]⟩
abbrev S512x128 : Shape := ⟨2, ![512, 128]⟩

abbrev nBuf : Space → Nat
  | .hbm => 47
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S1024x2608, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x48, .f32⟩
  | .hbm, ⟨10, _⟩ => ⟨S_, .f32⟩
  | .hbm, ⟨11, _⟩ => ⟨S1024x80, .f32⟩
  | .hbm, ⟨12, _⟩ => ⟨S1024x128, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x16x64, .f32⟩
  | .hbm, ⟨17, _⟩ => ⟨S_, .f32⟩
  | .hbm, ⟨18, _⟩ => ⟨S1024x16x64, .f32⟩
  | .hbm, ⟨19, _⟩ => ⟨S1024x16x128, .f32⟩
  | .hbm, ⟨20, _⟩ => ⟨S1024x2048, .f32⟩
  | .hbm, ⟨21, _⟩ => ⟨S1024x4x64, .f32⟩
  | .hbm, ⟨22, _⟩ => ⟨S_, .f32⟩
  | .hbm, ⟨23, _⟩ => ⟨S1024x4x64, .f32⟩
  | .hbm, ⟨24, _⟩ => ⟨S1024x4x128, .f32⟩
  | .hbm, ⟨25, _⟩ => ⟨S1024x512, .f32⟩
  | .hbm, ⟨26, _⟩ => ⟨S1024x4x64, .f32⟩
  | .hbm, ⟨27, _⟩ => ⟨S1024x4x128, .f32⟩
  | .hbm, ⟨28, _⟩ => ⟨S1024x512, .f32⟩
  | .hbm, ⟨29, _⟩ => ⟨S1024x4x64, .f32⟩
  | .hbm, ⟨30, _⟩ => ⟨S_, .f32⟩
  | .hbm, ⟨31, _⟩ => ⟨S1024x4x64, .f32⟩
  | .hbm, ⟨32, _⟩ => ⟨S1024x4x128, .f32⟩
  | .hbm, ⟨33, _⟩ => ⟨S1024x512, .f32⟩
  | .hbm, ⟨34, _⟩ => ⟨S1024x4x64, .f32⟩
  | .hbm, ⟨35, _⟩ => ⟨S1024x4x128, .f32⟩
  | .hbm, ⟨36, _⟩ => ⟨S1024x512, .f32⟩
  | .hbm, ⟨37, _⟩ => ⟨S1024x4736, .f32⟩
  | .hbm, ⟨38, _⟩ => ⟨S1024x4736, .bf16⟩
  | .hbm, ⟨39, _⟩ => ⟨S65536x2048, .bf16⟩
  | .hbm, ⟨40, _⟩ => ⟨S65536x256, .f32⟩
  | .hbm, ⟨41, _⟩ => ⟨S65536x256, .f32⟩
  | .hbm, ⟨42, _⟩ => ⟨S65536x512, .bf16⟩
  | .hbm, ⟨43, _⟩ => ⟨S65536x512, .bf16⟩
  | .hbm, ⟨44, _⟩ => ⟨S65536x512, .bf16⟩
  | .hbm, ⟨45, _⟩ => ⟨S65536x512, .bf16⟩
  | .hbm, ⟨46, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1024x4736, .bf16⟩
  | .local _ .vmem, ⟨3, _⟩ => ⟨S512x2048, .bf16⟩
  | .local _ .vmem, ⟨4, _⟩ => ⟨S512x2048, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v32_5 : Ref sig .tc := ⟨.hbm, 44, rfl⟩
abbrev main_v32_6 : Ref sig .tc := ⟨.hbm, 45, rfl⟩
abbrev main_v32_7 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4736 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S65536x1024 : Shape := ⟨2, ![65536, 1024]⟩
abbrev S1024x2608 : Shape := ⟨2, ![1024, 2608]⟩
abbrev S65536x2608 : Shape := ⟨2, ![65536, 2608]⟩
abbrev S65536x256 : Shape := ⟨2, ![65536, 256]⟩
abbrev S65536x48 : Shape := ⟨2, ![65536, 48]⟩
abbrev S_ : Shape := ⟨0, ![]⟩
abbrev S65536x80 : Shape := ⟨2, ![65536, 80]⟩
abbrev S65536x128 : Shape := ⟨2, ![65536, 128]⟩
abbrev S65536x16x64 : Shape := ⟨3, ![65536, 16, 64]⟩
abbrev S65536x16x128 : Shape := ⟨3, ![65536, 16, 128]⟩
abbrev S65536x2048 : Shape := ⟨2, ![65536, 2048]⟩
abbrev S65536x4x64 : Shape := ⟨3, ![65536, 4, 64]⟩
abbrev S65536x4x128 : Shape := ⟨3, ![65536, 4, 128]⟩
abbrev S65536x512 : Shape := ⟨2, ![65536, 512]⟩

abbrev nBuf : Space → Nat
  | .hbm => 43
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2608, .f32⟩
  | .hbm, ⟨2, _⟩ => ⟨S65536x2608, .f32⟩
  | .hbm, ⟨3, _⟩ => ⟨S65536x1024, .f32⟩
  | .hbm, ⟨4, _⟩ => ⟨S65536x256, .f32⟩
  | .hbm, ⟨5, _⟩ => ⟨S65536x256, .f32⟩
  | .hbm, ⟨6, _⟩ => ⟨S65536x256, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x48, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x80, .f32⟩
  | .hbm, ⟨16, _⟩ => ⟨S65536x128, .f32⟩
  | .hbm, ⟨17, _⟩ => ⟨S65536x16x64, .f32⟩
  | .hbm, ⟨18, _⟩ => ⟨S_, .f32⟩
  | .hbm, ⟨19, _⟩ => ⟨S65536x16x64, .f32⟩
  | .hbm, ⟨20, _⟩ => ⟨S65536x16x128, .f32⟩
  | .hbm, ⟨21, _⟩ => ⟨S65536x2048, .f32⟩
  | .hbm, ⟨22, _⟩ => ⟨S65536x2048, .bf16⟩
  | .hbm, ⟨23, _⟩ => ⟨S65536x4x64, .f32⟩
  | .hbm, ⟨24, _⟩ => ⟨S_, .f32⟩
  | .hbm, ⟨25, _⟩ => ⟨S65536x4x64, .f32⟩
  | .hbm, ⟨26, _⟩ => ⟨S65536x4x128, .f32⟩
  | .hbm, ⟨27, _⟩ => ⟨S65536x512, .f32⟩
  | .hbm, ⟨28, _⟩ => ⟨S65536x512, .bf16⟩
  | .hbm, ⟨29, _⟩ => ⟨S65536x4x64, .f32⟩
  | .hbm, ⟨30, _⟩ => ⟨S65536x4x128, .f32⟩
  | .hbm, ⟨31, _⟩ => ⟨S65536x512, .f32⟩
  | .hbm, ⟨32, _⟩ => ⟨S65536x512, .bf16⟩
  | .hbm, ⟨33, _⟩ => ⟨S65536x4x64, .f32⟩
  | .hbm, ⟨34, _⟩ => ⟨S_, .f32⟩
  | .hbm, ⟨35, _⟩ => ⟨S65536x4x64, .f32⟩
  | .hbm, ⟨36, _⟩ => ⟨S65536x4x128, .f32⟩
  | .hbm, ⟨37, _⟩ => ⟨S65536x512, .f32⟩
  | .hbm, ⟨38, _⟩ => ⟨S65536x512, .bf16⟩
  | .hbm, ⟨39, _⟩ => ⟨S65536x4x64, .f32⟩
  | .hbm, ⟨40, _⟩ => ⟨S65536x4x128, .f32⟩
  | .hbm, ⟨41, _⟩ => ⟨S65536x512, .f32⟩
  | .hbm, ⟨42, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel6.lean ====
abbrev S65536x1024 : Shape := ⟨2, ![65536, 1024]⟩
abbrev S1024x4608 : Shape := ⟨2, ![1024, 4608]⟩
abbrev S65536x1536 : Shape := ⟨2, ![65536, 1536]⟩
abbrev S16384x6144 : Shape := ⟨2, ![16384, 6144]⟩
abbrev S4096x24576 : Shape := ⟨2, ![4096, 24576]⟩
abbrev S512x1024 : Shape := ⟨2, ![512, 1024]⟩
abbrev S512x1536 : Shape := ⟨2, ![512, 1536]⟩
abbrev S128x6144 : Shape := ⟨2, ![128, 6144]⟩
abbrev S32x24576 : Shape := ⟨2, ![32, 24576]⟩
abbrev S12x512x128 : Shape := ⟨3, ![12, 512, 128]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 6
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024x4608, .f32⟩
  | .hbm, ⟨2, _⟩ => ⟨S1024x4608, .bf16⟩
  | .hbm, ⟨3, _⟩ => ⟨S65536x1536, .bf16⟩
  | .hbm, ⟨4, _⟩ => ⟨S16384x6144, .bf16⟩
  | .hbm, ⟨5, _⟩ => ⟨S4096x24576, .bf16⟩
  | .local _ .vmem, ⟨0, _⟩ => ⟨S512x1024, .f32⟩
  | .local _ .vmem, ⟨1, _⟩ => ⟨S512x1024, .f32⟩
  | .local _ .vmem, ⟨2, _⟩ => ⟨S1024x4608, .bf16⟩
  | .local _ .vmem, ⟨3, _⟩ => ⟨S512x1536, .bf16⟩
  | .local _ .vmem, ⟨4, _⟩ => ⟨S512x1536, .bf16⟩
  | .local _ .vmem, ⟨5, _⟩ => ⟨S128x6144, .bf16⟩
  | .local _ .vmem, ⟨6, _⟩ => ⟨S128x6144, .bf16⟩
  | .local _ .vmem, ⟨7, _⟩ => ⟨S32x24576, .bf16⟩
  | .local _ .vmem, ⟨8, _⟩ => ⟨S32x24576, .bf16⟩
  | .local _ .vmem, ⟨9, _⟩ => ⟨S12x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x24576 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S65536x1024 : Shape := ⟨2, ![65536, 1024]⟩
abbrev S1024x4608 : Shape := ⟨2, ![1024, 4608]⟩
abbrev S65536x4608 : Shape := ⟨2, ![65536, 4608]⟩
abbrev S65536x1536 : Shape := ⟨2, ![65536, 1536]⟩
abbrev S16384x6144 : Shape := ⟨2, ![16384, 6144]⟩
abbrev S4096x24576 : Shape := ⟨2, ![4096, 24576]⟩

abbrev nBuf : Space → Nat
  | .hbm => 11
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4608, .f32⟩
  | .hbm, ⟨2, _⟩ => ⟨S65536x4608, .f32⟩
  | .hbm, ⟨3, _⟩ => ⟨S65536x1536, .f32⟩
  | .hbm, ⟨4, _⟩ => ⟨S65536x1536, .f32⟩
  | .hbm, ⟨5, _⟩ => ⟨S65536x1536, .f32⟩
  | .hbm, ⟨6, _⟩ => ⟨S65536x1536, .bf16⟩
  | .hbm, ⟨7, _⟩ => ⟨S16384x6144, .f32⟩
  | .hbm, ⟨8, _⟩ => ⟨S16384x6144, .bf16⟩
  | .hbm, ⟨9, _⟩ => ⟨S4096x24576, .f32⟩
  | .hbm, ⟨10, _⟩ => ⟨S4096x24576, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel7.lean ====
abbrev S65536x1024 : Shape := ⟨2, ![65536, 1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S1024x32 : Shape := ⟨2, ![1024, 32]⟩
abbrev S1024x640 : Shape := ⟨2, ![1024, 640]⟩
abbrev S_ : Shape := ⟨0, ![]⟩
abbrev S1024x64 : Shape := ⟨2, ![1024, 64]⟩
abbrev S1024x16 : Shape := ⟨2, ![1024, 16]⟩
abbrev S1024x896 : Shape := ⟨2, ![1024, 896]⟩
abbrev S384x16x96 : Shape := ⟨3, ![384, 16, 96]⟩
abbrev S384x16x32 : Shape := ⟨3, ![384, 16, 32]⟩
abbrev S384x16x128 : Shape := ⟨3, ![384, 16, 128]⟩
abbrev S384x2048 : Shape := ⟨2, ![384, 2048]⟩
abbrev S384x16x64 : Shape := ⟨3, ![384, 16, 64]⟩
abbrev S384x16x16 : Shape := ⟨3, ![384, 16, 16]⟩
abbrev S256x16x128 : Shape := ⟨3, ![256, 16, 128]⟩
abbrev S256x16x64 : Shape := ⟨3, ![256, 16, 64]⟩
abbrev S256x1024 : Shape := ⟨2, ![256, 1024]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S1x384 : Shape := ⟨2, ![1, 384]⟩
abbrev S1x256 : Shape := ⟨2, ![1, 256]⟩
abbrev S65536x2048 : Shape := ⟨2, ![65536, 2048]⟩
abbrev S256x128 : Shape := ⟨2, ![256, 128]⟩
abbrev S256x896 : Shape := ⟨2, ![256, 896]⟩
abbrev S256x384 : Shape := ⟨2, ![256, 384]⟩
abbrev S256x1 : Shape := ⟨2, ![256, 1]⟩
abbrev S256x256 : Shape := ⟨2, ![256, 256]⟩
abbrev S384x256 : Shape := ⟨2, ![384, 256]⟩

abbrev nBuf : Space → Nat
  | .hbm => 79
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S1024x672, .f32⟩
  | .hbm, ⟨2, _⟩ => ⟨S384, .f32⟩
  | .hbm, ⟨3, _⟩ => ⟨S256, .f32⟩
  | .hbm, ⟨4, _⟩ => ⟨S384x1536, .f32⟩
  | .hbm, ⟨5, _⟩ => ⟨S256x2048, .f32⟩
  | .hbm, ⟨6, _⟩ => ⟨S1024x32, .f32⟩
  | .hbm, ⟨7, _⟩ => ⟨S1024x640, .f32⟩
  | .hbm, ⟨8, _⟩ => ⟨S_, .f32⟩
  | .hbm, ⟨9, _⟩ => ⟨S1024x64, .f32⟩
  | .hbm, ⟨10, _⟩ => ⟨S_, .f32⟩
  | .hbm, ⟨11, _⟩ => ⟨S1024x32, .f32⟩
  | .hbm, ⟨12, _⟩ => ⟨S_, .f32⟩
  | .hbm, ⟨13, _⟩ => ⟨S1024x64, .f32⟩
  | .hbm, ⟨14, _⟩ => ⟨S1024x16, .f32⟩
  | .hbm, ⟨15, _⟩ => ⟨S1024x16, .f32⟩
  | .hbm, ⟨16, _⟩ => ⟨S1024x32, .f32⟩
  | .hbm, ⟨17, _⟩ => ⟨S_, .f32⟩
  | .hbm, ⟨18, _⟩ => ⟨S1024x32, .f32⟩
  | .hbm, ⟨19, _⟩ => ⟨S1024x896, .f32⟩
  | .hbm, ⟨20, _⟩ => ⟨S1024x896, .bf16⟩
  | .hbm, ⟨21, _⟩ => ⟨S384x16x96, .f32⟩
  | .hbm, ⟨22, _⟩ => ⟨S_, .f32⟩
  | .hbm, ⟨23, _⟩ => ⟨S384x16x32, .f32⟩
  | .hbm, ⟨24, _⟩ => ⟨S384x16x128, .f32⟩
  | .hbm, ⟨25, _⟩ => ⟨S384x2048, .f32⟩
  | .hbm, ⟨26, _⟩ => ⟨S384x2048, .bf16⟩
  | .hbm, ⟨27, _⟩ => ⟨S_, .f32⟩
  | .hbm, ⟨28, _⟩ => ⟨S384x16x64, .f32⟩
  | .hbm, ⟨29, _⟩ => ⟨S384x16x32, .f32⟩
  | .hbm, ⟨30, _⟩ => ⟨S384x16x16, .f32⟩
  | .hbm, ⟨31, _⟩ => ⟨S384x16x16, .f32⟩
  | .hbm, ⟨32, _⟩ => ⟨S384x16x32, .f32⟩
  | .hbm, ⟨33, _⟩ => ⟨S_, .f32⟩
  | .hbm, ⟨34, _⟩ => ⟨S384x16x32, .f32⟩
  | .hbm, ⟨35, _⟩ => ⟨S384x16x128, .f32⟩
  | .hbm, ⟨36, _⟩ => ⟨S384x2048, .f32⟩
  | .hbm, ⟨37, _⟩ => ⟨S384x2048, .bf16⟩
  | .hbm, ⟨38, _⟩ => ⟨S256x16x128, .f32⟩
  | .hbm, ⟨39, _⟩ => ⟨S256x16x64, .f32⟩
  | .hbm, ⟨40, _⟩ => ⟨S_, .f32⟩
  | .hbm, ⟨41, _⟩ => ⟨S256x16x64, .f32⟩
  | .hbm, ⟨42, _⟩ => ⟨S256x16x128, .f32⟩
  | .hbm, ⟨43, _⟩ => ⟨S256x2048, .f32⟩
  | .hbm, ⟨44, _⟩ => ⟨S256x2048, .bf16⟩
  | .hbm, ⟨45, _⟩ => ⟨S256x16x64, .f32⟩
  | .hbm, ⟨46, _⟩ => ⟨S256x1024, .f32⟩
  | .hbm, ⟨47, _⟩ => ⟨S256x1024, .bf16⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S2048, .f32⟩
  | .hbm, ⟨57, _⟩ => ⟨S2048x1, .f32⟩
  | .hbm, ⟨58, _⟩ => ⟨S1x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S2048x16, .f32⟩
  | .hbm, ⟨63, _⟩ => ⟨S2048x16, .f32⟩
  | .hbm, ⟨64, _⟩ => ⟨S_, .f32⟩
  | .hbm, ⟨65, _⟩ => ⟨S2048x64, .f32⟩
  | .hbm, ⟨66, _⟩ => ⟨S_, .f32⟩
  | .hbm, ⟨67, _⟩ => ⟨S2048x32, .f32⟩
  | .hbm, ⟨68, _⟩ => ⟨S2048x128, .f32⟩
  | .hbm, ⟨69, _⟩ => ⟨S_, .f32⟩
  | .hbm, ⟨70, _⟩ => ⟨S2048x64, .f32⟩
  | .hbm, ⟨71, _⟩ => ⟨S2048x64, .f32⟩
  | .hbm, ⟨72, _⟩ => ⟨S2048x16, .f32⟩
  | .hbm, ⟨73, _⟩ => ⟨S2048x128, .f32⟩
  | .hbm, ⟨74, _⟩ => ⟨S1x384, .f32⟩
  | .hbm, ⟨75, _⟩ => ⟨S1x256, .f32⟩
  | .hbm, ⟨76, _⟩ => ⟨S65536x2048, .bf16⟩
  | .hbm, ⟨77, _⟩ => ⟨S65536x2048, .bf16⟩
  | .hbm, ⟨78, _⟩ => ⟨S65536x1024, .bf16⟩
  | .local _ .vmem, ⟨0, _⟩ => ⟨S256x1024, .f32⟩
  | .local _ .vmem, ⟨1, _⟩ => ⟨S256x1024, .f32⟩
  | .local _ .vmem, ⟨2, _⟩ => ⟨S1024x896, .bf16⟩
  | .local _ .vmem, ⟨3, _⟩ => ⟨S1x384, .f32⟩
  | .local _ .vmem, ⟨4, _⟩ => ⟨S1x256, .f32⟩
  | .local _ .vmem, ⟨5, _⟩ => ⟨S384x2048, .bf16⟩
  | .local _ .vmem, ⟨6, _⟩ => ⟨S384x2048, .bf16⟩
  | .local _ .vmem, ⟨7, _⟩ => ⟨S256x2048, .bf16⟩
  | .local _ .vmem, ⟨8, _⟩ => ⟨S256x1024, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S65536x1024 : Shape := ⟨2, ![65536, 1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S32x2048x1024 : Shape := ⟨3, ![32, 2048, 1024]⟩
abbrev S32x2048x672 : Shape := ⟨3, ![32, 2048, 672]⟩
abbrev S32x2048x384 : Shape := ⟨3, ![32, 2048, 384]⟩
abbrev S32x2048x256 : Shape := ⟨3, ![32, 2048, 256]⟩
abbrev S32x2048x32 : Shape := ⟨3, ![32, 2048, 32]⟩
abbrev S_ : Shape := ⟨0, ![]⟩
abbrev S32x2048 : Shape := ⟨2, ![32, 2048]⟩
abbrev S32x2048x1 : Shape := ⟨3, ![32, 2048, 1]⟩
abbrev S1x1x384 : Shape := ⟨3, ![1, 1, 384]⟩
abbrev S32x2048x1536 : Shape := ⟨3, ![32, 2048, 1536]⟩
abbrev S32x2048x16x96 : Shape := ⟨4, ![32, 2048, 16, 96]⟩
abbrev S1x1x256 : Shape := ⟨3, ![1, 1, 256]⟩
abbrev S32x2048x2048 : Shape := ⟨3, ![32, 2048, 2048]⟩
abbrev S32x2048x16x128 : Shape := ⟨4, ![32, 2048, 16, 128]⟩
abbrev S2048 : Shape := ⟨1, ![2048]⟩
abbrev S32x2048x16x32 : Shape := ⟨4, ![32, 2048, 16, 32]⟩
abbrev S32x2048x16x64 : Shape := ⟨4, ![32, 2048, 16, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S32x2048x16x16 : Shape := ⟨4, ![32, 2048, 16, 16]⟩
abbrev S1x2048x1x16 : Shape := ⟨4, ![1, 2048, 1, 16]⟩
abbrev S32x2048x1x32 : Shape := ⟨4, ![32, 2048, 1, 32]⟩
abbrev S32x2048x1x16 : Shape := ⟨4, ![32, 2048, 1, 16]⟩
abbrev S65536x2048 : Shape := ⟨2, ![65536, 2048]⟩

abbrev nBuf : Space → Nat
  | .hbm => 137
  | .vmem => 0
  | .smem => 0
  | _ => 0

abbrev hbmTy0_0 (i : Nat) : BufTy := match i % 128 with
  | 0 => ⟨S65536x1024, .f32⟩
  | 1 => ⟨S1024x672, .f32⟩
  | 2 => ⟨S384, .f32⟩
  | 3 => ⟨S256, .f32⟩
  | 4 => ⟨S384x1536, .f32⟩
  | 5 => ⟨S256x2048, .f32⟩
  | 6 => ⟨S32x2048x1024, .f32⟩
  | 7 => ⟨S32x2048x672, .f32⟩
  | 8 => ⟨S32x2048x384, .f32⟩
  | 9 => ⟨S32x2048x256, .f32⟩
  | 10 => ⟨S32x2048x32, .f32⟩
  | 11 => ⟨S32x2048x384, .f32⟩
  | 12 => ⟨S_, .f32⟩
  | 13 => ⟨S32x2048, .f32⟩
  | 14 => ⟨S32x2048x1, .f32⟩
  | 15 => ⟨S_, .f32⟩
  | 16 => ⟨S32x2048x1, .f32⟩
  | 17 => ⟨S32x2048x1, .f32⟩
  | 18 => ⟨S_, .f32⟩
  | 19 => ⟨S32x2048x1, .f32⟩
  | 20 => ⟨S32x2048x1, .f32⟩
  | 21 => ⟨S32x2048x1, .f32⟩
  | 22 => ⟨S32x2048x384, .f32⟩
  | 23 => ⟨S32x2048x384, .f32⟩
  | 24 => ⟨S1x1x384, .f32⟩
  | 25 => ⟨S32x2048x384, .f32⟩
  | 26 => ⟨S32x2048x384, .f32⟩
  | 27 => ⟨S32x2048x1536, .f32⟩
  | 28 => ⟨S32x2048x16x96, .f32⟩
  | 29 => ⟨S32x2048x256, .f32⟩
  | 30 => ⟨S_, .f32⟩
  | 31 => ⟨S32x2048, .f32⟩
  | 32 => ⟨S32x2048x1, .f32⟩
  | 33 => ⟨S_, .f32⟩
  | 34 => ⟨S32x2048x1, .f32⟩
  | 35 => ⟨S32x2048x1, .f32⟩
  | 36 => ⟨S_, .f32⟩
  | 37 => ⟨S32x2048x1, .f32⟩
  | 38 => ⟨S32x2048x1, .f32⟩
  | 39 => ⟨S32x2048x1, .f32⟩
  | 40 => ⟨S32x2048x256, .f32⟩
  | 41 => ⟨S32x2048x256, .f32⟩
  | 42 => ⟨S1x1x256, .f32⟩
  | 43 => ⟨S32x2048x256, .f32⟩
  | 44 => ⟨S32x2048x256, .f32⟩
  | 45 => ⟨S32x2048x2048, .f32⟩
  | 46 => ⟨S32x2048x16x128, .f32⟩
  | 47 => ⟨S2048, .i32⟩
  | 48 => ⟨S_, .f32⟩
  | 49 => ⟨S32x2048x16x32, .f32⟩
  | 50 => ⟨S32x2048x16x64, .f32⟩
  | 51 => ⟨S32x2048x16x32, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S2048x16, .f32⟩
  | 67 => ⟨S2048x1x16, .f32⟩
  | 68 => ⟨S2048x16, .f32⟩
  | 69 => ⟨S2048x1x16, .f32⟩
  | 70 => ⟨S32x2048x16x16, .f32⟩
  | 71 => ⟨S32x2048x16x16, .f32⟩
  | 72 => ⟨S1x2048x1x16, .f32⟩
  | 73 => ⟨S32x2048x16x16, .f32⟩
  | 74 => ⟨S32x2048x16x16, .f32⟩
  | 75 => ⟨S1x2048x1x16, .f32⟩
  | 76 => ⟨S32x2048x16x16, .f32⟩
  | 77 => ⟨S32x2048x16x16, .f32⟩
  | 78 => ⟨S32x2048x16x16, .f32⟩
  | 79 => ⟨S1x2048x1x16, .f32⟩
  | 80 => ⟨S32x2048x16x16, .f32⟩
  | 81 => ⟨S32x2048x16x16, .f32⟩
  | 82 => ⟨S1x2048x1x16, .f32⟩
  | 83 => ⟨S32x2048x16x16, .f32⟩
  | 84 => ⟨S32x2048x16x16, .f32⟩
  | 85 => ⟨S32x2048x16x16, .f32⟩
  | 86 => ⟨S32x2048x16x32, .f32⟩
  | 87 => ⟨S32x2048x16x128, .f32⟩
  | 88 => ⟨S32x2048x1x32, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S2048, .f32⟩
  | 98 => ⟨S2048x1, .f32⟩
  | 99 => ⟨S1x16, .f32⟩
  | 100 => ⟨S2048x16, .f32⟩
  | 101 => ⟨S2048x16, .f32⟩
  | 102 => ⟨S2048x16, .f32⟩
  | 103 => ⟨S2048x16, .f32⟩
  | 104 => ⟨S2048x1x16, .f32⟩
  | 105 => ⟨S2048x16, .f32⟩
  | 106 => ⟨S2048x1x16, .f32⟩
  | 107 => ⟨S32x2048x1x16, .f32⟩
  | 108 => ⟨S32x2048x1x16, .f32⟩
  | 109 => ⟨S1x2048x1x16, .f32⟩
  | 110 => ⟨S32x2048x1x16, .f32⟩
  | 111 => ⟨S32x2048x1x16, .f32⟩
  | 112 => ⟨S1x2048x1x16, .f32⟩
  | 113 => ⟨S32x2048x1x16, .f32⟩
  | 114 => ⟨S32x2048x1x16, .f32⟩
  | 115 => ⟨S32x2048x1x16, .f32⟩
  | 116 => ⟨S1x2048x1x16, .f32⟩
  | 117 => ⟨S32x2048x1x16, .f32⟩
  | 118 => ⟨S32x2048x1x16, .f32⟩
  | 119 => ⟨S1x2048x1x16, .f32⟩
  | 120 => ⟨S32x2048x1x16, .f32⟩
  | 121 => ⟨S32x2048x1x16, .f32⟩
  | 122 => ⟨S32x2048x1x16, .f32⟩
  | 123 => ⟨S32x2048x1x32, .f32⟩
  | 124 => ⟨S32x2048x16x32, .f32⟩
  | 125 => ⟨S32x2048x16x64, .f32⟩
  | 126 => ⟨S32x2048x16x128, .f32⟩
  | 127 => ⟨S_, .f32⟩
  | _ => ⟨S65536x1024, .f32⟩

abbrev hbmTy0_1 (i : Nat) : BufTy := match i % 128 with
  | 0 => ⟨S32x2048x16x128, .f32⟩
  | 1 => ⟨S32x2048x16x128, .f32⟩
  | 2 => ⟨S65536x2048, .f32⟩
  | 3 => ⟨S65536x2048, .bf16⟩
  | 4 => ⟨S65536x2048, .f32⟩
  | 5 => ⟨S65536x2048, .bf16⟩
  | 6 => ⟨S32x2048x16x64, .f32⟩
  | 7 => ⟨S65536x1024, .f32⟩
  | 8 => ⟨S65536x1024, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_10 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Launch
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Tactic

/-! The pair kernel's body at one grid point, run on any staging buffers: a tile in use is left at the layer-normed
gated sum of its two experts (`pairOut`), a tile past the last one used at zero. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three prefetched tables: first experts, second experts, the number of tiles in use. -/
abbrev tb0 : Memref sig .tc .smem S152 .i32 := Memref.whole main_arg0
abbrev tb1 : Memref sig .tc .smem S152 .i32 := Memref.whole main_arg1
abbrev tb2 : Memref sig .tc .smem S1 .i32 := Memref.whole main_arg2

/-- The word the body loads from the third table. -/
def usedWord (T2 : S1.Idx → Elt F .i32) : Elt F .i32 :=
  View.readAt (Elt F) tb2.view (Rect.unit (s := S1) ![0] S1.size inb_S1_S1_0).toLoadRect T2 (Shape.Idx.first (numel1_S1.symm ▸ Nat.one_pos))

/-- The columns of a tile's rows: the token's features, -/
def tokens (x0 : S512x1152.Idx → Elt F .f32) : Vec F S512x1024 .f32 :=
  View.ld (Val := Elt F) (e' := .f32) x0 (Rect.unit (s := S512x1152) ![0, 0] S512x1024.size inb_S512x1152_S512x1024_0_0)
/-- and the two gates, in the first lanes. -/
def gates (x0 : S512x1152.Idx → Elt F .f32) : Vec F S512x128 .f32 :=
  View.ld (Val := Elt F) (e' := .f32) x0 (Rect.unit (s := S512x1152) ![0, 1024] S512x128.size inb_S512x1152_S512x128_0_1024)

/-- What the body leaves of a tile in use. -/
def pairOut (x0 : S512x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32) : S512x1024.Idx → Elt F .f32 :=
  k0_pay6 (tokens x0) (gates x0) (iota .tc S512x128 32 [1] iota_S512x128_d1_w32) (k0_pay3 (tokens x0) (gates x0) x1 x2 x3)
    (k0_pay4 (tokens x0) x5) (k0_pay5 (tokens x0) x4) x6 x7 x8

theorem zero2 : (![0, 0] : Fin 2 → Nat) = fun _ => 0 := by decide
theorem zero3 : (![0, 0, 0] : Fin 3 → Nat) = fun _ => 0 := by decide

/-- A load from a buffer known to hold `x` reads `x` through the rectangle. -/
theorem readAt_rep {S : Shape} {e : EltTy} (m : Memref sig .tc .vmem S e) (r : Rect S) (x : S.Idx → Elt F e) :
    View.readAt (Elt F) m.view r.toLoadRect (m.view.rep x) = View.ld (Val := Elt F) (e' := e) x r := by
  rw [View.readAt_eq_ld, View.read_rep]

set_option maxHeartbeats 8000000 in
/-- A tile in use. -/
theorem run_used (c : Dev nD) (i : grid0.Coords) (arg4 : Memref sig .tc .vmem S512x1152 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole)
    (T0 : S152.Idx → Elt F .i32) (T1 : S152.Idx → Elt F .i32) (T2 : S1.Idx → Elt F .i32)
    (x0 : S512x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (h1 : k0_cond1 i (usedWord T2) = 1#1) (h2 : ¬k0_cond2 i (usedWord T2) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (arg10.view.loc (c : Thread nD τ) ↦[arg10.view.set]{fullShare} arg10.view.rep x6)
      ∗ (arg11.view.loc (c : Thread nD τ) ↦[arg11.view.set]{fullShare} arg11.view.rep x7)
      ∗ (arg12.view.loc (c : Thread nD τ) ↦[arg12.view.set]{fullShare} arg12.view.rep x8)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ (∃ d, owns (c : Thread nD τ) arg13 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg13 fullShare (pairOut x0 x1 x2 x3 x4 x5 x6 x7 x8)) -∗ K ⟨⟩))
      ⊢ wp frame (wpE (defs₀ (F := F)) Variants.none c none) Set.univ (cc0_moe_experts_ln i tb0 (Memref.isWhole_whole _) tb1 (Memref.isWhole_whole _) tb2 (Memref.isWhole_whole _) arg4 harg4 arg5 harg5 arg6 harg6 arg7 harg7 arg8 harg8 arg9 harg9 arg10 harg10 arg11 harg11 arg12 harg12 arg13 harg13) K := by
  unfold owns
  rw [cc0_moe_experts_ln_eq_skeleton]; unfold cc0_moe_experts_ln_skel
  iintro ⟨H0, H1, H2, H3, H4, H5, H6, H7, H8, HT0, HT1, HT2, ⟨%d9, %f9, -, HO9⟩, Hk⟩
  have hT0 : tb0.IsWhole := Memref.isWhole_whole _
  have hT1 : tb1.IsWhole := Memref.isWhole_whole _
  have hT2 : tb2.IsWhole := Memref.isWhole_whole _
  sl_exec! (disch := first | (guard_target = k0_cond1 _ _ = _; exact h1) | (guard_target = ¬(k0_cond2 _ _ = _); exact h2))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT0]; · iexact HT0
  isplitl [HT1]; · iexact HT1
  isplitl [HT2]; · iexact HT2
  iexists _; isplitr; swap
  · iexact HO9
  · ipureintro
    sl_unfold_words
    rw [View.read_writes_eq_canon _ _ _ (View.cover_of_tiledL _ S512x1024.size (by sl_kernel_rfl))]
    rw [View.canon_unit_zero (S := S512x1024) zero2]
    simp only [readAt_rep]
    simp only [View.ld_unit_zero (S := S1x1024x512) zero3, View.ld_unit_zero (S := S1x512x1024) zero3, View.ld_unit_zero (S := S1x1024) zero2]
    rfl

set_option maxHeartbeats 8000000 in
/-- A tile past the last one in use. -/
theorem run_idle (c : Dev nD) (i : grid0.Coords) (arg4 : Memref sig .tc .vmem S512x1152 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole)
    (T0 : S152.Idx → Elt F .i32) (T1 : S152.Idx → Elt F .i32) (T2 : S1.Idx → Elt F .i32)
    (x0 : S512x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (h1 : ¬k0_cond1 i (usedWord T2) = 1#1) (h2 : k0_cond2 i (usedWord T2) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (arg10.view.loc (c : Thread nD τ) ↦[arg10.view.set]{fullShare} arg10.view.rep x6)
      ∗ (arg11.view.loc (c : Thread nD τ) ↦[arg11.view.set]{fullShare} arg11.view.rep x7)
      ∗ (arg12.view.loc (c : Thread nD τ) ↦[arg12.view.set]{fullShare} arg12.view.rep x8)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ (∃ d, owns (c : Thread nD τ) arg13 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg13 fullShare (k0_pay1 (F := F))) -∗ K ⟨⟩))
      ⊢ wp frame (wpE (defs₀ (F := F)) Variants.none c none) Set.univ (cc0_moe_experts_ln i tb0 (Memref.isWhole_whole _) tb1 (Memref.isWhole_whole _) tb2 (Memref.isWhole_whole _) arg4 harg4 arg5 harg5 arg6 harg6 arg7 harg7 arg8 harg8 arg9 harg9 arg10 harg10 arg11 harg11 arg12 harg12 arg13 harg13) K := by
  unfold owns
  rw [cc0_moe_experts_ln_eq_skeleton]; unfold cc0_moe_experts_ln_skel
  iintro ⟨H0, H1, H2, H3, H4, H5, H6, H7, H8, HT0, HT1, HT2, ⟨%d9, %f9, -, HO9⟩, Hk⟩
  have hT0 : tb0.IsWhole := Memref.isWhole_whole _
  have hT1 : tb1.IsWhole := Memref.isWhole_whole _
  have hT2 : tb2.IsWhole := Memref.isWhole_whole _
  sl_exec! (disch := first | (guard_target = ¬(k0_cond1 _ _ = _); exact h1) | (guard_target = k0_cond2 _ _ = _; exact h2))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT0]; · iexact HT0
  isplitl [HT1]; · iexact HT1
  isplitl [HT2]; · iexact HT2
  iexists _; isplitr; swap
  · iexact HO9
  · ipureintro
    sl_unfold_words
    rw [View.read_writes_eq_canon _ _ _ (View.cover_of_tiledL _ S512x1024.size (by sl_kernel_rfl))]
    rw [View.canon_unit_zero (S := S512x1024) zero2]

end Cert.Moe

end
-- ==== Proof.Run.lean ====
module

public import proofs.«01_k».proof.Proof.Body
public import Idealize.ShloMosaic.Lib.Pipeline.Frame
public import Idealize.ShloMosaic.Lib.WordCmp

/-! The launch of the pair kernel over the tiles, at any tables whose entries name experts: the tables are read at the
region's entry, six of the windows stage the block of the expert a table names, and the body runs at every tile. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as the memory holds them. -/
def tabs : pre0.Contents (Elt F) := fun k => m (((0 : Dev nD) : Thread nD τ).loc (pre0.ref k))

variable (hok : ok0 (F := F) (tabs m))

/-- The pipeline at these tables. -/
def adm : (pcfg0 (F := F)).Adm := ⟨tabs m, hok⟩
abbrev cfgA : Cfg sig Λ₀ := cfg0 (F := F) (adm m hok)

/-- What the region finds in each buffer: the memory after the host's casts and reshapes. -/
def V (c : Dev nD) (b : Ref sig .tc) : Buf (Elt F) ((c.tc : Thread nD τ).loc b) := StableHlo.after hostOps0 (fun b => m (c, b)) b

theorem V_eq_of (c : Dev nD) (b : Ref sig .tc) (hb : b ≠ main_v0 ∧ b ≠ main_v1 ∧ b ≠ main_v2 ∧ b ≠ main_v3 ∧ b ≠ main_v4) :
    V m c b = m ((c.tc : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4⟩ := hb
    repeat' apply And.intro
    all_goals (apply StableHlo.devRef_ne_of_ne; assumption)))

/-- Window `w`'s block at point `t`. -/
def iblk (c : Dev nD) (w : Fin 10) (t : Fin (cfgA m hok).N) : (((cfgA m hok).win w).xblock ((cfgA m hok).grid.coords t)).Idx → Elt F ((cfgA m hok).win w).elt :=
  (((cfgA m hok).win w).blk t).view.read (Elt F) (V m c (Pipeline.arrRef spec0 w))

/-- Whether the tile of a point is in use. -/
abbrev Used (t : Fin (cfgA m hok).N) : Prop := k0_cond1 ((cfgA m hok).grid.coords t) (usedWord (tabs m 2)) = 1#1

open Classical in
/-- What the body leaves of the tile at point `t`. -/
def outAt (c : Dev nD) (t : Fin (cfgA m hok).N) : S512x1024.Idx → Elt F .f32 :=
  if Used m hok t then
    pairOut (iblk m hok c 0 t) (iblk m hok c 1 t) (iblk m hok c 2 t) (iblk m hok c 3 t) (iblk m hok c 4 t) (iblk m hok c 5 t) (iblk m hok c 6 t) (iblk m hok c 7 t) (iblk m hok c 8 t)
  else k0_pay1 (F := F)

/-- The proof data of the pipeline on core `c`. -/
def dats (_ : Fin 1) (c : Dev nD) : Dat τ (Elt F) Unit ℕ (UR sig nD τ) ℕ (cfgA m hok) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => iblk m hok c 5 t
    | ⟨6, _⟩ => iblk m hok c 6 t
    | ⟨7, _⟩ => iblk m hok c 7 t
    | ⟨8, _⟩ => iblk m hok c 8 t
    | ⟨9, _⟩ => outAt m hok c t
  Φ _ := iprop(Pipeline.ΦA spec0 c ∗ Pipeline.ΦT pre0 (tabs m) c)
  q w := Pipeline.shareOf spec0 w
  owed _ := 0

theorem after_0 (c : Dev nD) (t : Fin (cfgA m hok).N) : (dats m hok 0 c).after 0 t = iblk m hok c 0 t := rfl
theorem after_1 (c : Dev nD) (t : Fin (cfgA m hok).N) : (dats m hok 0 c).after 1 t = iblk m hok c 1 t := rfl
theorem after_2 (c : Dev nD) (t : Fin (cfgA m hok).N) : (dats m hok 0 c).after 2 t = iblk m hok c 2 t := rfl
theorem after_3 (c : Dev nD) (t : Fin (cfgA m hok).N) : (dats m hok 0 c).after 3 t = iblk m hok c 3 t := rfl
theorem after_4 (c : Dev nD) (t : Fin (cfgA m hok).N) : (dats m hok 0 c).after 4 t = iblk m hok c 4 t := rfl
theorem after_5 (c : Dev nD) (t : Fin (cfgA m hok).N) : (dats m hok 0 c).after 5 t = iblk m hok c 5 t := rfl
theorem after_6 (c : Dev nD) (t : Fin (cfgA m hok).N) : (dats m hok 0 c).after 6 t = iblk m hok c 6 t := rfl
theorem after_7 (c : Dev nD) (t : Fin (cfgA m hok).N) : (dats m hok 0 c).after 7 t = iblk m hok c 7 t := rfl
theorem after_8 (c : Dev nD) (t : Fin (cfgA m hok).N) : (dats m hok 0 c).after 8 t = iblk m hok c 8 t := rfl
theorem after_9 (c : Dev nD) (t : Fin (cfgA m hok).N) : (dats m hok 0 c).after 9 t = outAt m hok c t := rfl

theorem A_eq (c : Dev nD) (w : Fin 10) : (dats m hok 0 c).A w = V m c (Pipeline.arrRef spec0 w) := by dsimp only [dats]

/-! Every input's buffer holds its block at every point. -/

theorem before_0 (c : Dev nD) (t : Fin (cfgA m hok).N) (d) : (dats m hok 0 c).before 0 t d = iblk m hok c 0 t :=
  ((dats m hok 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA m hok).N) (d) : (dats m hok 0 c).before 1 t d = iblk m hok c 1 t :=
  ((dats m hok 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA m hok).N) (d) : (dats m hok 0 c).before 2 t d = iblk m hok c 2 t :=
  ((dats m hok 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA m hok).N) (d) : (dats m hok 0 c).before 3 t d = iblk m hok c 3 t :=
  ((dats m hok 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgA m hok).N) (d) : (dats m hok 0 c).before 4 t d = iblk m hok c 4 t :=
  ((dats m hok 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgA m hok).N) (d) : (dats m hok 0 c).before 5 t d = iblk m hok c 5 t :=
  ((dats m hok 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgA m hok).N) (d) : (dats m hok 0 c).before 6 t d = iblk m hok c 6 t :=
  ((dats m hok 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cfgA m hok).N) (d) : (dats m hok 0 c).before 7 t d = iblk m hok c 7 t :=
  ((dats m hok 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin (cfgA m hok).N) (d) : (dats m hok 0 c).before 8 t d = iblk m hok c 8 t :=
  ((dats m hok 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! Each window's current staging buffer at a point. -/

abbrev stg_0 (t : Fin (cfgA m hok).N) : Memref sig .tc .vmem S512x1152 .f32 := spec0_0.stage ((cfgA m hok).slots t 0)
abbrev whl_0 (t : Fin (cfgA m hok).N) : (stg_0 m hok t).IsWhole := hstage0_0 (((cfgA m hok).slots t 0).cast nbuf0_0)
abbrev stg_1 (t : Fin (cfgA m hok).N) : Memref sig .tc .vmem S1x1024x512 .bf16 := spec0_1.stage ((cfgA m hok).slots t 1)
abbrev whl_1 (t : Fin (cfgA m hok).N) : (stg_1 m hok t).IsWhole := hstage0_1 (((cfgA m hok).slots t 1).cast nbuf0_1)
abbrev stg_2 (t : Fin (cfgA m hok).N) : Memref sig .tc .vmem S1x1024x512 .bf16 := spec0_2.stage ((cfgA m hok).slots t 2)
abbrev whl_2 (t : Fin (cfgA m hok).N) : (stg_2 m hok t).IsWhole := hstage0_2 (((cfgA m hok).slots t 2).cast nbuf0_2)
abbrev stg_3 (t : Fin (cfgA m hok).N) : Memref sig .tc .vmem S1x512x1024 .bf16 := spec0_3.stage ((cfgA m hok).slots t 3)
abbrev whl_3 (t : Fin (cfgA m hok).N) : (stg_3 m hok t).IsWhole := hstage0_3 (((cfgA m hok).slots t 3).cast nbuf0_3)
abbrev stg_4 (t : Fin (cfgA m hok).N) : Memref sig .tc .vmem S1x1024x512 .bf16 := spec0_4.stage ((cfgA m hok).slots t 4)
abbrev whl_4 (t : Fin (cfgA m hok).N) : (stg_4 m hok t).IsWhole := hstage0_4 (((cfgA m hok).slots t 4).cast nbuf0_4)
abbrev stg_5 (t : Fin (cfgA m hok).N) : Memref sig .tc .vmem S1x1024x512 .bf16 := spec0_5.stage ((cfgA m hok).slots t 5)
abbrev whl_5 (t : Fin (cfgA m hok).N) : (stg_5 m hok t).IsWhole := hstage0_5 (((cfgA m hok).slots t 5).cast nbuf0_5)
abbrev stg_6 (t : Fin (cfgA m hok).N) : Memref sig .tc .vmem S1x512x1024 .bf16 := spec0_6.stage ((cfgA m hok).slots t 6)
abbrev whl_6 (t : Fin (cfgA m hok).N) : (stg_6 m hok t).IsWhole := hstage0_6 (((cfgA m hok).slots t 6).cast nbuf0_6)
abbrev stg_7 (t : Fin (cfgA m hok).N) : Memref sig .tc .vmem S1x1024 .f32 := spec0_7.stage ((cfgA m hok).slots t 7)
abbrev whl_7 (t : Fin (cfgA m hok).N) : (stg_7 m hok t).IsWhole := hstage0_7 (((cfgA m hok).slots t 7).cast nbuf0_7)
abbrev stg_8 (t : Fin (cfgA m hok).N) : Memref sig .tc .vmem S1x1024 .f32 := spec0_8.stage ((cfgA m hok).slots t 8)
abbrev whl_8 (t : Fin (cfgA m hok).N) : (stg_8 m hok t).IsWhole := hstage0_8 (((cfgA m hok).slots t 8).cast nbuf0_8)
abbrev stg_9 (t : Fin (cfgA m hok).N) : Memref sig .tc .vmem S512x1024 .f32 := spec0_9.stage ((cfgA m hok).slots t 9)
abbrev whl_9 (t : Fin (cfgA m hok).N) : (stg_9 m hok t).IsWhole := hstage0_9 (((cfgA m hok).slots t 9).cast nbuf0_9)

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop(((c : Thread nD τ).loc main_arg0 ↦{q 0} v 0) ∗ ((c : Thread nD τ).loc main_arg1 ↦{q 1} v 1) ∗ ((c : Thread nD τ).loc main_arg2 ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- A tile is either in use or past the last one in use. -/
theorem cond1_iff (i : grid0.Coords) (v : BitVec 32) : k0_cond1 i v = 1#1 ↔ (BitVec.ofNat 32 (i 0).val).toInt < v.toInt := by
  show IntOp.cmpi .ne (BitVec.setWidth 32 (IntOp.cmpi .slt (BitVec.ofNat 32 (i 0).val) v)) 0#32 = 1#1 ↔ _
  rw [Idealize.ShloMosaic.WordCmp.cmpi_slt_eq]
  by_cases h : (BitVec.ofNat 32 (i 0).val).toInt < v.toInt
  · simp only [h, decide_true, iff_true]; decide
  · simp only [h, decide_false, iff_false]; decide

theorem cond2_iff (i : grid0.Coords) (v : BitVec 32) : k0_cond2 i v = 1#1 ↔ ¬(k0_cond1 i v = 1#1) := by
  rw [cond1_iff]
  show IntOp.cmpi .ne (BitVec.setWidth 32 (IntOp.cmpi .sge (BitVec.ofNat 32 (i 0).val) v)) 0#32 = 1#1 ↔ _
  rw [Idealize.ShloMosaic.WordCmp.cmpi_sge_eq]
  by_cases h : v.toInt ≤ (BitVec.ofNat 32 (i 0).val).toInt
  · simp only [h, decide_true, not_lt.2 h, not_false_iff, iff_true]; decide
  · simp only [h, decide_false, not_le.1 h, not_true, iff_false]; decide

theorem idle_of (i : grid0.Coords) (v : BitVec 32) : (!(k0_cond1 i v == 1#1) && !(k0_cond2 i v == 1#1)) = false := by
  by_cases h : k0_cond1 i v = 1#1
  · simp [h]
  · simp [(cond2_iff i v).2 h]

/-- So no point leaves the output alone. -/
theorem idle_false (t : Fin (cfgA m hok).N) : (cfgA m hok).idle 9 ((cfgA m hok).grid.coords t) = false :=
  idle_of ((cfgA m hok).grid.coords t) ((tabs m).atD 2 ![0])

theorem hostOps0_fresh : (hostOps0 : List (HloOp τ sig (Elt F))).Forall fun op => op.fresh = ∅ := by
  simp only [hostOps0, List.Forall]; repeat' constructor

/-- The body at point `t`, as the pipeline calls it. -/
abbrev bodyAt (t : Fin (cfgA m hok).N) : Prog (TpuEff nD τ sig (Elt F) Λ₀ .tc) PUnit :=
  cc0_moe_experts_ln ((cfgA m hok).grid.coords t) tb0 (Memref.isWhole_whole _) tb1 (Memref.isWhole_whole _) tb2 (Memref.isWhole_whole _) (stg_0 m hok t) (whl_0 m hok t) (stg_1 m hok t) (whl_1 m hok t) (stg_2 m hok t) (whl_2 m hok t) (stg_3 m hok t) (whl_3 m hok t) (stg_4 m hok t) (whl_4 m hok t) (stg_5 m hok t) (whl_5 m hok t) (stg_6 m hok t) (whl_6 m hok t) (stg_7 m hok t) (whl_7 m hok t) (stg_8 m hok t) (whl_8 m hok t) (stg_9 m hok t) (whl_9 m hok t)

theorem defs₀_row (t : Fin (cfgA m hok).N) :
    defs₀ (F := F) .tc (cfgA m hok).body ((cfgA m hok).bodyArgs t ((cfgA m hok).slots t)) = bodyAt m hok t := by
  unfold defs₀; rw [Defs.onTc_tc]

set_option maxHeartbeats 4000000 in
/-- The body at any point: the inputs hold their blocks, the tables their contents; the output is left as `outAt` says. -/
theorem sound_body (c : Dev nD) (t : Fin (cfgA m hok).N) :
    iprop((dats m hok 0 c).Φ t.castSucc ∗ (dats m hok 0 c).owesAt () t.castSucc
        ∗ (∃ d, owns (c : Thread nD τ) (stg_0 m hok t) fullShare ((dats m hok 0 c).before 0 t d))
        ∗ (∃ d, owns (c : Thread nD τ) (stg_1 m hok t) fullShare ((dats m hok 0 c).before 1 t d))
        ∗ (∃ d, owns (c : Thread nD τ) (stg_2 m hok t) fullShare ((dats m hok 0 c).before 2 t d))
        ∗ (∃ d, owns (c : Thread nD τ) (stg_3 m hok t) fullShare ((dats m hok 0 c).before 3 t d))
        ∗ (∃ d, owns (c : Thread nD τ) (stg_4 m hok t) fullShare ((dats m hok 0 c).before 4 t d))
        ∗ (∃ d, owns (c : Thread nD τ) (stg_5 m hok t) fullShare ((dats m hok 0 c).before 5 t d))
        ∗ (∃ d, owns (c : Thread nD τ) (stg_6 m hok t) fullShare ((dats m hok 0 c).before 6 t d))
        ∗ (∃ d, owns (c : Thread nD τ) (stg_7 m hok t) fullShare ((dats m hok 0 c).before 7 t d))
        ∗ (∃ d, owns (c : Thread nD τ) (stg_8 m hok t) fullShare ((dats m hok 0 c).before 8 t d))
        ∗ (∃ d, owns (c : Thread nD τ) (stg_9 m hok t) fullShare ((dats m hok 0 c).before 9 t d)))
      ⊢ wp frame (wpE (defs₀ (F := F)) Variants.none c none) Set.univ (bodyAt m hok t) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  rewrite [idle_false]
  simp only [before_0, before_1, before_2, before_3, before_4, before_5, before_6, before_7, before_8, after_0, after_1, after_2, after_3, after_4, after_5, after_6, after_7, after_8, after_9]
  rewrite [show (dats m hok 0 c).Φ t.succ = iprop(Pipeline.ΦA spec0 c ∗ Pipeline.ΦT pre0 (tabs m) c) from rfl,
    show (dats m hok 0 c).Φ t.castSucc = iprop(Pipeline.ΦA spec0 c ∗ Pipeline.ΦT pre0 (tabs m) c) from rfl,
    show (dats m hok 0 c).owesAt () t.succ = (dats m hok 0 c).owesAt () t.castSucc from rfl]
  unfold Pipeline.ΦT
  rewrite [prefHeld_eq]
  by_cases hu : Used m hok t
  · rewrite [show outAt m hok c t = pairOut (iblk m hok c 0 t) (iblk m hok c 1 t) (iblk m hok c 2 t) (iblk m hok c 3 t) (iblk m hok c 4 t) (iblk m hok c 5 t) (iblk m hok c 6 t) (iblk m hok c 7 t) (iblk m hok c 8 t) from if_pos hu]
    iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_used c ((cfgA m hok).grid.coords t) (stg_0 m hok t) (whl_0 m hok t) (stg_1 m hok t) (whl_1 m hok t) (stg_2 m hok t) (whl_2 m hok t) (stg_3 m hok t) (whl_3 m hok t) (stg_4 m hok t) (whl_4 m hok t) (stg_5 m hok t) (whl_5 m hok t) (stg_6 m hok t) (whl_6 m hok t) (stg_7 m hok t) (whl_7 m hok t) (stg_8 m hok t) (whl_8 m hok t) (stg_9 m hok t) (whl_9 m hok t) (tabs m 0) (tabs m 1) (tabs m 2) (iblk m hok c 0 t) (iblk m hok c 1 t) (iblk m hok c 2 t) (iblk m hok c 3 t) (iblk m hok c 4 t) (iblk m hok c 5 t) (iblk m hok c 6 t) (iblk m hok c 7 t) (iblk m hok c 8 t) hu (fun h => (cond2_iff _ _).1 h hu) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, H9⟩
    isplitl [HA HT0 HT1 HT2]
    · isplitl [HA]
      · iexact HA
      isplitl [HT0]
      · iexact HT0
      isplitl [HT1]
      · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    iexact H9
  · rewrite [show outAt m hok c t = k0_pay1 (F := F) from if_neg hu]
    iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_idle c ((cfgA m hok).grid.coords t) (stg_0 m hok t) (whl_0 m hok t) (stg_1 m hok t) (whl_1 m hok t) (stg_2 m hok t) (whl_2 m hok t) (stg_3 m hok t) (whl_3 m hok t) (stg_4 m hok t) (whl_4 m hok t) (stg_5 m hok t) (whl_5 m hok t) (stg_6 m hok t) (whl_6 m hok t) (stg_7 m hok t) (whl_7 m hok t) (stg_8 m hok t) (whl_8 m hok t) (stg_9 m hok t) (whl_9 m hok t) (tabs m 0) (tabs m 1) (tabs m 2) (iblk m hok c 0 t) (iblk m hok c 1 t) (iblk m hok c 2 t) (iblk m hok c 3 t) (iblk m hok c 4 t) (iblk m hok c 5 t) (iblk m hok c 6 t) (iblk m hok c 7 t) (iblk m hok c 8 t) hu ((cond2_iff _ _).2 hu) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, H9⟩
    isplitl [HA HT0 HT1 HT2]
    · isplitl [HA]
      · iexact HA
      isplitl [HT0]
      · iexact HT0
      isplitl [HT1]
      · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    iexact H9

/-- The library's body obligation, at every point. -/
theorem body_obligation (c : Dev nD) : BodyObligation (dats m hok 0 c) (defs₀ (F := F)) Variants.none () Set.univ := fun t => by
  rw [bigSep_W0, defs₀_row]
  exact sound_body m hok c t

theorem tabs_eq (c : Dev nD) (k : Fin 3) : V m c (pre0.ref k) = tabs m k := by
  obtain rfl : c = 0 := Subsingleton.elim _ _
  fin_cases k <;> exact V_eq_of m 0 _ (by decide)

set_option backward.isDefEq.respectTransparency.types false in
set_option maxHeartbeats 4000000 in
/-- The run: from any memory whose tables name experts, every weakly fair execution ends with each array at its computed
contents, every other buffer as the region found it and every counter at zero. -/
theorem run_main : θ_run (defs (F := F)) (onTc (τ := τ) (main (F := F))) (s₀ m ρ)
    (fun r => Pipeline.FramePost (Pipeline.pin pcfgs fun _ => adm m hok) (dats m hok) 0 (V m) r ∧ r.2.sem = fun _ => 0) :=
  Pipeline.θ_run_frameP_shared (Q' := _) pcfgs (fun _ => adm m hok) (dats m hok) (0 : Fin 1) launch₀0 defs₀ Variants.none m ρ main
    (hbody := fun c => (body_obligation m hok c).loose) (hq := fun _ _ _ => rfl) (howed := fun _ _ => rfl) (V := V m)
    (hmain := Pipeline.hmainP_prefix pcfgs 0 defs₀ Variants.none m main hostOps0 hostOps0_sub hostOps0_fresh main_chain)
    (hA := A_eq m hok) (hpf := tabs_eq m) (hΦ := fun _ _ => rfl) (hQ' := fun _ h => h)

end Cert.Moe

end
-- ==== Proof.Tables.lean ====
module

public import proofs.«01_k».proof.Proof.Run
public import proofs.«01_k».proof.Pre_routed
public import proofs.«01_k».proof.Proof.Gen.Pre_routed
public import Idealize.ShloMosaic.Lib.Affine

/-! The precondition read off the tables, what it gives the launch (every table entry names an expert), and the frame. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's tile, as an index of the tables. -/
def tile (i : grid0.Coords) : S152.Idx := fun | ⟨0, _⟩ => i 0 | ⟨n + 1, h⟩ => absurd h (by simp)

/-- The tables' entries at a point. -/
theorem at0_eq (pf : pre0.Contents (Elt F)) (i : grid0.Coords) (off : Fin 1 → Nat) (ho : off 0 = (i 0).val) (inb) (h1) :
    pf.at 0 (Rect.unit (s := S152) off S1.size inb) h1 = pf 0 (tile i) := by
  show pf 0 _ = pf 0 _
  congr 1
  funext a
  apply Fin.ext
  fin_cases a
  show off 0 + 1 * 0 = (i 0).val
  omega
theorem at1_eq (pf : pre0.Contents (Elt F)) (i : grid0.Coords) (off : Fin 1 → Nat) (ho : off 0 = (i 0).val) (inb) (h1) :
    pf.at 1 (Rect.unit (s := S152) off S1.size inb) h1 = pf 1 (tile i) := by
  show pf 1 _ = pf 1 _
  congr 1
  funext a
  apply Fin.ext
  fin_cases a
  show off 0 + 1 * 0 = (i 0).val
  omega

theorem off_eq (i : grid0.Coords) : (![(Scalar.indexCast (BitVec.ofNat 32 (i 0).val) : Index).toNat] : Fin 1 → Nat) 0 = (i 0).val := by
  have h : (i 0).val < 152 := (i 0).isLt
  show (BitVec.ofNat 32 (i 0).val).toNat = _
  rw [BitVec.toNat_ofNat]; omega

theorem transform_1_eq (pf : pre0.Contents (Elt F)) (i : grid0.Coords) :
    cc0_transform_1 k0_off1_inb numel1_S1 pf i = ![(pf 0 (tile i) : BitVec 32).toNat, 0, 0] :=
  congrArg (fun w : BitVec 32 => (![w.toNat, 0, 0] : Fin 3 → Nat)) (at0_eq pf i _ (off_eq i) (k0_off1_inb i) numel1_S1)
theorem transform_2_eq (pf : pre0.Contents (Elt F)) (i : grid0.Coords) :
    cc0_transform_2 k0_off1_inb numel1_S1 pf i = ![(pf 0 (tile i) : BitVec 32).toNat, 0, 0] :=
  congrArg (fun w : BitVec 32 => (![w.toNat, 0, 0] : Fin 3 → Nat)) (at0_eq pf i _ (off_eq i) (k0_off1_inb i) numel1_S1)
theorem transform_3_eq (pf : pre0.Contents (Elt F)) (i : grid0.Coords) :
    cc0_transform_3 k0_off1_inb numel1_S1 pf i = ![(pf 0 (tile i) : BitVec 32).toNat, 0, 0] :=
  congrArg (fun w : BitVec 32 => (![w.toNat, 0, 0] : Fin 3 → Nat)) (at0_eq pf i _ (off_eq i) (k0_off1_inb i) numel1_S1)
theorem transform_4_eq (pf : pre0.Contents (Elt F)) (i : grid0.Coords) :
    cc0_transform_4 k0_off1_inb numel1_S1 pf i = ![(pf 1 (tile i) : BitVec 32).toNat, 0, 0] :=
  congrArg (fun w : BitVec 32 => (![w.toNat, 0, 0] : Fin 3 → Nat)) (at1_eq pf i _ (off_eq i) (k0_off1_inb i) numel1_S1)
theorem transform_5_eq (pf : pre0.Contents (Elt F)) (i : grid0.Coords) :
    cc0_transform_5 k0_off1_inb numel1_S1 pf i = ![(pf 1 (tile i) : BitVec 32).toNat, 0, 0] :=
  congrArg (fun w : BitVec 32 => (![w.toNat, 0, 0] : Fin 3 → Nat)) (at1_eq pf i _ (off_eq i) (k0_off1_inb i) numel1_S1)
theorem transform_6_eq (pf : pre0.Contents (Elt F)) (i : grid0.Coords) :
    cc0_transform_6 k0_off1_inb numel1_S1 pf i = ![(pf 1 (tile i) : BitVec 32).toNat, 0, 0] :=
  congrArg (fun w : BitVec 32 => (![w.toNat, 0, 0] : Fin 3 → Nat)) (at1_eq pf i _ (off_eq i) (k0_off1_inb i) numel1_S1)

/-- Tables naming experts keep every block inside its array. -/
theorem ok_of (pf : pre0.Contents (Elt F)) (h0 : ∀ x : S152.Idx, (pf 0 x : BitVec 32).toNat < 16) (h1 : ∀ x : S152.Idx, (pf 1 x : BitVec 32).toNat < 16) :
    ok0 pf := by
  have key1 : ∀ n : Nat, n < 16 → ∀ a, ((![n, 0, 0] : Fin 3 → Nat) a + 1) * S1x1024x512.size a ≤ S16x1024x512.size a := by
    intro n hn a; fin_cases a
    · show (n + 1) * 1 ≤ 16; omega
    · show (0 + 1) * 1024 ≤ 1024; omega
    · show (0 + 1) * 512 ≤ 512; omega
  have key2 : ∀ n : Nat, n < 16 → ∀ a, ((![n, 0, 0] : Fin 3 → Nat) a + 1) * S1x512x1024.size a ≤ S16x512x1024.size a := by
    intro n hn a; fin_cases a
    · show (n + 1) * 1 ≤ 16; omega
    · show (0 + 1) * 512 ≤ 512; omega
    · show (0 + 1) * 1024 ≤ 1024; omega
  rw [ok0]
  refine ⟨fun i => ?_, fun i => ?_, fun i => ?_, fun i => ?_, fun i => ?_, fun i => ?_⟩
  · exact ⟨fun a => by rw [transform_1_eq]; exact key1 _ (h0 _) a, .inr (Affine.block_words_dvd (s := S16x1024x512) (p := EltTy.packing .bf16) (by decide) (by decide))⟩
  · exact ⟨fun a => by rw [transform_2_eq]; exact key1 _ (h0 _) a, .inr (Affine.block_words_dvd (s := S16x1024x512) (p := EltTy.packing .bf16) (by decide) (by decide))⟩
  · exact ⟨fun a => by rw [transform_3_eq]; exact key2 _ (h0 _) a, .inr (Affine.block_words_dvd (s := S16x512x1024) (p := EltTy.packing .bf16) (by decide) (by decide))⟩
  · exact ⟨fun a => by rw [transform_4_eq]; exact key1 _ (h1 _) a, .inr (Affine.block_words_dvd (s := S16x1024x512) (p := EltTy.packing .bf16) (by decide) (by decide))⟩
  · exact ⟨fun a => by rw [transform_5_eq]; exact key1 _ (h1 _) a, .inr (Affine.block_words_dvd (s := S16x1024x512) (p := EltTy.packing .bf16) (by decide) (by decide))⟩
  · exact ⟨fun a => by rw [transform_6_eq]; exact key2 _ (h1 _) a, .inr (Affine.block_words_dvd (s := S16x512x1024) (p := EltTy.packing .bf16) (by decide) (by decide))⟩

theorem andi_one {a b : BitVec 1} (h : a &&& b = 1#1) : a = 1#1 ∧ b = 1#1 := by
  revert h; revert a b; decide

theorem toNat_of {w : BitVec 32} (h0 : IntOp.cmpi .sge w 0#32 = 1#1) (h1 : IntOp.cmpi .slt w 16#32 = 1#1) : w.toNat < 16 := by
  rw [Idealize.ShloMosaic.WordCmp.cmpi_sge_zero] at h0
  have h0' : w.toNat < 2 ^ 31 := by
    by_contra hc
    rw [decide_eq_false hc] at h0; exact absurd h0 (by decide)
  rw [Idealize.ShloMosaic.WordCmp.cmpi_slt_of_lt h0' (by decide)] at h1
  by_contra hc
  rw [show (16#32).toNat = 16 from rfl, decide_eq_false hc] at h1; exact absurd h1 (by decide)

/-- The precondition at an entry: both tables name experts, different ones. -/
theorem routed_entry {T0 T1 : IVec S152 32} {x2 x3 x4 x5 x6 x7 x8}
    (h : Cert.Pre_routed.fn (F := F) T0 T1 x2 x3 x4 x5 x6 x7 x8 = fun _ => 1#1) (x : S152.Idx) :
    (T0 x).toNat < 16 ∧ (T1 x).toNat < 16 ∧ T0 x ≠ T1 x := by
  have hx := congrFun h x
  have hx : ((((IntOp.cmpi .sge (T0 x) 0#32 &&& IntOp.cmpi .slt (T0 x) 16#32) &&& IntOp.cmpi .sge (T1 x) 0#32) &&& IntOp.cmpi .slt (T1 x) 16#32)
    &&& IntOp.cmpi .ne (T0 x) (T1 x)) = 1#1 := hx
  obtain ⟨hx, hne⟩ := andi_one hx
  obtain ⟨hx, hd⟩ := andi_one hx
  obtain ⟨hx, hc⟩ := andi_one hx
  obtain ⟨ha, hb⟩ := andi_one hx
  refine ⟨toNat_of ha hb, toNat_of hc hd, fun he => ?_⟩
  rw [he, Idealize.ShloMosaic.WordCmp.cmpi_ne_eq] at hne
  simp at hne

variable (m : (ℓ : Loc nD τ sig) → Buf (Elt F) ℓ) (ρ : Dev nD → PrngReg)

/-- The precondition of a memory. -/
def Routed : Prop := ∀ c : Dev nD, Cert.Pre_routed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1

theorem Routed.ok {m : (ℓ : Loc nD τ sig) → Buf (Elt F) ℓ} (h : Routed m) : ok0 (F := F) (tabs m) :=
  ok_of _ (fun x => (routed_entry (h 0) x).1) (fun x => (routed_entry (h 0) x).2.1)

/-- The run's end: the result at its computed contents, the arguments as launched, the counters at zero. -/
theorem run_all (hr : Routed m) : θ_run (defs (F := F)) (onTc (τ := τ) (main (F := F))) ⟨m, fun _ => 0, ρ⟩ (fun r => (∀ c : Dev nD,
    r.2.mem ((c.tc : Thread nD τ).loc main_v5) = (dats m hr.ok 0 c).arrAt 9 (cfgA m hr.ok).N
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))) ∧ r.2.sem = fun _ => 0) :=
  (θ_run defs _ _).mono (fun r h => by
    generalize hr.ok = hok at h ⊢
    exact ⟨fun c => ⟨(h.1 c).1 9, ((h.1 c).2 main_arg0 (show main_arg0 ∈ Pipeline.restRefs sig spec0 from by decide)).trans (V_eq_of m c main_arg0 (by decide)),
      ((h.1 c).2 main_arg1 (show main_arg1 ∈ Pipeline.restRefs sig spec0 from by decide)).trans (V_eq_of m c main_arg1 (by decide)),
      ((h.1 c).2 main_arg2 (show main_arg2 ∈ Pipeline.restRefs sig spec0 from by decide)).trans (V_eq_of m c main_arg2 (by decide)),
      (((h.1 c).1 0).trans ((dats m hok 0 c).arrAt_in 0 rfl _)).trans ((A_eq m hok c 0).trans (V_eq_of m c main_arg3 (by decide))),
      ((h.1 c).2 main_arg4 (show main_arg4 ∈ Pipeline.restRefs sig spec0 from by decide)).trans (V_eq_of m c main_arg4 (by decide)),
      ((h.1 c).2 main_arg5 (show main_arg5 ∈ Pipeline.restRefs sig spec0 from by decide)).trans (V_eq_of m c main_arg5 (by decide)),
      ((h.1 c).2 main_arg6 (show main_arg6 ∈ Pipeline.restRefs sig spec0 from by decide)).trans (V_eq_of m c main_arg6 (by decide)),
      ((h.1 c).2 main_arg7 (show main_arg7 ∈ Pipeline.restRefs sig spec0 from by decide)).trans (V_eq_of m c main_arg7 (by decide)),
      ((h.1 c).2 main_arg8 (show main_arg8 ∈ Pipeline.restRefs sig spec0 from by decide)).trans (V_eq_of m c main_arg8 (by decide))⟩, h.2⟩) (run_main m ρ hr.ok)

end Cert.Moe

end
-- ==== Proof.Spec.lean ====
module

public import Idealize.ShloMosaic.PureOps.Ideal
public import Idealize.ShloMosaic.PureOps.Ideal.Laws
public import Idealize.ShloMosaic.Lib.ValueIdx

/-! The layer's own mathematics, over the extended reals: one expert's gated network, the gated sum of a token's two
experts added to the scaled token, and the layer norm of that row. -/

@[expose] public section

noncomputable section

namespace Cert.Moe

open Idealize.ShloMosaic Idealize.ShloMosaic.ValueIdx

/-- A token through one column of a weight matrix. -/
def proj (x : Fin 1024 → EReal) (w : Fin 1024 → Fin 512 → EReal) (f : Fin 512) : EReal := ∑ k, x k * w k f

/-- One expert's hidden layer: the first product times its logistic, times the second product. -/
def hidden (x : Fin 1024 → EReal) (w1 w3 : Fin 1024 → Fin 512 → EReal) (f : Fin 512) : EReal :=
  proj x w1 f * Ideal.logistic (proj x w1 f) * proj x w3 f

/-- One expert's output. -/
def expert (x : Fin 1024 → EReal) (w1 w3 : Fin 1024 → Fin 512 → EReal) (w2 : Fin 512 → Fin 1024 → EReal) (d : Fin 1024) : EReal :=
  ∑ f, hidden x w1 w3 f * w2 f d

/-- The number of features, as the literal both programs divide by. -/
def width : EReal := Ideal.ofBits .f32 0x44800000#32

/-- A row's mean. -/
def mean (z : Fin 1024 → EReal) : EReal := Ideal.div (∑ k, z k) width

/-- A row's layer norm. -/
def norm (z g b : Fin 1024 → EReal) (d : Fin 1024) : EReal :=
  (z d - mean z) * Ideal.rsqrt (mean (fun k => (z k - mean z) * (z k - mean z)) + Ideal.ofBits .f32 0x3727C5AC#32) * g d + b d

/-- The row before its norm: the scaled token plus its two experts' outputs, each times its gate. -/
def mixed (x : Fin 1024 → EReal) (ga gb : EReal) (ya yb : Fin 1024 → EReal) (d : Fin 1024) : EReal :=
  Ideal.ofBits .f32 0x3FD744FD#32 * x d + (ga * ya d + gb * yb d)

/-- The expert a table's word names. -/
def named (w : BitVec 32) : Fin 16 := ⟨w.toNat % 16, Nat.mod_lt _ (by decide)⟩

/-- The tile a row lies in. -/
def tileOf (n : Fin 77824) : Fin 152 := ⟨n.val / 512, by omega⟩

/-- Row `n` of the tokens. -/
def token (xs : (⟨2, ![77824, 1152]⟩ : Shape).Idx → EReal) (n : Fin 77824) (k : Fin 1024) : EReal := xs (ix2 n ⟨k.val, by omega⟩)

/-- Expert `e`'s output for a row `x`. -/
def expertAt (w1 w3 : (⟨3, ![16, 1024, 512]⟩ : Shape).Idx → EReal) (w2 : (⟨3, ![16, 512, 1024]⟩ : Shape).Idx → EReal)
    (x : Fin 1024 → EReal) (e : Fin 16) (d : Fin 1024) : EReal :=
  expert x (fun k f => w1 (ix3 e k f)) (fun k f => w3 (ix3 e k f)) (fun f d => w2 (ix3 e f d)) d

/-- The layer's output at row `n` and feature `d`, for a row of a tile in use. -/
def routedRow (T0 T1 : (⟨1, ![152]⟩ : Shape).Idx → BitVec 32) (xs : (⟨2, ![77824, 1152]⟩ : Shape).Idx → EReal)
    (w1 w3 : (⟨3, ![16, 1024, 512]⟩ : Shape).Idx → EReal) (w2 : (⟨3, ![16, 512, 1024]⟩ : Shape).Idx → EReal)
    (lg lb : (⟨1, ![1024]⟩ : Shape).Idx → EReal) (n : Fin 77824) (d : Fin 1024) : EReal :=
  norm (mixed (token xs n) (xs (ix2 n ⟨1024, by omega⟩)) (xs (ix2 n ⟨1025, by omega⟩))
      (expertAt w1 w3 w2 (token xs n) (named (T0 (ix1 (tileOf n)))))
      (expertAt w1 w3 w2 (token xs n) (named (T1 (ix1 (tileOf n))))))
    (fun d => lg (ix1 d)) (fun d => lb (ix1 d)) d

open Classical in
/-- The whole result: that row where its tile is in use, zero elsewhere. -/
def result (T0 T1 : (⟨1, ![152]⟩ : Shape).Idx → BitVec 32) (T2 : (⟨1, ![1]⟩ : Shape).Idx → BitVec 32)
    (xs : (⟨2, ![77824, 1152]⟩ : Shape).Idx → EReal)
    (w1 w3 : (⟨3, ![16, 1024, 512]⟩ : Shape).Idx → EReal) (w2 : (⟨3, ![16, 512, 1024]⟩ : Shape).Idx → EReal)
    (lg lb : (⟨1, ![1024]⟩ : Shape).Idx → EReal) (i : (⟨2, ![77824, 1024]⟩ : Shape).Idx) : EReal :=
  if (BitVec.ofNat 32 (tileOf (i 0)).val).toInt < (T2 (ix1 0)).toInt then routedRow T0 T1 xs w1 w3 w2 lg lb (i 0) (i 1) else 0

end Cert.Moe

end
-- ==== Proof.Payload.lean ====
module

public import proofs.«01_k».proof.Proof.Body
public import proofs.«01_k».proof.Proof.Spec
public import Idealize.ShloMosaic.Lib.MatmulPlain
public import Idealize.ShloMosaic.Lib.ValueIdx
public import Idealize.ShloMosaic.Lib.ValueLayoutCasts
public import Idealize.ShloMosaic.Lib.Pipeline.ValueKit.Tiles

/-! What the pair kernel's body leaves of a tile in use, read at a row and a feature over the extended reals. -/

@[expose] public section

set_option maxRecDepth 16384

noncomputable section

namespace Cert.Moe

open Cert.KernelIdeal Cert.KernelIdeal.Gen
open Idealize.ShloMosaic Idealize.ShloMosaic.ValueIdx

theorem up_apply {φ₁ φ₂ : FTy} (A : FVec Ideal S512x1024 φ₁) (B : FVec Ideal S1024x512 φ₂) (r : Fin 512) (f : Fin 512) :
    matmul dot_S512x1024_S1024x512_S512x512_1_0_0_1_n_n none A B (constant S512x512 .f32 0x00000000#32) (ix2 r f)
      = ∑ k : Fin 1024, A (ix2 r k) * B (ix2 k f) := by
  refine (Ideal.matmul_plain_apply (M := 512) (K := 1024) (N := 512) none A B _ r f).trans ?_
  show Ideal.ofBits .f32 0x00000000#32 + _ = _
  rw [Ideal.ofBits_zero_f32, zero_add]

theorem down_apply {φ₁ φ₂ : FTy} (A : FVec Ideal S512x512 φ₁) (B : FVec Ideal S512x1024 φ₂) (r : Fin 512) (d : Fin 1024) :
    matmul dot_S512x512_S512x1024_S512x1024_1_0_0_1_n_n none A B (constant S512x1024 .f32 0x00000000#32) (ix2 r d)
      = ∑ k : Fin 512, A (ix2 r k) * B (ix2 k d) := by
  refine (Ideal.matmul_plain_apply (M := 512) (K := 512) (N := 1024) none A B _ r d).trans ?_
  show Ideal.ofBits .f32 0x00000000#32 + _ = _
  rw [Ideal.ofBits_zero_f32, zero_add]

theorem drop_up {α : Type} (x : S1x1024x512.Idx → α) (k : Fin 1024) (f : Fin 512) :
    shapeCast S1024x512 x shapeCasts_S1x1024x512_S1024x512 (ix2 k f) = x (ix3 0 k f) :=
  shapeCast_apply x _ _ _ (by
    rw [Shape.rowMajor_val_two, Shape.rowMajor_val_three]
    show (0 * 1024 + k.val) * 512 + f.val = k.val * 512 + f.val
    omega)

theorem drop_down {α : Type} (x : S1x512x1024.Idx → α) (f : Fin 512) (d : Fin 1024) :
    shapeCast S512x1024 x shapeCasts_S1x512x1024_S512x1024 (ix2 f d) = x (ix3 0 f d) :=
  shapeCast_apply x _ _ _ (by
    rw [Shape.rowMajor_val_two, Shape.rowMajor_val_three]
    show (0 * 512 + f.val) * 1024 + d.val = f.val * 1024 + d.val
    omega)

theorem column_apply {α : Type} (x : S512.Idx → α) (r : Fin 512) (u : Fin 1) :
    shapeCast S512x1 x shapeCasts_S512_S512x1 (ix2 r u) = x (ix1 r) :=
  shapeCast_a_a1_apply x _ r u

theorem spread_apply {α : Type} (x : S512x1.Idx → α) (r : Fin 512) (d : Fin 1024) :
    broadcastTo S512x1024 x broadcasts_S512x1_S512x1024 (ix2 r d) = x (ix2 r 0) :=
  broadcastTo_apply x _ _ _ (fun a => by match a with | ⟨0, _⟩ => rfl | ⟨1, _⟩ => rfl)

theorem spreadRow_apply {α : Type} (x : S1x1024.Idx → α) (r : Fin 512) (d : Fin 1024) :
    broadcastTo S512x1024 x broadcasts_S1x1024_S512x1024 (ix2 r d) = x (ix2 0 d) :=
  broadcastTo_apply x _ _ _ (fun a => by match a with | ⟨0, _⟩ => rfl | ⟨1, _⟩ => rfl)

theorem rowSum_apply (x : FVec Ideal S512x1024 .f32) (r : Fin 512) :
    multiReduction .add [1] S512 x 0x00000000#32 reduces_S512x1024_S512 (.inl rfl) rfl (ix1 r) = ∑ k : Fin 1024, x (ix2 r k) := by
  refine (Ideal.multiReduction_add_single x _ _ _ _ (ix1 r)).trans (Finset.sum_congr rfl fun k _ => congrArg x ?_)
  funext a; match a with | ⟨0, _⟩ => rfl | ⟨1, _⟩ => rfl

theorem laneSum_apply (x : FVec Ideal S512x128 .f32) (r : Fin 512) :
    multiReduction .add [1] S512 x 0x00000000#32 reduces_S512x128_S512 (.inl rfl) rfl (ix1 r) = ∑ k : Fin 128, x (ix2 r k) := by
  refine (Ideal.multiReduction_add_single x _ _ _ _ (ix1 r)).trans (Finset.sum_congr rfl fun k _ => congrArg x ?_)
  funext a; match a with | ⟨0, _⟩ => rfl | ⟨1, _⟩ => rfl

/-- A gate: the one lane of a row's gates that the mask keeps. -/
theorem gate_apply (x : FVec Ideal S512x128 .f32) (n : Fin 128) (w : BitVec 32) (hw : w = BitVec.ofNat 32 n.val) (r : Fin 512) :
    multiReduction .add [1] S512
        (select (cmpi .eq (iota .tc S512x128 32 [1] iota_S512x128_d1_w32) (broadcast S512x128 w)) x
          (broadcast S512x128 (Scalar.ofBits (F := Ideal) .f32 0x00000000#32)))
        0x00000000#32 reduces_S512x128_S512 (.inl rfl) rfl (ix1 r) = x (ix2 r n) := by
  rw [laneSum_apply, Finset.sum_eq_single n]
  · have : cmpi .eq (iota .tc S512x128 32 [1] iota_S512x128_d1_w32) (broadcast S512x128 w) (ix2 r n) = 1#1 := by
      show IntOp.cmpi .eq (iota .tc S512x128 32 [1] iota_S512x128_d1_w32 (ix2 r n)) w = 1#1
      rw [iota_single_apply, hw]
      show IntOp.cmpi .eq (BitVec.ofNat 32 n.val) (BitVec.ofNat 32 n.val) = 1#1
      simp [IntOp.cmpi]
    show Scalar.select _ _ _ = _
    rw [this]; rfl
  · intro k _ hk
    have : cmpi .eq (iota .tc S512x128 32 [1] iota_S512x128_d1_w32) (broadcast S512x128 w) (ix2 r k) = 0#1 := by
      show IntOp.cmpi .eq (iota .tc S512x128 32 [1] iota_S512x128_d1_w32 (ix2 r k)) w = 0#1
      rw [iota_single_apply, hw]
      show IntOp.cmpi .eq (BitVec.ofNat 32 k.val) (BitVec.ofNat 32 n.val) = 0#1
      have hne : BitVec.ofNat 32 k.val ≠ BitVec.ofNat 32 n.val := fun h => hk (Fin.ext (by
        have := congrArg BitVec.toNat h
        rw [BitVec.toNat_ofNat, BitVec.toNat_ofNat, Nat.mod_eq_of_lt (by omega), Nat.mod_eq_of_lt (by omega)] at this
        exact this))
      show BitVec.ofBool (BitVec.ofNat 32 k.val == BitVec.ofNat 32 n.val) = 0#1
      rw [beq_eq_false_iff_ne.2 hne]; rfl
    show Scalar.select _ _ _ = _
    rw [this]
    exact Ideal.ofBits_zero_f32
  · intro h; exact absurd (Finset.mem_univ _) h

/-- The first expert's hidden layer times its second product, as the body computes it. -/
theorem hidden_apply (t : FVec Ideal S512x1024 .f32) (w1 w3 : S1x1024x512.Idx → EReal) (r f : Fin 512) :
    (let a : FVec Ideal S512x512 .f32 := matmul dot_S512x1024_S1024x512_S512x512_1_0_0_1_n_n none (k0_pay2 (F := Ideal) t)
        (shapeCast S1024x512 w1 shapeCasts_S1x1024x512_S1024x512 : FVec Ideal S1024x512 .bf16) (constant S512x512 .f32 0x00000000#32)
     let b : FVec Ideal S512x512 .f32 := matmul dot_S512x1024_S1024x512_S512x512_1_0_0_1_n_n none (k0_pay2 (F := Ideal) t)
        (shapeCast S1024x512 w3 shapeCasts_S1x1024x512_S1024x512 : FVec Ideal S1024x512 .bf16) (constant S512x512 .f32 0x00000000#32)
     mulf (mulf a (logistic a)) b (ix2 r f))
      = hidden (fun k => t (ix2 r k)) (fun k f => w1 (ix3 0 k f)) (fun k f => w3 (ix3 0 k f)) f := by
  have h : ∀ w : S1x1024x512.Idx → EReal, matmul dot_S512x1024_S1024x512_S512x512_1_0_0_1_n_n none (k0_pay2 (F := Ideal) t)
        (shapeCast S1024x512 w shapeCasts_S1x1024x512_S1024x512 : FVec Ideal S1024x512 .bf16) (constant S512x512 .f32 0x00000000#32) (ix2 r f)
      = proj (fun k => t (ix2 r k)) (fun k f => w (ix3 0 k f)) f := fun w => by
    rw [up_apply]
    refine Finset.sum_congr rfl fun k _ => ?_
    rw [drop_up]; rfl
  dsimp only
  unfold hidden
  rw [← h w1, ← h w3]
  rfl

theorem first_apply (t : FVec Ideal S512x1024 .f32) (g : FVec Ideal S512x128 .f32) (w1 w3 : S1x1024x512.Idx → EReal)
    (w2 : S1x512x1024.Idx → EReal) (r : Fin 512) (d : Fin 1024) :
    k0_pay3 (F := Ideal) t g w1 w3 w2 (ix2 r d)
      = g (ix2 r 0) * expert (fun k => t (ix2 r k)) (fun k f => w1 (ix3 0 k f)) (fun k f => w3 (ix3 0 k f)) (fun f d => w2 (ix3 0 f d)) d := by
  unfold k0_pay3
  dsimp only
  show broadcastTo S512x1024 _ _ (ix2 r d) * matmul _ none _ _ _ (ix2 r d) = _
  rw [spread_apply, column_apply, gate_apply g 0 0#32 rfl, down_apply]
  refine congrArg _ (Finset.sum_congr rfl fun f _ => ?_)
  rw [drop_down]
  exact congrArg (· * _) (hidden_apply t w1 w3 r f)

theorem last_apply (t : FVec Ideal S512x1024 .f32) (g : FVec Ideal S512x128 .f32) (v32 : FVec Ideal S512x1024 .f32)
    (w1 w3 : S1x1024x512.Idx → EReal) (w2 : S1x512x1024.Idx → EReal) (lg lb : S1x1024.Idx → EReal) (r : Fin 512) (d : Fin 1024) :
    k0_pay6 (F := Ideal) t g (iota .tc S512x128 32 [1] iota_S512x128_d1_w32) v32 (k0_pay4 (F := Ideal) t w3) (k0_pay5 (F := Ideal) t w1) w2 lg lb (ix2 r d)
      = norm (fun d => Ideal.ofBits .f32 0x3FD744FD#32 * t (ix2 r d) + (v32 (ix2 r d) + g (ix2 r 1)
          * expert (fun k => t (ix2 r k)) (fun k f => w1 (ix3 0 k f)) (fun k f => w3 (ix3 0 k f)) (fun f d => w2 (ix3 0 f d)) d))
        (fun d => lg (ix2 0 d)) (fun d => lb (ix2 0 d)) d := by
  unfold k0_pay6
  dsimp only
  set z : FVec Ideal S512x1024 .f32 := addf (mulf (broadcast S512x1024 (Scalar.ofBits (F := Ideal) .f32 0x3FD744FD#32)) t) _ with hz
  have hzr : ∀ d : Fin 1024, z (ix2 r d) = Ideal.ofBits .f32 0x3FD744FD#32 * t (ix2 r d) + (v32 (ix2 r d) + g (ix2 r 1)
          * expert (fun k => t (ix2 r k)) (fun k f => w1 (ix3 0 k f)) (fun k f => w3 (ix3 0 k f)) (fun f d => w2 (ix3 0 f d)) d) := fun d => by
    rw [hz]
    show Ideal.ofBits .f32 0x3FD744FD#32 * t (ix2 r d) + (v32 (ix2 r d) + broadcastTo S512x1024 _ _ (ix2 r d) * matmul _ none _ _ _ (ix2 r d)) = _
    rw [spread_apply, column_apply, gate_apply g 1 1#32 rfl, down_apply]
    refine congrArg (fun e => _ + (_ + _ * e)) (Finset.sum_congr rfl fun f _ => ?_)
    rw [drop_down]
    exact congrArg (· * _) (hidden_apply t w1 w3 r f)
  clear_value z
  have hm : ∀ x : FVec Ideal S512x1024 .f32, ∀ d : Fin 1024,
      broadcastTo S512x1024 (divf (shapeCast S512x1 (multiReduction .add [1] S512 x 0x00000000#32 reduces_S512x1024_S512 (.inl rfl) rfl) shapeCasts_S512_S512x1)
        (broadcast S512x1 (Scalar.ofBits (F := Ideal) .f32 0x44800000#32))) broadcasts_S512x1_S512x1024 (ix2 r d) = mean (fun k => x (ix2 r k)) := fun x d => by
    rw [spread_apply]
    show Ideal.div (shapeCast S512x1 _ _ (ix2 r 0)) _ = _
    rw [column_apply, rowSum_apply]; rfl
  have hc : ∀ k : Fin 1024, subf z (broadcastTo S512x1024 (divf (shapeCast S512x1 (multiReduction .add [1] S512 z 0x00000000#32 reduces_S512x1024_S512 (.inl rfl) rfl) shapeCasts_S512_S512x1)
        (broadcast S512x1 (Scalar.ofBits (F := Ideal) .f32 0x44800000#32))) broadcasts_S512x1_S512x1024) (ix2 r k)
      = z (ix2 r k) - mean (fun k => z (ix2 r k)) := fun k => by
    show z (ix2 r k) - _ = _
    rw [hm z k]
  rw [← funext hzr]
  unfold norm
  show (subf _ _ (ix2 r d)) * broadcastTo S512x1024 _ _ (ix2 r d) * broadcastTo S512x1024 _ _ (ix2 r d) + broadcastTo S512x1024 _ _ (ix2 r d) = _
  rw [hc d, spread_apply, spreadRow_apply, spreadRow_apply, shapeCast_self, shapeCast_self]
  refine congrArg (fun e : EReal => (z (ix2 r d) - mean (fun k => z (ix2 r k))) * e * lg (ix2 0 d) + lb (ix2 0 d)) ?_
  show Ideal.rsqrt (Ideal.div (shapeCast S512x1 _ _ (ix2 r 0)) _ + _) = _
  rw [column_apply, rowSum_apply]
  refine congrArg (fun e : EReal => Ideal.rsqrt (Ideal.div e width + Ideal.ofBits .f32 0x3727C5AC#32)) (Finset.sum_congr rfl fun k _ => ?_)
  show subf _ _ (ix2 r k) * subf _ _ (ix2 r k) = _
  rw [hc k]

theorem tokens_apply (x0 : S512x1152.Idx → EReal) (r : Fin 512) (k : Fin 1024) :
    tokens (F := Ideal) x0 (ix2 r k) = x0 (ix2 r ⟨k.val, by omega⟩) :=
  View.ld_unit_apply_of (Val := Elt Ideal) (e := .f32) x0 _ _ _ _ _ (fun a => by match a with | ⟨0, _⟩ => exact (Nat.zero_add _).symm | ⟨1, _⟩ => exact (Nat.zero_add _).symm)

theorem gates_apply (x0 : S512x1152.Idx → EReal) (r : Fin 512) (k : Fin 128) :
    gates (F := Ideal) x0 (ix2 r k) = x0 (ix2 r ⟨1024 + k.val, by omega⟩) :=
  View.ld_unit_apply_of (Val := Elt Ideal) (e := .f32) x0 _ _ _ _ _ (fun a => by match a with | ⟨0, _⟩ => exact (Nat.zero_add _).symm | ⟨1, _⟩ => rfl)

/-- A row of a tile in use: the layer norm of the scaled token plus its two experts' gated outputs. -/
theorem pairOut_apply (x0 : S512x1152.Idx → EReal) (x1 x2 : S1x1024x512.Idx → EReal) (x3 : S1x512x1024.Idx → EReal)
    (x4 x5 : S1x1024x512.Idx → EReal) (x6 : S1x512x1024.Idx → EReal) (x7 x8 : S1x1024.Idx → EReal) (r : Fin 512) (d : Fin 1024) :
    pairOut (F := Ideal) x0 x1 x2 x3 x4 x5 x6 x7 x8 (ix2 r d)
      = norm (mixed (fun k => x0 (ix2 r ⟨k.val, by omega⟩)) (x0 (ix2 r 1024)) (x0 (ix2 r 1025))
          (expert (fun k => x0 (ix2 r ⟨k.val, by omega⟩)) (fun k f => x1 (ix3 0 k f)) (fun k f => x2 (ix3 0 k f)) (fun f d => x3 (ix3 0 f d)))
          (expert (fun k => x0 (ix2 r ⟨k.val, by omega⟩)) (fun k f => x4 (ix3 0 k f)) (fun k f => x5 (ix3 0 k f)) (fun f d => x6 (ix3 0 f d))))
        (fun d => x7 (ix2 0 d)) (fun d => x8 (ix2 0 d)) d := by
  unfold pairOut
  rw [last_apply]
  refine congrArg (fun z => norm z _ _ d) (funext fun d => ?_)
  rw [first_apply, gates_apply, gates_apply]
  unfold mixed
  simp only [tokens_apply]
  rfl

end Cert.Moe

end
-- ==== Proof.Value.lean ====
module

public import proofs.«01_k».proof.Proof.Tables
public import proofs.«01_k».proof.Proof.Payload
public import Idealize.ShloMosaic.Lib.Pipeline.ValueKit.Geometry

/-! The pair kernel's result array over the extended reals: `result` of the arguments. -/

@[expose] public section

set_option maxRecDepth 16384

noncomputable section

namespace Cert.Moe

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)
variable (hok : ok0 (F := Ideal) (tabs m))

theorem V_v0 (c : Dev nD) (i : S16x1024x512.Idx) : V m c main_v0 i = m ((c.tc : Thread nD τ).loc main_arg4) i := by
  have e : V m c main_v0 = (truncf (F := Ideal) (φ := .f32) .bf16 (m ((c.tc : Thread nD τ).loc main_arg4)) bitsLt_bf16_f32) := by
    unfold V hostOps0; after_results
  rw [e]; rfl
theorem V_v1 (c : Dev nD) (i : S16x1024x512.Idx) : V m c main_v1 i = m ((c.tc : Thread nD τ).loc main_arg5) i := by
  have e : V m c main_v1 = (truncf (F := Ideal) (φ := .f32) .bf16 (m ((c.tc : Thread nD τ).loc main_arg5)) bitsLt_bf16_f32) := by
    unfold V hostOps0; after_results
  rw [e]; rfl
theorem V_v2 (c : Dev nD) (i : S16x512x1024.Idx) : V m c main_v2 i = m ((c.tc : Thread nD τ).loc main_arg6) i := by
  have e : V m c main_v2 = (truncf (F := Ideal) (φ := .f32) .bf16 (m ((c.tc : Thread nD τ).loc main_arg6)) bitsLt_bf16_f32) := by
    unfold V hostOps0; after_results
  rw [e]; rfl
theorem lift_apply (x : S1024.Idx → EReal) (d : Fin 1024) : shapeCast S1x1024 x shapeCasts_S1024_S1x1024 (ix2 0 d) = x (ix1 d) :=
  shapeCast_apply x _ _ _ (by
    rw [Shape.rowMajor_val_two, Shape.rowMajor_val_one]
    show d.val = 0 * 1024 + d.val
    omega)
theorem V_v3 (c : Dev nD) (d : Fin 1024) : V m c main_v3 (ix2 0 d) = m ((c.tc : Thread nD τ).loc main_arg7) (ix1 d) := by
  have e : V m c main_v3 = shapeCast S1x1024 (m ((c.tc : Thread nD τ).loc main_arg7)) shapeCasts_S1024_S1x1024 := by
    unfold V hostOps0; after_results; rfl
  rw [e]; exact lift_apply _ d
theorem V_v4 (c : Dev nD) (d : Fin 1024) : V m c main_v4 (ix2 0 d) = m ((c.tc : Thread nD τ).loc main_arg8) (ix1 d) := by
  have e : V m c main_v4 = shapeCast S1x1024 (m ((c.tc : Thread nD τ).loc main_arg8)) shapeCasts_S1024_S1x1024 := by
    unfold V hostOps0; after_results; rfl
  rw [e]; exact lift_apply _ d

theorem coords_val : ∀ t : Fin grid0.N, (grid0.coords t 0).val = t.val := by decide +kernel

/-- A block of a whole buffer, read at an index. -/
theorem blk_read (b : Ref sig .tc) (off size : Fin b.ty.shape.rank → Nat) (inb)
    (X : b.ty.shape.Idx → Elt Ideal b.ty.elt) (y : (Rect.unit off size inb).shape.Idx) (i : b.ty.shape.Idx)
    (hi : ∀ a, (i a).val = off a + (y a).val) :
    ((View.whole b).slice (Rect.unit off size inb)).read (Elt Ideal) X y = X i := by
  refine congrArg X (funext fun a => Fin.ext ?_)
  exact (ValueKit.view_emb_slice_whole_unit_val b off size inb y a).trans (hi a).symm

theorem blk_mem (b : Ref sig .tc) (off size : Fin b.ty.shape.rank → Nat) (inb) (i : b.ty.shape.Idx)
    (hi : ∀ a, off a ≤ (i a).val ∧ (i a).val < off a + size a) : i ∈ ((View.whole b).slice (Rect.unit off size inb)).set := by
  rw [View.set_slice_whole, Rect.mem_set_unit]; exact hi

theorem iblk0_apply (c : Dev nD) (t : Fin grid0.N) (r : Fin 512) (k : Fin 1152) (n : Fin 77824) (hn : n.val = t.val * 512 + r.val) :
    iblk m hok c 0 t (ix2 r k) = m ((c.tc : Thread nD τ).loc main_arg3) (ix2 n k) := by
  rw [← V_eq_of m c main_arg3 (by decide)]
  refine blk_read main_arg3 _ _ _ (V m c main_arg3) (ix2 r k) (ix2 n k) (fun a => ?_)
  match a with
  | ⟨0, _⟩ =>
    show n.val = (BitVec.ofNat 32 (grid0.coords t 0).val).toNat * 512 + r.val
    have := t.isLt
    rw [coords_val, hn, BitVec.toNat_ofNat, Nat.mod_eq_of_lt (by have : grid0.N = 152 := rfl; omega)]
  | ⟨1, _⟩ => exact (Nat.zero_add _).symm

theorem iblk1_apply (c : Dev nD) (t : Fin grid0.N) (k : Fin 1024) (f : Fin 512) (hb : (tabs m 0 (tile (grid0.coords t)) : BitVec 32).toNat < 16) :
    iblk m hok c 1 t (ix3 0 k f) = m ((c.tc : Thread nD τ).loc main_arg4) (ix3 (named (tabs m 0 (tile (grid0.coords t)))) k f) := by
  rw [← V_v0 m c]
  refine blk_read main_v0 _ _ _ (V m c main_v0) (ix3 0 k f) (ix3 (named (tabs m 0 (tile (grid0.coords t)))) k f) (fun a => ?_)
  have e := transform_1_eq (F := Ideal) (tabs m) (grid0.coords t)
  show _ = cc0_transform_1 k0_off1_inb numel1_S1 (tabs m) (grid0.coords t) a * _ + _
  rw [e]
  match a with
  | ⟨0, _⟩ =>
    show (tabs m 0 (tile (grid0.coords t)) : BitVec 32).toNat % 16 = (tabs m 0 (tile (grid0.coords t)) : BitVec 32).toNat * 1 + 0
    omega
  | ⟨1, _⟩ => exact (Nat.zero_add _).symm
  | ⟨2, _⟩ => exact (Nat.zero_add _).symm

theorem iblk2_apply (c : Dev nD) (t : Fin grid0.N) (k : Fin 1024) (f : Fin 512) (hb : (tabs m 0 (tile (grid0.coords t)) : BitVec 32).toNat < 16) :
    iblk m hok c 2 t (ix3 0 k f) = m ((c.tc : Thread nD τ).loc main_arg5) (ix3 (named (tabs m 0 (tile (grid0.coords t)))) k f) := by
  rw [← V_v1 m c]
  refine blk_read main_v1 _ _ _ (V m c main_v1) (ix3 0 k f) (ix3 (named (tabs m 0 (tile (grid0.coords t)))) k f) (fun a => ?_)
  have e := transform_2_eq (F := Ideal) (tabs m) (grid0.coords t)
  show _ = cc0_transform_2 k0_off1_inb numel1_S1 (tabs m) (grid0.coords t) a * _ + _
  rw [e]
  match a with
  | ⟨0, _⟩ =>
    show (tabs m 0 (tile (grid0.coords t)) : BitVec 32).toNat % 16 = (tabs m 0 (tile (grid0.coords t)) : BitVec 32).toNat * 1 + 0
    omega
  | ⟨1, _⟩ => exact (Nat.zero_add _).symm
  | ⟨2, _⟩ => exact (Nat.zero_add _).symm

theorem iblk3_apply (c : Dev nD) (t : Fin grid0.N) (k : Fin 512) (f : Fin 1024) (hb : (tabs m 0 (tile (grid0.coords t)) : BitVec 32).toNat < 16) :
    iblk m hok c 3 t (ix3 0 k f) = m ((c.tc : Thread nD τ).loc main_arg6) (ix3 (named (tabs m 0 (tile (grid0.coords t)))) k f) := by
  rw [← V_v2 m c]
  refine blk_read main_v2 _ _ _ (V m c main_v2) (ix3 0 k f) (ix3 (named (tabs m 0 (tile (grid0.coords t)))) k f) (fun a => ?_)
  have e := transform_3_eq (F := Ideal) (tabs m) (grid0.coords t)
  show _ = cc0_transform_3 k0_off1_inb numel1_S1 (tabs m) (grid0.coords t) a * _ + _
  rw [e]
  match a with
  | ⟨0, _⟩ =>
    show (tabs m 0 (tile (grid0.coords t)) : BitVec 32).toNat % 16 = (tabs m 0 (tile (grid0.coords t)) : BitVec 32).toNat * 1 + 0
    omega
  | ⟨1, _⟩ => exact (Nat.zero_add _).symm
  | ⟨2, _⟩ => exact (Nat.zero_add _).symm

theorem iblk4_apply (c : Dev nD) (t : Fin grid0.N) (k : Fin 1024) (f : Fin 512) (hb : (tabs m 1 (tile (grid0.coords t)) : BitVec 32).toNat < 16) :
    iblk m hok c 4 t (ix3 0 k f) = m ((c.tc : Thread nD τ).loc main_arg4) (ix3 (named (tabs m 1 (tile (grid0.coords t)))) k f) := by
  rw [← V_v0 m c]
  refine blk_read main_v0 _ _ _ (V m c main_v0) (ix3 0 k f) (ix3 (named (tabs m 1 (tile (grid0.coords t)))) k f) (fun a => ?_)
  have e := transform_4_eq (F := Ideal) (tabs m) (grid0.coords t)
  show _ = cc0_transform_4 k0_off1_inb numel1_S1 (tabs m) (grid0.coords t) a * _ + _
  rw [e]
  match a with
  | ⟨0, _⟩ =>
    show (tabs m 1 (tile (grid0.coords t)) : BitVec 32).toNat % 16 = (tabs m 1 (tile (grid0.coords t)) : BitVec 32).toNat * 1 + 0
    omega
  | ⟨1, _⟩ => exact (Nat.zero_add _).symm
  | ⟨2, _⟩ => exact (Nat.zero_add _).symm

theorem iblk5_apply (c : Dev nD) (t : Fin grid0.N) (k : Fin 1024) (f : Fin 512) (hb : (tabs m 1 (tile (grid0.coords t)) : BitVec 32).toNat < 16) :
    iblk m hok c 5 t (ix3 0 k f) = m ((c.tc : Thread nD τ).loc main_arg5) (ix3 (named (tabs m 1 (tile (grid0.coords t)))) k f) := by
  rw [← V_v1 m c]
  refine blk_read main_v1 _ _ _ (V m c main_v1) (ix3 0 k f) (ix3 (named (tabs m 1 (tile (grid0.coords t)))) k f) (fun a => ?_)
  have e := transform_5_eq (F := Ideal) (tabs m) (grid0.coords t)
  show _ = cc0_transform_5 k0_off1_inb numel1_S1 (tabs m) (grid0.coords t) a * _ + _
  rw [e]
  match a with
  | ⟨0, _⟩ =>
    show (tabs m 1 (tile (grid0.coords t)) : BitVec 32).toNat % 16 = (tabs m 1 (tile (grid0.coords t)) : BitVec 32).toNat * 1 + 0
    omega
  | ⟨1, _⟩ => exact (Nat.zero_add _).symm
  | ⟨2, _⟩ => exact (Nat.zero_add _).symm

theorem iblk6_apply (c : Dev nD) (t : Fin grid0.N) (k : Fin 512) (f : Fin 1024) (hb : (tabs m 1 (tile (grid0.coords t)) : BitVec 32).toNat < 16) :
    iblk m hok c 6 t (ix3 0 k f) = m ((c.tc : Thread nD τ).loc main_arg6) (ix3 (named (tabs m 1 (tile (grid0.coords t)))) k f) := by
  rw [← V_v2 m c]
  refine blk_read main_v2 _ _ _ (V m c main_v2) (ix3 0 k f) (ix3 (named (tabs m 1 (tile (grid0.coords t)))) k f) (fun a => ?_)
  have e := transform_6_eq (F := Ideal) (tabs m) (grid0.coords t)
  show _ = cc0_transform_6 k0_off1_inb numel1_S1 (tabs m) (grid0.coords t) a * _ + _
  rw [e]
  match a with
  | ⟨0, _⟩ =>
    show (tabs m 1 (tile (grid0.coords t)) : BitVec 32).toNat % 16 = (tabs m 1 (tile (grid0.coords t)) : BitVec 32).toNat * 1 + 0
    omega
  | ⟨1, _⟩ => exact (Nat.zero_add _).symm
  | ⟨2, _⟩ => exact (Nat.zero_add _).symm

theorem iblk7_apply (c : Dev nD) (t : Fin grid0.N) (d : Fin 1024) :
    iblk m hok c 7 t (ix2 0 d) = m ((c.tc : Thread nD τ).loc main_arg7) (ix1 d) := by
  rw [← V_v3 m c]
  exact blk_read main_v3 _ _ _ (V m c main_v3) (ix2 0 d) (ix2 0 d) (fun a => by
    match a with | ⟨0, _⟩ => rfl | ⟨1, _⟩ => exact (Nat.zero_add _).symm)

theorem iblk8_apply (c : Dev nD) (t : Fin grid0.N) (d : Fin 1024) :
    iblk m hok c 8 t (ix2 0 d) = m ((c.tc : Thread nD τ).loc main_arg8) (ix1 d) := by
  rw [← V_v4 m c]
  exact blk_read main_v4 _ _ _ (V m c main_v4) (ix2 0 d) (ix2 0 d) (fun a => by
    match a with | ⟨0, _⟩ => rfl | ⟨1, _⟩ => exact (Nat.zero_add _).symm)

/-- The result of the arguments as core `c` holds them. -/
def out (c : Dev nD) : S77824x1024.Idx → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem tabs_0 (c : Dev nD) : tabs m 0 = m ((c.tc : Thread nD τ).loc main_arg0) := by obtain rfl : c = 0 := Subsingleton.elim _ _; rfl
theorem tabs_1 (c : Dev nD) : tabs m 1 = m ((c.tc : Thread nD τ).loc main_arg1) := by obtain rfl : c = 0 := Subsingleton.elim _ _; rfl
theorem tabs_2 (c : Dev nD) : tabs m 2 = m ((c.tc : Thread nD τ).loc main_arg2) := by obtain rfl : c = 0 := Subsingleton.elim _ _; rfl

theorem usedWord_eq (T : S1.Idx → BitVec 32) : usedWord (F := Ideal) T = T (ix1 0) := by
  unfold usedWord
  refine congrArg T ?_
  funext a; match a with | ⟨0, _⟩ => exact Fin.ext (Nat.lt_one_iff.mp (Fin.isLt (n := 1) _))

theorem tile_eq (t : Fin grid0.N) (n : Fin 77824) (r : Fin 512) (hn : n.val = t.val * 512 + r.val) :
    tile (grid0.coords t) = ix1 (tileOf n) := by
  funext a
  match a with
  | ⟨0, _⟩ =>
    refine Fin.ext ?_
    show (grid0.coords t 0).val = n.val / 512
    rw [coords_val]; omega

/-- A tile the body leaves, read at a row and a feature. -/
theorem outAt_apply (h0 : ∀ x, (tabs m 0 x : BitVec 32).toNat < 16) (h1 : ∀ x, (tabs m 1 x : BitVec 32).toNat < 16)
    (c : Dev nD) (t : Fin grid0.N) (r : Fin 512) (d : Fin 1024) (n : Fin 77824) (hn : n.val = t.val * 512 + r.val) :
    outAt m hok c t (ix2 r d) = out m c (ix2 n d) := by
  have hc : Used m hok t ↔ (BitVec.ofNat 32 (tileOf n).val).toInt < (m ((c.tc : Thread nD τ).loc main_arg2) (ix1 0) : BitVec 32).toInt := by
    have e : (grid0.coords t 0).val = (tileOf n).val := by
      rw [coords_val]; show t.val = n.val / 512; omega
    have u : usedWord (F := Ideal) (tabs m 2) = m ((c.tc : Thread nD τ).loc main_arg2) (ix1 0) :=
      (usedWord_eq (tabs m 2)).trans (congrFun (tabs_2 m c) (ix1 0))
    exact (cond1_iff _ _).trans (iff_of_eq (congrArg₂ (fun (a : Nat) (b : BitVec 32) => (BitVec.ofNat 32 a).toInt < b.toInt) e u))
  unfold outAt out result
  by_cases h : Used m hok t
  · rw [if_pos h, if_pos (hc.mp h)]
    refine (pairOut_apply _ _ _ _ _ _ _ _ _ r d).trans ?_
    unfold routedRow
    simp only [iblk0_apply m hok c t r _ n hn, iblk1_apply m hok c t _ _ (h0 _), iblk2_apply m hok c t _ _ (h0 _), iblk3_apply m hok c t _ _ (h0 _),
      iblk4_apply m hok c t _ _ (h1 _), iblk5_apply m hok c t _ _ (h1 _), iblk6_apply m hok c t _ _ (h1 _), iblk7_apply m hok c t, iblk8_apply m hok c t,
      tile_eq t n r hn, tabs_0 m c, tabs_1 m c]
    rfl
  · rw [if_neg h, if_neg (fun h' => h (hc.mpr h'))]
    exact Ideal.ofBits_zero_f32

theorem index9 (t : Fin grid0.N) : ((cfgA m hok).win 9).index t = ![t.val, 0] := by
  show cc0_transform_9 (grid0.coords t) = _
  show ![(BitVec.ofNat 32 (grid0.coords t 0).val).toNat, 0] = _
  have := t.isLt
  rw [coords_val, BitVec.toNat_ofNat, Nat.mod_eq_of_lt (by have : grid0.N = 152 := rfl; omega)]

theorem flush9 (t : Fin (cfgA m hok).N) : ((cfgA m hok).win 9).flush t = true := by
  unfold Window.flush
  refine Bool.and_eq_true_iff.mpr ⟨rfl, ?_⟩
  by_cases h : t.val + 1 = (cfgA m hok).grid.N
  · rw [decide_eq_true h]; rfl
  · have hlt : t.val + 1 < (cfgA m hok).grid.N := by have : t.val < (cfgA m hok).grid.N := t.isLt; omega
    refine Bool.or_eq_true_iff.mpr (Or.inr (decide_eq_true ⟨hlt, ?_⟩))
    rw [index9 m hok ⟨t.val + 1, hlt⟩, index9 m hok t]
    intro e
    have : t.val + 1 = t.val := congrFun e 0
    omega

/-- What a point writes back is its rows of the result. -/
theorem flushed_eq (h0 : ∀ x, (tabs m 0 x : BitVec 32).toNat < 16) (h1 : ∀ x, (tabs m 1 x : BitVec 32).toNat < 16)
    (c : Dev nD) (t : Fin (cfgA m hok).N) :
    (dats m hok 0 c).flushed 9 t = (((cfgA m hok).win 9).blk t).view.read (Elt Ideal) (out m c) := by
  show ((cfgA m hok).win 9).cut ((cfgA m hok).grid.coords t) ((dats m hok 0 c).after 9 t) = _
  rw [after_9]
  refine funext fun (y : S512x1024.Idx) => ?_
  have ht : t.val < 152 := t.isLt
  have hy : (y 0).val < 512 := (y 0).isLt
  have hlt : t.val * 512 + (y 0).val < 77824 := by omega
  refine Eq.trans ?_ (blk_read main_v5 _ _ _ (out m c) y (ix2 (⟨t.val * 512 + (y 0).val, hlt⟩ : Fin 77824) (y 1)) (fun a => ?_)).symm
  · rw [← outAt_apply m hok h0 h1 c t (y 0) (y 1) ⟨t.val * 512 + (y 0).val, hlt⟩ rfl]
    show outAt m hok c t y = _
    exact congrArg (outAt m hok c t) (eq_ix2 y)
  · have e := congrFun (index9 m hok t) a
    match a with
    | ⟨0, _⟩ =>
      show t.val * 512 + (y 0).val = ((cfgA m hok).win 9).index t (0 : Fin 2) * 512 + (y 0).val
      rw [index9]; rfl
    | ⟨1, _⟩ => exact (Nat.zero_add _).symm

theorem cover (i : S77824x1024.Idx) :
    ∃ t : Fin (cfgA m hok).N, ((cfgA m hok).win 9).flush t = true ∧ i ∈ (((cfgA m hok).win 9).blk t).view.set := by
  have hi : (i 0).val < 77824 := (i 0).isLt
  have hi1 : (i 1).val < 1024 := (i 1).isLt
  let t : Fin (cfgA m hok).N := ⟨(i 0).val / 512, (show (i 0).val / 512 < 152 by omega)⟩
  refine ⟨t, flush9 m hok t, ?_⟩
  refine blk_mem main_v5 _ _ _ i (fun a => ?_)
  have e := index9 m hok t
  match a with
  | ⟨0, _⟩ =>
    show ((cfgA m hok).win 9).index t (0 : Fin 2) * 512 ≤ (i 0).val ∧ (i 0).val < ((cfgA m hok).win 9).index t (0 : Fin 2) * 512 + 512
    rw [e]
    show (i 0).val / 512 * 512 ≤ (i 0).val ∧ (i 0).val < (i 0).val / 512 * 512 + 512
    omega
  | ⟨1, _⟩ =>
    show ((cfgA m hok).win 9).index t (1 : Fin 2) * 1024 ≤ (i 1).val ∧ (i 1).val < ((cfgA m hok).win 9).index t (1 : Fin 2) * 1024 + 1024
    rw [e]
    show 0 * 1024 ≤ (i 1).val ∧ (i 1).val < 0 * 1024 + 1024
    omega

/-- The result array after the run. -/
theorem final_out (hr : Routed m) (c : Dev nD) : (dats m hr.ok 0 c).arrAt 9 (cfgA m hr.ok).N = out m c :=
  (dats m hr.ok 0 c).arrAt_eq_of_cover 9 (out m c)
    (fun t _ => flushed_eq m hr.ok (fun x => (routed_entry (hr 0) x).1) (fun x => (routed_entry (hr 0) x).2.1) c t) (cover m hr.ok)

end Cert.Moe

end
-- ==== Proof.Ref.lean ====
module

public import proofs.«01_k».proof.Proof.Spec
public import proofs.«01_k».proof.Proof.Gen.ReferenceIdeal.Read
public import Idealize.ShloMosaic.Lib.IdealHost

/-! The reference's result over the extended reals is `result` of the arguments, wherever a tile's two experts differ
and are experts of the layer. -/

@[expose] public section

noncomputable section

namespace Cert.Moe.Ref

open Idealize.ShloMosaic Idealize.ShloMosaic.ValueIdx Idealize.ShloMosaic.StableHlo Cert.ReferenceIdeal
open Cert.ReferenceIdeal.Gen Cert.ReferenceIdeal.Read

variable (x0 x1 : (⟨S152, .i32⟩ : BufTy).Contents (Elt Ideal)) (x2 : (⟨S1, .i32⟩ : BufTy).Contents (Elt Ideal))
  (x3 : (⟨S77824x1152, .f32⟩ : BufTy).Contents (Elt Ideal)) (x4 x5 : (⟨S16x1024x512, .f32⟩ : BufTy).Contents (Elt Ideal))
  (x6 : (⟨S16x512x1024, .f32⟩ : BufTy).Contents (Elt Ideal)) (x7 x8 : (⟨S1024, .f32⟩ : BufTy).Contents (Elt Ideal))

/-! ### The tokens, the tables and the gates at an index -/

theorem tok (n : Fin 77824) (k : Fin 1024) : val_main_v0 (F := Ideal) x3 (ix2 n k) = token x3 n k := by
  rw [val_main_v0_apply]
  exact congrArg x3 (funext fun a => by match a with | ⟨0, _⟩ => rfl | ⟨1, _⟩ => rfl)

theorem ea (n : Fin 77824) (u : Fin 1) : val_main_v8 (F := Ideal) x0 (ix2 n u) = x0 (ix1 (tileOf n)) := by
  rw [val_main_v8_apply, val_main_v4_apply, val_main_v3_apply, val_main_v2_apply]
  exact congrArg x0 (funext fun a => by match a with | ⟨0, _⟩ => rfl)

theorem eb (n : Fin 77824) (u : Fin 1) : val_main_v9 (F := Ideal) x1 (ix2 n u) = x1 (ix1 (tileOf n)) := by
  rw [val_main_v9_apply, val_main_v7_apply, val_main_v6_apply, val_main_v5_apply]
  exact congrArg x1 (funext fun a => by match a with | ⟨0, _⟩ => rfl)

theorem ids_first (n : Fin 77824) : val_main_v10 (F := Ideal) x0 x1 (ix2 n (0 : Fin 2)) = x0 (ix1 (tileOf n)) := by
  unfold val_main_v10
  exact (concatenate_pair_apply_left (s₁ := S77824x1) (s₂ := S77824x1) (1 : Fin S77824x2.rank) (val_main_v8 (F := Ideal) x0)
    (val_main_v9 (F := Ideal) x1) concatenates_S77824x1_S77824x1_S77824x2_d1 (ix2 n (0 : Fin 2)) rfl (ix2 n (0 : Fin 1) : S77824x1.Idx)
    (fun b => by match b with | ⟨0, _⟩ => rfl | ⟨1, _⟩ => rfl)).trans (ea x0 n 0)

theorem ids_second (n : Fin 77824) : val_main_v10 (F := Ideal) x0 x1 (ix2 n (1 : Fin 2)) = x1 (ix1 (tileOf n)) := by
  unfold val_main_v10
  exact (concatenate_pair_apply_right (s₁ := S77824x1) (s₂ := S77824x1) (1 : Fin S77824x2.rank) (val_main_v8 (F := Ideal) x0)
    (val_main_v9 (F := Ideal) x1) concatenates_S77824x1_S77824x1_S77824x2_d1 (ix2 n (1 : Fin 2)) rfl rfl (ix2 n (0 : Fin 1) : S77824x1.Idx)
    (fun b hb => by match b with | ⟨0, _⟩ => rfl | ⟨1, _⟩ => exact absurd rfl hb) rfl).trans (eb x1 n 0)

/-- One entry of the one-hot rows: one where the expert is the slot's, zero elsewhere. -/
theorem onehot (n : Fin 77824) (k : Fin 2) (e : Fin 16) : val_main_v11 (F := Ideal) x0 x1 (ix3 n k e)
    = if (val_main_v10 (F := Ideal) x0 x1 (ix2 n k) : BitVec 32) = BitVec.ofNat 32 e.val then (1 : EReal) else 0 := by
  rw [val_main_v11_apply, val_main_call0_v4_apply, val_main_call0_v2_apply, val_main_call0_v0_apply, val_main_call0_v3_apply,
    val_main_call0_v1_apply]
  have hi : idx_main_call0_v0 (idx_main_call0_v2 (ix3 n k e)) = ix2 n k :=
    funext fun a => by match a with | ⟨0, _⟩ => rfl | ⟨1, _⟩ => rfl
  rw [hi]
  show ((((BitVec.ofBool ((val_main_v10 (F := Ideal) x0 x1 (ix2 n k) : BitVec 32) == BitVec.ofNat 32 e.val)).toNat : ℕ) : ℝ) : EReal) = _
  by_cases h : (val_main_v10 (F := Ideal) x0 x1 (ix2 n k) : BitVec 32) = BitVec.ofNat 32 e.val
  · rw [if_pos h, h]; simp
  · rw [if_neg h, beq_eq_false_iff_ne.2 h]; simp

theorem weight (n : Fin 77824) (k : Fin 2) (e : Fin 16) : val_main_v13 (F := Ideal) x3 (ix3 n k e)
    = x3 (ix2 n (⟨1024 + k.val, by omega⟩ : Fin 1152)) := by
  rw [val_main_v13_apply, val_main_v12_apply, val_main_v1_apply]
  exact congrArg x3 (funext fun a => by match a with | ⟨0, _⟩ => rfl | ⟨1, _⟩ => rfl)

/-- A word below sixteen names the expert of its own number. -/
theorem names {w : BitVec 32} (h : w.toNat < 16) (e : Fin 16) : w = BitVec.ofNat 32 e.val ↔ e = named w := by
  have he := e.isLt
  constructor
  · intro hw
    refine Fin.ext ?_
    have : w.toNat = e.val := by rw [hw, BitVec.toNat_ofNat]; omega
    show e.val = w.toNat % 16
    omega
  · intro hn
    have : e.val = w.toNat % 16 := congrArg Fin.val hn
    apply BitVec.eq_of_toNat_eq
    rw [BitVec.toNat_ofNat]; omega

theorem named_ne {v w : BitVec 32} (hv : v.toNat < 16) (hw : w.toNat < 16) (h : v ≠ w) : named v ≠ named w := by
  intro e
  refine h (BitVec.eq_of_toNat_eq ?_)
  have : v.toNat % 16 = w.toNat % 16 := congrArg Fin.val e
  omega

/-- A row's gate for an expert: the two slots' gates, each counted where its slot's expert is this one. -/
theorem gate {n : Fin 77824} (h0 : (x0 (ix1 (tileOf n)) : BitVec 32).toNat < 16) (h1 : (x1 (ix1 (tileOf n)) : BitVec 32).toNat < 16) (e : Fin 16) :
    val_main_v15 (F := Ideal) x0 x1 x3 (ix2 n e)
      = (if e = named (x0 (ix1 (tileOf n))) then (1 : EReal) else 0) * x3 (ix2 n (⟨1024, by omega⟩ : Fin 1152))
        + (if e = named (x1 (ix1 (tileOf n))) then (1 : EReal) else 0) * x3 (ix2 n (⟨1025, by omega⟩ : Fin 1152)) := by
  have hi (k : Fin 2) : idx_main_v15 (ix2 n e) k = ix3 n k e :=
    funext fun a => by match a with | ⟨0, _⟩ => rfl | ⟨1, _⟩ => rfl | ⟨2, _⟩ => rfl
  rw [val_main_v15_apply, Fin.sum_univ_two, hi, hi, val_main_v14_apply, val_main_v14_apply, onehot, onehot, weight, weight,
    ids_first, ids_second, val_main_cst_apply]
  simp only [names h0, names h1, Ideal.mulf_def, Ideal.ofBits_def, Ideal.ofBits_zero_f32, zero_add]
  rfl

/-- Of a sum over the experts weighted by a row's gates, the two named experts' terms are left. -/
theorem gated {a b : Fin 16} (hab : a ≠ b) (ga gb : EReal) (y : Fin 16 → EReal) :
    ∑ e, ((if e = a then (1 : EReal) else 0) * ga + (if e = b then (1 : EReal) else 0) * gb) * y e = ga * y a + gb * y b := by
  have hs (e : Fin 16) : ((if e = a then (1 : EReal) else 0) * ga + (if e = b then (1 : EReal) else 0) * gb) * y e
      = (if e = a then ga * y a else 0) + (if e = b then gb * y b else 0) := by
    by_cases ha : e = a
    · subst ha; rw [if_pos rfl, if_pos rfl, if_neg hab, if_neg hab, one_mul, zero_mul, add_zero, add_zero]
    · by_cases hb : e = b
      · subst hb; rw [if_neg ha, if_neg ha, if_pos rfl, if_pos rfl, one_mul, zero_mul, zero_add, zero_add]
      · rw [if_neg ha, if_neg ha, if_neg hb, if_neg hb, zero_mul, zero_mul, add_zero, zero_mul]
  rw [Finset.sum_congr rfl (fun e _ => hs e), Finset.sum_add_distrib, Finset.sum_ite_eq' Finset.univ a, Finset.sum_ite_eq' Finset.univ b,
    if_pos (Finset.mem_univ _), if_pos (Finset.mem_univ _)]

/-! ### The experts -/

theorem first (e : Fin 16) (n : Fin 77824) (f : Fin 512) :
    val_main_v17 (F := Ideal) x3 x4 (ix3 e n f) = proj (token x3 n) (fun k f => x4 (ix3 e k f)) f := by
  rw [val_main_v17_apply, val_main_v16_apply]
  refine Finset.sum_congr rfl fun k _ => ?_
  have hl : lidx_main_v16 (idx_main_v17 (ix3 e n f)) k = ix3 e k f :=
    funext fun a => by match a with | ⟨0, _⟩ => rfl | ⟨1, _⟩ => rfl | ⟨2, _⟩ => rfl
  have hr : ridx_main_v16 (idx_main_v17 (ix3 e n f)) k = ix2 n k :=
    funext fun a => by match a with | ⟨0, _⟩ => rfl | ⟨1, _⟩ => rfl
  rw [hl, hr, tok, mul_comm]

theorem second (e : Fin 16) (n : Fin 77824) (f : Fin 512) :
    val_main_v20 (F := Ideal) x3 x5 (ix3 e n f) = proj (token x3 n) (fun k f => x5 (ix3 e k f)) f := by
  rw [val_main_v20_apply, val_main_v19_apply]
  refine Finset.sum_congr rfl fun k _ => ?_
  have hl : lidx_main_v19 (idx_main_v20 (ix3 e n f)) k = ix3 e k f :=
    funext fun a => by match a with | ⟨0, _⟩ => rfl | ⟨1, _⟩ => rfl | ⟨2, _⟩ => rfl
  have hr : ridx_main_v19 (idx_main_v20 (ix3 e n f)) k = ix2 n k :=
    funext fun a => by match a with | ⟨0, _⟩ => rfl | ⟨1, _⟩ => rfl
  rw [hl, hr, tok, mul_comm]

theorem hid (e : Fin 16) (n : Fin 77824) (f : Fin 512) :
    val_main_v21 (F := Ideal) x3 x4 x5 (ix3 e n f)
      = hidden (token x3 n) (fun k f => x4 (ix3 e k f)) (fun k f => x5 (ix3 e k f)) f := by
  rw [val_main_v21_apply, val_main_v18_apply, val_main_call1_v5_apply, val_main_call1_v4_apply, val_main_call1_v3_apply,
    val_main_call1_v2_apply, val_main_call1_v1_apply, val_main_call1_v0_apply, val_main_call1_cst_apply, val_main_call1_cst_0_apply,
    first, second]
  simp only [Ideal.mulf_def, Ideal.ofBits_def, Ideal.ofBits_one_f32, Ideal.hostDivf_def, Ideal.addf_def, Ideal.hostUnary_exp_def,
    Ideal.hostNegf_def]
  rfl

theorem out (e : Fin 16) (n : Fin 77824) (d : Fin 1024) :
    val_main_v24 (F := Ideal) x3 x4 x5 x6 (ix3 e n d) = expertAt x4 x5 x6 (token x3 n) e d := by
  have hl (f : Fin 512) : lidx_main_v24 (ix3 e n d) f = ix3 e n f :=
    funext fun a => by match a with | ⟨0, _⟩ => rfl | ⟨1, _⟩ => rfl | ⟨2, _⟩ => rfl
  have hr (f : Fin 512) : ridx_main_v24 (ix3 e n d) f = ix3 e f d :=
    funext fun a => by match a with | ⟨0, _⟩ => rfl | ⟨1, _⟩ => rfl | ⟨2, _⟩ => rfl
  rw [val_main_v24_apply]
  simp only [hl, hr, hid]
  rfl

theorem gateOf (e : Fin 16) (n : Fin 77824) (d : Fin 1024) :
    val_main_v25 (F := Ideal) x0 x1 x3 (ix3 e n d) = val_main_v15 (F := Ideal) x0 x1 x3 (ix2 n e) := by
  rw [val_main_v25_apply, val_main_v23_apply, val_main_v22_apply]
  exact congrArg _ (funext fun a => by match a with | ⟨0, _⟩ => rfl | ⟨1, _⟩ => rfl)

/-- What the premise says of the tables. -/
def Tables : Prop := ∀ t : Fin 152, (x0 (ix1 t) : BitVec 32).toNat < 16 ∧ (x1 (ix1 t) : BitVec 32).toNat < 16 ∧ (x0 (ix1 t) : BitVec 32) ≠ x1 (ix1 t)

theorem experts (h : Tables x0 x1) (n : Fin 77824) (d : Fin 1024) :
    val_main_v27 (F := Ideal) x0 x1 x3 x4 x5 x6 (ix2 n d)
      = x3 (ix2 n (⟨1024, by omega⟩ : Fin 1152)) * expertAt x4 x5 x6 (token x3 n) (named (x0 (ix1 (tileOf n)))) d
        + x3 (ix2 n (⟨1025, by omega⟩ : Fin 1152)) * expertAt x4 x5 x6 (token x3 n) (named (x1 (ix1 (tileOf n)))) d := by
  obtain ⟨h0, h1, hne⟩ := h (tileOf n)
  rw [val_main_v27_apply, val_main_cst_0_apply]
  simp only [Ideal.ofBits_def, Ideal.ofBits_zero_f32, zero_add]
  refine Eq.trans (Finset.sum_congr rfl fun e _ => ?_)
    (gated (named_ne h0 h1 hne) _ _ (fun e => expertAt x4 x5 x6 (token x3 n) e d))
  have hi : idx_main_v27 (ix2 n d) e = ix3 e n d :=
    funext fun a => by match a with | ⟨0, _⟩ => rfl | ⟨1, _⟩ => rfl | ⟨2, _⟩ => rfl
  rw [hi, val_main_v26_apply, gateOf, gate x0 x1 x3 h0 h1, out]
  rfl

/-! ### The layer norm -/

/-- The row before its norm, as the reference has it. -/
def row (n : Fin 77824) (d : Fin 1024) : EReal :=
  mixed (token x3 n) (x3 (ix2 n (⟨1024, by omega⟩ : Fin 1152))) (x3 (ix2 n (⟨1025, by omega⟩ : Fin 1152)))
    (expertAt x4 x5 x6 (token x3 n) (named (x0 (ix1 (tileOf n))))) (expertAt x4 x5 x6 (token x3 n) (named (x1 (ix1 (tileOf n))))) d

theorem pre (h : Tables x0 x1) (n : Fin 77824) (d : Fin 1024) :
    val_main_v30 (F := Ideal) x0 x1 x3 x4 x5 x6 (ix2 n d) = row x0 x1 x3 x4 x5 x6 n d := by
  rw [val_main_v30_apply, val_main_v29_apply, val_main_v28_apply, val_main_cst_1_apply, tok, experts x0 x1 x3 x4 x5 x6 h]
  rfl

theorem avg (h : Tables x0 x1) (n : Fin 77824) (u : Fin 1) :
    val_main_v34 (F := Ideal) x0 x1 x3 x4 x5 x6 (ix2 n u) = mean (row x0 x1 x3 x4 x5 x6 n) := by
  rw [val_main_v34_apply, val_main_v33_apply, val_main_cst_3_apply, val_main_v32_apply, val_main_v31_apply, val_main_cst_2_apply]
  simp only [Ideal.hostDivf_def, Ideal.ofBits_def, Ideal.ofBits_zero_f32, zero_add]
  refine congrArg (fun s : EReal => Ideal.div s width) (Finset.sum_congr rfl fun k _ => ?_)
  rw [← pre x0 x1 x3 x4 x5 x6 h]
  exact congrArg _ (funext fun a => by match a with | ⟨0, _⟩ => rfl | ⟨1, _⟩ => rfl)

theorem avg35 (h : Tables x0 x1) (n : Fin 77824) (d : Fin 1024) :
    val_main_v35 (F := Ideal) x0 x1 x3 x4 x5 x6 (ix2 n d) = mean (row x0 x1 x3 x4 x5 x6 n) := by
  rw [val_main_v35_apply, ← avg x0 x1 x3 x4 x5 x6 h n 0]
  exact congrArg _ (funext fun a => by match a with | ⟨0, _⟩ => rfl | ⟨1, _⟩ => rfl)

theorem avg42 (h : Tables x0 x1) (n : Fin 77824) (d : Fin 1024) :
    val_main_v42 (F := Ideal) x0 x1 x3 x4 x5 x6 (ix2 n d) = mean (row x0 x1 x3 x4 x5 x6 n) := by
  rw [val_main_v42_apply, ← avg x0 x1 x3 x4 x5 x6 h n 0]
  exact congrArg _ (funext fun a => by match a with | ⟨0, _⟩ => rfl | ⟨1, _⟩ => rfl)

theorem var (h : Tables x0 x1) (n : Fin 77824) (u : Fin 1) :
    val_main_v41 (F := Ideal) x0 x1 x3 x4 x5 x6 (ix2 n u)
      = mean (fun k => (row x0 x1 x3 x4 x5 x6 n k - mean (row x0 x1 x3 x4 x5 x6 n)) * (row x0 x1 x3 x4 x5 x6 n k - mean (row x0 x1 x3 x4 x5 x6 n))) := by
  rw [val_main_v41_apply, val_main_v40_apply, val_main_cst_5_apply, val_main_v39_apply, val_main_v38_apply, val_main_cst_4_apply]
  simp only [Ideal.hostDivf_def, Ideal.ofBits_def, Ideal.ofBits_zero_f32, zero_add]
  refine congrArg (fun s : EReal => Ideal.div s width) (Finset.sum_congr rfl fun k _ => ?_)
  have hi : idx_main_v38 (idx_main_v39 (ix2 n u)) k = ix2 n k :=
    funext fun a => by match a with | ⟨0, _⟩ => rfl | ⟨1, _⟩ => rfl
  rw [hi, val_main_v37_apply, val_main_v36_apply, avg35 x0 x1 x3 x4 x5 x6 h, pre x0 x1 x3 x4 x5 x6 h]
  rfl

theorem scale (h : Tables x0 x1) (n : Fin 77824) (d : Fin 1024) :
    val_main_v47 (F := Ideal) x0 x1 x3 x4 x5 x6 (ix2 n d)
      = Ideal.rsqrt (mean (fun k => (row x0 x1 x3 x4 x5 x6 n k - mean (row x0 x1 x3 x4 x5 x6 n)) * (row x0 x1 x3 x4 x5 x6 n k - mean (row x0 x1 x3 x4 x5 x6 n)))
          + Ideal.ofBits .f32 0x3727C5AC#32) := by
  rw [val_main_v47_apply, val_main_v46_apply, val_main_v45_apply, val_main_v44_apply, val_main_cst_6_apply]
  have hi : idx_main_v47 (ix2 n d) = ix2 n (0 : Fin 1) :=
    funext fun a => by match a with | ⟨0, _⟩ => rfl | ⟨1, _⟩ => rfl
  rw [hi, var x0 x1 x3 x4 x5 x6 h]
  rfl

theorem gain (n : Fin 77824) (d : Fin 1024) : val_main_v50 (F := Ideal) x7 (ix2 n d) = x7 (ix1 d) := by
  rw [val_main_v50_apply, val_main_v49_apply]
  exact congrArg x7 (funext fun a => by match a with | ⟨0, _⟩ => rfl)

theorem shift (n : Fin 77824) (d : Fin 1024) : val_main_v53 (F := Ideal) x8 (ix2 n d) = x8 (ix1 d) := by
  rw [val_main_v53_apply, val_main_v52_apply]
  exact congrArg x8 (funext fun a => by match a with | ⟨0, _⟩ => rfl)

theorem normed (h : Tables x0 x1) (n : Fin 77824) (d : Fin 1024) :
    val_main_v54 (F := Ideal) x0 x1 x3 x4 x5 x6 x7 x8 (ix2 n d) = routedRow x0 x1 x3 x4 x5 x6 x7 x8 n d := by
  rw [val_main_v54_apply, val_main_v51_apply, val_main_v48_apply, val_main_v43_apply, gain, shift, scale x0 x1 x3 x4 x5 x6 h,
    avg42 x0 x1 x3 x4 x5 x6 h, pre x0 x1 x3 x4 x5 x6 h]
  rfl

/-! ### The tiles in use -/

theorem tile (n : Fin 77824) : val_main_v58 (F := Ideal) (ix1 n) = BitVec.ofNat 32 (tileOf n).val := by
  rw [val_main_v58_apply, val_main_v57_apply, val_main_v56_apply, val_main_v55_apply]
  rfl

theorem inUse (i : S_.Idx) : val_main_v59 (F := Ideal) x2 i = x2 (ix1 (0 : Fin 1)) := by
  unfold val_main_v59
  have h1 : (S_.rowMajor i).val < 1 := (S_.rowMajor i).isLt
  have h2 : (S1.rowMajor (ix1 (0 : Fin 1))).val < 1 := (S1.rowMajor (ix1 (0 : Fin 1))).isLt
  have h3 : (S1.rowMajor (ix1 (0 : Fin 1))).val = (S_.rowMajor i).val := by omega
  exact shapeCast_apply x2 _ i (ix1 (0 : Fin 1)) h3

theorem keep (n : Fin 77824) (d : Fin 1024) : val_main_call2_v1 (F := Ideal) x2 (ix2 n d)
    = IntOp.cmpi .slt (BitVec.ofNat 32 (tileOf n).val) (x2 (ix1 (0 : Fin 1))) := by
  rw [val_main_call2_v1_apply, val_main_v62_apply, val_main_v61_apply, val_main_v60_apply, inUse]
  have hi : idx_main_v62 (idx_main_call2_v1 (ix2 n d)) = ix1 n := funext fun a => by match a with | ⟨0, _⟩ => rfl
  rw [hi, tile]

theorem value (h : Tables x0 x1) : val_main_v63 (F := Ideal) x0 x1 x2 x3 x4 x5 x6 x7 x8 = result x0 x1 x2 x3 x4 x5 x6 x7 x8 := by
  funext i
  obtain ⟨n, d, rfl⟩ : ∃ (n : Fin 77824) (d : Fin 1024), i = ix2 n d :=
    ⟨i 0, i 1, funext fun a => by match a with | ⟨0, _⟩ => rfl | ⟨1, _⟩ => rfl⟩
  rw [val_main_v63_apply, keep, normed x0 x1 x3 x4 x5 x6 x7 x8 h, val_main_call2_v2_apply]
  show Scalar.select (BitVec.ofBool ((BitVec.ofNat 32 (tileOf n).val).slt (x2 (ix1 (0 : Fin 1))))) _ _
    = if (BitVec.ofNat 32 (tileOf n).val).toInt < (x2 (ix1 (0 : Fin 1)) : BitVec 32).toInt then routedRow x0 x1 x3 x4 x5 x6 x7 x8 n d else 0
  by_cases hu : (BitVec.ofNat 32 (tileOf n).val).toInt < (x2 (ix1 (0 : Fin 1)) : BitVec 32).toInt
  · rw [if_pos hu, BitVec.slt_iff_toInt_lt.2 hu]
    exact select_one _ _
  · rw [if_neg hu, Bool.eq_false_iff.2 (fun hs => hu (BitVec.slt_iff_toInt_lt.1 hs))]
    exact (select_zero _ _).trans Ideal.ofBits_zero_f32

end Cert.Moe.Ref

end
-- ==== Proof.Same.lean ====
module

public import proofs.«01_k».proof.Defs
public import proofs.«01_k».proof.Proof.Gen.Kernel
public import proofs.«01_k».proof.Proof.Gen.KernelIdeal

/-! The kernel and the kernel read at the ideal instance are one text: the body, the body table and @main agree. -/

@[expose] public section

noncomputable section

namespace Cert.Same

open Idealize.ShloMosaic Idealize.SL.Sem

attribute [local instance] Cert.Kernel.Gen.facts Cert.KernelIdeal.Gen.facts

theorem part1 : @Cert.Kernel.k0_part1 Bits _ Cert.Kernel.Gen.facts = @Cert.KernelIdeal.k0_part1 Bits _ Cert.KernelIdeal.Gen.facts := rfl

theorem part2 : @Cert.Kernel.k0_part2 Bits _ Cert.Kernel.Gen.facts = @Cert.KernelIdeal.k0_part2 Bits _ Cert.KernelIdeal.Gen.facts := rfl

theorem body : @Cert.Kernel.cc0_moe_experts_ln Bits _ Cert.Kernel.Gen.facts
    = @Cert.KernelIdeal.cc0_moe_experts_ln Bits _ Cert.KernelIdeal.Gen.facts := by
  delta Cert.Kernel.cc0_moe_experts_ln Cert.KernelIdeal.cc0_moe_experts_ln
  rw [part1, part2]
  rfl

theorem bodies : @Cert.Kernel.defs₀ Bits _ Cert.Kernel.Gen.facts = @Cert.KernelIdeal.defs₀ Bits _ Cert.KernelIdeal.Gen.facts := by
  delta Cert.Kernel.defs₀ Cert.KernelIdeal.defs₀
  rw [body]
  refine congrArg (Defs.onTc (nD := Cert.KernelIdeal.nD) (τ := Cert.KernelIdeal.τ) (sig := Cert.KernelIdeal.sig) (Val := Elt Bits)
    (Λ := @Cert.KernelIdeal.Λ₀ Cert.KernelIdeal.Gen.facts)) (funext fun l => funext fun a => ?_)
  match l, a with
  | 0, (t, s) => rfl
  | ⟨_ + 1, h⟩, _ => exact absurd h (Nat.not_lt.2 (Nat.le_add_left _ _))

theorem defs : @Cert.Kernel.defs Bits _ Cert.Kernel.Gen.facts = @Cert.KernelIdeal.defs Bits _ Cert.KernelIdeal.Gen.facts := by
  delta Cert.Kernel.defs Cert.KernelIdeal.defs
  rw [bodies]
  rfl

theorem main : @Cert.Kernel.main Bits _ Cert.Kernel.Gen.facts = @Cert.KernelIdeal.main Bits _ Cert.KernelIdeal.Gen.facts := by
  delta Cert.Kernel.main Cert.KernelIdeal.main
  rfl

end Cert.Same

end
-- ==== Proof.Attend.Pair.lean ====
module

public import proofs.«01_k».proof.Proof.Gen.Kernel2Ideal.Value
public import Idealize.ShloMosaic.Lib.WholeRead
public import Idealize.ShloMosaic.Lib.ValueIdx

/-! One pair of heads in the attention kernel's body. The body treats the four pairs of heads alike: `outPair` is the block
    that a pair stores and `lsePair` puts the pair's two columns of log-sum-exps into the table of them. -/

@[expose] public section

set_option maxRecDepth 16384

noncomputable section

namespace Cert.Attend

open Cert.Kernel2Ideal Cert.Kernel2Ideal.Gen Idealize.ShloMosaic Idealize.ShloMosaic.TcCoe Idealize.SL.Sem Idealize.ShloMosaic.ValueIdx

variable {F : FTy → Type} [FloatOps F] [Named F]

/-- The lane's number at every place of a tile. -/
def lanes : IVec S128x128 32 := iota .tc S128x128 32 [1] iota_S128x128_d1_w32

/-- The scores against the chunk of keys before the tile's own. -/
def scoreA (i : grid0.Coords) (qb : Vec F S1x128x128 .bf16) (sa sb : F .f32) (ka : Vec F S1x128x128 .bf16) : FVec F S256x128 .f32 :=
  k0_pay16 (k0_pay5 i) (k0_pay8 qb) (k0_pay9 sa) (k0_pay10 sb) (k0_pay11 sa) (k0_pay12 sb) ka

/-- The scores against the tile's own chunk of keys. -/
def scoreB (qb : Vec F S1x128x128 .bf16) (sa sb : F .f32) (kb : Vec F S1x128x128 .bf16) : FVec F S256x128 .f32 :=
  k0_pay17 k0_pay6 (k0_pay8 qb) (k0_pay11 sa) (k0_pay12 sb) kb

/-- The greatest score of each row. -/
def top (i : grid0.Coords) (qb : Vec F S1x128x128 .bf16) (sa sb : F .f32) (ka kb : Vec F S1x128x128 .bf16) : FVec F S256x1 .f32 :=
  k0_pay18 (k0_pay5 i) k0_pay6 (k0_pay8 qb) (k0_pay9 sa) (k0_pay10 sb) (k0_pay11 sa) (k0_pay12 sb) ka kb

/-- The scores against the chunk before, less the row's greatest. -/
def lessA (i : grid0.Coords) (qb : Vec F S1x128x128 .bf16) (sa sb : F .f32) (ka kb : Vec F S1x128x128 .bf16) : FVec F S256x128 .f32 :=
  k0_pay19 (k0_pay5 i) k0_pay6 (k0_pay8 qb) (k0_pay9 sa) (k0_pay10 sb) (k0_pay11 sa) (k0_pay12 sb) ka kb

/-- The sum of each row's weights. -/
def den (i : grid0.Coords) (qb : Vec F S1x128x128 .bf16) (sa sb : F .f32) (ka kb : Vec F S1x128x128 .bf16) : FVec F S256x1 .f32 :=
  k0_pay22 (scoreB qb sa sb kb) (top i qb sa sb ka kb) (lessA i qb sa sb ka kb)

/-- The block that the pair stores. -/
def outPair (i : grid0.Coords) (qb : Vec F S1x128x128 .bf16) (sa sb : F .f32) (ka kb va vb : Vec F S1x128x128 .bf16) : FVec F S1x128x128 .bf16 :=
  k0_pay23 lanes (k0_pay14 va) (k0_pay15 vb) (scoreB qb sa sb kb) (top i qb sa sb ka kb) (lessA i qb sa sb ka kb)

theorem top_eq (i : grid0.Coords) (qb : Vec F S1x128x128 .bf16) (sa sb : F .f32) (ka kb : Vec F S1x128x128 .bf16) :
    top i qb sa sb ka kb = shapeCast S256x1 (multiReduction .maximumf [1] S256 (maximumf (scoreA i qb sa sb ka) (scoreB qb sa sb kb)) 0xFF800000#32
      reduces_S256x128_S256 (.inl rfl) rfl) shapeCasts_S256_S256x1 := rfl

theorem lessA_eq (i : grid0.Coords) (qb : Vec F S1x128x128 .bf16) (sa sb : F .f32) (ka kb : Vec F S1x128x128 .bf16) :
    lessA i qb sa sb ka kb = subf (scoreA i qb sa sb ka) (broadcastTo S256x128 (top i qb sa sb ka kb) broadcasts_S256x1_S256x128) := rfl

/-- The weights of the chunk before, and of the tile's own. -/
def expA (i : grid0.Coords) (qb : Vec F S1x128x128 .bf16) (sa sb : F .f32) (ka kb : Vec F S1x128x128 .bf16) : FVec F S256x128 .f32 :=
  exp2 (subf (scoreA i qb sa sb ka) (broadcastTo S256x128 (top i qb sa sb ka kb) broadcasts_S256x1_S256x128))
def expB (i : grid0.Coords) (qb : Vec F S1x128x128 .bf16) (sa sb : F .f32) (ka kb : Vec F S1x128x128 .bf16) : FVec F S256x128 .f32 :=
  exp2 (subf (scoreB qb sa sb kb) (broadcastTo S256x128 (top i qb sa sb ka kb) broadcasts_S256x1_S256x128))

theorem den_eq (i : grid0.Coords) (qb : Vec F S1x128x128 .bf16) (sa sb : F .f32) (ka kb : Vec F S1x128x128 .bf16) :
    den i qb sa sb ka kb = shapeCast S256x1 (multiReduction .add [1] S256 (addf (expA i qb sa sb ka kb) (expB i qb sa sb ka kb)) 0x00000000#32
      reduces_S256x128_S256 (.inl rfl) rfl) shapeCasts_S256_S256x1 := rfl

/-- The rows' attention. -/
def quot (i : grid0.Coords) (qb : Vec F S1x128x128 .bf16) (sa sb : F .f32) (ka kb va vb : Vec F S1x128x128 .bf16) : FVec F S256x128 .f32 :=
  divf (addf
    (matmul dot_S256x128_S128x128_S256x128_1_0_0_1_n_n none (truncf .bf16 (expA i qb sa sb ka kb) bitsLt_bf16_f32)
      (shapeCast S128x128 va shapeCasts_S1x128x128_S128x128 : FVec F S128x128 .bf16) (constant S256x128 .f32 0x00000000#32))
    (matmul dot_S256x128_S128x128_S256x128_1_0_0_1_n_n none (truncf .bf16 (expB i qb sa sb ka kb) bitsLt_bf16_f32)
      (shapeCast S128x128 vb shapeCasts_S1x128x128_S128x128 : FVec F S128x128 .bf16) (constant S256x128 .f32 0x00000000#32)))
    (broadcastTo S256x128 (den i qb sa sb ka kb) broadcasts_S256x1_S256x128)

theorem outPair_eq (i : grid0.Coords) (qb : Vec F S1x128x128 .bf16) (sa sb : F .f32) (ka kb va vb : Vec F S1x128x128 .bf16) :
    outPair i qb sa sb ka kb va vb = shapeCast S1x128x128 (truncf .bf16 (select (cmpi .slt lanes (broadcast S128x128 64#32))
      (extractStridedSlice S128x128 ![0, 0] (quot i qb sa sb ka kb va vb) slices_S256x128_o0_0_S128x128)
      (extractStridedSlice S128x128 ![128, 0] (quot i qb sa sb ka kb va vb) slices_S256x128_o128_0_S128x128)) bitsLt_bf16_f32) shapeCasts_S128x128_S1x128x128 := rfl

/-- The pair's log-sum-exps, those of the first head above those of the second. -/
def lseRows (i : grid0.Coords) (qb : Vec F S1x128x128 .bf16) (sa sb : F .f32) (ka kb : Vec F S1x128x128 .bf16) : FVec F S256x1 .f32 :=
  addf (top i qb sa sb ka kb)
    (mulf (log (den i qb sa sb ka kb))
      (broadcast S256x1 (Named.named κ "log2e" 0x3FB8AA3B#32)))

/-- A table with columns `na` and `nb` replaced by the upper and the lower half of a column. -/
def putPair (na nb : BitVec 32) (col : FVec F S256x1 .f32) (acc : FVec F S128x128 .f32) : FVec F S128x128 .f32 :=
  select (cmpi .eq lanes (broadcast S128x128 nb))
    (broadcastTo S128x128 (shapeCast S128x1 (extractStridedSlice S128x1 ![128, 0] col slices_S256x1_o128_0_S128x1) shapeCasts_S128x1_S128x1) broadcasts_S128x1_S128x128)
    (select (cmpi .eq lanes (broadcast S128x128 na))
      (broadcastTo S128x128 (shapeCast S128x1 (extractStridedSlice S128x1 ![0, 0] col slices_S256x1_o0_0_S128x1) shapeCasts_S128x1_S128x1) broadcasts_S128x1_S128x128)
      acc)

/-- The pair's queries, as the body reads them. -/
def qAt (hp : Fin 4) (x1 : Vec F S1x128x512 .bf16) : Vec F S1x128x128 .bf16 := fun x =>
  x1 (ix3 0 (x 1) ⟨128 * hp.val + (x 2).val, by have : (x 2).val < 128 := (x 2).isLt; have := hp.isLt; omega⟩)

/-- The chunk number `j` of the pair's keys or values. -/
def kAt (hp : Fin 4) (j : Fin 4) (x2 : Vec F S1x512x512 .bf16) : Vec F S1x128x128 .bf16 := fun x =>
  x2 (ix3 0 ⟨128 * j.val + (x 1).val, by have : (x 1).val < 128 := (x 1).isLt; have := j.isLt; omega⟩
    ⟨128 * hp.val + (x 2).val, by have : (x 2).val < 128 := (x 2).isLt; have := hp.isLt; omega⟩)

/-- The chunk before the tile's own, or the first. -/
def prev (i : grid0.Coords) : Fin 4 := ⟨(i 2).val - 1, by have : (i 2).val < 4 := (i 2).isLt; omega⟩
/-- The tile's own chunk. -/
def own (i : grid0.Coords) : Fin 4 := ⟨(i 2).val, (i 2).isLt⟩

section Run

theorem read_q (hp : Fin 4) (m : Memref sig .tc .vmem S1x128x512 .bf16) (h : m.IsWhole) (x : Vec F S1x128x512 .bf16)
    (off : Fin 3 → Nat) (hb : ∀ a, off a + S1x128x128.size a ≤ S1x128x512.size a) (ho : off = ![0, 0, 128 * hp.val]) :
    View.readAt (Elt F) m.view (Rect.unit (s := S1x128x512) off S1x128x128.size hb).toLoadRect (h.unread x) = qAt hp x := by
  subst ho
  funext j
  rw [Memref.IsWhole.readAt_unread]
  refine congrArg x (funext fun a => Fin.ext ?_)
  have h0 : (j 0).val < 1 := (j 0).isLt
  match a with
  | 0 => show 0 + 1 * (j 0).val = 0; omega
  | 1 => show 0 + 1 * (j 1).val = (j 1).val; omega
  | 2 => show 128 * hp.val + 1 * (j 2).val = 128 * hp.val + (j 2).val; omega

theorem read_k (hp j : Fin 4) (m : Memref sig .tc .vmem S1x512x512 .bf16) (h : m.IsWhole) (x : Vec F S1x512x512 .bf16)
    (off : Fin 3 → Nat) (hb : ∀ a, off a + S1x128x128.size a ≤ S1x512x512.size a) (ho : off = ![0, 128 * j.val, 128 * hp.val]) :
    View.readAt (Elt F) m.view (Rect.unit (s := S1x512x512) off S1x128x128.size hb).toLoadRect (h.unread x) = kAt hp j x := by
  subst ho
  funext y
  rw [Memref.IsWhole.readAt_unread]
  refine congrArg x (funext fun a => Fin.ext ?_)
  have h0 : (y 0).val < 1 := (y 0).isLt
  match a with
  | 0 => show 0 + 1 * (y 0).val = 0; omega
  | 1 => show 128 * j.val + 1 * (y 1).val = 128 * j.val + (y 1).val; omega
  | 2 => show 128 * hp.val + 1 * (y 2).val = 128 * hp.val + (y 2).val; omega

theorem read_s (k : Fin 8) (m : Memref sig .tc .smem S8 .f32) (h : m.IsWhole) (x : Vec F S8 .f32)
    (hb : ∀ a, (![k.val] : Fin 1 → Nat) a + S1.size a ≤ S8.size a) (n) :
    View.readAt (Elt F) m.view (Rect.unit (s := S8) ![k.val] S1.size hb).toLoadRect (h.unread x) (Shape.Idx.first n) = x (ix1 k) := by
  rw [Memref.IsWhole.readAt_unread]
  refine congrArg x (funext fun a => Fin.ext ?_)
  match a with
  | 0 => rfl

theorem off1 (i : grid0.Coords) : k0_off1 i = ![0, 128 * (prev i).val, 128 * ((0 : Fin 4)).val] := by
  have : ∀ n : Fin 4, (Scalar.indexCast (Scalar.muli (Scalar.maxsi (Scalar.subi (BitVec.ofNat 32 n.val) 1#32) 0#32) 128#32)).toNat = 128 * (n.val - 1) := by decide
  funext a
  match a with
  | 0 => rfl
  | 1 => exact this (i 2)
  | 2 => rfl

theorem off2 (i : grid0.Coords) : k0_off2 i = ![0, 128 * (own i).val, 128 * ((0 : Fin 4)).val] := by
  have : ∀ n : Fin 4, (Scalar.indexCast (Scalar.muli (BitVec.ofNat 32 n.val) 128#32)).toNat = 128 * n.val := by decide
  funext a
  match a with
  | 0 => rfl
  | 1 => exact this (i 2)
  | 2 => rfl

theorem off3 (i : grid0.Coords) : k0_off3 i = ![0, 128 * (prev i).val, 128 * ((1 : Fin 4)).val] := by
  have : ∀ n : Fin 4, (Scalar.indexCast (Scalar.muli (Scalar.maxsi (Scalar.subi (BitVec.ofNat 32 n.val) 1#32) 0#32) 128#32)).toNat = 128 * (n.val - 1) := by decide
  funext a
  match a with
  | 0 => rfl
  | 1 => exact this (i 2)
  | 2 => rfl

theorem off4 (i : grid0.Coords) : k0_off4 i = ![0, 128 * (own i).val, 128 * ((1 : Fin 4)).val] := by
  have : ∀ n : Fin 4, (Scalar.indexCast (Scalar.muli (BitVec.ofNat 32 n.val) 128#32)).toNat = 128 * n.val := by decide
  funext a
  match a with
  | 0 => rfl
  | 1 => exact this (i 2)
  | 2 => rfl

theorem off5 (i : grid0.Coords) : k0_off5 i = ![0, 128 * (prev i).val, 128 * ((2 : Fin 4)).val] := by
  have : ∀ n : Fin 4, (Scalar.indexCast (Scalar.muli (Scalar.maxsi (Scalar.subi (BitVec.ofNat 32 n.val) 1#32) 0#32) 128#32)).toNat = 128 * (n.val - 1) := by decide
  funext a
  match a with
  | 0 => rfl
  | 1 => exact this (i 2)
  | 2 => rfl

theorem off6 (i : grid0.Coords) : k0_off6 i = ![0, 128 * (own i).val, 128 * ((2 : Fin 4)).val] := by
  have : ∀ n : Fin 4, (Scalar.indexCast (Scalar.muli (BitVec.ofNat 32 n.val) 128#32)).toNat = 128 * n.val := by decide
  funext a
  match a with
  | 0 => rfl
  | 1 => exact this (i 2)
  | 2 => rfl

theorem off7 (i : grid0.Coords) : k0_off7 i = ![0, 128 * (prev i).val, 128 * ((3 : Fin 4)).val] := by
  have : ∀ n : Fin 4, (Scalar.indexCast (Scalar.muli (Scalar.maxsi (Scalar.subi (BitVec.ofNat 32 n.val) 1#32) 0#32) 128#32)).toNat = 128 * (n.val - 1) := by decide
  funext a
  match a with
  | 0 => rfl
  | 1 => exact this (i 2)
  | 2 => rfl

theorem off8 (i : grid0.Coords) : k0_off8 i = ![0, 128 * (own i).val, 128 * ((3 : Fin 4)).val] := by
  have : ∀ n : Fin 4, (Scalar.indexCast (Scalar.muli (BitVec.ofNat 32 n.val) 128#32)).toNat = 128 * n.val := by decide
  funext a
  match a with
  | 0 => rfl
  | 1 => exact this (i 2)
  | 2 => rfl

variable (c : Dev nD) (i : grid0.Coords) (arg3 : Memref sig .tc .smem S8 .f32) (harg3 : arg3.IsWhole) (arg4 : Memref sig .tc .vmem S1x128x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x128x512 .bf16) (harg7 : arg7.IsWhole) (arg8 : Memref sig .tc .vmem S1x128x128 .f32) (harg8 : arg8.IsWhole)
  (x0 : Vec F S8 .f32) (x1 : Vec F S1x128x512 .bf16) (x2 : Vec F S1x512x512 .bf16) (x3 : Vec F S1x512x512 .bf16)

/-- What the body stores of the attention's results: a block for each pair of heads. -/
theorem pieces4 : (kernelRun0_A c i arg3 harg3 arg4 harg4 arg5 harg5 arg6 harg6 arg7 harg7 arg8 harg8 x0 x1 x2 x3).1 =
    [⟨Rect.unit ![0, 0, 384] ![1, 128, 128] inb_S1x128x512_S1x128x128_0_0_384, outPair i (qAt 3 x1) (x0 (ix1 6)) (x0 (ix1 7)) (kAt 3 (prev i) x2) (kAt 3 (own i) x2) (kAt 3 (prev i) x3) (kAt 3 (own i) x3)⟩,
     ⟨Rect.unit ![0, 0, 256] ![1, 128, 128] inb_S1x128x512_S1x128x128_0_0_256, outPair i (qAt 2 x1) (x0 (ix1 4)) (x0 (ix1 5)) (kAt 2 (prev i) x2) (kAt 2 (own i) x2) (kAt 2 (prev i) x3) (kAt 2 (own i) x3)⟩,
     ⟨Rect.unit ![0, 0, 128] ![1, 128, 128] inb_S1x128x512_S1x128x128_0_0_128, outPair i (qAt 1 x1) (x0 (ix1 2)) (x0 (ix1 3)) (kAt 1 (prev i) x2) (kAt 1 (own i) x2) (kAt 1 (prev i) x3) (kAt 1 (own i) x3)⟩,
     ⟨Rect.unit ![0, 0, 0] ![1, 128, 128] inb_S1x128x512_S1x128x128_0_0_0, outPair i (qAt 0 x1) (x0 (ix1 0)) (x0 (ix1 1)) (kAt 0 (prev i) x2) (kAt 0 (own i) x2) (kAt 0 (prev i) x3) (kAt 0 (own i) x3)⟩] := by
  have e : (kernelRun0_A c i arg3 harg3 arg4 harg4 arg5 harg5 arg6 harg6 arg7 harg7 arg8 harg8 x0 x1 x2 x3).1 =
    [⟨Rect.unit ![0, 0, 384] ![1, 128, 128] inb_S1x128x512_S1x128x128_0_0_384, outPair i (View.readAt (Elt F) arg4.view (Rect.unit (s := S1x128x512) ![0, 0, 384] S1x128x128.size inb_S1x128x512_S1x128x128_0_0_384).toLoadRect (harg4.unread x1)) (View.readAt (Elt F) arg3.view (Rect.unit (s := S8) ![6] S1.size inb_S8_S1_6).toLoadRect (harg3.unread x0) (Shape.Idx.first (numel1_S1.symm ▸ Nat.one_pos))) (View.readAt (Elt F) arg3.view (Rect.unit (s := S8) ![7] S1.size inb_S8_S1_7).toLoadRect (harg3.unread x0) (Shape.Idx.first (numel1_S1.symm ▸ Nat.one_pos))) (View.readAt (Elt F) arg5.view (Rect.unit (s := S1x512x512) (k0_off7 i) S1x128x128.size (k0_off7_inb i)).toLoadRect (harg5.unread x2)) (View.readAt (Elt F) arg5.view (Rect.unit (s := S1x512x512) (k0_off8 i) S1x128x128.size (k0_off8_inb i)).toLoadRect (harg5.unread x2)) (View.readAt (Elt F) arg6.view (Rect.unit (s := S1x512x512) (k0_off7 i) S1x128x128.size (k0_off7_inb i)).toLoadRect (harg6.unread x3)) (View.readAt (Elt F) arg6.view (Rect.unit (s := S1x512x512) (k0_off8 i) S1x128x128.size (k0_off8_inb i)).toLoadRect (harg6.unread x3))⟩,
     ⟨Rect.unit ![0, 0, 256] ![1, 128, 128] inb_S1x128x512_S1x128x128_0_0_256, outPair i (View.readAt (Elt F) arg4.view (Rect.unit (s := S1x128x512) ![0, 0, 256] S1x128x128.size inb_S1x128x512_S1x128x128_0_0_256).toLoadRect (harg4.unread x1)) (View.readAt (Elt F) arg3.view (Rect.unit (s := S8) ![4] S1.size inb_S8_S1_4).toLoadRect (harg3.unread x0) (Shape.Idx.first (numel1_S1.symm ▸ Nat.one_pos))) (View.readAt (Elt F) arg3.view (Rect.unit (s := S8) ![5] S1.size inb_S8_S1_5).toLoadRect (harg3.unread x0) (Shape.Idx.first (numel1_S1.symm ▸ Nat.one_pos))) (View.readAt (Elt F) arg5.view (Rect.unit (s := S1x512x512) (k0_off5 i) S1x128x128.size (k0_off5_inb i)).toLoadRect (harg5.unread x2)) (View.readAt (Elt F) arg5.view (Rect.unit (s := S1x512x512) (k0_off6 i) S1x128x128.size (k0_off6_inb i)).toLoadRect (harg5.unread x2)) (View.readAt (Elt F) arg6.view (Rect.unit (s := S1x512x512) (k0_off5 i) S1x128x128.size (k0_off5_inb i)).toLoadRect (harg6.unread x3)) (View.readAt (Elt F) arg6.view (Rect.unit (s := S1x512x512) (k0_off6 i) S1x128x128.size (k0_off6_inb i)).toLoadRect (harg6.unread x3))⟩,
     ⟨Rect.unit ![0, 0, 128] ![1, 128, 128] inb_S1x128x512_S1x128x128_0_0_128, outPair i (View.readAt (Elt F) arg4.view (Rect.unit (s := S1x128x512) ![0, 0, 128] S1x128x128.size inb_S1x128x512_S1x128x128_0_0_128).toLoadRect (harg4.unread x1)) (View.readAt (Elt F) arg3.view (Rect.unit (s := S8) ![2] S1.size inb_S8_S1_2).toLoadRect (harg3.unread x0) (Shape.Idx.first (numel1_S1.symm ▸ Nat.one_pos))) (View.readAt (Elt F) arg3.view (Rect.unit (s := S8) ![3] S1.size inb_S8_S1_3).toLoadRect (harg3.unread x0) (Shape.Idx.first (numel1_S1.symm ▸ Nat.one_pos))) (View.readAt (Elt F) arg5.view (Rect.unit (s := S1x512x512) (k0_off3 i) S1x128x128.size (k0_off3_inb i)).toLoadRect (harg5.unread x2)) (View.readAt (Elt F) arg5.view (Rect.unit (s := S1x512x512) (k0_off4 i) S1x128x128.size (k0_off4_inb i)).toLoadRect (harg5.unread x2)) (View.readAt (Elt F) arg6.view (Rect.unit (s := S1x512x512) (k0_off3 i) S1x128x128.size (k0_off3_inb i)).toLoadRect (harg6.unread x3)) (View.readAt (Elt F) arg6.view (Rect.unit (s := S1x512x512) (k0_off4 i) S1x128x128.size (k0_off4_inb i)).toLoadRect (harg6.unread x3))⟩,
     ⟨Rect.unit ![0, 0, 0] ![1, 128, 128] inb_S1x128x512_S1x128x128_0_0_0, outPair i (View.readAt (Elt F) arg4.view (Rect.unit (s := S1x128x512) ![0, 0, 0] S1x128x128.size inb_S1x128x512_S1x128x128_0_0_0).toLoadRect (harg4.unread x1)) (View.readAt (Elt F) arg3.view (Rect.unit (s := S8) ![0] S1.size inb_S8_S1_0).toLoadRect (harg3.unread x0) (Shape.Idx.first (numel1_S1.symm ▸ Nat.one_pos))) (View.readAt (Elt F) arg3.view (Rect.unit (s := S8) ![1] S1.size inb_S8_S1_1).toLoadRect (harg3.unread x0) (Shape.Idx.first (numel1_S1.symm ▸ Nat.one_pos))) (View.readAt (Elt F) arg5.view (Rect.unit (s := S1x512x512) (k0_off1 i) S1x128x128.size (k0_off1_inb i)).toLoadRect (harg5.unread x2)) (View.readAt (Elt F) arg5.view (Rect.unit (s := S1x512x512) (k0_off2 i) S1x128x128.size (k0_off2_inb i)).toLoadRect (harg5.unread x2)) (View.readAt (Elt F) arg6.view (Rect.unit (s := S1x512x512) (k0_off1 i) S1x128x128.size (k0_off1_inb i)).toLoadRect (harg6.unread x3)) (View.readAt (Elt F) arg6.view (Rect.unit (s := S1x512x512) (k0_off2 i) S1x128x128.size (k0_off2_inb i)).toLoadRect (harg6.unread x3))⟩] := rfl
  rw [e]
  rw [show View.readAt (Elt F) arg4.view (Rect.unit (s := S1x128x512) ![0, 0, 0] S1x128x128.size inb_S1x128x512_S1x128x128_0_0_0).toLoadRect (harg4.unread x1) = qAt 0 x1 from read_q 0 _ _ _ _ _ rfl]
  rw [show View.readAt (Elt F) arg3.view (Rect.unit (s := S8) ![0] S1.size inb_S8_S1_0).toLoadRect (harg3.unread x0) (Shape.Idx.first (numel1_S1.symm ▸ Nat.one_pos)) = x0 (ix1 0) from read_s 0 _ _ _ _ _]
  rw [show View.readAt (Elt F) arg3.view (Rect.unit (s := S8) ![1] S1.size inb_S8_S1_1).toLoadRect (harg3.unread x0) (Shape.Idx.first (numel1_S1.symm ▸ Nat.one_pos)) = x0 (ix1 1) from read_s 1 _ _ _ _ _]
  rw [show View.readAt (Elt F) arg5.view (Rect.unit (s := S1x512x512) (k0_off1 i) S1x128x128.size (k0_off1_inb i)).toLoadRect (harg5.unread x2) = kAt 0 (prev i) x2 from read_k 0 (prev i) _ _ _ _ _ (off1 i)]
  rw [show View.readAt (Elt F) arg5.view (Rect.unit (s := S1x512x512) (k0_off2 i) S1x128x128.size (k0_off2_inb i)).toLoadRect (harg5.unread x2) = kAt 0 (own i) x2 from read_k 0 (own i) _ _ _ _ _ (off2 i)]
  rw [show View.readAt (Elt F) arg6.view (Rect.unit (s := S1x512x512) (k0_off1 i) S1x128x128.size (k0_off1_inb i)).toLoadRect (harg6.unread x3) = kAt 0 (prev i) x3 from read_k 0 (prev i) _ _ _ _ _ (off1 i)]
  rw [show View.readAt (Elt F) arg6.view (Rect.unit (s := S1x512x512) (k0_off2 i) S1x128x128.size (k0_off2_inb i)).toLoadRect (harg6.unread x3) = kAt 0 (own i) x3 from read_k 0 (own i) _ _ _ _ _ (off2 i)]
  rw [show View.readAt (Elt F) arg4.view (Rect.unit (s := S1x128x512) ![0, 0, 128] S1x128x128.size inb_S1x128x512_S1x128x128_0_0_128).toLoadRect (harg4.unread x1) = qAt 1 x1 from read_q 1 _ _ _ _ _ rfl]
  rw [show View.readAt (Elt F) arg3.view (Rect.unit (s := S8) ![2] S1.size inb_S8_S1_2).toLoadRect (harg3.unread x0) (Shape.Idx.first (numel1_S1.symm ▸ Nat.one_pos)) = x0 (ix1 2) from read_s 2 _ _ _ _ _]
  rw [show View.readAt (Elt F) arg3.view (Rect.unit (s := S8) ![3] S1.size inb_S8_S1_3).toLoadRect (harg3.unread x0) (Shape.Idx.first (numel1_S1.symm ▸ Nat.one_pos)) = x0 (ix1 3) from read_s 3 _ _ _ _ _]
  rw [show View.readAt (Elt F) arg5.view (Rect.unit (s := S1x512x512) (k0_off3 i) S1x128x128.size (k0_off3_inb i)).toLoadRect (harg5.unread x2) = kAt 1 (prev i) x2 from read_k 1 (prev i) _ _ _ _ _ (off3 i)]
  rw [show View.readAt (Elt F) arg5.view (Rect.unit (s := S1x512x512) (k0_off4 i) S1x128x128.size (k0_off4_inb i)).toLoadRect (harg5.unread x2) = kAt 1 (own i) x2 from read_k 1 (own i) _ _ _ _ _ (off4 i)]
  rw [show View.readAt (Elt F) arg6.view (Rect.unit (s := S1x512x512) (k0_off3 i) S1x128x128.size (k0_off3_inb i)).toLoadRect (harg6.unread x3) = kAt 1 (prev i) x3 from read_k 1 (prev i) _ _ _ _ _ (off3 i)]
  rw [show View.readAt (Elt F) arg6.view (Rect.unit (s := S1x512x512) (k0_off4 i) S1x128x128.size (k0_off4_inb i)).toLoadRect (harg6.unread x3) = kAt 1 (own i) x3 from read_k 1 (own i) _ _ _ _ _ (off4 i)]
  rw [show View.readAt (Elt F) arg4.view (Rect.unit (s := S1x128x512) ![0, 0, 256] S1x128x128.size inb_S1x128x512_S1x128x128_0_0_256).toLoadRect (harg4.unread x1) = qAt 2 x1 from read_q 2 _ _ _ _ _ rfl]
  rw [show View.readAt (Elt F) arg3.view (Rect.unit (s := S8) ![4] S1.size inb_S8_S1_4).toLoadRect (harg3.unread x0) (Shape.Idx.first (numel1_S1.symm ▸ Nat.one_pos)) = x0 (ix1 4) from read_s 4 _ _ _ _ _]
  rw [show View.readAt (Elt F) arg3.view (Rect.unit (s := S8) ![5] S1.size inb_S8_S1_5).toLoadRect (harg3.unread x0) (Shape.Idx.first (numel1_S1.symm ▸ Nat.one_pos)) = x0 (ix1 5) from read_s 5 _ _ _ _ _]
  rw [show View.readAt (Elt F) arg5.view (Rect.unit (s := S1x512x512) (k0_off5 i) S1x128x128.size (k0_off5_inb i)).toLoadRect (harg5.unread x2) = kAt 2 (prev i) x2 from read_k 2 (prev i) _ _ _ _ _ (off5 i)]
  rw [show View.readAt (Elt F) arg5.view (Rect.unit (s := S1x512x512) (k0_off6 i) S1x128x128.size (k0_off6_inb i)).toLoadRect (harg5.unread x2) = kAt 2 (own i) x2 from read_k 2 (own i) _ _ _ _ _ (off6 i)]
  rw [show View.readAt (Elt F) arg6.view (Rect.unit (s := S1x512x512) (k0_off5 i) S1x128x128.size (k0_off5_inb i)).toLoadRect (harg6.unread x3) = kAt 2 (prev i) x3 from read_k 2 (prev i) _ _ _ _ _ (off5 i)]
  rw [show View.readAt (Elt F) arg6.view (Rect.unit (s := S1x512x512) (k0_off6 i) S1x128x128.size (k0_off6_inb i)).toLoadRect (harg6.unread x3) = kAt 2 (own i) x3 from read_k 2 (own i) _ _ _ _ _ (off6 i)]
  rw [show View.readAt (Elt F) arg4.view (Rect.unit (s := S1x128x512) ![0, 0, 384] S1x128x128.size inb_S1x128x512_S1x128x128_0_0_384).toLoadRect (harg4.unread x1) = qAt 3 x1 from read_q 3 _ _ _ _ _ rfl]
  rw [show View.readAt (Elt F) arg3.view (Rect.unit (s := S8) ![6] S1.size inb_S8_S1_6).toLoadRect (harg3.unread x0) (Shape.Idx.first (numel1_S1.symm ▸ Nat.one_pos)) = x0 (ix1 6) from read_s 6 _ _ _ _ _]
  rw [show View.readAt (Elt F) arg3.view (Rect.unit (s := S8) ![7] S1.size inb_S8_S1_7).toLoadRect (harg3.unread x0) (Shape.Idx.first (numel1_S1.symm ▸ Nat.one_pos)) = x0 (ix1 7) from read_s 7 _ _ _ _ _]
  rw [show View.readAt (Elt F) arg5.view (Rect.unit (s := S1x512x512) (k0_off7 i) S1x128x128.size (k0_off7_inb i)).toLoadRect (harg5.unread x2) = kAt 3 (prev i) x2 from read_k 3 (prev i) _ _ _ _ _ (off7 i)]
  rw [show View.readAt (Elt F) arg5.view (Rect.unit (s := S1x512x512) (k0_off8 i) S1x128x128.size (k0_off8_inb i)).toLoadRect (harg5.unread x2) = kAt 3 (own i) x2 from read_k 3 (own i) _ _ _ _ _ (off8 i)]
  rw [show View.readAt (Elt F) arg6.view (Rect.unit (s := S1x512x512) (k0_off7 i) S1x128x128.size (k0_off7_inb i)).toLoadRect (harg6.unread x3) = kAt 3 (prev i) x3 from read_k 3 (prev i) _ _ _ _ _ (off7 i)]
  rw [show View.readAt (Elt F) arg6.view (Rect.unit (s := S1x512x512) (k0_off8 i) S1x128x128.size (k0_off8_inb i)).toLoadRect (harg6.unread x3) = kAt 3 (own i) x3 from read_k 3 (own i) _ _ _ _ _ (off8 i)]

/-- What the body stores of the log-sum-exps: one table, two columns for each pair of heads. -/
theorem pieces5 : (kernelRun0_A c i arg3 harg3 arg4 harg4 arg5 harg5 arg6 harg6 arg7 harg7 arg8 harg8 x0 x1 x2 x3).2.1 =
    [⟨Rect.unit ![0, 0, 0] ![1, 128, 128] inb_S1x128x128_S1x128x128_0_0_0, shapeCast S1x128x128 (putPair 6#32 7#32 (lseRows i (qAt 3 x1) (x0 (ix1 6)) (x0 (ix1 7)) (kAt 3 (prev i) x2) (kAt 3 (own i) x2)) (putPair 4#32 5#32 (lseRows i (qAt 2 x1) (x0 (ix1 4)) (x0 (ix1 5)) (kAt 2 (prev i) x2) (kAt 2 (own i) x2)) (putPair 2#32 3#32 (lseRows i (qAt 1 x1) (x0 (ix1 2)) (x0 (ix1 3)) (kAt 1 (prev i) x2) (kAt 1 (own i) x2)) (putPair 0#32 1#32 (lseRows i (qAt 0 x1) (x0 (ix1 0)) (x0 (ix1 1)) (kAt 0 (prev i) x2) (kAt 0 (own i) x2)) (k0_pay7 (F := F)))))) shapeCasts_S128x128_S1x128x128⟩] := by
  have e : (kernelRun0_A c i arg3 harg3 arg4 harg4 arg5 harg5 arg6 harg6 arg7 harg7 arg8 harg8 x0 x1 x2 x3).2.1 =
    [⟨Rect.unit ![0, 0, 0] ![1, 128, 128] inb_S1x128x128_S1x128x128_0_0_0, shapeCast S1x128x128 (putPair 6#32 7#32 (lseRows i (View.readAt (Elt F) arg4.view (Rect.unit (s := S1x128x512) ![0, 0, 384] S1x128x128.size inb_S1x128x512_S1x128x128_0_0_384).toLoadRect (harg4.unread x1)) (View.readAt (Elt F) arg3.view (Rect.unit (s := S8) ![6] S1.size inb_S8_S1_6).toLoadRect (harg3.unread x0) (Shape.Idx.first (numel1_S1.symm ▸ Nat.one_pos))) (View.readAt (Elt F) arg3.view (Rect.unit (s := S8) ![7] S1.size inb_S8_S1_7).toLoadRect (harg3.unread x0) (Shape.Idx.first (numel1_S1.symm ▸ Nat.one_pos))) (View.readAt (Elt F) arg5.view (Rect.unit (s := S1x512x512) (k0_off7 i) S1x128x128.size (k0_off7_inb i)).toLoadRect (harg5.unread x2)) (View.readAt (Elt F) arg5.view (Rect.unit (s := S1x512x512) (k0_off8 i) S1x128x128.size (k0_off8_inb i)).toLoadRect (harg5.unread x2))) (putPair 4#32 5#32 (lseRows i (View.readAt (Elt F) arg4.view (Rect.unit (s := S1x128x512) ![0, 0, 256] S1x128x128.size inb_S1x128x512_S1x128x128_0_0_256).toLoadRect (harg4.unread x1)) (View.readAt (Elt F) arg3.view (Rect.unit (s := S8) ![4] S1.size inb_S8_S1_4).toLoadRect (harg3.unread x0) (Shape.Idx.first (numel1_S1.symm ▸ Nat.one_pos))) (View.readAt (Elt F) arg3.view (Rect.unit (s := S8) ![5] S1.size inb_S8_S1_5).toLoadRect (harg3.unread x0) (Shape.Idx.first (numel1_S1.symm ▸ Nat.one_pos))) (View.readAt (Elt F) arg5.view (Rect.unit (s := S1x512x512) (k0_off5 i) S1x128x128.size (k0_off5_inb i)).toLoadRect (harg5.unread x2)) (View.readAt (Elt F) arg5.view (Rect.unit (s := S1x512x512) (k0_off6 i) S1x128x128.size (k0_off6_inb i)).toLoadRect (harg5.unread x2))) (putPair 2#32 3#32 (lseRows i (View.readAt (Elt F) arg4.view (Rect.unit (s := S1x128x512) ![0, 0, 128] S1x128x128.size inb_S1x128x512_S1x128x128_0_0_128).toLoadRect (harg4.unread x1)) (View.readAt (Elt F) arg3.view (Rect.unit (s := S8) ![2] S1.size inb_S8_S1_2).toLoadRect (harg3.unread x0) (Shape.Idx.first (numel1_S1.symm ▸ Nat.one_pos))) (View.readAt (Elt F) arg3.view (Rect.unit (s := S8) ![3] S1.size inb_S8_S1_3).toLoadRect (harg3.unread x0) (Shape.Idx.first (numel1_S1.symm ▸ Nat.one_pos))) (View.readAt (Elt F) arg5.view (Rect.unit (s := S1x512x512) (k0_off3 i) S1x128x128.size (k0_off3_inb i)).toLoadRect (harg5.unread x2)) (View.readAt (Elt F) arg5.view (Rect.unit (s := S1x512x512) (k0_off4 i) S1x128x128.size (k0_off4_inb i)).toLoadRect (harg5.unread x2))) (putPair 0#32 1#32 (lseRows i (View.readAt (Elt F) arg4.view (Rect.unit (s := S1x128x512) ![0, 0, 0] S1x128x128.size inb_S1x128x512_S1x128x128_0_0_0).toLoadRect (harg4.unread x1)) (View.readAt (Elt F) arg3.view (Rect.unit (s := S8) ![0] S1.size inb_S8_S1_0).toLoadRect (harg3.unread x0) (Shape.Idx.first (numel1_S1.symm ▸ Nat.one_pos))) (View.readAt (Elt F) arg3.view (Rect.unit (s := S8) ![1] S1.size inb_S8_S1_1).toLoadRect (harg3.unread x0) (Shape.Idx.first (numel1_S1.symm ▸ Nat.one_pos))) (View.readAt (Elt F) arg5.view (Rect.unit (s := S1x512x512) (k0_off1 i) S1x128x128.size (k0_off1_inb i)).toLoadRect (harg5.unread x2)) (View.readAt (Elt F) arg5.view (Rect.unit (s := S1x512x512) (k0_off2 i) S1x128x128.size (k0_off2_inb i)).toLoadRect (harg5.unread x2))) (k0_pay7 (F := F)))))) shapeCasts_S128x128_S1x128x128⟩] := rfl
  rw [e]
  rw [show View.readAt (Elt F) arg4.view (Rect.unit (s := S1x128x512) ![0, 0, 0] S1x128x128.size inb_S1x128x512_S1x128x128_0_0_0).toLoadRect (harg4.unread x1) = qAt 0 x1 from read_q 0 _ _ _ _ _ rfl]
  rw [show View.readAt (Elt F) arg3.view (Rect.unit (s := S8) ![0] S1.size inb_S8_S1_0).toLoadRect (harg3.unread x0) (Shape.Idx.first (numel1_S1.symm ▸ Nat.one_pos)) = x0 (ix1 0) from read_s 0 _ _ _ _ _]
  rw [show View.readAt (Elt F) arg3.view (Rect.unit (s := S8) ![1] S1.size inb_S8_S1_1).toLoadRect (harg3.unread x0) (Shape.Idx.first (numel1_S1.symm ▸ Nat.one_pos)) = x0 (ix1 1) from read_s 1 _ _ _ _ _]
  rw [show View.readAt (Elt F) arg5.view (Rect.unit (s := S1x512x512) (k0_off1 i) S1x128x128.size (k0_off1_inb i)).toLoadRect (harg5.unread x2) = kAt 0 (prev i) x2 from read_k 0 (prev i) _ _ _ _ _ (off1 i)]
  rw [show View.readAt (Elt F) arg5.view (Rect.unit (s := S1x512x512) (k0_off2 i) S1x128x128.size (k0_off2_inb i)).toLoadRect (harg5.unread x2) = kAt 0 (own i) x2 from read_k 0 (own i) _ _ _ _ _ (off2 i)]
  rw [show View.readAt (Elt F) arg4.view (Rect.unit (s := S1x128x512) ![0, 0, 128] S1x128x128.size inb_S1x128x512_S1x128x128_0_0_128).toLoadRect (harg4.unread x1) = qAt 1 x1 from read_q 1 _ _ _ _ _ rfl]
  rw [show View.readAt (Elt F) arg3.view (Rect.unit (s := S8) ![2] S1.size inb_S8_S1_2).toLoadRect (harg3.unread x0) (Shape.Idx.first (numel1_S1.symm ▸ Nat.one_pos)) = x0 (ix1 2) from read_s 2 _ _ _ _ _]
  rw [show View.readAt (Elt F) arg3.view (Rect.unit (s := S8) ![3] S1.size inb_S8_S1_3).toLoadRect (harg3.unread x0) (Shape.Idx.first (numel1_S1.symm ▸ Nat.one_pos)) = x0 (ix1 3) from read_s 3 _ _ _ _ _]
  rw [show View.readAt (Elt F) arg5.view (Rect.unit (s := S1x512x512) (k0_off3 i) S1x128x128.size (k0_off3_inb i)).toLoadRect (harg5.unread x2) = kAt 1 (prev i) x2 from read_k 1 (prev i) _ _ _ _ _ (off3 i)]
  rw [show View.readAt (Elt F) arg5.view (Rect.unit (s := S1x512x512) (k0_off4 i) S1x128x128.size (k0_off4_inb i)).toLoadRect (harg5.unread x2) = kAt 1 (own i) x2 from read_k 1 (own i) _ _ _ _ _ (off4 i)]
  rw [show View.readAt (Elt F) arg4.view (Rect.unit (s := S1x128x512) ![0, 0, 256] S1x128x128.size inb_S1x128x512_S1x128x128_0_0_256).toLoadRect (harg4.unread x1) = qAt 2 x1 from read_q 2 _ _ _ _ _ rfl]
  rw [show View.readAt (Elt F) arg3.view (Rect.unit (s := S8) ![4] S1.size inb_S8_S1_4).toLoadRect (harg3.unread x0) (Shape.Idx.first (numel1_S1.symm ▸ Nat.one_pos)) = x0 (ix1 4) from read_s 4 _ _ _ _ _]
  rw [show View.readAt (Elt F) arg3.view (Rect.unit (s := S8) ![5] S1.size inb_S8_S1_5).toLoadRect (harg3.unread x0) (Shape.Idx.first (numel1_S1.symm ▸ Nat.one_pos)) = x0 (ix1 5) from read_s 5 _ _ _ _ _]
  rw [show View.readAt (Elt F) arg5.view (Rect.unit (s := S1x512x512) (k0_off5 i) S1x128x128.size (k0_off5_inb i)).toLoadRect (harg5.unread x2) = kAt 2 (prev i) x2 from read_k 2 (prev i) _ _ _ _ _ (off5 i)]
  rw [show View.readAt (Elt F) arg5.view (Rect.unit (s := S1x512x512) (k0_off6 i) S1x128x128.size (k0_off6_inb i)).toLoadRect (harg5.unread x2) = kAt 2 (own i) x2 from read_k 2 (own i) _ _ _ _ _ (off6 i)]
  rw [show View.readAt (Elt F) arg4.view (Rect.unit (s := S1x128x512) ![0, 0, 384] S1x128x128.size inb_S1x128x512_S1x128x128_0_0_384).toLoadRect (harg4.unread x1) = qAt 3 x1 from read_q 3 _ _ _ _ _ rfl]
  rw [show View.readAt (Elt F) arg3.view (Rect.unit (s := S8) ![6] S1.size inb_S8_S1_6).toLoadRect (harg3.unread x0) (Shape.Idx.first (numel1_S1.symm ▸ Nat.one_pos)) = x0 (ix1 6) from read_s 6 _ _ _ _ _]
  rw [show View.readAt (Elt F) arg3.view (Rect.unit (s := S8) ![7] S1.size inb_S8_S1_7).toLoadRect (harg3.unread x0) (Shape.Idx.first (numel1_S1.symm ▸ Nat.one_pos)) = x0 (ix1 7) from read_s 7 _ _ _ _ _]
  rw [show View.readAt (Elt F) arg5.view (Rect.unit (s := S1x512x512) (k0_off7 i) S1x128x128.size (k0_off7_inb i)).toLoadRect (harg5.unread x2) = kAt 3 (prev i) x2 from read_k 3 (prev i) _ _ _ _ _ (off7 i)]
  rw [show View.readAt (Elt F) arg5.view (Rect.unit (s := S1x512x512) (k0_off8 i) S1x128x128.size (k0_off8_inb i)).toLoadRect (harg5.unread x2) = kAt 3 (own i) x2 from read_k 3 (own i) _ _ _ _ _ (off8 i)]

end Run

end Cert.Attend
-- ==== Proof.Attend.Core.lean ====
module

public import Idealize.ShloMosaic.PureOps.Ideal
public import Mathlib.Analysis.SpecialFunctions.Pow.Real

/-! The mathematics of one row of attention, over the extended reals. One computation takes the scores in base two and over
    more places than there are scores (the rest hold minus infinity), and divides at the end; the other takes the scores
    themselves, with the exponential, and divides each weight. They agree when the values are real numbers. -/

@[expose] public section

noncomputable section

namespace Cert.Attend

open Idealize.ShloMosaic

/-- What turns a score into one in base two. -/
def L : ℝ := (Real.log 2)⁻¹

theorem L_pos : 0 < L := inv_pos.2 (Real.log_pos (by norm_num))

section Row

variable {T N : Type} [Fintype T] [Fintype N]

/-- The greatest of the scores. -/
def most (r : N → EReal) : EReal := Finset.univ.sup r

/-- The weights before they are divided, with base two. -/
def pow2 (H : T → EReal) (t : T) : EReal := Ideal.exp2 (H t - most H)
/-- The weights before they are divided, with the exponential. -/
def pow (r : N → EReal) (n : N) : EReal := Ideal.exp (r n - most r)

theorem exp2_scaled (y : ℝ) : Ideal.exp2 ((L * y : ℝ) : EReal) = ((Real.exp y : ℝ) : EReal) := by
  rw [Ideal.exp2_coe]
  congr 1
  show (2 : ℝ) ^ (L * y) = Real.exp y
  rw [Real.rpow_def_of_pos (by norm_num), ← mul_assoc, L, mul_inv_cancel₀ (Real.log_pos (by norm_num)).ne', one_mul]

variable (H V : T → EReal) (φ : N → T) (r v : N → EReal)

structure Match : Prop where
  inj : Function.Injective φ
  out : ∀ t, (∀ n, φ n ≠ t) → H t = ⊥
  score : ∀ n, H (φ n) = (L : EReal) * r n
  bot_or : ∀ n, r n = ⊥ ∨ ∃ y : ℝ, r n = y
  some_real : ∃ n, ∃ y : ℝ, r n = y

variable {H V φ r v}

theorem Match.most_real (h : Match H φ r) : ∃ M : ℝ, most r = M := by
  obtain ⟨n0, y0, h0⟩ := h.some_real
  have : Nonempty N := ⟨n0⟩
  obtain ⟨n, -, hn⟩ := Finset.exists_mem_eq_sup (Finset.univ : Finset N) Finset.univ_nonempty r
  rcases h.bot_or n with hb | ⟨y, hy⟩
  · exfalso
    have : r n0 ≤ most r := Finset.le_sup (f := r) (Finset.mem_univ n0)
    rw [most, hn, hb, h0, le_bot_iff] at this
    exact EReal.coe_ne_bot _ this
  · exact ⟨y, hn.trans hy⟩

theorem Match.most_eq (h : Match H φ r) : most H = (L : EReal) * most r := by
  have hL : (0 : EReal) ≤ (L : EReal) := by exact_mod_cast L_pos.le
  apply le_antisymm
  · refine Finset.sup_le fun t _ => ?_
    by_cases ht : ∃ n, φ n = t
    · obtain ⟨n, rfl⟩ := ht
      rw [h.score]
      exact mul_le_mul_of_nonneg_left (Finset.le_sup (f := r) (Finset.mem_univ n)) hL
    · rw [h.out t (fun n hn => ht ⟨n, hn⟩)]; exact bot_le
  · obtain ⟨n0, -⟩ := h.some_real
    have : Nonempty N := ⟨n0⟩
    obtain ⟨n, -, hn⟩ := Finset.exists_mem_eq_sup (Finset.univ : Finset N) Finset.univ_nonempty r
    rw [most, hn, ← h.score]
    exact Finset.le_sup (f := H) (Finset.mem_univ (φ n))

/-- The weight as a real number. -/
def weight (r : N → EReal) (M : ℝ) (n : N) : ℝ := if r n = ⊥ then 0 else Real.exp ((r n).toReal - M)

theorem Match.pow_eq (h : Match H φ r) {M : ℝ} (hM : most r = M) (n : N) : pow r n = (weight r M n : EReal) := by
  rw [pow, hM, weight]
  rcases h.bot_or n with hb | ⟨y, hy⟩
  · rw [hb, if_pos rfl, EReal.bot_sub]; rfl
  · rw [hy, if_neg (EReal.coe_ne_bot y), EReal.toReal_coe, ← EReal.coe_sub]; rfl

theorem Match.pow2_eq (h : Match H φ r) {M : ℝ} (hM : most r = M) (n : N) : pow2 H (φ n) = (weight r M n : EReal) := by
  rw [pow2, h.most_eq, h.score, hM, weight]
  rcases h.bot_or n with hb | ⟨y, hy⟩
  · rw [hb, if_pos rfl, EReal.coe_mul_bot_of_pos L_pos, EReal.bot_sub]; rfl
  · rw [hy, if_neg (EReal.coe_ne_bot y), EReal.toReal_coe, ← EReal.coe_mul, ← EReal.coe_mul, ← EReal.coe_sub, ← mul_sub, exp2_scaled]

theorem Match.pow2_out (h : Match H φ r) {M : ℝ} (hM : most r = M) (t : T) (ht : ∀ n, φ n ≠ t) : pow2 H t = 0 := by
  rw [pow2, h.out t ht, EReal.bot_sub]; rfl

theorem Match.sum_eq (h : Match H φ r) (f : T → EReal) (hf : ∀ t, (∀ n, φ n ≠ t) → f t = 0) : ∑ t, f t = ∑ n, f (φ n) := by
  classical
  rw [← Finset.sum_image (s := Finset.univ) (g := φ) (f := f) (fun a _ b _ e => h.inj e)]
  refine (Finset.sum_subset (Finset.subset_univ _) fun t _ ht => hf t fun n hn => ht ?_).symm
  exact Finset.mem_image.2 ⟨n, Finset.mem_univ n, hn⟩

theorem coe_sum (f : N → ℝ) : ∑ n, (f n : EReal) = ((∑ n, f n : ℝ) : EReal) := by
  classical
  induction (Finset.univ : Finset N) using Finset.induction_on with
  | empty => simp
  | insert a s ha ih => rw [Finset.sum_insert ha, Finset.sum_insert ha, ih, EReal.coe_add]

theorem Match.den_pos (h : Match H φ r) (M : ℝ) : 0 < ∑ n, weight r M n := by
  obtain ⟨n0, y0, h0⟩ := h.some_real
  refine Finset.sum_pos' (fun n _ => ?_) ⟨n0, Finset.mem_univ _, ?_⟩
  · unfold weight; split
    · exact le_rfl
    · exact (Real.exp_pos _).le
  · rw [weight, h0, if_neg (EReal.coe_ne_bot y0)]; exact Real.exp_pos _

theorem Match.den_eq (h : Match H φ r) {M : ℝ} (hM : most r = M) : ∑ t, pow2 H t = ((∑ n, weight r M n : ℝ) : EReal) := by
  rw [h.sum_eq (pow2 H) (fun t ht => h.pow2_out hM t ht), ← coe_sum]
  exact Finset.sum_congr rfl fun n _ => h.pow2_eq hM n

theorem Match.den_eq' (h : Match H φ r) {M : ℝ} (hM : most r = M) : ∑ n, pow r n = ((∑ n, weight r M n : ℝ) : EReal) := by
  rw [← coe_sum]
  exact Finset.sum_congr rfl fun n _ => h.pow_eq hM n

theorem div_coe (x y : ℝ) (hy : 0 < y) : Ideal.div (x : EReal) (y : EReal) = ((x / y : ℝ) : EReal) := by
  rw [Ideal.div, if_neg (by exact_mod_cast hy.ne'), div_eq_mul_inv, EReal.coe_mul, EReal.coe_inv]

/-- The two ways to the row's attention agree. -/
theorem Match.attend (h : Match H φ r) (hV : ∀ n, r n ≠ ⊥ → V (φ n) = v n) (hv : ∀ n, ∃ y : ℝ, v n = y) :
    Ideal.div (∑ t, pow2 H t * V t) (∑ t, pow2 H t) = ∑ n, Ideal.div (pow r n) (∑ k, pow r k) * v n := by
  obtain ⟨M, hM⟩ := h.most_real
  choose w hw using hv
  have hD := h.den_pos M
  rw [h.den_eq hM, h.den_eq' hM, h.sum_eq _ (fun t ht => by rw [h.pow2_out hM t ht, zero_mul])]
  have e1 : ∑ n, pow2 H (φ n) * V (φ n) = ((∑ n, weight r M n * w n : ℝ) : EReal) := by
    rw [← coe_sum]
    refine Finset.sum_congr rfl fun n _ => ?_
    rw [h.pow2_eq hM, EReal.coe_mul]
    by_cases hn : r n = ⊥
    · rw [weight, if_pos hn, EReal.coe_zero, zero_mul, zero_mul]
    · rw [hV n hn, hw]
  rw [e1, div_coe _ _ hD, Finset.sum_div, ← coe_sum]
  refine Finset.sum_congr rfl fun n _ => ?_
  rw [h.pow_eq hM, div_coe _ _ hD, hw, ← EReal.coe_mul, div_mul_eq_mul_div]

/-- The two ways to the row's log-sum-exp agree. -/
theorem Match.lse (h : Match H φ r) :
    most H + Ideal.log (∑ t, pow2 H t) * (L : EReal) = Ideal.div (most r + Ideal.log (∑ n, pow r n)) ((Real.log 2 : ℝ) : EReal) := by
  obtain ⟨M, hM⟩ := h.most_real
  have hD := h.den_pos M
  rw [h.den_eq hM, h.den_eq' hM, h.most_eq, hM, Ideal.log_coe, if_neg (not_le.2 hD), ← EReal.coe_add, div_coe _ _ (Real.log_pos (by norm_num)),
    ← EReal.coe_mul, ← EReal.coe_mul, ← EReal.coe_add, L, div_eq_mul_inv]
  congr 1; ring

end Row

end Cert.Attend
-- ==== Proof.Attend.Rows.lean ====
module

public import proofs.«01_k».proof.Proof.Attend.Pair
public import proofs.«01_k».proof.Proof.Attend.Core
public import Idealize.ShloMosaic.Lib.MatmulPlain
public import Idealize.ShloMosaic.Lib.ValueLayoutCasts
public import Idealize.ShloMosaic.Lib.Pipeline.ValueKit.Tiles
public import Idealize.ShloMosaic.PureOps.Ideal.Laws

/-! What one pair of heads computes, element by element, over the extended reals. A row of the pair is `row h a`: position `a`
    of the tile for the pair's head `h`, whose lanes are `lane h e`. -/

@[expose] public section

set_option maxRecDepth 16384

noncomputable section

namespace Cert.Attend

open Cert.Kernel2Ideal Cert.Kernel2Ideal.Gen Idealize.ShloMosaic Idealize.ShloMosaic.ValueIdx

def row (h : Fin 2) (a : Fin 128) : Fin 256 := ⟨128 * h.val + a.val, by omega⟩
def lane (h : Fin 2) (e : Fin 64) : Fin 128 := ⟨64 * h.val + e.val, by omega⟩

/-- One over the square root of a head's width, times what turns a score into one in base two. -/
def scale2 : EReal := ((1 / 8 * (Real.log 2)⁻¹ : ℝ) : EReal)
/-- The distance between neighbouring positions of a residue, times what turns a score into one in base two. -/
def step2 : EReal := ((4 * (Real.log 2)⁻¹ : ℝ) : EReal)

theorem scale_named : Named.named (F := Ideal) κ "scale" (φ := .f32) 0x3E38AA3B#32 = scale2 := rfl
theorem slope_named : Named.named (F := Ideal) κ "slope" (φ := .f32) 0x40B8AA3B#32 = step2 := rfl
theorem mask_named : Named.named (F := Ideal) κ "mask" (φ := .f32) 0xF149F2CA#32 = (⊥ : EReal) := rfl
theorem log2e_named : Named.named (F := Ideal) κ "log2e" (φ := .f32) 0x3FB8AA3B#32 = (L : EReal) := rfl

/-! ### Integer words -/

theorem diff_toInt (c a : Fin 128) : (BitVec.ofNat 32 c.val - BitVec.ofNat 32 a.val).toInt = (c.val : Int) - a.val := by
  rw [BitVec.toInt_sub, BitVec.toInt_eq_toNat_bmod, BitVec.toInt_eq_toNat_bmod, BitVec.toNat_ofNat, BitVec.toNat_ofNat]
  have := c.isLt; have := a.isLt
  simp only [Int.bmod]; omega

theorem sel_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

/-- Two tiles stacked, read at a row. -/
theorem stack_apply {α : Type} {n : Nat} (x y : (⟨2, ![128, n]⟩ : Shape).Idx → α)
    (hc : Shape.Concatenates [(⟨2, ![128, n]⟩ : Shape), ⟨2, ![128, n]⟩] ⟨2, ![256, n]⟩ 0) (h : Fin 2) (a : Fin 128) (c : Fin n) :
    concatenate (⟨2, ![256, n]⟩ : Shape) 0 [⟨(⟨2, ![128, n]⟩ : Shape), x⟩, ⟨(⟨2, ![128, n]⟩ : Shape), y⟩] hc (ix2 (row h a) c)
      = if h = 0 then x (ix2 a c) else y (ix2 a c) := by
  match h with
  | 0 =>
    exact concatenate_pair_apply_left (s₁ := ⟨2, ![128, n]⟩) (s₂ := ⟨2, ![128, n]⟩) (0 : Fin 2) x y hc (ix2 (row 0 a) c) rfl
      (ix2 a c) (fun b => by match b with | ⟨0, _⟩ => show a.val = 128 * 0 + a.val; omega | ⟨1, _⟩ => rfl)
  | 1 =>
    exact concatenate_pair_apply_right (s₁ := ⟨2, ![128, n]⟩) (s₂ := ⟨2, ![128, n]⟩) (0 : Fin 2) x y hc (ix2 (row 1 a) c) rfl rfl
      (ix2 a c) (fun b hb => by match b with | ⟨0, _⟩ => exact absurd rfl hb | ⟨1, _⟩ => rfl)
      (by show a.val + 128 = 128 * 1 + a.val; omega)

theorem rel_apply (a c : Fin 128) : k0_pay2 (ix2 a c) = BitVec.ofNat 32 c.val - BitVec.ofNat 32 a.val := by
  show iota .tc S128x128 32 [1] iota_S128x128_d1_w32 (ix2 a c) - iota .tc S128x128 32 [0] iota_S128x128_d0_w32 (ix2 a c) = _
  rw [iota_single_apply, iota_single_apply]

theorem rel2_apply (h : Fin 2) (a c : Fin 128) : k0_pay4 (ix2 (row h a) c) = BitVec.ofNat 32 c.val - BitVec.ofNat 32 a.val := by
  refine (stack_apply k0_pay2 k0_pay2 concatenates_S128x128_S128x128_S256x128_d0 h a c).trans ?_
  rw [ite_self, rel_apply]

theorem visB_apply (h : Fin 2) (a c : Fin 128) : k0_pay6 (ix2 (row h a) c) = BitVec.ofBool (decide (c.val ≤ a.val)) := by
  show IntOp.cmpi .sle (k0_pay4 (ix2 (row h a) c)) 0#32 = _
  rw [rel2_apply]
  show BitVec.ofBool (BitVec.sle _ _) = _
  congr 1
  rw [BitVec.sle, diff_toInt]
  congr 1
  simp only [BitVec.toInt_zero, eq_iff_iff]; omega

theorem visA_apply (i : grid0.Coords) (h : Fin 2) (a c : Fin 128) :
    k0_pay5 i (ix2 (row h a) c) = BitVec.ofBool (decide (a.val ≤ c.val ∧ 1 ≤ (i 2).val)) := by
  show IntOp.andi (IntOp.cmpi .sge (k0_pay4 (ix2 (row h a) c)) 0#32) (IntOp.cmpi .sge (BitVec.ofNat 32 (i 2).val) 1#32) = _
  rw [rel2_apply]
  have hi : IntOp.cmpi .sge (BitVec.ofNat 32 (i 2).val) 1#32 = BitVec.ofBool (decide (1 ≤ (i 2).val)) := by
    have : ∀ n : Fin 4, IntOp.cmpi .sge (BitVec.ofNat 32 n.val) 1#32 = BitVec.ofBool (decide (1 ≤ n.val)) := by decide
    exact this (i 2)
  have hv : IntOp.cmpi .sge (BitVec.ofNat 32 c.val - BitVec.ofNat 32 a.val) 0#32 = BitVec.ofBool (decide (a.val ≤ c.val)) := by
    show BitVec.ofBool (BitVec.sle _ _) = _
    congr 1
    rw [BitVec.sle, diff_toInt]
    congr 1
    simp only [BitVec.toInt_zero, eq_iff_iff]; omega
  rw [hi, hv, Bool.decide_and]
  cases decide (a.val ≤ c.val) <;> cases decide (1 ≤ (i 2).val) <;> rfl

/-! ### The parts of a score -/

theorem drop_apply {α : Type} (x : S1x128x128.Idx → α) (a l : Fin 128) :
    shapeCast S128x128 x shapeCasts_S1x128x128_S128x128 (ix2 a l) = x (ix3 0 a l) :=
  shapeCast_apply x _ _ _ (by
    rw [Shape.rowMajor_val_two, Shape.rowMajor_val_three]
    show (0 * 128 + a.val) * 128 + l.val = a.val * 128 + l.val
    omega)

theorem lanes_lt (a l : Fin 128) :
    cmpi .slt (iota .tc S128x128 32 [1] iota_S128x128_d1_w32) (broadcast S128x128 64#32) (ix2 a l) = BitVec.ofBool (decide (l.val < 64)) := by
  show IntOp.cmpi .slt (iota .tc S128x128 32 [1] iota_S128x128_d1_w32 (ix2 a l)) 64#32 = _
  rw [iota_single_apply]
  have : ∀ l : Fin 128, IntOp.cmpi .slt (BitVec.ofNat 32 l.val) 64#32 = BitVec.ofBool (decide (l.val < 64)) := by decide
  exact this l

theorem q2_apply (qb : Vec Ideal S1x128x128 .bf16) (h : Fin 2) (a l : Fin 128) :
    k0_pay8 (F := Ideal) qb (ix2 (row h a) l) = if (l.val < 64 ↔ h = 0) then qb (ix3 0 a l) * scale2 else 0 := by
  have hq : mulf (extf .f32 (shapeCast S128x128 qb shapeCasts_S1x128x128_S128x128 : FVec Ideal S128x128 .bf16) bitsLt_bf16_f32)
      (broadcast S128x128 (Named.named (F := Ideal) κ "scale" 0x3E38AA3B#32)) (ix2 a l) = qb (ix3 0 a l) * scale2 := by
    show shapeCast S128x128 qb shapeCasts_S1x128x128_S128x128 (ix2 a l) * scale2 = _
    rw [drop_apply]
  refine (stack_apply (n := 128) _ _ concatenates_S128x128_S128x128_S256x128_d0 h a l).trans ?_
  show (if h = 0 then Scalar.select _ _ (Ideal.ofBits .f32 0x00000000#32) else Scalar.select _ (Ideal.ofBits .f32 0x00000000#32) _) = _
  rw [lanes_lt, hq, Ideal.ofBits_zero_f32, sel_ofBool, sel_ofBool]
  by_cases hh : h = 0 <;> by_cases hl : l.val < 64 <;> simp [hh, hl]

/-- A sum over the lanes of what is zero off the head's. -/
theorem sum_lanes (h : Fin 2) (f : Fin 128 → EReal) (hf : ∀ l, ¬ (l.val < 64 ↔ h = 0) → f l = 0) : ∑ l, f l = ∑ e, f (lane h e) := by
  have e : ∑ l : Fin 128, f l = ∑ e : Fin 64, f (lane 0 e) + ∑ e : Fin 64, f (lane 1 e) := by
    refine (Fin.sum_univ_add (a := 64) (b := 64) f).trans ?_
    congr 1
  rw [e]
  match h with
  | 0 => rw [Finset.sum_eq_zero (s := Finset.univ) (f := fun e => f (lane 1 e)), add_zero]
         intro e _; apply hf; show ¬ (64 * 1 + e.val < 64 ↔ _); simp
  | 1 => rw [Finset.sum_eq_zero (s := Finset.univ) (f := fun e => f (lane 0 e)), zero_add]
         intro e _; apply hf; have := e.isLt; show ¬ (64 * 0 + e.val < 64 ↔ _); simp

/-- A query of the pair with a key. -/
def dot2 (qb kb : Vec Ideal S1x128x128 .bf16) (h : Fin 2) (a c : Fin 128) : EReal :=
  ∑ e : Fin 64, qb (ix3 0 a (lane h e)) * scale2 * kb (ix3 0 c (lane h e))

theorem score_dot (qb kb : Vec Ideal S1x128x128 .bf16) (h : Fin 2) (a c : Fin 128) :
    matmul dot_S256x128_S128x128_S256x128_1_1_0_0_n_n none (k0_pay8 (F := Ideal) qb)
      (shapeCast S128x128 kb shapeCasts_S1x128x128_S128x128 : FVec Ideal S128x128 .bf16) (constant S256x128 .f32 0x00000000#32) (ix2 (row h a) c)
      = dot2 qb kb h a c := by
  refine (Ideal.matmul_transposedRhs_apply (M := 256) (K := 128) (N := 128) none _ _ _ (row h a) c).trans ?_
  show Ideal.ofBits .f32 0x00000000#32 + _ = _
  rw [Ideal.ofBits_zero_f32, zero_add, sum_lanes h]
  · refine Finset.sum_congr rfl fun e _ => ?_
    rw [q2_apply, drop_apply, if_pos]
    have := e.isLt
    match h with
    | 0 => show 64 * 0 + e.val < 64 ↔ _; simp
    | 1 => show 64 * 1 + e.val < 64 ↔ _; simp
  · intro l hl
    rw [q2_apply, if_neg hl, zero_mul]

/-- The slope of the pair's head `h`, in base two and per position of a residue. -/
def slope2 (sa sb : EReal) (h : Fin 2) : EReal := (if h = 0 then sa else sb) * step2

theorem bias_apply (sa sb : EReal) (h : Fin 2) (a c : Fin 128) :
    k0_pay13 (F := Ideal) (k0_pay11 (F := Ideal) sa) (k0_pay12 (F := Ideal) sb) (ix2 (row h a) c)
      = slope2 sa sb h * (((c.val : ℝ) - (a.val : ℝ) : ℝ) : EReal) := by
  refine (stack_apply _ _ concatenates_S128x128_S128x128_S256x128_d0 h a c).trans ?_
  have hs : k0_pay3 (F := Ideal) (ix2 a c) = (((c.val : ℝ) - (a.val : ℝ) : ℝ) : EReal) := by
    show (((k0_pay2 (ix2 a c)).toInt : ℝ) : EReal) = _
    rw [rel_apply, diff_toInt]; push_cast; rfl
  show (if h = 0 then sa * step2 * k0_pay3 (F := Ideal) (ix2 a c) else sb * step2 * k0_pay3 (F := Ideal) (ix2 a c)) = _
  rw [hs, slope2]
  split <;> rfl

theorem spread_apply {α : Type} (x : S256x1.Idx → α) (r : Fin 256) (c : Fin 128) :
    broadcastTo S256x128 x broadcasts_S256x1_S256x128 (ix2 r c) = x (ix2 r 0) :=
  broadcastTo_apply x _ _ _ (fun a => by match a with | ⟨0, _⟩ => rfl | ⟨1, _⟩ => rfl)

theorem ofBits_128 : Ideal.ofBits .f32 0x43000000#32 = ((128 : ℝ) : EReal) := by
  simp [Ideal.ofBits, Ideal.ieee, -EReal.coe_mul]; norm_num

variable (i : grid0.Coords) (qb ka kb va vb : Vec Ideal S1x128x128 .bf16) (sa sb : EReal)

/-- A score against the chunk before the tile's own, in base two. -/
def rowA (h : Fin 2) (a c : Fin 128) : EReal :=
  if a.val ≤ c.val ∧ 1 ≤ (i 2).val then
    dot2 qb ka h a c + (slope2 sa sb h * (((c.val : ℝ) - (a.val : ℝ) : ℝ) : EReal) - slope2 sa sb h * ((128 : ℝ) : EReal))
  else ⊥

/-- A score against the tile's own chunk, in base two. -/
def rowB (h : Fin 2) (a c : Fin 128) : EReal :=
  if c.val ≤ a.val then dot2 qb kb h a c + slope2 sa sb h * (((c.val : ℝ) - (a.val : ℝ) : ℝ) : EReal) else ⊥

theorem scoreA_apply (h : Fin 2) (a c : Fin 128) : scoreA (F := Ideal) i qb sa sb ka (ix2 (row h a) c) = rowA i qb ka sa sb h a c := by
  show Scalar.select (k0_pay5 i (ix2 (row h a) c)) (matmul _ none _ _ _ (ix2 (row h a) c)
    + (k0_pay13 (F := Ideal) _ _ (ix2 (row h a) c) - broadcastTo S256x128 _ _ (ix2 (row h a) c))) (⊥ : EReal) = _
  rw [visA_apply, score_dot, bias_apply, spread_apply, sel_ofBool]
  have : concatenate S256x1 0 [⟨S128x1, broadcast S128x1 (Scalar.mulf (k0_pay9 (F := Ideal) sa) (Scalar.ofBits .f32 0x43000000#32))⟩,
      ⟨S128x1, broadcast S128x1 (Scalar.mulf (k0_pay10 (F := Ideal) sb) (Scalar.ofBits .f32 0x43000000#32))⟩]
      concatenates_S128x1_S128x1_S256x1_d0 (ix2 (row h a) 0) = slope2 sa sb h * ((128 : ℝ) : EReal) := by
    refine (stack_apply (n := 1) _ _ concatenates_S128x1_S128x1_S256x1_d0 h a 0).trans ?_
    show (if h = 0 then sa * step2 * Ideal.ofBits .f32 0x43000000#32 else sb * step2 * Ideal.ofBits .f32 0x43000000#32) = _
    rw [ofBits_128, slope2]
    split <;> rfl
  rw [this, rowA]

theorem scoreB_apply (h : Fin 2) (a c : Fin 128) : scoreB (F := Ideal) qb sa sb kb (ix2 (row h a) c) = rowB qb kb sa sb h a c := by
  show Scalar.select (k0_pay6 (ix2 (row h a) c)) (matmul _ none _ _ _ (ix2 (row h a) c)
    + k0_pay13 (F := Ideal) _ _ (ix2 (row h a) c)) (⊥ : EReal) = _
  rw [visB_apply, score_dot, bias_apply, sel_ofBool, rowB]

/-- The scores of a row: those against the chunk before, and those against the tile's own. -/
def rowScore (h : Fin 2) (a : Fin 128) : Fin 128 ⊕ Fin 128 → EReal :=
  Sum.elim (rowA i qb ka sa sb h a) (rowB qb kb sa sb h a)

theorem column_apply {α : Type} (x : S256.Idx → α) (r : Fin 256) (u : Fin 1) :
    shapeCast S256x1 x shapeCasts_S256_S256x1 (ix2 r u) = x (ix1 r) :=
  shapeCast_a_a1_apply x _ r u

theorem rowSum_apply (x : FVec Ideal S256x128 .f32) (r : Fin 256) :
    multiReduction .add [1] S256 x 0x00000000#32 reduces_S256x128_S256 (.inl rfl) rfl (ix1 r) = ∑ c : Fin 128, x (ix2 r c) := by
  refine (Ideal.multiReduction_add_single x _ _ _ _ (ix1 r)).trans (Finset.sum_congr rfl fun k _ => congrArg x ?_)
  funext a; match a with | ⟨0, _⟩ => rfl | ⟨1, _⟩ => rfl

theorem rowMax_apply (x : FVec Ideal S256x128 .f32) (r : Fin 256) :
    multiReduction .maximumf [1] S256 x 0xFF800000#32 reduces_S256x128_S256 (.inl rfl) rfl (ix1 r)
      = Finset.univ.sup (fun c : Fin 128 => (x (ix2 r c) : EReal)) := by
  refine (Ideal.multiReduction_maximumf_single x _ _ _ _ (ix1 r)).trans ?_
  have hb : FloatOps.ofBits (F := Ideal) .f32 0xFF800000#32 = (⊥ : EReal) := by
    show Ideal.ofBits .f32 0xFF800000#32 = _
    simp [Ideal.ofBits, Ideal.ieee]
  rw [hb]
  refine (congrArg (Finset.fold max (⊥ : EReal) · Finset.univ) (funext fun k => congrArg x ?_) :
    _ = Finset.fold max (⊥ : EReal) (fun c : Fin 128 => (x (ix2 r c) : EReal)) Finset.univ)
  funext a; match a with | ⟨0, _⟩ => rfl | ⟨1, _⟩ => rfl

theorem top_apply (h : Fin 2) (a : Fin 128) (u : Fin 1) :
    top (F := Ideal) i qb sa sb ka kb (ix2 (row h a) u) = most (rowScore i qb ka kb sa sb h a) := by
  rw [top_eq, column_apply, rowMax_apply]
  have e : ∀ c : Fin 128, (maximumf (scoreA (F := Ideal) i qb sa sb ka) (scoreB (F := Ideal) qb sa sb kb) (ix2 (row h a) c) : EReal)
      = max (rowA i qb ka sa sb h a c) (rowB qb kb sa sb h a c) := fun c => by
    rw [← scoreA_apply, ← scoreB_apply]; rfl
  simp only [e]
  refine (Finset.sup_sup (s := Finset.univ) (f := rowA i qb ka sa sb h a) (g := rowB qb kb sa sb h a)).trans ?_
  rw [most]
  apply le_antisymm
  · refine sup_le (Finset.sup_le fun c _ => ?_) (Finset.sup_le fun c _ => ?_)
    · exact Finset.le_sup (f := rowScore i qb ka kb sa sb h a) (Finset.mem_univ (Sum.inl c))
    · exact Finset.le_sup (f := rowScore i qb ka kb sa sb h a) (Finset.mem_univ (Sum.inr c))
  · refine Finset.sup_le fun t _ => ?_
    match t with
    | .inl c => exact le_sup_of_le_left (Finset.le_sup (f := rowA i qb ka sa sb h a) (Finset.mem_univ c))
    | .inr c => exact le_sup_of_le_right (Finset.le_sup (f := rowB qb kb sa sb h a) (Finset.mem_univ c))

theorem expA_apply (h : Fin 2) (a c : Fin 128) :
    expA (F := Ideal) i qb sa sb ka kb (ix2 (row h a) c) = pow2 (rowScore i qb ka kb sa sb h a) (Sum.inl c) := by
  unfold expA
  show Ideal.exp2 (scoreA (F := Ideal) i qb sa sb ka (ix2 (row h a) c) - broadcastTo S256x128 (top (F := Ideal) i qb sa sb ka kb) broadcasts_S256x1_S256x128 (ix2 (row h a) c)) = _
  rw [spread_apply, top_apply, scoreA_apply]; rfl

theorem expB_apply (h : Fin 2) (a c : Fin 128) :
    expB (F := Ideal) i qb sa sb ka kb (ix2 (row h a) c) = pow2 (rowScore i qb ka kb sa sb h a) (Sum.inr c) := by
  unfold expB
  show Ideal.exp2 (scoreB (F := Ideal) qb sa sb kb (ix2 (row h a) c) - broadcastTo S256x128 (top (F := Ideal) i qb sa sb ka kb) broadcasts_S256x1_S256x128 (ix2 (row h a) c)) = _
  rw [spread_apply, top_apply, scoreB_apply]; rfl

theorem den_apply (h : Fin 2) (a : Fin 128) (u : Fin 1) :
    den (F := Ideal) i qb sa sb ka kb (ix2 (row h a) u) = ∑ t, pow2 (rowScore i qb ka kb sa sb h a) t := by
  rw [den_eq, column_apply, rowSum_apply, Fintype.sum_sum_type, ← Finset.sum_add_distrib]
  refine Finset.sum_congr rfl fun c _ => ?_
  rw [← expA_apply, ← expB_apply]
  rfl

/-- The pair's log-sum-exp of a row. -/
theorem lseRows_apply (h : Fin 2) (a : Fin 128) (u : Fin 1) :
    lseRows (F := Ideal) i qb sa sb ka kb (ix2 (row h a) u)
      = most (rowScore i qb ka kb sa sb h a) + Ideal.log (∑ t, pow2 (rowScore i qb ka kb sa sb h a) t) * (L : EReal) := by
  unfold lseRows
  show top (F := Ideal) i qb sa sb ka kb (ix2 (row h a) u) + Ideal.log (den (F := Ideal) i qb sa sb ka kb (ix2 (row h a) u)) * (L : EReal) = _
  rw [top_apply, den_apply]

/-- The values of a row at a lane. -/
def rowVal (l : Fin 128) : Fin 128 ⊕ Fin 128 → EReal := Sum.elim (fun c => va (ix3 0 c l)) (fun c => vb (ix3 0 c l))

theorem weighted_apply {φ : FTy} (A : FVec Ideal S256x128 φ) (v : Vec Ideal S1x128x128 .bf16) (r : Fin 256) (l : Fin 128) :
    matmul dot_S256x128_S128x128_S256x128_1_0_0_1_n_n none A
      (shapeCast S128x128 v shapeCasts_S1x128x128_S128x128 : FVec Ideal S128x128 .bf16) (constant S256x128 .f32 0x00000000#32) (ix2 r l)
      = ∑ c, A (ix2 r c) * v (ix3 0 c l) := by
  refine (Ideal.matmul_plain_apply (M := 256) (K := 128) (N := 128) none A _ _ r l).trans ?_
  show Ideal.ofBits .f32 0x00000000#32 + _ = _
  rw [Ideal.ofBits_zero_f32, zero_add]
  exact Finset.sum_congr rfl fun c _ => by rw [drop_apply]

theorem quot_apply (h : Fin 2) (a l : Fin 128) : quot (F := Ideal) i qb sa sb ka kb va vb (ix2 (row h a) l)
    = Ideal.div (∑ t, pow2 (rowScore i qb ka kb sa sb h a) t * rowVal va vb l t) (∑ t, pow2 (rowScore i qb ka kb sa sb h a) t) := by
  unfold quot
  generalize hA : (truncf .bf16 (expA (F := Ideal) i qb sa sb ka kb) bitsLt_bf16_f32 : FVec Ideal S256x128 .bf16) = A
  generalize hB : (truncf .bf16 (expB (F := Ideal) i qb sa sb ka kb) bitsLt_bf16_f32 : FVec Ideal S256x128 .bf16) = B
  have eA : ∀ c, A (ix2 (row h a) c) = pow2 (rowScore i qb ka kb sa sb h a) (Sum.inl c) := fun c => by
    rw [← hA]; exact expA_apply i qb ka kb sa sb h a c
  have eB : ∀ c, B (ix2 (row h a) c) = pow2 (rowScore i qb ka kb sa sb h a) (Sum.inr c) := fun c => by
    rw [← hB]; exact expB_apply i qb ka kb sa sb h a c
  refine (show _ = Ideal.div (matmul dot_S256x128_S128x128_S256x128_1_0_0_1_n_n none A (shapeCast S128x128 va shapeCasts_S1x128x128_S128x128 : FVec Ideal S128x128 .bf16) (constant S256x128 .f32 0x00000000#32) (ix2 (row h a) l)
      + matmul dot_S256x128_S128x128_S256x128_1_0_0_1_n_n none B (shapeCast S128x128 vb shapeCasts_S1x128x128_S128x128 : FVec Ideal S128x128 .bf16) (constant S256x128 .f32 0x00000000#32) (ix2 (row h a) l))
      (broadcastTo S256x128 (den (F := Ideal) i qb sa sb ka kb) broadcasts_S256x1_S256x128 (ix2 (row h a) l)) from rfl).trans ?_
  rw [spread_apply, den_apply, weighted_apply, weighted_apply, Fintype.sum_sum_type (f := fun t => pow2 (rowScore i qb ka kb sa sb h a) t * rowVal va vb l t)]
  simp only [eA, eB]
  rfl

/-- What a pair of heads stores. -/
theorem outPair_apply (u : Fin 1) (a : Fin 128) (h : Fin 2) (e : Fin 64) :
    outPair (F := Ideal) i qb sa sb ka kb va vb (ix3 u a (lane h e))
      = Ideal.div (∑ t, pow2 (rowScore i qb ka kb sa sb h a) t * rowVal va vb (lane h e) t) (∑ t, pow2 (rowScore i qb ka kb sa sb h a) t) := by
  rw [← quot_apply, outPair_eq]
  generalize quot (F := Ideal) i qb sa sb ka kb va vb = Q
  refine (shapeCast_apply _ shapeCasts_S128x128_S1x128x128 (ix3 u a (lane h e)) (ix2 a (lane h e)) (by
    rw [Shape.rowMajor_val_two, Shape.rowMajor_val_three]
    show a.val * 128 + (lane h e).val = (u.val * 128 + a.val) * 128 + (lane h e).val
    omega)).trans ?_
  show Scalar.select (cmpi .slt (iota .tc S128x128 32 [1] iota_S128x128_d1_w32) (broadcast S128x128 64#32) (ix2 a (lane h e)))
    (extractStridedSlice S128x128 ![0, 0] Q slices_S256x128_o0_0_S128x128 (ix2 a (lane h e)))
    (extractStridedSlice S128x128 ![128, 0] Q slices_S256x128_o128_0_S128x128 (ix2 a (lane h e))) = _
  rw [lanes_lt, sel_ofBool,
    extractStridedSlice_apply _ Q slices_S256x128_o0_0_S128x128 (ix2 a (lane h e)) (ix2 (row 0 a) (lane h e) : S256x128.Idx)
      (fun b => by match b with | ⟨0, _⟩ => show 128 * 0 + a.val = 0 + a.val; omega | ⟨1, _⟩ => show (lane h e).val = 0 + (lane h e).val; omega),
    extractStridedSlice_apply _ Q slices_S256x128_o128_0_S128x128 (ix2 a (lane h e)) (ix2 (row 1 a) (lane h e) : S256x128.Idx)
      (fun b => by match b with | ⟨0, _⟩ => show 128 * 1 + a.val = 128 + a.val; omega | ⟨1, _⟩ => show (lane h e).val = 0 + (lane h e).val; omega)]
  have := e.isLt
  match h with
  | 0 => rw [if_pos (by show 64 * 0 + e.val < 64; omega)]
  | 1 => rw [if_neg (by show ¬ 64 * 1 + e.val < 64; omega)]

/-- The columns that a pair puts into the table. -/
theorem putPair_apply (na nb : BitVec 32) (col : FVec Ideal S256x1 .f32) (acc : FVec Ideal S128x128 .f32) (a l : Fin 128) :
    putPair (F := Ideal) na nb col acc (ix2 a l)
      = if BitVec.ofNat 32 l.val = nb then col (ix2 (row 1 a) 0) else if BitVec.ofNat 32 l.val = na then col (ix2 (row 0 a) 0) else acc (ix2 a l) := by
  have hb : ∀ (x : S128x1.Idx → EReal), broadcastTo S128x128 (shapeCast S128x1 x shapeCasts_S128x1_S128x1) broadcasts_S128x1_S128x128 (ix2 a l) = x (ix2 a 0) := fun x =>
    (broadcastTo_apply _ broadcasts_S128x1_S128x128 (ix2 a l) (ix2 a 0 : S128x1.Idx) (fun b => by match b with | ⟨0, _⟩ => rfl | ⟨1, _⟩ => rfl)).trans
      (shapeCast_apply x shapeCasts_S128x1_S128x1 (ix2 a 0 : S128x1.Idx) (ix2 a 0 : S128x1.Idx) rfl)
  have he : ∀ n : BitVec 32, cmpi .eq lanes (broadcast S128x128 n) (ix2 a l) = BitVec.ofBool (decide (BitVec.ofNat 32 l.val = n)) := fun n => by
    show IntOp.cmpi .eq (iota .tc S128x128 32 [1] iota_S128x128_d1_w32 (ix2 a l)) n = _
    rw [iota_single_apply]; rfl
  unfold putPair
  show Scalar.select (cmpi .eq lanes (broadcast S128x128 nb) (ix2 a l)) (broadcastTo S128x128 _ _ (ix2 a l))
    (Scalar.select (cmpi .eq lanes (broadcast S128x128 na) (ix2 a l)) (broadcastTo S128x128 _ _ (ix2 a l)) (acc (ix2 a l))) = _
  rw [hb, hb, he, he, sel_ofBool, sel_ofBool,
    extractStridedSlice_apply _ col slices_S256x1_o0_0_S128x1 (ix2 a 0) (ix2 (row 0 a) 0 : S256x1.Idx)
      (fun b => by match b with | ⟨0, _⟩ => show 128 * 0 + a.val = 0 + a.val; omega | ⟨1, _⟩ => rfl),
    extractStridedSlice_apply _ col slices_S256x1_o128_0_S128x1 (ix2 a 0) (ix2 (row 1 a) 0 : S256x1.Idx)
      (fun b => by match b with | ⟨0, _⟩ => show 128 * 1 + a.val = 128 + a.val; omega | ⟨1, _⟩ => rfl)]

end Cert.Attend
-- ==== Proof.Attend.Goal.lean ====
module

public import proofs.«01_k».proof.Proof.Attend.Core
public import Idealize.ShloMosaic.Lib.ValueIdx

/-! Dilated attention itself, over the extended reals: position `t` looks back over the 129 positions `t`, `t − 4`, …, `t − 512`,
    each score lowered by its head's slope times the distance. -/

@[expose] public section

noncomputable section

namespace Cert.Attend

open Idealize.ShloMosaic Idealize.ShloMosaic.ValueIdx

/-- Feature `e` of head `n` of the queries (`s = 0`), the keys (1) or the values (2). -/
def feat (s : Fin 3) (n : Fin 8) (e : Fin 64) : Fin 1536 := ⟨512 * s.val + 64 * n.val + e.val, by omega⟩
/-- The position `4 j` before `t`, the first where there is none. -/
def back (t : Fin 2048) (j : Fin 129) : Fin 2048 := ⟨t.val - 4 * j.val, by omega⟩
def slope (n : Fin 8) : ℝ := ((2 : ℝ) ^ (n.val + 1))⁻¹

variable (X : (⟨3, ![32, 2048, 1536]⟩ : Shape).Idx → EReal)

def scores (b : Fin 32) (n : Fin 8) (t : Fin 2048) (j : Fin 129) : EReal :=
  if 4 * j.val ≤ t.val then
    (∑ e : Fin 64, X (ix3 b t (feat 0 n e)) * X (ix3 b (back t j) (feat 1 n e))) * ((1 / 8 : ℝ) : EReal)
      - ((slope n : ℝ) : EReal) * ((4 * (j.val : ℝ) : ℝ) : EReal)
  else ⊥

def attend (b : Fin 32) (n : Fin 8) (t : Fin 2048) (e : Fin 64) : EReal :=
  ∑ j, Ideal.div (pow (scores X b n t) j) (∑ k, pow (scores X b n t) k) * X (ix3 b (back t j) (feat 2 n e))

/-- The logarithm, base two, of the sum of the weights. -/
def lse2 (b : Fin 32) (n : Fin 8) (t : Fin 2048) : EReal :=
  Ideal.div (most (scores X b n t) + Ideal.log (∑ k, pow (scores X b n t) k)) ((Real.log 2 : ℝ) : EReal)

end Cert.Attend
-- ==== Proof.Attend.Match.lean ====
module

public import proofs.«01_k».proof.Proof.Attend.Rows
public import proofs.«01_k».proof.Proof.Attend.Goal

/-! A tile's row is dilated attention: among the two chunks of keys a tile reads, the 129 positions a row looks back over are
    each met once, and the rest are masked. -/

@[expose] public section

set_option maxRecDepth 16384

noncomputable section

namespace Cert.Attend

open Cert.Kernel2Ideal Cert.Kernel2Ideal.Gen Idealize.ShloMosaic Idealize.ShloMosaic.ValueIdx

/-- The head of pair `hp`. -/
def head (hp : Fin 4) (h : Fin 2) : Fin 8 := ⟨2 * hp.val + h.val, by omega⟩
/-- Position `c` of chunk `j` among the positions of a residue. -/
def chunk (j : Fin 4) (c : Fin 128) : Fin 512 := ⟨128 * j.val + c.val, by omega⟩
/-- Position `m` of residue `r`, among all the positions. -/
def posn (m : Fin 512) (r : Fin 4) : Fin 2048 := ⟨4 * m.val + r.val, by omega⟩

variable (X : (⟨3, ![32, 2048, 1536]⟩ : Shape).Idx → EReal) (b : Fin 32) (r : Fin 4) (hp : Fin 4) (i : grid0.Coords)
  (qb ka kb va vb : Vec Ideal S1x128x128 .bf16) (sa sb : EReal)

/-- What a pair of heads is given holds the argument's queries, keys, values and slopes. -/
structure Holds : Prop where
  q : ∀ a h e, qb (ix3 0 a (lane h e)) = X (ix3 b (posn (chunk (own i) a) r) (feat 0 (head hp h) e))
  ka : ∀ a h e, ka (ix3 0 a (lane h e)) = X (ix3 b (posn (chunk (prev i) a) r) (feat 1 (head hp h) e))
  kb : ∀ a h e, kb (ix3 0 a (lane h e)) = X (ix3 b (posn (chunk (own i) a) r) (feat 1 (head hp h) e))
  va : ∀ a h e, va (ix3 0 a (lane h e)) = X (ix3 b (posn (chunk (prev i) a) r) (feat 2 (head hp h) e))
  vb : ∀ a h e, vb (ix3 0 a (lane h e)) = X (ix3 b (posn (chunk (own i) a) r) (feat 2 (head hp h) e))
  s : ∀ h : Fin 2, (if h = 0 then sa else sb) = ((slope (head hp h) : ℝ) : EReal)

/-- Where the two chunks hold the position `4 j` before a row's own. -/
def place (a : Fin 128) (j : Fin 129) : Fin 128 ⊕ Fin 128 :=
  if h : j.val ≤ a.val then .inr ⟨a.val - j.val, by omega⟩ else .inl ⟨128 + a.val - j.val, by omega⟩

theorem place_near {a : Fin 128} {j : Fin 129} (h : j.val ≤ a.val) : place a j = .inr ⟨a.val - j.val, by omega⟩ := dif_pos h
theorem place_far {a : Fin 128} {j : Fin 129} (h : ¬ j.val ≤ a.val) : place a j = .inl ⟨128 + a.val - j.val, by omega⟩ := dif_neg h

theorem place_inj (a : Fin 128) : Function.Injective (place a) := by
  intro j k e
  have := a.isLt; have := j.isLt; have := k.isLt
  by_cases hj : j.val ≤ a.val <;> by_cases hk : k.val ≤ a.val
  · rw [place_near hj, place_near hk] at e
    have := congrArg Fin.val (Sum.inr.inj e); simp only at this; exact Fin.ext (by omega)
  · rw [place_near hj, place_far hk] at e; cases e
  · rw [place_far hj, place_near hk] at e; cases e
  · rw [place_far hj, place_far hk] at e
    have := congrArg Fin.val (Sum.inl.inj e); simp only at this; exact Fin.ext (by omega)

theorem back_near {a : Fin 128} {j : Fin 129} (h : j.val ≤ a.val) :
    posn (chunk (own i) ⟨a.val - j.val, by omega⟩) r = back (posn (chunk (own i) a) r) j := by
  refine Fin.ext ?_
  show 4 * (128 * (i 2).val + (a.val - j.val)) + r.val = 4 * (128 * (i 2).val + a.val) + r.val - 4 * j.val
  omega

theorem back_far {a : Fin 128} {j : Fin 129} (h : ¬ j.val ≤ a.val) (hi : 1 ≤ (i 2).val) :
    posn (chunk (prev i) ⟨128 + a.val - j.val, by omega⟩) r = back (posn (chunk (own i) a) r) j := by
  refine Fin.ext ?_
  have := j.isLt
  show 4 * (128 * ((i 2).val - 1) + (128 + a.val - j.val)) + r.val = 4 * (128 * (i 2).val + a.val) + r.val - 4 * j.val
  omega

theorem seen_near {a : Fin 128} {j : Fin 129} (h : j.val ≤ a.val) : 4 * j.val ≤ (posn (chunk (own i) a) r).val := by
  show 4 * j.val ≤ 4 * (128 * (i 2).val + a.val) + r.val
  omega

theorem seen_far {a : Fin 128} {j : Fin 129} (h : ¬ j.val ≤ a.val) : 4 * j.val ≤ (posn (chunk (own i) a) r).val ↔ 1 ≤ (i 2).val := by
  show 4 * j.val ≤ 4 * (128 * (i 2).val + a.val) + r.val ↔ _
  have := j.isLt; have := r.isLt
  omega

variable {X b r hp i qb ka kb va vb sa sb} {x : (⟨3, ![32, 2048, 1536]⟩ : Shape).Idx → ℝ}

/-- A score as a real number. -/
def real (x : (⟨3, ![32, 2048, 1536]⟩ : Shape).Idx → ℝ) (b : Fin 32) (n : Fin 8) (t : Fin 2048) (j : Fin 129) : ℝ :=
  (∑ e : Fin 64, x (ix3 b t (feat 0 n e)) * x (ix3 b (back t j) (feat 1 n e))) * (1 / 8) - slope n * (4 * (j.val : ℝ))

theorem scores_real (hx : ∀ y, X y = (x y : EReal)) {n : Fin 8} {t : Fin 2048} {j : Fin 129} (h : 4 * j.val ≤ t.val) :
    scores X b n t j = (real x b n t j : EReal) := by
  rw [scores, if_pos h, real]
  simp only [hx, ← EReal.coe_mul]
  rw [coe_sum, ← EReal.coe_mul, ← EReal.coe_sub]

theorem dot_real (hx : ∀ y, X y = (x y : EReal)) (H : Holds X b r hp i qb ka kb va vb sa sb) (k : Vec Ideal S1x128x128 .bf16) (h : Fin 2) (a c : Fin 128)
    (t : Fin 2048) (hk : ∀ e, k (ix3 0 c (lane h e)) = X (ix3 b t (feat 1 (head hp h) e))) :
    dot2 qb k h a c = ((1 / 8 * L * ∑ e : Fin 64, x (ix3 b (posn (chunk (own i) a) r) (feat 0 (head hp h) e)) * x (ix3 b t (feat 1 (head hp h) e)) : ℝ) : EReal) := by
  rw [dot2, Finset.mul_sum, ← coe_sum]
  refine Finset.sum_congr rfl fun e _ => ?_
  rw [H.q, hk, hx, hx, scale2, ← EReal.coe_mul, ← EReal.coe_mul]
  congr 1
  show _ * (1 / 8 * L) * _ = _
  ring

theorem slope_real (H : Holds X b r hp i qb ka kb va vb sa sb) (h : Fin 2) : slope2 sa sb h = ((4 * L * slope (head hp h) : ℝ) : EReal) := by
  rw [slope2, H.s, step2, ← EReal.coe_mul]
  congr 1
  show _ * (4 * L) = _
  ring

theorem matched (hx : ∀ y, X y = (x y : EReal)) (H : Holds X b r hp i qb ka kb va vb sa sb) (h : Fin 2) (a : Fin 128) :
    Match (rowScore i qb ka kb sa sb h a) (place a) (scores X b (head hp h) (posn (chunk (own i) a) r)) where
  inj := place_inj a
  out := fun t ht => by
    match t with
    | .inl c =>
      show rowA i qb ka sa sb h a c = ⊥
      have hc := c.isLt
      by_cases hac : a.val ≤ c.val
      · exfalso
        refine ht ⟨128 + a.val - c.val, by omega⟩ ?_
        rw [place_far (by simp only; omega)]
        exact congrArg Sum.inl (Fin.ext (by simp only; omega))
      · rw [rowA, if_neg (fun h => hac h.1)]
    | .inr c =>
      show rowB qb kb sa sb h a c = ⊥
      by_cases hac : c.val ≤ a.val
      · exfalso
        refine ht ⟨a.val - c.val, by omega⟩ ?_
        rw [place_near (by simp only; omega)]
        exact congrArg Sum.inr (Fin.ext (by simp only; omega))
      · rw [rowB, if_neg hac]
  score := fun j => by
    by_cases hj : j.val ≤ a.val
    · rw [place_near hj]
      show rowB qb kb sa sb h a _ = _
      rw [rowB, if_pos (by simp only; omega), scores_real hx (seen_near r i hj), slope_real H,
        dot_real hx H kb h a _ _ (fun e => (H.kb _ h e).trans (by rw [back_near r i hj])), ← EReal.coe_mul, ← EReal.coe_add, ← EReal.coe_mul]
      congr 1
      rw [real, Nat.cast_sub hj]
      ring
    · rw [place_far hj]
      show rowA i qb ka sa sb h a _ = _
      by_cases hi : 1 ≤ (i 2).val
      · have hj' := j.isLt
        rw [rowA, if_pos ⟨by simp only; omega, hi⟩, scores_real hx ((seen_far r i hj).2 hi), slope_real H,
          dot_real hx H ka h a _ _ (fun e => (H.ka _ h e).trans (by rw [back_far r i hj hi])), ← EReal.coe_mul, ← EReal.coe_mul, ← EReal.coe_sub,
          ← EReal.coe_add, ← EReal.coe_mul]
        congr 1
        rw [real, Nat.cast_sub (by omega)]
        push_cast
        ring
      · rw [rowA, if_neg (fun h => hi h.2), scores, if_neg (fun h => hi ((seen_far r i hj).1 h)), EReal.coe_mul_bot_of_pos L_pos]
  bot_or := fun j => by
    by_cases h4 : 4 * j.val ≤ (posn (chunk (own i) a) r).val
    · exact Or.inr ⟨_, scores_real hx h4⟩
    · exact Or.inl (if_neg h4)
  some_real := ⟨0, _, scores_real hx (seen_near r i (Nat.zero_le _))⟩

/-- A tile's attention is the argument's. -/
theorem out_row (hx : ∀ y, X y = (x y : EReal)) (H : Holds X b r hp i qb ka kb va vb sa sb) (u : Fin 1) (a : Fin 128) (h : Fin 2) (e : Fin 64) :
    outPair (F := Ideal) i qb sa sb ka kb va vb (ix3 u a (lane h e)) = attend X b (head hp h) (posn (chunk (own i) a) r) e := by
  rw [outPair_apply]
  refine (matched hx H h a).attend (v := fun j => X (ix3 b (back (posn (chunk (own i) a) r) j) (feat 2 (head hp h) e))) (fun j hj => ?_) (fun j => ⟨_, hx _⟩)
  by_cases hja : j.val ≤ a.val
  · rw [place_near hja]
    exact (H.vb _ h e).trans (by rw [back_near r i hja])
  · rw [place_far hja]
    have hi : 1 ≤ (i 2).val := by
      by_contra hi
      exact hj (if_neg (fun h => hi ((seen_far r i hja).1 h)))
    exact (H.va _ h e).trans (by rw [back_far r i hja hi])

/-- A tile's log-sum-exps are the argument's. -/
theorem lse_row (hx : ∀ y, X y = (x y : EReal)) (H : Holds X b r hp i qb ka kb va vb sa sb) (u : Fin 1) (a : Fin 128) (h : Fin 2) :
    lseRows (F := Ideal) i qb sa sb ka kb (ix2 (row h a) u) = lse2 X b (head hp h) (posn (chunk (own i) a) r) := by
  rw [lseRows_apply]
  exact (matched hx H h a).lse

end Cert.Attend
-- ==== Proof.Attend.Tile.lean ====
module

public import proofs.«01_k».proof.Proof.Attend.Match
public import proofs.«01_k».proof.Proof.Gen.Kernel2Ideal.Value
public import Idealize.ShloMosaic.Lib.WritesUnit

/-! What the body leaves at one point of the grid: the attention and the log-sum-exps of a tile of 128 positions of one residue. -/

@[expose] public section

set_option maxRecDepth 16384

noncomputable section

namespace Cert.Attend

open Cert.Kernel2Ideal Cert.Kernel2Ideal.Gen Idealize.ShloMosaic Idealize.ShloMosaic.ValueIdx

/-- Feature `c` of the queries (`s = 0`), the keys (1) or the values (2). -/
def part (s : Fin 3) (c : Fin 512) : Fin 1536 := ⟨512 * s.val + c.val, by omega⟩
/-- The lane of a head's feature among the eight heads'. -/
def wide (hp : Fin 4) (h : Fin 2) (e : Fin 64) : Fin 512 := ⟨128 * hp.val + (lane h e).val, by have := (lane h e).isLt; omega⟩

theorem part_wide (s : Fin 3) (hp : Fin 4) (h : Fin 2) (e : Fin 64) : part s (wide hp h e) = feat s (head hp h) e := by
  refine Fin.ext ?_
  show 512 * s.val + (128 * hp.val + (64 * h.val + e.val)) = 512 * s.val + 64 * (2 * hp.val + h.val) + e.val
  omega

variable (X : (⟨3, ![32, 2048, 1536]⟩ : Shape).Idx → EReal) (b : Fin 32) (r : Fin 4) (i : grid0.Coords)
  (x0 : Vec Ideal S8 .f32) (x1 : Vec Ideal S1x128x512 .bf16) (x2 x3 : Vec Ideal S1x512x512 .bf16)

/-- The blocks the body is given hold the argument's. -/
structure Given : Prop where
  s : ∀ n : Fin 8, x0 (ix1 n) = ((slope n : ℝ) : EReal)
  q : ∀ (a : Fin 128) (c : Fin 512), x1 (ix3 0 a c) = X (ix3 b (posn (chunk (own i) a) r) (part 0 c))
  k : ∀ (p c : Fin 512), x2 (ix3 0 p c) = X (ix3 b (posn p r) (part 1 c))
  v : ∀ (p c : Fin 512), x3 (ix3 0 p c) = X (ix3 b (posn p r) (part 2 c))

variable {X b r i x0 x1 x2 x3} {x : (⟨3, ![32, 2048, 1536]⟩ : Shape).Idx → ℝ}

theorem Given.holds (G : Given X b r i x0 x1 x2 x3) (hp : Fin 4) (sa sb : EReal) (ha : sa = x0 (ix1 (head hp 0))) (hb : sb = x0 (ix1 (head hp 1))) :
    Holds X b r hp i (qAt hp x1) (kAt hp (prev i) x2) (kAt hp (own i) x2) (kAt hp (prev i) x3) (kAt hp (own i) x3) sa sb where
  q := fun a h e => (G.q a (wide hp h e)).trans (by rw [part_wide])
  ka := fun a h e => (G.k (chunk (prev i) a) (wide hp h e)).trans (by rw [part_wide])
  kb := fun a h e => (G.k (chunk (own i) a) (wide hp h e)).trans (by rw [part_wide])
  va := fun a h e => (G.v (chunk (prev i) a) (wide hp h e)).trans (by rw [part_wide])
  vb := fun a h e => (G.v (chunk (own i) a) (wide hp h e)).trans (by rw [part_wide])
  s := fun h => by
    match h with
    | 0 => rw [if_pos rfl, ha, G.s]
    | 1 => rw [if_neg (by decide), hb, G.s]

variable (c : Dev nD) (arg3 : Memref sig .tc .smem S8 .f32) (harg3 : arg3.IsWhole) (arg4 : Memref sig .tc .vmem S1x128x512 .bf16) (harg4 : arg4.IsWhole)
  (arg5 : Memref sig .tc .vmem S1x512x512 .bf16) (harg5 : arg5.IsWhole) (arg6 : Memref sig .tc .vmem S1x512x512 .bf16) (harg6 : arg6.IsWhole)
  (arg7 : Memref sig .tc .vmem S1x128x512 .bf16) (harg7 : arg7.IsWhole) (arg8 : Memref sig .tc .vmem S1x128x128 .f32) (harg8 : arg8.IsWhole)

/-- The stores of the four pairs of heads, newest first. -/
def stores (w : Fin 4 → S1x128x128.Idx → Elt Ideal .bf16) : List (View.Piece (Elt Ideal) S1x128x512 .bf16) :=
  [⟨Rect.unit ![0, 0, 384] ![1, 128, 128] inb_S1x128x512_S1x128x128_0_0_384, w 3⟩, ⟨Rect.unit ![0, 0, 256] ![1, 128, 128] inb_S1x128x512_S1x128x128_0_0_256, w 2⟩,
    ⟨Rect.unit ![0, 0, 128] ![1, 128, 128] inb_S1x128x512_S1x128x128_0_0_128, w 1⟩, ⟨Rect.unit ![0, 0, 0] ![1, 128, 128] inb_S1x128x512_S1x128x128_0_0_0, w 0⟩]

theorem stores_apply (V : View sig .tc .vmem S1x128x512 .bf16) (f : V.ty.Contents (Elt Ideal)) (w : Fin 4 → S1x128x128.Idx → Elt Ideal .bf16)
    (a : Fin 128) (hp : Fin 4) (h : Fin 2) (e : Fin 64) :
    V.read (Elt Ideal) (V.writes (Elt Ideal) f (stores w)) (ix3 0 a (wide hp h e)) = w hp (ix3 0 a (lane h e)) := by
  have hl := (lane h e).isLt
  have hw : (wide hp h e).val = 128 * hp.val + (lane h e).val := rfl
  generalize wide hp h e = y at hw
  generalize lane h e = z at hl hw
  unfold stores
  match hp with
  | ⟨3, _⟩ =>
    refine View.read_writes_cons_unit_of_mem (off' := ![0, 0, 384]) V f _ _ _ _ (ix3 0 a z : S1x128x128.Idx) rfl (fun ax => ?_)
    match ax with
    | ⟨0, _⟩ => rfl
    | ⟨1, _⟩ => exact (Nat.zero_add _).symm
    | ⟨2, _⟩ => exact hw
  | ⟨2, _⟩ =>
    have hw : y.val = 128 * 2 + z.val := hw
    refine (View.read_writes_cons_unit_of_not_mem (off' := ![0, 0, 384]) V f _ _ _ _ rfl (2 : Fin 3) (Or.inl (show y.val < 384 by omega))).trans ?_
    refine View.read_writes_cons_unit_of_mem (off' := ![0, 0, 256]) V f _ _ _ _ (ix3 0 a z : S1x128x128.Idx) rfl (fun ax => ?_)
    match ax with
    | ⟨0, _⟩ => rfl
    | ⟨1, _⟩ => exact (Nat.zero_add _).symm
    | ⟨2, _⟩ => exact hw
  | ⟨1, _⟩ =>
    have hw : y.val = 128 * 1 + z.val := hw
    refine (View.read_writes_cons_unit_of_not_mem (off' := ![0, 0, 384]) V f _ _ _ _ rfl (2 : Fin 3) (Or.inl (show y.val < 384 by omega))).trans ?_
    refine (View.read_writes_cons_unit_of_not_mem (off' := ![0, 0, 256]) V f _ _ _ _ rfl (2 : Fin 3) (Or.inl (show y.val < 256 by omega))).trans ?_
    refine View.read_writes_cons_unit_of_mem (off' := ![0, 0, 128]) V f _ _ _ _ (ix3 0 a z : S1x128x128.Idx) rfl (fun ax => ?_)
    match ax with
    | ⟨0, _⟩ => rfl
    | ⟨1, _⟩ => exact (Nat.zero_add _).symm
    | ⟨2, _⟩ => exact hw
  | ⟨0, _⟩ =>
    have hw : y.val = 128 * 0 + z.val := hw
    refine (View.read_writes_cons_unit_of_not_mem (off' := ![0, 0, 384]) V f _ _ _ _ rfl (2 : Fin 3) (Or.inl (show y.val < 384 by omega))).trans ?_
    refine (View.read_writes_cons_unit_of_not_mem (off' := ![0, 0, 256]) V f _ _ _ _ rfl (2 : Fin 3) (Or.inl (show y.val < 256 by omega))).trans ?_
    refine (View.read_writes_cons_unit_of_not_mem (off' := ![0, 0, 128]) V f _ _ _ _ rfl (2 : Fin 3) (Or.inl (show y.val < 128 by omega))).trans ?_
    refine View.read_writes_cons_unit_of_mem (off' := ![0, 0, 0]) V f _ _ _ _ (ix3 0 a z : S1x128x128.Idx) rfl (fun ax => ?_)
    match ax with
    | ⟨0, _⟩ => rfl
    | ⟨1, _⟩ => exact (Nat.zero_add _).symm
    | ⟨2, _⟩ => exact hw

/-- The output of a pair of heads, of the blocks. -/
def pairOut (i : grid0.Coords) (x0 : Vec Ideal S8 .f32) (x1 : Vec Ideal S1x128x512 .bf16) (x2 x3 : Vec Ideal S1x512x512 .bf16) (hp : Fin 4) :
    S1x128x128.Idx → Elt Ideal .bf16 :=
  outPair i (qAt hp x1) (x0 (ix1 (head hp 0))) (x0 (ix1 (head hp 1))) (kAt hp (prev i) x2) (kAt hp (own i) x2) (kAt hp (prev i) x3) (kAt hp (own i) x3)

theorem out4_apply (hx : ∀ y, X y = (x y : EReal)) (G : Given X b r i x0 x1 x2 x3) (a : Fin 128) (hp : Fin 4) (h : Fin 2) (e : Fin 64) :
    out0_A_4 (F := Ideal) c i arg3 harg3 arg4 harg4 arg5 harg5 arg6 harg6 arg7 harg7 arg8 harg8 x0 x1 x2 x3 (ix3 0 a (wide hp h e))
      = attend X b (head hp h) (posn (chunk (own i) a) r) e := by
  have hs : (kernelRun0_A (F := Ideal) c i arg3 harg3 arg4 harg4 arg5 harg5 arg6 harg6 arg7 harg7 arg8 harg8 x0 x1 x2 x3).1 = stores (pairOut i x0 x1 x2 x3) :=
    pieces4 c i arg3 harg3 arg4 harg4 arg5 harg5 arg6 harg6 arg7 harg7 arg8 harg8 x0 x1 x2 x3
  unfold out0_A_4
  rw [hs]
  exact (stores_apply VO0_4 _ _ a hp h e).trans (out_row hx (G.holds hp _ _ rfl rfl) 0 a h e)

theorem lift_tile {α : Type} (y : S128x128.Idx → α) (a l : Fin 128) : shapeCast S1x128x128 y shapeCasts_S128x128_S1x128x128 (ix3 0 a l) = y (ix2 a l) :=
  shapeCast_apply y _ _ _ (by
    rw [Shape.rowMajor_val_two, Shape.rowMajor_val_three]
    show a.val * 128 + l.val = (0 * 128 + a.val) * 128 + l.val
    omega)

theorem zero_apply (y : S128x128.Idx) : k0_pay7 (F := Ideal) y = (0 : EReal) := by
  show Ideal.ofBits .f32 0x00000000#32 = _
  simp [Ideal.ofBits, Ideal.ieee]

theorem out5_apply (hx : ∀ y, X y = (x y : EReal)) (G : Given X b r i x0 x1 x2 x3) (a l : Fin 128) :
    out0_A_5 (F := Ideal) c i arg3 harg3 arg4 harg4 arg5 harg5 arg6 harg6 arg7 harg7 arg8 harg8 x0 x1 x2 x3 (ix3 0 a l)
      = if h : l.val < 8 then lse2 X b ⟨l.val, h⟩ (posn (chunk (own i) a) r) else 0 := by
  unfold out0_A_5
  rw [pieces5]
  refine (View.read_writes_cons_unit_of_mem _ _ _ _ _ _ (ix3 0 a l : S1x128x128.Idx) rfl (fun ax => ?_)).trans ?_
  · match ax with
    | ⟨0, _⟩ => rfl
    | ⟨1, _⟩ => exact (Nat.zero_add _).symm
    | ⟨2, _⟩ => exact (Nat.zero_add _).symm
  refine (lift_tile _ a l).trans ?_
  rw [putPair_apply, putPair_apply, putPair_apply, putPair_apply, zero_apply]
  have hr := fun (hp : Fin 4) (h : Fin 2) => lse_row hx (G.holds hp _ _ rfl rfl) 0 a h
  rw [show lseRows i (qAt 3 x1) (x0 (ix1 6)) (x0 (ix1 7)) (kAt 3 (prev i) x2) (kAt 3 (own i) x2) (ix2 (row 1 a) 0) = _ from hr 3 1,
    show lseRows i (qAt 3 x1) (x0 (ix1 6)) (x0 (ix1 7)) (kAt 3 (prev i) x2) (kAt 3 (own i) x2) (ix2 (row 0 a) 0) = _ from hr 3 0,
    show lseRows i (qAt 2 x1) (x0 (ix1 4)) (x0 (ix1 5)) (kAt 2 (prev i) x2) (kAt 2 (own i) x2) (ix2 (row 1 a) 0) = _ from hr 2 1,
    show lseRows i (qAt 2 x1) (x0 (ix1 4)) (x0 (ix1 5)) (kAt 2 (prev i) x2) (kAt 2 (own i) x2) (ix2 (row 0 a) 0) = _ from hr 2 0,
    show lseRows i (qAt 1 x1) (x0 (ix1 2)) (x0 (ix1 3)) (kAt 1 (prev i) x2) (kAt 1 (own i) x2) (ix2 (row 1 a) 0) = _ from hr 1 1,
    show lseRows i (qAt 1 x1) (x0 (ix1 2)) (x0 (ix1 3)) (kAt 1 (prev i) x2) (kAt 1 (own i) x2) (ix2 (row 0 a) 0) = _ from hr 1 0,
    show lseRows i (qAt 0 x1) (x0 (ix1 0)) (x0 (ix1 1)) (kAt 0 (prev i) x2) (kAt 0 (own i) x2) (ix2 (row 1 a) 0) = _ from hr 0 1,
    show lseRows i (qAt 0 x1) (x0 (ix1 0)) (x0 (ix1 1)) (kAt 0 (prev i) x2) (kAt 0 (own i) x2) (ix2 (row 0 a) 0) = _ from hr 0 0]
  have hw : ∀ n : Fin 8, BitVec.ofNat 32 l.val = BitVec.ofNat 32 n.val ↔ l.val = n.val := fun n => by
    have := l.isLt; have := n.isLt
    constructor
    · intro e
      have := congrArg BitVec.toNat e
      rw [BitVec.toNat_ofNat, BitVec.toNat_ofNat] at this; omega
    · intro e; rw [e]
  have h7 := hw 7; have h6 := hw 6; have h5 := hw 5; have h4 := hw 4; have h3 := hw 3; have h2 := hw 2; have h1 := hw 1; have h0 := hw 0
  simp only [show BitVec.ofNat 32 (7 : Fin 8).val = 7#32 from rfl, show BitVec.ofNat 32 (6 : Fin 8).val = 6#32 from rfl,
    show BitVec.ofNat 32 (5 : Fin 8).val = 5#32 from rfl, show BitVec.ofNat 32 (4 : Fin 8).val = 4#32 from rfl,
    show BitVec.ofNat 32 (3 : Fin 8).val = 3#32 from rfl, show BitVec.ofNat 32 (2 : Fin 8).val = 2#32 from rfl,
    show BitVec.ofNat 32 (1 : Fin 8).val = 1#32 from rfl, show BitVec.ofNat 32 (0 : Fin 8).val = 0#32 from rfl] at h0 h1 h2 h3 h4 h5 h6 h7
  simp only [h0, h1, h2, h3, h4, h5, h6, h7]
  by_cases hl : l.val < 8
  · rw [dif_pos hl]
    have hn : ∃ n : Fin 8, (⟨l.val, hl⟩ : Fin 8) = n := ⟨_, rfl⟩
    obtain ⟨n, hn⟩ := hn
    rw [hn, show l.val = n.val from congrArg Fin.val hn]
    fin_cases n <;> rfl
  · rw [dif_neg hl]
    have hne : ∀ n : Fin 8, ¬ l.val = n.val := fun n => by have := n.isLt; omega
    rw [if_neg (hne 7), if_neg (hne 6), if_neg (hne 5), if_neg (hne 4), if_neg (hne 3), if_neg (hne 2), if_neg (hne 1), if_neg (hne 0)]

end Cert.Attend
-- ==== Proof.Attend.Arrays.lean ====
module

public import proofs.«01_k».proof.Proof.Attend.Tile
public import Idealize.ShloMosaic.Lib.Pipeline.ValueKit.Geometry
public import Idealize.ShloMosaic.Lib.Pipeline.Covers

/-! The two arrays the grid leaves. -/

@[expose] public section

set_option maxRecDepth 16384

noncomputable section

namespace Cert.Attend

open Cert.Kernel2Ideal Cert.Kernel2Ideal.Gen
open Idealize.ShloMosaic Idealize.ShloMosaic.TcCoe Idealize.ShloMosaic.ValueIdx
open Idealize.ShloMosaic.Pipeline (Dat Cfg Window)

/-- A block of a whole buffer, read at an index. -/
theorem blk_read (b : Ref sig .tc) (off size : Fin b.ty.shape.rank → Nat) (inb)
    (X : b.ty.shape.Idx → Elt Ideal b.ty.elt) (y : (Rect.unit off size inb).shape.Idx) (i : b.ty.shape.Idx)
    (hi : ∀ a, (i a).val = off a + (y a).val) :
    ((View.whole b).slice (Rect.unit off size inb)).read (Elt Ideal) X y = X i := by
  refine congrArg X (funext fun a => Fin.ext ?_)
  exact (ValueKit.view_emb_slice_whole_unit_val b off size inb y a).trans (hi a).symm

theorem blk_mem (b : Ref sig .tc) (off size : Fin b.ty.shape.rank → Nat) (inb) (i : b.ty.shape.Idx)
    (hi : ∀ a, off a ≤ (i a).val ∧ (i a).val < off a + size a) : i ∈ ((View.whole b).slice (Rect.unit off size inb)).set := by
  rw [View.set_slice_whole, Rect.mem_set_unit]; exact hi

variable (m : (ℓ : Loc nD τ sig) → Buf (Elt Ideal) ℓ) (c : Dev nD)

/-- The argument. -/
abbrev arg : S32x2048x1536.Idx → EReal := m ((c.tc : Thread nD τ).loc main_arg0)

theorem V_v0 (b : Fin 32) (p : Fin 512) (r : Fin 4) (f : Fin 1536) (y : Fin 6144) (hy : y.val = 1536 * r.val + f.val) :
    V m c main_v0 (ix3 b p y) = arg m c (ix3 b (posn p r) f) := by
  have e : V m c main_v0 = shapeCast S32x512x6144 (arg m c) shapeCasts_S32x2048x1536_S32x512x6144 := by
    unfold V hostOps0; after_results; rfl
  rw [e]
  refine shapeCast_apply _ _ _ _ ?_
  rw [Shape.rowMajor_val_three, Shape.rowMajor_val_three]
  show (b.val * 2048 + (4 * p.val + r.val)) * 1536 + f.val = (b.val * 512 + p.val) * 6144 + y.val
  omega

theorem V_cst (n : Fin 8) : V m c main_cst (ix1 n) = ((slope n : ℝ) : EReal) := by
  have e : V m c main_cst = fun i => FloatOps.ofBits (F := Ideal) .f32 (lit0 (S8.rowMajor i)) := by
    unfold V hostOps0; after_results; rfl
  rw [e]
  have hk : S8.rowMajor (ix1 n) = n := Fin.ext (Shape.rowMajor_val_one _)
  show FloatOps.ofBits (F := Ideal) .f32 (lit0 (S8.rowMajor (ix1 n))) = _
  rw [hk]
  unfold slope
  fin_cases n
  · show Ideal.ofBits .f32 0x3F000000#32 = _
    simp [Ideal.ofBits, Ideal.ieee, -EReal.coe_mul]; norm_num
  · show Ideal.ofBits .f32 0x3E800000#32 = _
    simp [Ideal.ofBits, Ideal.ieee, -EReal.coe_mul]; norm_num
  · show Ideal.ofBits .f32 0x3E000000#32 = _
    simp [Ideal.ofBits, Ideal.ieee, -EReal.coe_mul]; norm_num
  · show Ideal.ofBits .f32 0x3D800000#32 = _
    simp [Ideal.ofBits, Ideal.ieee, -EReal.coe_mul]; norm_num
  · show Ideal.ofBits .f32 0x3D000000#32 = _
    simp [Ideal.ofBits, Ideal.ieee, -EReal.coe_mul]; norm_num
  · show Ideal.ofBits .f32 0x3C800000#32 = _
    simp [Ideal.ofBits, Ideal.ieee, -EReal.coe_mul]; norm_num
  · show Ideal.ofBits .f32 0x3C000000#32 = _
    simp [Ideal.ofBits, Ideal.ieee, -EReal.coe_mul]; norm_num
  · show Ideal.ofBits .f32 0x3B800000#32 = _
    simp [Ideal.ofBits, Ideal.ieee, -EReal.coe_mul]; norm_num

/-- The sequence and the residue of a point. -/
def seqOf (i : grid0.Coords) : Fin 32 := ⟨(i 0).val, (i 0).isLt⟩
def resOf (i : grid0.Coords) : Fin 4 := ⟨(i 1).val, (i 1).isLt⟩

theorem word (n : Nat) (h : n < 512) : (BitVec.ofNat 32 n).toNat = n := by
  rw [BitVec.toNat_ofNat]; exact Nat.mod_eq_of_lt (by omega)

theorem word3 (n k : Nat) (h : n < 512) (hk : k < 512) : (3#32 * BitVec.ofNat 32 n + BitVec.ofNat 32 k).toNat = 3 * n + k := by
  rw [BitVec.toNat_add, BitVec.toNat_mul, BitVec.toNat_ofNat, BitVec.toNat_ofNat, BitVec.toNat_ofNat]
  omega

theorem given (t : Fin cfg0.N) :
    Given (arg m c) (seqOf (grid0.coords t)) (resOf (grid0.coords t)) (grid0.coords t) (iblk m c 0 t) (iblk m c 1 t) (iblk m c 2 t) (iblk m c 3 t) := by
  generalize hi : grid0.coords t = i
  have h0 : (i 0).val < 32 := (i 0).isLt
  have h1 : (i 1).val < 4 := (i 1).isLt
  have h2 : (i 2).val < 4 := (i 2).isLt
  subst hi
  constructor
  · intro n
    rw [← V_cst m c n]
    refine blk_read main_cst _ _ _ (V m c main_cst) (ix1 n) (ix1 n) (fun a => ?_)
    match a with
    | ⟨0, _⟩ => exact (Nat.zero_add _).symm
  · intro a f
    rw [← V_v0 m c _ _ (resOf (grid0.coords t)) _ ⟨1536 * (grid0.coords t 1).val + (part 0 f).val, by have := (part 0 f).isLt; omega⟩ rfl]
    refine blk_read main_v0 _ _ _ (V m c main_v0) (ix3 0 a f) (ix3 _ _ _) (fun ax => ?_)
    match ax with
    | ⟨0, _⟩ =>
      show (grid0.coords t 0).val = (BitVec.ofNat 32 (grid0.coords t 0).val).toNat * 1 + 0
      rw [word _ (by omega)]; omega
    | ⟨1, _⟩ =>
      show 128 * (grid0.coords t 2).val + a.val = (BitVec.ofNat 32 (grid0.coords t 2).val).toNat * 128 + a.val
      rw [word _ (by omega)]; omega
    | ⟨2, _⟩ =>
      show 1536 * (grid0.coords t 1).val + (512 * 0 + f.val) = (3#32 * BitVec.ofNat 32 (grid0.coords t 1).val).toNat * 512 + f.val
      have := word3 (grid0.coords t 1).val 0 (by omega) (by omega)
      rw [show BitVec.ofNat 32 0 = 0#32 from rfl, BitVec.add_zero] at this
      rw [this]; omega
  · intro p f
    rw [← V_v0 m c _ _ (resOf (grid0.coords t)) _ ⟨1536 * (grid0.coords t 1).val + (part 1 f).val, by have := (part 1 f).isLt; omega⟩ rfl]
    refine blk_read main_v0 _ _ _ (V m c main_v0) (ix3 0 p f) (ix3 _ _ _) (fun ax => ?_)
    match ax with
    | ⟨0, _⟩ =>
      show (grid0.coords t 0).val = (BitVec.ofNat 32 (grid0.coords t 0).val).toNat * 1 + 0
      rw [word _ (by omega)]; omega
    | ⟨1, _⟩ => exact (Nat.zero_add _).symm
    | ⟨2, _⟩ =>
      show 1536 * (grid0.coords t 1).val + (512 * 1 + f.val) = (3#32 * BitVec.ofNat 32 (grid0.coords t 1).val + BitVec.ofNat 32 1).toNat * 512 + f.val
      rw [word3 _ _ (by omega) (by omega)]; omega
  · intro p f
    rw [← V_v0 m c _ _ (resOf (grid0.coords t)) _ ⟨1536 * (grid0.coords t 1).val + (part 2 f).val, by have := (part 2 f).isLt; omega⟩ rfl]
    refine blk_read main_v0 _ _ _ (V m c main_v0) (ix3 0 p f) (ix3 _ _ _) (fun ax => ?_)
    match ax with
    | ⟨0, _⟩ =>
      show (grid0.coords t 0).val = (BitVec.ofNat 32 (grid0.coords t 0).val).toNat * 1 + 0
      rw [word _ (by omega)]; omega
    | ⟨1, _⟩ => exact (Nat.zero_add _).symm
    | ⟨2, _⟩ =>
      show 1536 * (grid0.coords t 1).val + (512 * 2 + f.val) = (3#32 * BitVec.ofNat 32 (grid0.coords t 1).val + BitVec.ofNat 32 2).toNat * 512 + f.val
      rw [word3 _ _ (by omega) (by omega)]; omega

/-- The point of a sequence, a residue and a tile. -/
theorem point (b : Fin 32) (r : Fin 4) (k : Fin 4) :
    ∃ t : Fin grid0.N, (grid0.coords t 0).val = b.val ∧ (grid0.coords t 1).val = r.val ∧ (grid0.coords t 2).val = k.val := by
  obtain ⟨t, ht⟩ := Pipeline.Grid.coords_surjective grid0
    (fun a => match a with | ⟨0, _⟩ => (b : Fin 32) | ⟨1, _⟩ => (r : Fin 4) | ⟨2, _⟩ => (k : Fin 4))
  exact ⟨t, by rw [ht], by rw [ht], by rw [ht]⟩

variable {x : (⟨3, ![32, 2048, 1536]⟩ : Shape).Idx → ℝ}

section Attention

variable (G : S32x512x2048.Idx → EReal)
  (hG : ∀ (b : Fin 32) (p : Fin 512) (r : Fin 4) (n : Fin 8) (e : Fin 64) (x : Fin 2048) (t : Fin 2048),
    x.val = 512 * r.val + 64 * n.val + e.val → t.val = 4 * p.val + r.val → G (ix3 b p x) = attend (arg m c) b n t e)

include hG in
theorem flushed_attend (hx : ∀ y, arg m c y = (x y : EReal)) (t : Fin cfg0.N) :
    (dats m 0 c).flushed 4 t = ((cfg0.win 4).blk t).view.read (Elt Ideal) G := by
  rw [Value.flushed4_A]
  refine funext fun (y : S1x128x512.Idx) => ?_
  have g := given m c t
  have h0 : (grid0.coords t 0).val < 32 := (grid0.coords t 0).isLt
  have h1 : (grid0.coords t 1).val < 4 := (grid0.coords t 1).isLt
  have h2 : (grid0.coords t 2).val < 4 := (grid0.coords t 2).isLt
  obtain ⟨u, a, f, rfl⟩ : ∃ (u : Fin 1) (a : Fin 128) (f : Fin 512), y = ix3 u a f := ⟨y 0, y 1, y 2, eq_ix3 y⟩
  obtain rfl : u = 0 := Subsingleton.elim _ _
  obtain ⟨hp, h, e, rfl⟩ : ∃ (hp : Fin 4) (h : Fin 2) (e : Fin 64), f = wide hp h e :=
    ⟨⟨f.val / 128, by omega⟩, ⟨f.val / 64 % 2, by omega⟩, ⟨f.val % 64, by omega⟩, Fin.ext (by
      show f.val = 128 * (f.val / 128) + (64 * (f.val / 64 % 2) + f.val % 64)
      omega)⟩
  have hw : (wide hp h e).val = 128 * hp.val + (64 * h.val + e.val) := rfl
  refine Eq.trans (b := attend (arg m c) (seqOf (grid0.coords t)) (head hp h) (posn (chunk (own (grid0.coords t)) a) (resOf (grid0.coords t))) e) ?_ ?_
  · exact out4_apply c (ms0_0 t) (hs0_0 t) (ms0_1 t) (hs0_1 t) (ms0_2 t) (hs0_2 t) (ms0_3 t) (hs0_3 t) (ms0_4 t) (hs0_4 t) (ms0_5 t) (hs0_5 t)
      hx g a hp h e
  · refine Eq.trans ?_ (blk_read main_v1_0 _ _ _ G (ix3 0 a (wide hp h e)) (ix3 (seqOf (grid0.coords t)) (chunk (own (grid0.coords t)) a)
      (⟨512 * (grid0.coords t 1).val + (wide hp h e).val, by omega⟩ : Fin 2048)) (fun ax => ?_)).symm
    · refine (hG _ _ (resOf (grid0.coords t)) _ _ _ _ ?_ rfl).symm
      show 512 * (grid0.coords t 1).val + (wide hp h e).val = 512 * (grid0.coords t 1).val + 64 * (2 * hp.val + h.val) + e.val
      omega
    · match ax with
      | ⟨0, _⟩ =>
        show (grid0.coords t 0).val = (BitVec.ofNat 32 (grid0.coords t 0).val).toNat * 1 + 0
        rw [word _ (by omega)]; omega
      | ⟨1, _⟩ =>
        show 128 * (grid0.coords t 2).val + a.val = (BitVec.ofNat 32 (grid0.coords t 2).val).toNat * 128 + a.val
        rw [word _ (by omega)]; omega
      | ⟨2, _⟩ =>
        show 512 * (grid0.coords t 1).val + (wide hp h e).val = (BitVec.ofNat 32 (grid0.coords t 1).val).toNat * 512 + (wide hp h e).val
        rw [word _ (by omega)]; omega

theorem cover_attend (i : S32x512x2048.Idx) :
    ∃ t : Fin cfg0.N, (cfg0.win 4).flush t = true ∧ i ∈ ((cfg0.win 4).blk t).view.set := by
  have hi0 : (i 0).val < 32 := (i 0).isLt
  have hi1 : (i 1).val < 512 := (i 1).isLt
  have hi2 : (i 2).val < 2048 := (i 2).isLt
  obtain ⟨t, e0, e1, e2⟩ := point (i 0) ⟨(i 2).val / 512, by omega⟩ ⟨(i 1).val / 128, by omega⟩
  refine ⟨t, flush0_4 t, blk_mem main_v1_0 _ _ _ i (fun ax => ?_)⟩
  match ax with
  | ⟨0, _⟩ =>
    show (BitVec.ofNat 32 (grid0.coords t 0).val).toNat * 1 ≤ (i 0).val ∧ (i 0).val < (BitVec.ofNat 32 (grid0.coords t 0).val).toNat * 1 + 1
    rw [e0, word _ (by omega)]; omega
  | ⟨1, _⟩ =>
    show (BitVec.ofNat 32 (grid0.coords t 2).val).toNat * 128 ≤ (i 1).val ∧ (i 1).val < (BitVec.ofNat 32 (grid0.coords t 2).val).toNat * 128 + 128
    rw [e2, word _ (by show (i 1).val / 128 < 512; omega)]
    show (i 1).val / 128 * 128 ≤ (i 1).val ∧ (i 1).val < (i 1).val / 128 * 128 + 128
    omega
  | ⟨2, _⟩ =>
    show (BitVec.ofNat 32 (grid0.coords t 1).val).toNat * 512 ≤ (i 2).val ∧ (i 2).val < (BitVec.ofNat 32 (grid0.coords t 1).val).toNat * 512 + 512
    rw [e1, word _ (by show (i 2).val / 512 < 512; omega)]
    show (i 2).val / 512 * 512 ≤ (i 2).val ∧ (i 2).val < (i 2).val / 512 * 512 + 512
    omega

include hG in
theorem final_attend (hx : ∀ y, arg m c y = (x y : EReal)) : (dats m 0 c).arrAt 4 cfg0.N = G :=
  (dats m 0 c).arrAt_eq_of_cover 4 G (fun t _ => flushed_attend m c G hG hx t) cover_attend

end Attention

section Sums

variable (G : S32x512x512.Idx → EReal)
  (hG : ∀ (b : Fin 32) (p : Fin 512) (r : Fin 4) (l : Fin 128) (x : Fin 512) (t : Fin 2048),
    x.val = 128 * r.val + l.val → t.val = 4 * p.val + r.val → G (ix3 b p x) = if h : l.val < 8 then lse2 (arg m c) b ⟨l.val, h⟩ t else 0)

include hG in
theorem flushed_sums (hx : ∀ y, arg m c y = (x y : EReal)) (t : Fin cfg0.N) :
    (dats m 0 c).flushed 5 t = ((cfg0.win 5).blk t).view.read (Elt Ideal) G := by
  rw [Value.flushed5_A]
  refine funext fun (y : S1x128x128.Idx) => ?_
  have g := given m c t
  have h0 : (grid0.coords t 0).val < 32 := (grid0.coords t 0).isLt
  have h1 : (grid0.coords t 1).val < 4 := (grid0.coords t 1).isLt
  have h2 : (grid0.coords t 2).val < 4 := (grid0.coords t 2).isLt
  obtain ⟨u, a, l, rfl⟩ : ∃ (u : Fin 1) (a : Fin 128) (l : Fin 128), y = ix3 u a l := ⟨y 0, y 1, y 2, eq_ix3 y⟩
  obtain rfl : u = 0 := Subsingleton.elim _ _
  refine Eq.trans (out5_apply c (ms0_0 t) (hs0_0 t) (ms0_1 t) (hs0_1 t) (ms0_2 t) (hs0_2 t) (ms0_3 t) (hs0_3 t) (ms0_4 t) (hs0_4 t) (ms0_5 t) (hs0_5 t)
    hx g a l) ((blk_read main_v1_1 _ _ _ G (ix3 0 a l) (ix3 (seqOf (grid0.coords t)) (chunk (own (grid0.coords t)) a)
      (⟨128 * (grid0.coords t 1).val + l.val, by omega⟩ : Fin 512)) (fun ax => ?_)).trans (hG _ _ (resOf (grid0.coords t)) l _
        (posn (chunk (own (grid0.coords t)) a) (resOf (grid0.coords t))) rfl rfl)).symm
  match ax with
  | ⟨0, _⟩ =>
    show (grid0.coords t 0).val = (BitVec.ofNat 32 (grid0.coords t 0).val).toNat * 1 + 0
    rw [word _ (by omega)]; omega
  | ⟨1, _⟩ =>
    show 128 * (grid0.coords t 2).val + a.val = (BitVec.ofNat 32 (grid0.coords t 2).val).toNat * 128 + a.val
    rw [word _ (by omega)]; omega
  | ⟨2, _⟩ =>
    show 128 * (grid0.coords t 1).val + l.val = (BitVec.ofNat 32 (grid0.coords t 1).val).toNat * 128 + l.val
    rw [word _ (by omega)]; omega

theorem cover_sums (i : S32x512x512.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 512 := (i 2).isLt
  obtain ⟨t, e0, e1, e2⟩ := point (i 0) ⟨(i 2).val / 128, by omega⟩ ⟨(i 1).val / 128, by omega⟩
  refine ⟨t, flush0_5 t, blk_mem main_v1_1 _ _ _ i (fun ax => ?_)⟩
  match ax with
  | ⟨0, _⟩ =>
    show (BitVec.ofNat 32 (grid0.coords t 0).val).toNat * 1 ≤ (i 0).val ∧ (i 0).val < (BitVec.ofNat 32 (grid0.coords t 0).val).toNat * 1 + 1
    rw [e0, word _ (by omega)]; omega
  | ⟨1, _⟩ =>
    show (BitVec.ofNat 32 (grid0.coords t 2).val).toNat * 128 ≤ (i 1).val ∧ (i 1).val < (BitVec.ofNat 32 (grid0.coords t 2).val).toNat * 128 + 128
    rw [e2, word _ (by show (i 1).val / 128 < 512; omega)]
    show (i 1).val / 128 * 128 ≤ (i 1).val ∧ (i 1).val < (i 1).val / 128 * 128 + 128
    omega
  | ⟨2, _⟩ =>
    show (BitVec.ofNat 32 (grid0.coords t 1).val).toNat * 128 ≤ (i 2).val ∧ (i 2).val < (BitVec.ofNat 32 (grid0.coords t 1).val).toNat * 128 + 128
    rw [e1, word _ (by show (i 2).val / 128 < 512; omega)]
    show (i 2).val / 128 * 128 ≤ (i 2).val ∧ (i 2).val < (i 2).val / 128 * 128 + 128
    omega

include hG in
theorem final_sums (hx : ∀ y, arg m c y = (x y : EReal)) : (dats m 0 c).arrAt 5 cfg0.N = G :=
  (dats m 0 c).arrAt_eq_of_cover 5 G (fun t _ => flushed_sums m c G hG hx t) cover_sums

end Sums

end Cert.Attend
-- ==== Proof.Attend.Ref2.lean ====
module

public import proofs.«01_k».proof.Proof.Attend.Goal
public import proofs.«01_k».proof.Proof.Gen.Reference2Ideal.Read
public import Idealize.ShloMosaic.Lib.KernelVsHost
public import Idealize.ShloMosaic.Lib.IdealHost

/-! The reference's two results over the extended reals are `attend` and `lse2` of its argument. -/

@[expose] public section

set_option maxRecDepth 16384

noncomputable section

namespace Cert.Attend.Ref

open Idealize.ShloMosaic Idealize.ShloMosaic.ValueIdx Idealize.ShloMosaic.StableHlo Cert.Reference2Ideal
open Cert.Reference2Ideal.Gen Cert.Reference2Ideal.Read

variable (X : (⟨S32x2048x1536, .bf16⟩ : BufTy).Contents (Elt Ideal))

/-! ### The heads of the argument -/

theorem q_apply (b : Fin 32) (t : Fin 2048) (n : Fin 8) (e : Fin 64) : val_main_v3 (F := Ideal) X (ix4 b t n e) = X (ix3 b t (feat 0 n e)) := by
  rw [val_main_v3_apply, val_main_v2_apply, val_main_v1_apply, val_main_v0_apply]
  refine congrArg X (funext fun a => ?_)
  have := b.isLt; have := t.isLt; have := n.isLt; have := e.isLt
  match a with
  | ⟨0, _⟩ => refine Fin.ext ?_; simp only [idx_main_v1, idx_main_v2, idx_main_v3, ix4, ix3, feat]; simp; omega
  | ⟨1, _⟩ => refine Fin.ext ?_; simp only [idx_main_v1, idx_main_v2, idx_main_v3, ix4, ix3, feat]; simp; omega
  | ⟨2, _⟩ => refine Fin.ext ?_; simp only [idx_main_v1, idx_main_v2, idx_main_v3, ix4, ix3, feat]; simp; omega

theorem k_apply (b : Fin 32) (t : Fin 2048) (n : Fin 8) (e : Fin 64) : val_main_v5 (F := Ideal) X (ix4 b t n e) = X (ix3 b t (feat 1 n e)) := by
  rw [val_main_v5_apply, val_main_v4_apply, val_main_v1_apply, val_main_v0_apply]
  refine congrArg X (funext fun a => ?_)
  have := b.isLt; have := t.isLt; have := n.isLt; have := e.isLt
  match a with
  | ⟨0, _⟩ => refine Fin.ext ?_; simp only [idx_main_v1, idx_main_v4, idx_main_v5, ix4, ix3, feat]; simp; omega
  | ⟨1, _⟩ => refine Fin.ext ?_; simp only [idx_main_v1, idx_main_v4, idx_main_v5, ix4, ix3, feat]; simp; omega
  | ⟨2, _⟩ => refine Fin.ext ?_; simp only [idx_main_v1, idx_main_v4, idx_main_v5, ix4, ix3, feat]; simp; omega

theorem v_apply (b : Fin 32) (t : Fin 2048) (n : Fin 8) (e : Fin 64) : val_main_v7 (F := Ideal) X (ix4 b t n e) = X (ix3 b t (feat 2 n e)) := by
  rw [val_main_v7_apply, val_main_v6_apply, val_main_v1_apply, val_main_v0_apply]
  refine congrArg X (funext fun a => ?_)
  have := b.isLt; have := t.isLt; have := n.isLt; have := e.isLt
  match a with
  | ⟨0, _⟩ => refine Fin.ext ?_; simp only [idx_main_v1, idx_main_v6, idx_main_v7, ix4, ix3, feat]; simp; omega
  | ⟨1, _⟩ => refine Fin.ext ?_; simp only [idx_main_v1, idx_main_v6, idx_main_v7, ix4, ix3, feat]; simp; omega
  | ⟨2, _⟩ => refine Fin.ext ?_; simp only [idx_main_v1, idx_main_v6, idx_main_v7, ix4, ix3, feat]; simp; omega

/-! ### The positions -/

theorem dist_apply (j : Fin 129) : val_main_v10 (F := Ideal) (ix1 j) = BitVec.ofNat 32 j.val * 4#32 := by
  rw [val_main_v10_apply, val_main_v9_apply, val_main_c_apply]
  unfold val_main_v8
  rfl

theorem at_apply (t : Fin 2048) (j : Fin 129) :
    val_main_v16 (F := Ideal) (ix2 t j) = BitVec.ofNat 32 t.val - BitVec.ofNat 32 j.val * 4#32 := by
  rw [val_main_v16_apply, val_main_v14_apply, val_main_v12_apply, val_main_v15_apply, val_main_v13_apply]
  have hi : idx_main_v13 (idx_main_v15 (ix2 t j)) = ix1 j := funext fun a => by match a with | ⟨0, _⟩ => rfl
  rw [hi, dist_apply]
  unfold val_main_v11
  rfl

theorem at_toInt (t : Fin 2048) (j : Fin 129) :
    (BitVec.ofNat 32 t.val - BitVec.ofNat 32 j.val * 4#32).toInt = (t.val : Int) - 4 * j.val := by
  have := t.isLt; have := j.isLt
  rw [BitVec.toInt_sub, BitVec.toInt_eq_toNat_bmod, BitVec.toInt_eq_toNat_bmod, BitVec.toNat_mul, BitVec.toNat_ofNat, BitVec.toNat_ofNat,
    BitVec.toNat_ofNat]
  simp only [Int.bmod]; omega

theorem sel_ofBool {α : Type} (p : Bool) (x y : α) : Scalar.select (BitVec.ofBool p) x y = if p then x else y := by
  cases p <;> rfl

theorem valid_apply (t : Fin 2048) (j : Fin 129) :
    val_main_v18 (F := Ideal) (ix2 t j) = BitVec.ofBool (decide (4 * j.val ≤ t.val)) := by
  rw [val_main_v18_apply, val_main_v17_apply, val_main_c_0_apply, at_apply]
  show BitVec.ofBool (BitVec.sle 0#32 _) = _
  congr 1
  rw [BitVec.sle_eq_decide, at_toInt]
  simp only [BitVec.toInt_zero]
  exact decide_eq_decide.2 (by omega)

theorem clip_toInt (t : Fin 2048) (j : Fin 129) : (val_main_v20 (F := Ideal) (ix2 t j) : BitVec 32).toInt = ((t.val - 4 * j.val : ℕ) : Int) := by
  rw [val_main_v20_apply, val_main_v19_apply, val_main_c_1_apply, at_apply]
  have hm := at_toInt t j
  generalize BitVec.ofNat 32 t.val - BitVec.ofNat 32 j.val * 4#32 = w at hm
  show (if BitVec.slt 0#32 w then w else 0#32).toInt = _
  split
  · rename_i h; rw [BitVec.slt_eq_decide, decide_eq_true_eq, hm] at h; simp at h; rw [hm]; omega
  · rename_i h; rw [BitVec.slt_eq_decide, decide_eq_true_eq, hm] at h; simp at h; simp; omega

theorem nonneg_sel {w : BitVec 32} (h : 0 ≤ w.toInt) (y : BitVec 32) : Scalar.select (BitVec.ofBool (BitVec.slt w 0#32)) y w = w := by
  have : BitVec.slt w 0#32 = false := by rw [BitVec.slt_eq_decide, decide_eq_false_iff_not]; simpa using h
  rw [this]; rfl

theorem first_apply (t : Fin 2048) (j : Fin 129) (u : Fin 1) : val_main_v26 (F := Ideal) (ix3 t j u) = val_main_v20 (F := Ideal) (ix2 t j) := by
  rw [val_main_v26_apply]
  have hi : idx_main_v26 (ix3 t j u) = ix2 t j := funext fun a => by match a with | ⟨0, _⟩ => rfl | ⟨1, _⟩ => rfl
  rw [hi, val_main_v25_apply, val_main_v22_apply, val_main_v21_apply, val_main_c_2_apply]
  have h0 : 0 ≤ (val_main_v20 (F := Ideal) (ix2 t j) : BitVec 32).toInt := by rw [clip_toInt]; omega
  exact nonneg_sel h0 _

theorem second_apply (t : Fin 2048) (j : Fin 129) (u : Fin 1) : val_main_v33 (F := Ideal) (ix3 t j u) = val_main_v20 (F := Ideal) (ix2 t j) := by
  rw [val_main_v33_apply]
  have hi : idx_main_v33 (ix3 t j u) = ix2 t j := funext fun a => by match a with | ⟨0, _⟩ => rfl | ⟨1, _⟩ => rfl
  rw [hi, val_main_v32_apply, val_main_v29_apply, val_main_v28_apply, val_main_c_4_apply]
  have h0 : 0 ≤ (val_main_v20 (F := Ideal) (ix2 t j) : BitVec 32).toInt := by rw [clip_toInt]; omega
  exact nonneg_sel h0 _

/-- The gather along the positions, read at an index whose start is a position. -/
theorem gather_at {α : Type} (x : S32x2048x8x64.Idx → α) (idx : IVec S2048x129x1 32) (b : Fin 32) (t : Fin 2048) (j : Fin 129) (n : Fin 8) (e : Fin 64)
    (p : Fin 2048) (hp : (idx (ix3 t j (0 : Fin 1))).toInt = p.val) :
    Host.gather gather_S32x2048x8x64_S2048x129x1_S32x2048x129x8x64_034_1_n_n_1_2_321864 x idx (ix5 b t j n e) = x (ix4 b p n e) := by
  unfold Host.gather
  congr 1
  funext a
  refine Fin.ext ?_
  generalize hd : gather_S32x2048x8x64_S2048x129x1_S32x2048x129x8x64_034_1_n_n_1_2_321864 = d
  show d.start (ix5 b t j n e) idx a + d.batchCoord (ix5 b t j n e) a + d.offCoord (ix5 b t j n e) a = _
  subst hd
  rw [GatherDims.batchCoord_eq_zero _ _ _ List.not_mem_nil, Nat.add_zero]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start
    rw [dif_neg (show (0 : Fin S32x2048x8x64.rank) ∉ gather_S32x2048x8x64_S2048x129x1_S32x2048x129x8x64_034_1_n_n_1_2_321864.startIndexMap from (by decide : (0 : Fin 4) ∉ ([1] : List (Fin 4)))), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin S32x2048x8x64.rank) ∈ gather_S32x2048x8x64_S2048x129x1_S32x2048x129x8x64_034_1_n_n_1_2_321864.startIndexMap from List.mem_singleton.mpr rfl)]
    have hsi : gather_S32x2048x8x64_S2048x129x1_S32x2048x129x8x64_034_1_n_n_1_2_321864.siIdx (ix5 b t j n e)
        ⟨List.idxOf (1 : Fin S32x2048x8x64.rank) gather_S32x2048x8x64_S2048x129x1_S32x2048x129x8x64_034_1_n_n_1_2_321864.startIndexMap,
          List.idxOf_lt_length_iff.2 (List.mem_singleton.mpr rfl)⟩ = ix3 t j (0 : Fin 1) := by
      funext c; refine Fin.ext ?_
      match c with
      | ⟨0, _⟩ => rfl
      | ⟨1, _⟩ => rfl
      | ⟨2, _⟩ => rfl
    have hq := hp
    rw [← hsi] at hq
    refine (congrArg (fun z : Int => min z.toNat (2048 - 1)) hq).trans ?_
    have := p.isLt
    show min (p.val : Int).toNat (2048 - 1) = p.val
    omega
  · unfold GatherDims.start
    rw [dif_neg (show (2 : Fin S32x2048x8x64.rank) ∉ gather_S32x2048x8x64_S2048x129x1_S32x2048x129x8x64_034_1_n_n_1_2_321864.startIndexMap from (by decide : (2 : Fin 4) ∉ ([1] : List (Fin 4)))), Nat.zero_add]
    rfl
  · unfold GatherDims.start
    rw [dif_neg (show (3 : Fin S32x2048x8x64.rank) ∉ gather_S32x2048x8x64_S2048x129x1_S32x2048x129x8x64_034_1_n_n_1_2_321864.startIndexMap from (by decide : (3 : Fin 4) ∉ ([1] : List (Fin 4)))), Nat.zero_add]
    rfl

theorem kg_apply (b : Fin 32) (t : Fin 2048) (j : Fin 129) (n : Fin 8) (e : Fin 64) :
    val_main_v27 (F := Ideal) X (ix5 b t j n e) = X (ix3 b (back t j) (feat 1 n e)) := by
  unfold val_main_v27
  rw [gather_at _ _ b t j n e (back t j) (by rw [first_apply, clip_toInt]; rfl), k_apply]

theorem vg_apply (b : Fin 32) (t : Fin 2048) (j : Fin 129) (n : Fin 8) (e : Fin 64) :
    val_main_v34 (F := Ideal) X (ix5 b t j n e) = X (ix3 b (back t j) (feat 2 n e)) := by
  unfold val_main_v34
  rw [gather_at _ _ b t j n e (back t j) (by rw [second_apply, clip_toInt]; rfl), v_apply]

/-! ### The scores -/

theorem bits_eighth : FloatOps.ofBits (F := Ideal) .f32 0x3E000000#32 = ((1 / 8 : ℝ) : EReal) := by
  show Ideal.ofBits .f32 0x3E000000#32 = _
  simp [Ideal.ofBits, Ideal.ieee, -EReal.coe_mul]; norm_num
theorem bits_two : FloatOps.ofBits (F := Ideal) .f32 0x40000000#32 = ((2 : ℝ) : EReal) := by
  show Ideal.ofBits .f32 0x40000000#32 = _
  simp [Ideal.ofBits, Ideal.ieee, -EReal.coe_mul]; norm_num
theorem bits_eight : FloatOps.ofBits (F := Ideal) .f32 0x41000000#32 = ((8 : ℝ) : EReal) := by
  show Ideal.ofBits .f32 0x41000000#32 = _
  simp [Ideal.ofBits, Ideal.ieee, -EReal.coe_mul]; norm_num
theorem bits_minus_eight : FloatOps.ofBits (F := Ideal) .f32 0xC1000000#32 = ((-8 : ℝ) : EReal) := by
  show Ideal.ofBits .f32 0xC1000000#32 = _
  simp [Ideal.ofBits, Ideal.ieee, -EReal.coe_mul]; norm_num
theorem bits_one : FloatOps.ofBits (F := Ideal) .f32 0x3F800000#32 = ((1 : ℝ) : EReal) := by
  show Ideal.ofBits .f32 0x3F800000#32 = _
  simp [Ideal.ofBits, Ideal.ieee, -EReal.coe_mul]; norm_num
theorem bits_zero : FloatOps.ofBits (F := Ideal) .f32 0x00000000#32 = (0 : EReal) := by
  show Ideal.ofBits .f32 0x00000000#32 = _
  simp [Ideal.ofBits, Ideal.ieee]
theorem bits_bot : FloatOps.ofBits (F := Ideal) .f32 0xFF800000#32 = (⊥ : EReal) := by
  show Ideal.ofBits .f32 0xFF800000#32 = _
  simp [Ideal.ofBits, Ideal.ieee]

theorem log_two : Ideal.log ((2 : ℝ) : EReal) = ((Real.log 2 : ℝ) : EReal) := by
  rw [Ideal.log_coe, if_neg (by norm_num)]

theorem slope_apply (n : Fin 8) : val_main_v48 (F := Ideal) (ix1 n) = ((slope n : ℝ) : EReal) := by
  rw [val_main_v48_apply, val_main_v47_apply, val_main_v46_apply, val_main_v45_apply, val_main_cst_9_apply, val_main_v44_apply,
    val_main_v43_apply, val_main_cst_8_apply, val_main_v42_apply, val_main_v41_apply, val_main_cst_7_apply, val_main_v40_apply,
    val_main_v39_apply, val_main_cst_6_apply, bits_two, bits_eight, bits_minus_eight, bits_one]
  have hn : val_main_v38 (F := Ideal) (ix1 n) = ((n.val : ℝ) : EReal) := by
    unfold val_main_v38
    show (((BitVec.ofNat 32 n.val).toInt : ℝ) : EReal) = _
    have : (BitVec.ofNat 32 n.val).toInt = (n.val : Int) := by
      have := n.isLt
      rw [BitVec.toInt_eq_toNat_bmod, BitVec.toNat_ofNat]; simp only [Int.bmod]; omega
    rw [this]; simp
  rw [hn]
  show Ideal.exp (Ideal.div (((-8 : ℝ) : EReal) * (((1 : ℝ) : EReal) + ((n.val : ℝ) : EReal))) ((8 : ℝ) : EReal) * Ideal.log ((2 : ℝ) : EReal)) = _
  rw [log_two, ← EReal.coe_add, ← EReal.coe_mul, div_coe _ _ (by norm_num), ← EReal.coe_mul, Ideal.exp_coe]
  congr 1
  have : (-8 : ℝ) * (1 + (n.val : ℝ)) / 8 * Real.log 2 = -(((n.val + 1 : ℕ) : ℝ) * Real.log 2) := by push_cast; ring
  rw [this, Real.exp_neg, Real.exp_nat_mul, Real.exp_log (by norm_num)]
  rfl

theorem far_apply (j : Fin 129) : val_main_v50 (F := Ideal) (ix1 j) = ((4 * (j.val : ℝ) : ℝ) : EReal) := by
  rw [val_main_v50_apply, dist_apply]
  show (((BitVec.ofNat 32 j.val * 4#32).toInt : ℝ) : EReal) = _
  have : (BitVec.ofNat 32 j.val * 4#32).toInt = 4 * (j.val : Int) := by
    have := j.isLt
    rw [BitVec.toInt_eq_toNat_bmod, BitVec.toNat_mul, BitVec.toNat_ofNat, BitVec.toNat_ofNat]; simp only [Int.bmod]; omega
  rw [this]; push_cast; rfl

theorem score_apply (b : Fin 32) (n : Fin 8) (t : Fin 2048) (j : Fin 129) :
    val_main_v58 (F := Ideal) X (ix4 b n t j) = scores X b n t j := by
  rw [val_main_v58_apply, val_main_call0_v1_apply, val_main_call0_v2_apply, val_main_call0_v0_apply, val_main_cst_10_apply,
    val_main_v57_apply, val_main_v37_apply, val_main_v36_apply, val_main_cst_apply, val_main_v56_apply, val_main_v55_apply,
    val_main_v54_apply, val_main_v52_apply, val_main_v49_apply, val_main_v53_apply, val_main_v51_apply, val_main_v35_apply]
  have h1 : idx_main_call0_v1 (ix4 b n t j) = ix2 t j := funext fun a => by match a with | ⟨0, _⟩ => rfl | ⟨1, _⟩ => rfl
  have h2 : idx_main_v49 (idx_main_v52 (idx_main_v55 (idx_main_v56 (ix4 b n t j)))) = ix1 n := funext fun a => by match a with | ⟨0, _⟩ => rfl
  have h3 : idx_main_v51 (idx_main_v53 (idx_main_v55 (idx_main_v56 (ix4 b n t j)))) = ix1 j := funext fun a => by match a with | ⟨0, _⟩ => rfl
  have hl (e : Fin 64) : lidx_main_v35 (ix4 b n t j) e = ix4 b t n e :=
    funext fun a => by match a with | ⟨0, _⟩ => rfl | ⟨1, _⟩ => rfl | ⟨2, _⟩ => rfl | ⟨3, _⟩ => rfl
  have hr (e : Fin 64) : ridx_main_v35 (ix4 b n t j) e = ix5 b t j n e :=
    funext fun a => by match a with | ⟨0, _⟩ => rfl | ⟨1, _⟩ => rfl | ⟨2, _⟩ => rfl | ⟨3, _⟩ => rfl | ⟨4, _⟩ => rfl
  rw [h1, h2, h3, valid_apply, slope_apply, far_apply, bits_eighth, sel_ofBool]
  simp only [hl, hr, q_apply, kg_apply]
  unfold scores
  by_cases h : 4 * j.val ≤ t.val
  · rw [if_pos h, if_pos (by simpa using h)]; rfl
  · rw [if_neg h, if_neg (by simpa using h)]; exact bits_bot

/-! ### The softmax -/

theorem max_eq (y : FVec Ideal S32x8x2048x129 .f32) (hR : S32x8x2048x129.Reduces [3] S32x8x2048) :
    Host.reduce FloatOps.maximumf y (constant S_ .f32 0xFF800000#32) reducesTo_S32x8x2048x129_S32x8x2048_d3 h_S_
      = multiReduction .maximumf [3] S32x8x2048 y 0xFF800000#32 hR (.inl rfl) rfl :=
  hostReduce_maximumf_eq_multiReduction (F := Ideal) (s := S32x8x2048x129) (t := S32x8x2048) (u := S_) (φ := .f32) (axes := [3]) y 0xFF800000#32
    reducesTo_S32x8x2048x129_S32x8x2048_d3 h_S_ hR (.inl rfl) rfl

theorem most_apply (b : Fin 32) (n : Fin 8) (t : Fin 2048) : val_main_v59 (F := Ideal) X (ix3 b n t) = most (scores X b n t) := by
  unfold val_main_v59 val_main_cst_11
  have hR : S32x8x2048x129.Reduces [3] S32x8x2048 := by decide
  rw [max_eq _ hR]
  refine (Ideal.multiReduction_maximumf_single (val_main_v58 (F := Ideal) X) _ hR _ _ (ix3 b n t)).trans ?_
  rw [bits_bot]
  refine (congrArg (Finset.fold max (⊥ : EReal) · Finset.univ) (funext fun k => ?_) :
    _ = Finset.fold max (⊥ : EReal) (fun j : Fin 129 => scores X b n t j) Finset.univ)
  refine (congrArg (val_main_v58 (F := Ideal) X) ?_).trans (score_apply X b n t k)
  funext a; match a with | ⟨0, _⟩ => rfl | ⟨1, _⟩ => rfl | ⟨2, _⟩ => rfl | ⟨3, _⟩ => rfl

theorem pow_apply (b : Fin 32) (n : Fin 8) (t : Fin 2048) (j : Fin 129) :
    val_main_v63 (F := Ideal) X (ix4 b n t j) = pow (scores X b n t) j := by
  rw [val_main_v63_apply, val_main_v62_apply, val_main_v61_apply, val_main_v60_apply, score_apply]
  have h1 : idx_main_v60 (idx_main_v61 (ix4 b n t j)) = ix3 b n t := funext fun a => by match a with | ⟨0, _⟩ => rfl | ⟨1, _⟩ => rfl | ⟨2, _⟩ => rfl
  rw [h1, most_apply]
  rfl

theorem den_apply (b : Fin 32) (n : Fin 8) (t : Fin 2048) : val_main_v64 (F := Ideal) X (ix3 b n t) = ∑ j, pow (scores X b n t) j := by
  rw [val_main_v64_apply, val_main_cst_12_apply, bits_zero]
  have h1 (j : Fin 129) : idx_main_v64 (ix3 b n t) j = ix4 b n t j :=
    funext fun a => by match a with | ⟨0, _⟩ => rfl | ⟨1, _⟩ => rfl | ⟨2, _⟩ => rfl | ⟨3, _⟩ => rfl
  simp only [h1, pow_apply]
  exact zero_add _

theorem attend_apply (b : Fin 32) (t : Fin 2048) (n : Fin 8) (e : Fin 64) : val_main_v68 (F := Ideal) X (ix4 b t n e) = attend X b n t e := by
  rw [val_main_v68_apply]
  have hl (j : Fin 129) : lidx_main_v68 (ix4 b t n e) j = ix4 b n t j :=
    funext fun a => by match a with | ⟨0, _⟩ => rfl | ⟨1, _⟩ => rfl | ⟨2, _⟩ => rfl | ⟨3, _⟩ => rfl
  have hr (j : Fin 129) : ridx_main_v68 (ix4 b t n e) j = ix5 b t j n e :=
    funext fun a => by match a with | ⟨0, _⟩ => rfl | ⟨1, _⟩ => rfl | ⟨2, _⟩ => rfl | ⟨3, _⟩ => rfl | ⟨4, _⟩ => rfl
  have hd (j : Fin 129) : idx_main_v65 (idx_main_v66 (ix4 b n t j)) = ix3 b n t :=
    funext fun a => by match a with | ⟨0, _⟩ => rfl | ⟨1, _⟩ => rfl | ⟨2, _⟩ => rfl
  simp only [hl, hr, vg_apply, val_main_v67_apply, val_main_v66_apply, val_main_v65_apply, hd, pow_apply, den_apply]
  rfl

theorem lse_apply (b : Fin 32) (n : Fin 8) (t : Fin 2048) : val_main_v73 (F := Ideal) X (ix3 b n t) = lse2 X b n t := by
  rw [val_main_v73_apply, val_main_v72_apply, val_main_v71_apply, val_main_cst_13_apply, val_main_v70_apply, val_main_v69_apply,
    most_apply, den_apply, bits_two]
  show Ideal.div _ (Ideal.log ((2 : ℝ) : EReal)) = _
  rw [log_two]
  rfl

/-! ### The two results -/

theorem result_o (b : Fin 32) (p : Fin 512) (r : Fin 4) (n : Fin 8) (e : Fin 64) (x : Fin 2048) (t : Fin 2048)
    (hx : x.val = 512 * r.val + 64 * n.val + e.val) (ht : t.val = 4 * p.val + r.val) :
    val_main_v78 (F := Ideal) X (ix3 b p x) = attend X b n t e := by
  rw [val_main_v78_apply, val_main_v77_apply]
  have hi : idx_main_v77 (ix3 b p x) = ix4 b t n e := funext fun a => by
    have := b.isLt; have := p.isLt; have := r.isLt; have := n.isLt; have := e.isLt
    match a with
    | ⟨0, _⟩ => refine Fin.ext ?_; simp only [idx_main_v77, ix4, ix3]; simp; omega
    | ⟨1, _⟩ => refine Fin.ext ?_; simp only [idx_main_v77, ix4, ix3]; simp; omega
    | ⟨2, _⟩ => refine Fin.ext ?_; simp only [idx_main_v77, ix4, ix3]; simp; omega
    | ⟨3, _⟩ => refine Fin.ext ?_; simp only [idx_main_v77, ix4, ix3]; simp; omega
  rw [hi]
  exact attend_apply X b t n e

theorem joined_head (b : Fin 32) (t : Fin 2048) (n : Fin 8) (l : Fin 128) (hl : l.val = n.val) :
    val_main_v76 (F := Ideal) X (ix3 b t l) = lse2 X b n t := by
  unfold val_main_v76
  refine (concatenate_pair_apply_left (s₁ := S32x2048x8) (s₂ := S32x2048x120) (2 : Fin S32x2048x128.rank) (val_main_v74 (F := Ideal) X)
    (val_main_v75 (F := Ideal)) concatenates_S32x2048x8_S32x2048x120_S32x2048x128_d2 (ix3 b t l) rfl (ix3 b t n : S32x2048x8.Idx)
    (fun a => by match a with | ⟨0, _⟩ => rfl | ⟨1, _⟩ => rfl | ⟨2, _⟩ => exact hl.symm)).trans ?_
  rw [val_main_v74_apply]
  have hi : idx_main_v74 (ix3 b t n) = ix3 b n t := funext fun a => by match a with | ⟨0, _⟩ => rfl | ⟨1, _⟩ => rfl | ⟨2, _⟩ => rfl
  rw [hi, lse_apply]

theorem joined_rest (b : Fin 32) (t : Fin 2048) (l : Fin 128) (hl : 8 ≤ l.val) : val_main_v76 (F := Ideal) X (ix3 b t l) = (0 : EReal) := by
  unfold val_main_v76
  have hlt := l.isLt
  refine (concatenate_pair_apply_right (s₁ := S32x2048x8) (s₂ := S32x2048x120) (2 : Fin S32x2048x128.rank) (val_main_v74 (F := Ideal) X)
    (val_main_v75 (F := Ideal)) concatenates_S32x2048x8_S32x2048x120_S32x2048x128_d2 (ix3 b t l) rfl rfl
    (ix3 b t (⟨l.val - 8, by omega⟩ : Fin 120) : S32x2048x120.Idx)
    (fun a ha => by match a with | ⟨0, _⟩ => rfl | ⟨1, _⟩ => rfl | ⟨2, _⟩ => exact absurd rfl ha)
    (by show l.val - 8 + 8 = l.val; omega)).trans ?_
  rw [val_main_v75_apply, val_main_cst_14_apply, bits_zero]

theorem result_lse (b : Fin 32) (p : Fin 512) (r : Fin 4) (l : Fin 128) (x : Fin 512) (t : Fin 2048)
    (hx : x.val = 128 * r.val + l.val) (ht : t.val = 4 * p.val + r.val) :
    val_main_v79 (F := Ideal) X (ix3 b p x) = if h : l.val < 8 then lse2 X b ⟨l.val, h⟩ t else 0 := by
  rw [val_main_v79_apply]
  have hi : idx_main_v79 (ix3 b p x) = ix3 b t l := funext fun a => by
    have := b.isLt; have := p.isLt; have := r.isLt; have := l.isLt
    match a with
    | ⟨0, _⟩ => refine Fin.ext ?_; simp only [idx_main_v79, ix3]; simp; omega
    | ⟨1, _⟩ => refine Fin.ext ?_; simp only [idx_main_v79, ix3]; simp; omega
    | ⟨2, _⟩ => refine Fin.ext ?_; simp only [idx_main_v79, ix3]; simp; omega
  rw [hi]
  by_cases h : l.val < 8
  · rw [dif_pos h]; exact joined_head X b t ⟨l.val, h⟩ l rfl
  · rw [dif_neg h]; exact joined_rest X b t l (by omega)

end Cert.Attend.Ref
-- ==== Proof.Attend.Final.lean ====
module

public import proofs.«01_k».proof.Proof.Attend.Arrays
public import proofs.«01_k».proof.Proof.Attend.Ref2
public import proofs.«01_k».proof.Pre_finite2

/-! The attention call's two arrays are the reference's, at finite arguments. -/

@[expose] public section

set_option maxRecDepth 16384

noncomputable section

namespace Cert.Attend

open Cert.Kernel2Ideal Cert.Kernel2Ideal.Gen
open Idealize.ShloMosaic Idealize.ShloMosaic.TcCoe Idealize.ShloMosaic.ValueIdx

theorem bits_top : Ideal.ofBits .bf16 0x7F80#16 = ⊤ := by
  simp [Ideal.ofBits, Ideal.ieee]

/-- Where the predicate holds, every element is a real number. -/
theorem finite_entry [Cert.Pre_finite2.Facts] (X : S32x2048x1536.Idx → EReal) (h : Cert.Pre_finite2.fn (F := Ideal) X = fun _ => 1#1)
    (y : S32x2048x1536.Idx) : X y = ((X y).toReal : EReal) := by
  have hy : BitVec.ofBool (decide (max (X y) (-X y) < Ideal.ofBits .bf16 0x7F80#16)) = 1#1 := congrFun h y
  rw [bits_top] at hy
  have hlt : max (X y) (-X y) < ⊤ := by
    by_contra hn
    rw [decide_eq_false hn] at hy
    exact absurd hy (by decide)
  obtain ⟨ht, hb⟩ := max_lt_iff.mp hlt
  refine (EReal.coe_toReal ht.ne (fun e => ?_)).symm
  rw [e] at hb
  exact absurd hb (by simp)

variable (m : (ℓ : Loc nD τ sig) → Buf (Elt Ideal) ℓ) (c : Dev nD)

theorem final4 [Cert.Pre_finite2.Facts] (h : Cert.Pre_finite2.fn (F := Ideal) (arg m c) = fun _ => 1#1) :
    (dats m 0 c).arrAt 4 cfg0.N = Cert.Reference2Ideal.Read.val_main_v78 (F := Ideal) (arg m c) :=
  final_attend m c _ (fun b p r n e x t hx ht => Ref.result_o (arg m c) b p r n e x t hx ht) (fun y => finite_entry _ h y)

theorem final5 [Cert.Pre_finite2.Facts] (h : Cert.Pre_finite2.fn (F := Ideal) (arg m c) = fun _ => 1#1) :
    (dats m 0 c).arrAt 5 cfg0.N = Cert.Reference2Ideal.Read.val_main_v79 (F := Ideal) (arg m c) :=
  final_sums m c _ (fun b p r l x t hx ht => Ref.result_lse (arg m c) b p r l x t hx ht) (fun y => finite_entry _ h y)

end Cert.Attend
-- ==== Proof.Norm.Value3.lean ====
module

public import proofs.«01_k».proof.Proof.Gen.Kernel3Ideal.Value
public import proofs.«01_k».proof.Proof.Gen.Reference3Ideal.Read
public import proofs.«01_k».proof.Proof.Spec
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.Pipeline.ValueKit.Tiles
public import Idealize.ShloMosaic.Lib.Pipeline.ValueKit.Geometry
public import Idealize.ShloMosaic.Lib.Pipeline.Covers

/-! The out-projection of a mixer with the layer norm of the scaled token plus it: the array the grid leaves, and the
reference's. -/

@[expose] public section

set_option maxRecDepth 16384

noncomputable section

namespace Cert.Norm3

open Cert.Kernel3Ideal Cert.Kernel3Ideal.Gen
open Idealize.ShloMosaic Idealize.ShloMosaic.TcCoe Idealize.ShloMosaic.ValueIdx
open Idealize.ShloMosaic.Pipeline (Dat Cfg Window)
open Cert.Moe (mean norm width)

/-- A row before its norm: the scaled token plus the mixer's row through the weights. -/
def summed (x o : Fin 1024 → EReal) (w : Fin 1024 → Fin 1024 → EReal) (d : Fin 1024) : EReal :=
  Ideal.ofBits .f32 0x3FD744FD#32 * x d + ∑ k, o k * w k d

/-! ### The body's block -/

theorem through_apply (o : FVec Ideal S512x1024 .bf16) (w : FVec Ideal S1024x1024 .bf16) (r : Fin 512) (d : Fin 1024) :
    matmul dot_S512x1024_S1024x1024_S512x1024_1_0_0_1_n_n none o w (constant S512x1024 .f32 0x00000000#32) (ix2 r d)
      = ∑ k : Fin 1024, o (ix2 r k) * w (ix2 k d) := by
  refine (Ideal.matmul_plain_apply (M := 512) (K := 1024) (N := 1024) none o w _ r d).trans ?_
  show Ideal.ofBits .f32 0x00000000#32 + _ = _
  rw [Ideal.ofBits_zero_f32, zero_add]

theorem column_apply {α : Type} (x : S512.Idx → α) (r : Fin 512) (u : Fin 1) :
    shapeCast S512x1 x shapeCasts_S512_S512x1 (ix2 r u) = x (ix1 r) :=
  shapeCast_a_a1_apply x _ r u

theorem spread_apply {α : Type} (x : S512x1.Idx → α) (r : Fin 512) (d : Fin 1024) :
    broadcastTo S512x1024 x broadcasts_S512x1_S512x1024 (ix2 r d) = x (ix2 r 0) :=
  broadcastTo_apply x _ _ _ (fun a => by match a with | ⟨0, _⟩ => rfl | ⟨1, _⟩ => rfl)

theorem spreadRow_apply {α : Type} (x : S1x1024.Idx → α) (r : Fin 512) (d : Fin 1024) :
    broadcastTo S512x1024 x broadcasts_S1x1024_S512x1024 (ix2 r d) = x (ix2 0 d) :=
  broadcastTo_apply x _ _ _ (fun a => by match a with | ⟨0, _⟩ => rfl | ⟨1, _⟩ => rfl)

theorem rowSum_apply (x : FVec Ideal S512x1024 .f32) (r : Fin 512) :
    multiReduction .add [1] S512 x 0x00000000#32 reduces_S512x1024_S512 (.inl rfl) rfl (ix1 r) = ∑ k : Fin 1024, x (ix2 r k) := by
  refine (Ideal.multiReduction_add_single x _ _ _ _ (ix1 r)).trans (Finset.sum_congr rfl fun k _ => congrArg x ?_)
  funext a; match a with | ⟨0, _⟩ => rfl | ⟨1, _⟩ => rfl

theorem pay_apply (o : FVec Ideal S512x1024 .bf16) (w : FVec Ideal S1024x1024 .bf16) (x : FVec Ideal S512x1024 .f32) (g b : FVec Ideal S1x1024 .f32)
    (r : Fin 512) (d : Fin 1024) :
    k0_pay1 (F := Ideal) o w x g b (ix2 r d)
      = norm (summed (fun d => x (ix2 r d)) (fun k => o (ix2 r k)) (fun k d => w (ix2 k d))) (fun d => g (ix2 0 d)) (fun d => b (ix2 0 d)) d := by
  unfold k0_pay1
  dsimp only
  set z : FVec Ideal S512x1024 .f32 := addf (mulf (broadcast S512x1024 (Scalar.ofBits (F := Ideal) .f32 0x3FD744FD#32)) x) _ with hz
  have hzr : ∀ d : Fin 1024, z (ix2 r d) = summed (fun d => x (ix2 r d)) (fun k => o (ix2 r k)) (fun k d => w (ix2 k d)) d := fun d => by
    rw [hz]
    show Ideal.ofBits .f32 0x3FD744FD#32 * x (ix2 r d) + matmul _ none _ _ _ (ix2 r d) = _
    rw [shapeCast_self, through_apply]; rfl
  clear_value z
  have hm : ∀ x : FVec Ideal S512x1024 .f32, ∀ d : Fin 1024,
      broadcastTo S512x1024 (divf (shapeCast S512x1 (multiReduction .add [1] S512 x 0x00000000#32 reduces_S512x1024_S512 (.inl rfl) rfl) shapeCasts_S512_S512x1)
        (broadcast S512x1 (Scalar.ofBits (F := Ideal) .f32 0x44800000#32))) broadcasts_S512x1_S512x1024 (ix2 r d) = mean (fun k => x (ix2 r k)) := fun x d => by
    rw [spread_apply]
    show Ideal.div (shapeCast S512x1 _ _ (ix2 r 0)) _ = _
    rw [column_apply, rowSum_apply]; rfl
  have hc : ∀ k : Fin 1024, subf z (broadcastTo S512x1024 (divf (shapeCast S512x1 (multiReduction .add [1] S512 z 0x00000000#32 reduces_S512x1024_S512 (.inl rfl) rfl) shapeCasts_S512_S512x1)
        (broadcast S512x1 (Scalar.ofBits (F := Ideal) .f32 0x44800000#32))) broadcasts_S512x1_S512x1024) (ix2 r k)
      = z (ix2 r k) - mean (fun k => z (ix2 r k)) := fun k => by
    show z (ix2 r k) - _ = _
    rw [hm z k]
  rw [← funext hzr]
  unfold Cert.Moe.norm
  show (subf _ _ (ix2 r d)) * broadcastTo S512x1024 _ _ (ix2 r d) * broadcastTo S512x1024 _ _ (ix2 r d) + broadcastTo S512x1024 _ _ (ix2 r d) = _
  rw [hc d, spread_apply, spreadRow_apply, spreadRow_apply, shapeCast_self, shapeCast_self]
  refine congrArg (fun e : EReal => (z (ix2 r d) - mean (fun k => z (ix2 r k))) * e * g (ix2 0 d) + b (ix2 0 d)) ?_
  show Ideal.rsqrt (Ideal.div (shapeCast S512x1 _ _ (ix2 r 0)) _ + _) = _
  rw [column_apply, rowSum_apply]
  refine congrArg (fun e : EReal => Ideal.rsqrt (Ideal.div e width + Ideal.ofBits .f32 0x3727C5AC#32)) (Finset.sum_congr rfl fun k _ => ?_)
  show subf _ _ (ix2 r k) * subf _ _ (ix2 r k) = _
  rw [hc k]

theorem zeros : (![0, 0] : Fin 2 → Nat) = fun _ => 0 := by
  funext a; match a with | ⟨0, _⟩ => rfl | ⟨1, _⟩ => rfl

theorem out_apply (o : FVec Ideal S512x1024 .bf16) (w : FVec Ideal S1024x1024 .bf16) (x : FVec Ideal S512x1024 .f32) (g b : FVec Ideal S1x1024 .f32)
    (r : Fin 512) (d : Fin 1024) :
    out0_5 (F := Ideal) o w x g b (ix2 r d)
      = norm (summed (fun d => x (ix2 r d)) (fun k => o (ix2 r k)) (fun k d => w (ix2 k d))) (fun d => g (ix2 0 d)) (fun d => b (ix2 0 d)) d := by
  unfold out0_5
  rw [View.canon_unit_zero zeros, View.ld_unit_zero zeros, View.ld_unit_zero zeros, View.ld_unit_zero zeros, View.ld_unit_zero zeros,
    View.ld_unit_zero zeros]
  exact pay_apply o w x g b r d

/-! ### The array -/

theorem blk_read (b : Ref sig .tc) (off size : Fin b.ty.shape.rank → Nat) (inb)
    (X : b.ty.shape.Idx → Elt Ideal b.ty.elt) (y : (Rect.unit off size inb).shape.Idx) (i : b.ty.shape.Idx)
    (hi : ∀ a, (i a).val = off a + (y a).val) :
    ((View.whole b).slice (Rect.unit off size inb)).read (Elt Ideal) X y = X i := by
  refine congrArg X (funext fun a => Fin.ext ?_)
  exact (ValueKit.view_emb_slice_whole_unit_val b off size inb y a).trans (hi a).symm

theorem blk_mem (b : Ref sig .tc) (off size : Fin b.ty.shape.rank → Nat) (inb) (i : b.ty.shape.Idx)
    (hi : ∀ a, off a ≤ (i a).val ∧ (i a).val < off a + size a) : i ∈ ((View.whole b).slice (Rect.unit off size inb)).set := by
  rw [View.set_slice_whole, Rect.mem_set_unit]; exact hi

variable (m : (ℓ : Loc nD τ sig) → Buf (Elt Ideal) ℓ) (c : Dev nD)

abbrev mixed : S65536x1024.Idx → EReal := m ((c.tc : Thread nD τ).loc main_arg0)
abbrev weights : S1024x1024.Idx → EReal := m ((c.tc : Thread nD τ).loc main_arg1)
abbrev tokens : S65536x1024.Idx → EReal := m ((c.tc : Thread nD τ).loc main_arg2)
abbrev gain : S1024.Idx → EReal := m ((c.tc : Thread nD τ).loc main_arg3)
abbrev shift : S1024.Idx → EReal := m ((c.tc : Thread nD τ).loc main_arg4)

theorem lift_apply {α : Type} (x : S1024.Idx → α) (d : Fin 1024) : shapeCast S1x1024 x shapeCasts_S1024_S1x1024 (ix2 0 d) = x (ix1 d) :=
  shapeCast_apply x _ _ _ (by
    rw [Shape.rowMajor_val_one, Shape.rowMajor_val_two]
    show d.val = 0 * 1024 + d.val
    omega)

theorem V_v0 : V m c main_v0 = weights m c := by
  unfold V hostOps0; after_results; rfl

theorem V_v1 (d : Fin 1024) : V m c main_v1 (ix2 0 d) = gain m c (ix1 d) := by
  have e : V m c main_v1 = shapeCast S1x1024 (gain m c) shapeCasts_S1024_S1x1024 := by
    unfold V hostOps0; after_results; rfl
  rw [e]; exact lift_apply _ d

theorem V_v2 (d : Fin 1024) : V m c main_v2 (ix2 0 d) = shift m c (ix1 d) := by
  have e : V m c main_v2 = shapeCast S1x1024 (shift m c) shapeCasts_S1024_S1x1024 := by
    unfold V hostOps0; after_results; rfl
  rw [e]; exact lift_apply _ d

/-- A row of a point's block, as a row of the tokens. -/
def rowOf (i : grid0.Coords) (r : Fin 512) : Fin 65536 := ⟨512 * (i 0).val + r.val, by have : (i 0).val < 128 := (i 0).isLt; omega⟩

theorem word (n : Nat) (h : n < 128) : (BitVec.ofNat 32 n).toNat = n := by
  rw [BitVec.toNat_ofNat]; exact Nat.mod_eq_of_lt (by omega)

/-- The blocks of a point. -/
abbrev mixedBlk (t : Fin cfg0.N) : S512x1024.Idx → EReal := iblk m c 0 t
abbrev weightsBlk (t : Fin cfg0.N) : S1024x1024.Idx → EReal := iblk m c 1 t
abbrev tokensBlk (t : Fin cfg0.N) : S512x1024.Idx → EReal := iblk m c 2 t
abbrev gainBlk (t : Fin cfg0.N) : S1x1024.Idx → EReal := iblk m c 3 t
abbrev shiftBlk (t : Fin cfg0.N) : S1x1024.Idx → EReal := iblk m c 4 t

theorem iblk0_apply (t : Fin cfg0.N) (r : Fin 512) (k : Fin 1024) : mixedBlk m c t (ix2 r k) = mixed m c (ix2 (rowOf (grid0.coords t) r) k) := by
  have h0 : (grid0.coords t 0).val < 128 := (grid0.coords t 0).isLt
  refine (blk_read main_arg0 _ _ _ (V m c main_arg0) (ix2 r k) (ix2 (rowOf (grid0.coords t) r) k) (fun ax => ?_)).trans (congrFun (V_main_arg0 m c) _)
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem iblk1_apply (t : Fin cfg0.N) (k d : Fin 1024) : weightsBlk m c t (ix2 k d) = weights m c (ix2 k d) := by
  rw [← V_v0 m c]
  refine blk_read main_v0 _ _ _ (V m c main_v0) (ix2 k d) (ix2 k d) (fun ax => ?_)
  match ax with
  | ⟨0, _⟩ => exact (Nat.zero_add _).symm
  | ⟨1, _⟩ => exact (Nat.zero_add _).symm

theorem iblk2_apply (t : Fin cfg0.N) (r : Fin 512) (k : Fin 1024) : tokensBlk m c t (ix2 r k) = tokens m c (ix2 (rowOf (grid0.coords t) r) k) := by
  have h0 : (grid0.coords t 0).val < 128 := (grid0.coords t 0).isLt
  refine (blk_read main_arg2 _ _ _ (V m c main_arg2) (ix2 r k) (ix2 (rowOf (grid0.coords t) r) k) (fun ax => ?_)).trans (congrFun (V_main_arg2 m c) _)
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem iblk3_apply (t : Fin cfg0.N) (d : Fin 1024) : gainBlk m c t (ix2 0 d) = gain m c (ix1 d) := by
  rw [← V_v1 m c]
  exact blk_read main_v1 _ _ _ (V m c main_v1) (ix2 0 d) (ix2 0 d) (fun a => by
    match a with | ⟨0, _⟩ => rfl | ⟨1, _⟩ => exact (Nat.zero_add _).symm)

theorem iblk4_apply (t : Fin cfg0.N) (d : Fin 1024) : shiftBlk m c t (ix2 0 d) = shift m c (ix1 d) := by
  rw [← V_v2 m c]
  exact blk_read main_v2 _ _ _ (V m c main_v2) (ix2 0 d) (ix2 0 d) (fun a => by
    match a with | ⟨0, _⟩ => rfl | ⟨1, _⟩ => exact (Nat.zero_add _).symm)

/-- A row of the result, of the arguments. -/
def outRow (O X : S65536x1024.Idx → EReal) (W : S1024x1024.Idx → EReal) (g b : S1024.Idx → EReal) (n : Fin 65536) (d : Fin 1024) : EReal :=
  norm (summed (fun d => X (ix2 n d)) (fun k => O (ix2 n k)) (fun k d => W (ix2 k d))) (fun d => g (ix1 d)) (fun d => b (ix1 d)) d

/-- The result. -/
def result : S65536x1024.Idx → EReal := fun i => outRow (mixed m c) (tokens m c) (weights m c) (gain m c) (shift m c) (i 0) (i 1)

theorem flushed_eq (t : Fin cfg0.N) : (dats m 0 c).flushed 5 t = ((cfg0.win 5).blk t).view.read (Elt Ideal) (result m c) := by
  rw [Value.flushed5]
  refine funext fun (y : S512x1024.Idx) => ?_
  have h0 : (grid0.coords t 0).val < 128 := (grid0.coords t 0).isLt
  obtain ⟨r, d, rfl⟩ : ∃ (r : Fin 512) (d : Fin 1024), y = ix2 r d := ⟨y 0, y 1, eq_ix2 y⟩
  refine Eq.trans (out_apply (mixedBlk m c t) (weightsBlk m c t) (tokensBlk m c t) (gainBlk m c t) (shiftBlk m c t) r d)
    (Eq.trans (b := result m c (ix2 (rowOf (grid0.coords t) r) d)) ?_ ?_)
  · simp only [iblk0_apply, iblk1_apply, iblk2_apply, iblk3_apply, iblk4_apply]
    rfl
  · refine (blk_read main_v3 _ _ _ (result m c) (ix2 r d) (ix2 (rowOf (grid0.coords t) r) d) (fun ax => ?_)).symm
    match ax with
    | ⟨0, _⟩ =>
      show 512 * (grid0.coords t 0).val + r.val = (BitVec.ofNat 32 (grid0.coords t 0).val).toNat * 512 + r.val
      rw [word _ h0]; omega
    | ⟨1, _⟩ => exact (Nat.zero_add _).symm

theorem cover (i : S65536x1024.Idx) : ∃ t : Fin cfg0.N, (cfg0.win 5).flush t = true ∧ i ∈ ((cfg0.win 5).blk t).view.set := by
  have hi0 : (i 0).val < 65536 := (i 0).isLt
  have hi1 : (i 1).val < 1024 := (i 1).isLt
  obtain ⟨t, ht⟩ := Pipeline.Grid.coords_surjective grid0
    (fun a => match a with | ⟨0, _⟩ => (⟨(i 0).val / 512, by omega⟩ : Fin 128))
  have e0 : (grid0.coords t 0).val = (i 0).val / 512 := by rw [ht]
  refine ⟨t, flush0_5 t, blk_mem main_v3 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 1024 ≤ (i 1).val ∧ (i 1).val < 0 * 1024 + 1024
    omega

theorem final_out : (dats m 0 c).arrAt 5 cfg0.N = result m c :=
  (dats m 0 c).arrAt_eq_of_cover 5 (result m c) (fun t _ => flushed_eq m c t) cover

end Cert.Norm3

namespace Cert.Norm3.Ref

open Idealize.ShloMosaic Idealize.ShloMosaic.ValueIdx Idealize.ShloMosaic.StableHlo Cert.Reference3Ideal
open Cert.Reference3Ideal.Gen Cert.Reference3Ideal.Read
open Cert.Moe (mean norm width)

variable (x0 : (⟨S65536x1024, .bf16⟩ : BufTy).Contents (Elt Ideal)) (x1 : (⟨S1024x1024, .f32⟩ : BufTy).Contents (Elt Ideal))
  (x2 : (⟨S65536x1024, .f32⟩ : BufTy).Contents (Elt Ideal)) (x3 x4 : (⟨S1024, .f32⟩ : BufTy).Contents (Elt Ideal))

/-- A row before its norm. -/
abbrev row (n : Fin 65536) : Fin 1024 → EReal := summed (fun d => x2 (ix2 n d)) (fun k => x0 (ix2 n k)) (fun k d => x1 (ix2 k d))

theorem pre (n : Fin 65536) (d : Fin 1024) : val_main_v4 (F := Ideal) x0 x1 x2 (ix2 n d) = row x0 x1 x2 n d := by
  rw [val_main_v4_apply, val_main_v3_apply, val_main_v2_apply, val_main_cst_apply, val_main_v1_apply]
  refine congrArg (fun s : EReal => Ideal.ofBits .f32 0x3FD744FD#32 * x2 (ix2 n d) + s) (Finset.sum_congr rfl fun k _ => ?_)
  have hl : lidx_main_v1 (ix2 n d) k = ix2 n k := funext fun a => by match a with | ⟨0, _⟩ => rfl | ⟨1, _⟩ => rfl
  have hr : ridx_main_v1 (ix2 n d) k = ix2 k d := funext fun a => by match a with | ⟨0, _⟩ => rfl | ⟨1, _⟩ => rfl
  rw [hl, hr]; rfl

theorem avg (n : Fin 65536) (u : Fin 1) : val_main_v8 (F := Ideal) x0 x1 x2 (ix2 n u) = mean (row x0 x1 x2 n) := by
  rw [val_main_v8_apply, val_main_v7_apply, val_main_cst_1_apply, val_main_v6_apply, val_main_v5_apply, val_main_cst_0_apply]
  simp only [Ideal.hostDivf_def, Ideal.ofBits_def, Ideal.ofBits_zero_f32, zero_add]
  refine congrArg (fun s : EReal => Ideal.div s width) (Finset.sum_congr rfl fun k _ => ?_)
  rw [← pre x0 x1 x2]
  exact congrArg _ (funext fun a => by match a with | ⟨0, _⟩ => rfl | ⟨1, _⟩ => rfl)

theorem avg9 (n : Fin 65536) (d : Fin 1024) : val_main_v9 (F := Ideal) x0 x1 x2 (ix2 n d) = mean (row x0 x1 x2 n) := by
  rw [val_main_v9_apply, ← avg x0 x1 x2 n 0]
  exact congrArg _ (funext fun a => by match a with | ⟨0, _⟩ => rfl | ⟨1, _⟩ => rfl)

theorem avg16 (n : Fin 65536) (d : Fin 1024) : val_main_v16 (F := Ideal) x0 x1 x2 (ix2 n d) = mean (row x0 x1 x2 n) := by
  rw [val_main_v16_apply, ← avg x0 x1 x2 n 0]
  exact congrArg _ (funext fun a => by match a with | ⟨0, _⟩ => rfl | ⟨1, _⟩ => rfl)

theorem var (n : Fin 65536) (u : Fin 1) : val_main_v15 (F := Ideal) x0 x1 x2 (ix2 n u)
    = mean (fun k => (row x0 x1 x2 n k - mean (row x0 x1 x2 n)) * (row x0 x1 x2 n k - mean (row x0 x1 x2 n))) := by
  rw [val_main_v15_apply, val_main_v14_apply, val_main_cst_3_apply, val_main_v13_apply, val_main_v12_apply, val_main_cst_2_apply]
  simp only [Ideal.hostDivf_def, Ideal.ofBits_def, Ideal.ofBits_zero_f32, zero_add]
  refine congrArg (fun s : EReal => Ideal.div s width) (Finset.sum_congr rfl fun k _ => ?_)
  have hi : idx_main_v12 (idx_main_v13 (ix2 n u)) k = ix2 n k := funext fun a => by match a with | ⟨0, _⟩ => rfl | ⟨1, _⟩ => rfl
  rw [hi, val_main_v11_apply, val_main_v10_apply, avg9 x0 x1 x2, pre x0 x1 x2]
  rfl

theorem scale (n : Fin 65536) (d : Fin 1024) : val_main_v21 (F := Ideal) x0 x1 x2 (ix2 n d)
    = Ideal.rsqrt (mean (fun k => (row x0 x1 x2 n k - mean (row x0 x1 x2 n)) * (row x0 x1 x2 n k - mean (row x0 x1 x2 n)))
        + Ideal.ofBits .f32 0x3727C5AC#32) := by
  rw [val_main_v21_apply, val_main_v20_apply, val_main_v19_apply, val_main_v18_apply, val_main_cst_4_apply]
  have hi : idx_main_v21 (ix2 n d) = ix2 n (0 : Fin 1) := funext fun a => by match a with | ⟨0, _⟩ => rfl | ⟨1, _⟩ => rfl
  rw [hi, var x0 x1 x2]
  rfl

theorem gained (n : Fin 65536) (d : Fin 1024) : val_main_v24 (F := Ideal) x3 (ix2 n d) = x3 (ix1 d) := by
  rw [val_main_v24_apply, val_main_v23_apply]
  exact congrArg x3 (funext fun a => by match a with | ⟨0, _⟩ => rfl)

theorem shifted (n : Fin 65536) (d : Fin 1024) : val_main_v27 (F := Ideal) x4 (ix2 n d) = x4 (ix1 d) := by
  rw [val_main_v27_apply, val_main_v26_apply]
  exact congrArg x4 (funext fun a => by match a with | ⟨0, _⟩ => rfl)

theorem value (i : S65536x1024.Idx) : val_main_v28 (F := Ideal) x0 x1 x2 x3 x4 i = outRow x0 x2 x1 x3 x4 (i 0) (i 1) := by
  obtain ⟨n, d, rfl⟩ : ∃ (n : Fin 65536) (d : Fin 1024), i = ix2 n d := ⟨i 0, i 1, eq_ix2 i⟩
  rw [val_main_v28_apply, val_main_v25_apply, val_main_v22_apply, val_main_v17_apply, gained, shifted, scale x0 x1 x2, avg16 x0 x1 x2, pre x0 x1 x2]
  rfl

end Cert.Norm3.Ref
-- ==== Proof.Linear.Value4.lean ====
module

public import proofs.«01_k».proof.Proof.Gen.Kernel4Ideal.Value
public import proofs.«01_k».proof.Proof.Gen.Reference4Ideal.Read
public import Idealize.ShloMosaic.Lib.MatmulPlain
public import Idealize.ShloMosaic.Lib.ValueIdx
public import Idealize.ShloMosaic.Lib.ValueLayoutCasts
public import Idealize.ShloMosaic.Lib.Pipeline.ValueKit.Tiles
public import Idealize.ShloMosaic.Lib.Pipeline.ValueKit.Geometry
public import Idealize.ShloMosaic.Lib.Pipeline.Covers

/-! The projection of the differential attention: the array the grid leaves is the product of the tokens and the
weights. -/

@[expose] public section

set_option maxRecDepth 16384

noncomputable section

namespace Cert.Linear4

open Cert.Kernel4Ideal Cert.Kernel4Ideal.Gen
open Idealize.ShloMosaic Idealize.ShloMosaic.TcCoe Idealize.ShloMosaic.ValueIdx
open Idealize.ShloMosaic.Pipeline (Dat Cfg Window)

/-- A row of the first matrix times a column of the second. -/
def entry {M N : Nat} (X : (⟨2, ![M, 1024]⟩ : Shape).Idx → EReal) (W : (⟨2, ![1024, N]⟩ : Shape).Idx → EReal) (r : Fin M) (f : Fin N) : EReal :=
  ∑ k : Fin 1024, X (ix2 r k) * W (ix2 k f)

/-! ### The body's block -/

/-- One chunk of columns, as the body computes it. -/
theorem chunk_apply (x : FVec Ideal S512x1024 .bf16) (w : FVec Ideal S1024x512 .bf16) (r f : Fin 512) :
    matmul dot_S512x1024_S1024x512_S512x512_1_0_0_1_n_n none x (shapeCast S1024x512 w shapeCasts_S1024x512_S1024x512 : FVec Ideal S1024x512 .bf16)
      (constant S512x512 .f32 0x00000000#32) (ix2 r f) = ∑ k : Fin 1024, x (ix2 r k) * w (ix2 k f) := by
  rw [shapeCast_self]
  refine (Ideal.matmul_plain_apply (M := 512) (K := 1024) (N := 512) none x w _ r f).trans ?_
  show Ideal.ofBits .f32 0x00000000#32 + _ = _
  rw [Ideal.ofBits_zero_f32, zero_add]

theorem rows_apply (x0 : Vec Ideal S512x1024 .f32) (r : Fin 512) (k : Fin 1024) : View.ld (Val := Elt Ideal) x0 r0_0 (ix2 r k) = x0 (ix2 r k) :=
  View.ld_unit_apply_of (Val := Elt Ideal) (e := .f32) x0 _ _ _ _ _ (fun a => by match a with | ⟨0, _⟩ => exact (Nat.zero_add _).symm | ⟨1, _⟩ => exact (Nat.zero_add _).symm)

/-- The chunk of columns from `o` on is that chunk of the product. -/
theorem piece_apply (x0 : Vec Ideal S512x1024 .f32) (x1 : Vec Ideal S1024x3072 .bf16) (o : Nat) (ho : o + 512 ≤ 3072) (inbW inbO)
    (x : S512x512.Idx) (y : FVec Ideal S512x512 .bf16)
    (hy : ∀ i, y i = matmul dot_S512x1024_S1024x512_S512x512_1_0_0_1_n_n none (k0_pay2 (F := Ideal) (View.ld (Val := Elt Ideal) x0 r0_0))
      (shapeCast S1024x512 (View.ld (Val := Elt Ideal) x1 (Rect.unit (s := S1024x3072) ![0, o] S1024x512.size inbW)) shapeCasts_S1024x512_S1024x512 : FVec Ideal S1024x512 .bf16)
      (constant S512x512 .f32 0x00000000#32) i) :
    y x = entry (M := 512) (N := 3072) x0 x1 ((Rect.unit (s := S512x3072) ![0, o] S512x512.size inbO).emb x 0)
      ((Rect.unit (s := S512x3072) ![0, o] S512x512.size inbO).emb x 1) := by
  obtain ⟨r, f, rfl⟩ : ∃ (r f : Fin 512), x = ix2 r f := ⟨x 0, x 1, eq_ix2 x⟩
  rw [hy, chunk_apply]
  refine Finset.sum_congr rfl fun k _ => ?_
  refine congrArg₂ (· * ·) ((rows_apply x0 r k).trans (congrArg x0 (congrArg (fun a => ix2 a k) (Fin.ext ?_)))) ?_
  · refine Eq.trans ?_ (Rect.idx_unit_val (s := S512x3072) ![0, o] S512x512.size inbO (ix2 r f) 0).symm
    exact (Nat.zero_add _).symm
  · refine View.ld_unit_apply_of (Val := Elt Ideal) (e := .bf16) x1 _ _ _ _ _ (fun a => ?_)
    match a with
    | ⟨0, _⟩ => exact (Nat.zero_add _).symm
    | ⟨1, _⟩ => exact Rect.idx_unit_val (s := S512x3072) ![0, o] S512x512.size inbO (ix2 r f) 1

theorem out_apply (x0 : Vec Ideal S512x1024 .f32) (x1 : Vec Ideal S1024x3072 .bf16) (r : Fin 512) (f : Fin 3072) :
    out0_2 (F := Ideal) x0 x1 (ix2 r f) = entry (M := 512) (N := 3072) x0 x1 r f := by
  unfold out0_2
  refine View.canon_apply_of_pieces (Val := Elt Ideal) (e := .bf16) (fun y : S512x3072.Idx => entry (M := 512) (N := 3072) x0 x1 (y 0) (y 1))
    _ (fun p hp => ?_) (ix2 r f) (cover0_2 _ _ _ _ _ _ _)
  simp only [List.mem_cons, List.not_mem_nil, or_false] at hp
  rcases hp with rfl | rfl | rfl | rfl | rfl | rfl
  · exact fun x => piece_apply x0 x1 2560 (by decide) inb_S1024x3072_S1024x512_0_2560 inb_S512x3072_S512x512_0_2560 x _ (fun _ => rfl)
  · exact fun x => piece_apply x0 x1 2048 (by decide) inb_S1024x3072_S1024x512_0_2048 inb_S512x3072_S512x512_0_2048 x _ (fun _ => rfl)
  · exact fun x => piece_apply x0 x1 1536 (by decide) inb_S1024x3072_S1024x512_0_1536 inb_S512x3072_S512x512_0_1536 x _ (fun _ => rfl)
  · exact fun x => piece_apply x0 x1 1024 (by decide) inb_S1024x3072_S1024x512_0_1024 inb_S512x3072_S512x512_0_1024 x _ (fun _ => rfl)
  · exact fun x => piece_apply x0 x1 512 (by decide) inb_S1024x3072_S1024x512_0_512 inb_S512x3072_S512x512_0_512 x _ (fun _ => rfl)
  · exact fun x => piece_apply x0 x1 0 (by decide) inb_S1024x3072_S1024x512_0_0 inb_S512x3072_S512x512_0_0 x _ (fun _ => rfl)

/-! ### The array -/

theorem blk_read (b : Ref sig .tc) (off size : Fin b.ty.shape.rank → Nat) (inb)
    (X : b.ty.shape.Idx → Elt Ideal b.ty.elt) (y : (Rect.unit off size inb).shape.Idx) (i : b.ty.shape.Idx)
    (hi : ∀ a, (i a).val = off a + (y a).val) :
    ((View.whole b).slice (Rect.unit off size inb)).read (Elt Ideal) X y = X i := by
  refine congrArg X (funext fun a => Fin.ext ?_)
  exact (ValueKit.view_emb_slice_whole_unit_val b off size inb y a).trans (hi a).symm

theorem blk_mem (b : Ref sig .tc) (off size : Fin b.ty.shape.rank → Nat) (inb) (i : b.ty.shape.Idx)
    (hi : ∀ a, off a ≤ (i a).val ∧ (i a).val < off a + size a) : i ∈ ((View.whole b).slice (Rect.unit off size inb)).set := by
  rw [View.set_slice_whole, Rect.mem_set_unit]; exact hi

variable (m : (ℓ : Loc nD τ sig) → Buf (Elt Ideal) ℓ) (c : Dev nD)

abbrev tokens : S65536x1024.Idx → EReal := m ((c.tc : Thread nD τ).loc main_arg0)
abbrev weights : S1024x3072.Idx → EReal := m ((c.tc : Thread nD τ).loc main_arg1)

theorem V_v0 : V m c main_v0 = weights m c := by
  unfold V hostOps0; after_results; rfl

/-- A row of a point's block, as a row of the tokens. -/
def rowOf (i : grid0.Coords) (r : Fin 512) : Fin 65536 := ⟨512 * (i 0).val + r.val, by have : (i 0).val < 128 := (i 0).isLt; omega⟩

theorem word (n : Nat) (h : n < 128) : (BitVec.ofNat 32 n).toNat = n := by
  rw [BitVec.toNat_ofNat]; exact Nat.mod_eq_of_lt (by omega)

/-- The two blocks of a point. -/
abbrev rowsBlk (t : Fin cfg0.N) : S512x1024.Idx → EReal := iblk m c 0 t
abbrev weightsBlk (t : Fin cfg0.N) : S1024x3072.Idx → EReal := iblk m c 1 t

theorem iblk0_apply (t : Fin cfg0.N) (r : Fin 512) (k : Fin 1024) :
    rowsBlk m c t (ix2 r k) = tokens m c (ix2 (rowOf (grid0.coords t) r) k) := by
  have h0 : (grid0.coords t 0).val < 128 := (grid0.coords t 0).isLt
  refine (blk_read main_arg0 _ _ _ (V m c main_arg0) (ix2 r k) (ix2 (rowOf (grid0.coords t) r) k) (fun ax => ?_)).trans (congrFun (V_main_arg0 m c) _)
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem iblk1_apply (t : Fin cfg0.N) (k : Fin 1024) (f : Fin 3072) :
    weightsBlk m c t (ix2 k f) = weights m c (ix2 k f) := by
  rw [← V_v0 m c]
  refine blk_read main_v0 _ _ _ (V m c main_v0) (ix2 k f) (ix2 k f) (fun ax => ?_)
  match ax with
  | ⟨0, _⟩ => exact (Nat.zero_add _).symm
  | ⟨1, _⟩ => exact (Nat.zero_add _).symm

/-- The product. -/
def product : S65536x3072.Idx → EReal := fun i => entry (M := 65536) (N := 3072) (tokens m c) (weights m c) (i 0) (i 1)

theorem flushed_eq (t : Fin cfg0.N) : (dats m 0 c).flushed 2 t = ((cfg0.win 2).blk t).view.read (Elt Ideal) (product m c) := by
  rw [Value.flushed2]
  refine funext fun (y : S512x3072.Idx) => ?_
  have h0 : (grid0.coords t 0).val < 128 := (grid0.coords t 0).isLt
  obtain ⟨r, f, rfl⟩ : ∃ (r : Fin 512) (f : Fin 3072), y = ix2 r f := ⟨y 0, y 1, eq_ix2 y⟩
  refine Eq.trans (out_apply (rowsBlk m c t) (weightsBlk m c t) r f) (Eq.trans (b := product m c (ix2 (rowOf (grid0.coords t) r) f)) ?_ ?_)
  · show ∑ k : Fin 1024, rowsBlk m c t (ix2 r k) * weightsBlk m c t (ix2 k f)
      = ∑ k : Fin 1024, tokens m c (ix2 (rowOf (grid0.coords t) r) k) * weights m c (ix2 k f)
    refine Finset.sum_congr rfl fun k _ => ?_
    rw [iblk0_apply, iblk1_apply]
  · refine (blk_read main_v1 _ _ _ (product m c) (ix2 r f) (ix2 (rowOf (grid0.coords t) r) f) (fun ax => ?_)).symm
    match ax with
    | ⟨0, _⟩ =>
      show 512 * (grid0.coords t 0).val + r.val = (BitVec.ofNat 32 (grid0.coords t 0).val).toNat * 512 + r.val
      rw [word _ h0]; omega
    | ⟨1, _⟩ => exact (Nat.zero_add _).symm

theorem cover (i : S65536x3072.Idx) : ∃ t : Fin cfg0.N, (cfg0.win 2).flush t = true ∧ i ∈ ((cfg0.win 2).blk t).view.set := by
  have hi0 : (i 0).val < 65536 := (i 0).isLt
  have hi1 : (i 1).val < 3072 := (i 1).isLt
  obtain ⟨t, ht⟩ := Pipeline.Grid.coords_surjective grid0
    (fun a => match a with | ⟨0, _⟩ => (⟨(i 0).val / 512, by omega⟩ : Fin 128))
  have e0 : (grid0.coords t 0).val = (i 0).val / 512 := by rw [ht]
  refine ⟨t, flush0_2 t, blk_mem main_v1 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 3072 ≤ (i 1).val ∧ (i 1).val < 0 * 3072 + 3072
    omega

theorem final_out : (dats m 0 c).arrAt 2 cfg0.N = product m c :=
  (dats m 0 c).arrAt_eq_of_cover 2 (product m c) (fun t _ => flushed_eq m c t) cover

/-! ### The reference -/

theorem ref_value : Cert.Reference4Ideal.Read.val_main_v1 (F := Ideal) (tokens m c) (weights m c) = product m c := by
  funext i
  refine (Cert.Reference4Ideal.Read.val_main_v0_apply (tokens m c) (weights m c) i).trans ?_
  obtain ⟨n, f, rfl⟩ : ∃ (n : Fin 65536) (f : Fin 3072), i = ix2 n f := ⟨i 0, i 1, eq_ix2 i⟩
  show _ = ∑ k : Fin 1024, tokens m c (ix2 n k) * weights m c (ix2 k f)
  refine Finset.sum_congr rfl fun k _ => ?_
  exact congrArg₂ (fun a b => tokens m c a * weights m c b) (funext fun a => by match a with | ⟨0, _⟩ => rfl | ⟨1, _⟩ => rfl)
    (funext fun a => by match a with | ⟨0, _⟩ => rfl | ⟨1, _⟩ => rfl)

end Cert.Linear4
-- ==== Proof.Linear.Value5.lean ====
module

public import proofs.«01_k».proof.Proof.Gen.Kernel5Ideal.Value
public import Idealize.ShloMosaic.Lib.MatmulPlain
public import Idealize.ShloMosaic.Lib.ValueIdx
public import Idealize.ShloMosaic.Lib.ValueLayoutCasts
public import Idealize.ShloMosaic.Lib.Pipeline.ValueKit.Tiles
public import Idealize.ShloMosaic.Lib.Pipeline.ValueKit.Geometry
public import Idealize.ShloMosaic.Lib.Pipeline.Covers

/-! The projection of NSA: each of the eight arrays the grid leaves is the product of the tokens and a range of the
columns of the weights in the kernel's layout. -/

@[expose] public section

set_option maxRecDepth 16384

noncomputable section

namespace Cert.Linear5

open Cert.Kernel5Ideal Cert.Kernel5Ideal.Gen
open Idealize.ShloMosaic Idealize.ShloMosaic.TcCoe Idealize.ShloMosaic.ValueIdx
open Idealize.ShloMosaic.Pipeline (Dat Cfg Window)

/-- An entry of the weights, 0 past the last column. -/
def at' (W : S1024x4736.Idx → EReal) (k : Fin 1024) (j : Nat) : EReal := if h : j < 4736 then W (ix2 k ⟨j, h⟩) else 0

theorem at_of (W : S1024x4736.Idx → EReal) (k : Fin 1024) (j : Fin 4736) : at' W k j.val = W (ix2 k j) := dif_pos j.isLt

/-- A row of the first matrix times a column of the weights. -/
def entry {M : Nat} (X : (⟨2, ![M, 1024]⟩ : Shape).Idx → EReal) (W : S1024x4736.Idx → EReal) (r : Fin M) (j : Nat) : EReal :=
  ∑ k : Fin 1024, X (ix2 r k) * at' W k j

/-! ### The body's blocks -/

/-- A chunk of 512 columns, as the body computes it. -/
theorem chunk512 (x : FVec Ideal S512x1024 .bf16) (w : Vec Ideal S1024x512 .bf16) (r : Fin 512) (f : Fin 512) :
    matmul dot_S512x1024_S1024x512_S512x512_1_0_0_1_n_n none x (shapeCast S1024x512 w shapeCasts_S1024x512_S1024x512 : FVec Ideal S1024x512 .bf16)
      (constant S512x512 .f32 0x00000000#32) (ix2 r f) = ∑ k : Fin 1024, (x (ix2 r k) : EReal) * (w (ix2 k f) : EReal) := by
  rw [shapeCast_self]
  refine (Ideal.matmul_plain_apply (M := 512) (K := 1024) (N := 512) none x w _ r f).trans ?_
  show Ideal.ofBits .f32 0x00000000#32 + _ = _
  rw [Ideal.ofBits_zero_f32, zero_add]

/-- A chunk of 256 columns, as the body computes it. -/
theorem chunk256 (x : FVec Ideal S512x1024 .bf16) (w : Vec Ideal S1024x256 .bf16) (r : Fin 512) (f : Fin 256) :
    matmul dot_S512x1024_S1024x256_S512x256_1_0_0_1_n_n none x (shapeCast S1024x256 w shapeCasts_S1024x256_S1024x256 : FVec Ideal S1024x256 .bf16)
      (constant S512x256 .f32 0x00000000#32) (ix2 r f) = ∑ k : Fin 1024, (x (ix2 r k) : EReal) * (w (ix2 k f) : EReal) := by
  rw [shapeCast_self]
  refine (Ideal.matmul_plain_apply (M := 512) (K := 1024) (N := 256) none x w _ r f).trans ?_
  show Ideal.ofBits .f32 0x00000000#32 + _ = _
  rw [Ideal.ofBits_zero_f32, zero_add]

/-- A chunk of 128 columns, as the body computes it. -/
theorem chunk128 (x : FVec Ideal S512x1024 .bf16) (w : Vec Ideal S1024x128 .bf16) (r : Fin 512) (f : Fin 128) :
    matmul dot_S512x1024_S1024x128_S512x128_1_0_0_1_n_n none x (shapeCast S1024x128 w shapeCasts_S1024x128_S1024x128 : FVec Ideal S1024x128 .bf16)
      (constant S512x128 .f32 0x00000000#32) (ix2 r f) = ∑ k : Fin 1024, (x (ix2 r k) : EReal) * (w (ix2 k f) : EReal) := by
  rw [shapeCast_self]
  refine (Ideal.matmul_plain_apply (M := 512) (K := 1024) (N := 128) none x w _ r f).trans ?_
  show Ideal.ofBits .f32 0x00000000#32 + _ = _
  rw [Ideal.ofBits_zero_f32, zero_add]

theorem rows_apply (x0 : Vec Ideal S512x1024 .f32) (r : Fin 512) (k : Fin 1024) : View.ld (Val := Elt Ideal) x0 r0_0 (ix2 r k) = x0 (ix2 r k) :=
  View.ld_unit_apply_of (Val := Elt Ideal) (e := .f32) x0 _ _ _ _ _ (fun a => by match a with | ⟨0, _⟩ => exact (Nat.zero_add _).symm | ⟨1, _⟩ => exact (Nat.zero_add _).symm)

/-- A chunk of `n` columns, read from column `b + o` of the weights and stored at column `o`. -/
theorem piece_apply (n N b o p : Nat) (x0 : Vec Ideal S512x1024 .f32) (x1 : Vec Ideal S1024x4736 .bf16) (hp : p = b + o)
    (inbW : ∀ a, (![0, p] : Fin 2 → Nat) a + (![1024, n] : Fin 2 → Nat) a ≤ S1024x4736.size a)
    (inbO : ∀ a, (![0, o] : Fin 2 → Nat) a + (![512, n] : Fin 2 → Nat) a ≤ (⟨2, ![512, N]⟩ : Shape).size a)
    (x : (⟨2, ![512, n]⟩ : Shape).Idx) (y : (⟨2, ![512, n]⟩ : Shape).Idx → EReal)
    (hy : ∀ (r : Fin 512) (f : Fin n), y (ix2 r f) = ∑ k : Fin 1024, (View.ld (Val := Elt Ideal) x0 r0_0 (ix2 r k) : EReal)
      * (View.ld (Val := Elt Ideal) x1 (Rect.unit (s := S1024x4736) ![0, p] ![1024, n] inbW) (ix2 k f) : EReal)) :
    y x = entry (M := 512) x0 x1 ((Rect.unit (s := ⟨2, ![512, N]⟩) ![0, o] ![512, n] inbO).emb x 0)
      (b + ((Rect.unit (s := ⟨2, ![512, N]⟩) ![0, o] ![512, n] inbO).emb x 1).val) := by
  obtain ⟨r, f, rfl⟩ : ∃ (r : Fin 512) (f : Fin n), x = ix2 r f := ⟨x 0, x 1, eq_ix2 x⟩
  rw [hy]
  have hW : p + n ≤ 4736 := inbW 1
  have hc : b + ((Rect.unit (s := ⟨2, ![512, N]⟩) ![0, o] ![512, n] inbO).emb (ix2 r f) 1).val = p + f.val :=
    (congrArg (b + ·) (Rect.idx_unit_val (s := ⟨2, ![512, N]⟩) ![0, o] ![512, n] inbO (ix2 r f) 1)).trans
      (show b + (o + f.val) = p + f.val by omega)
  rw [hc]
  refine Finset.sum_congr rfl fun k _ => ?_
  refine congrArg₂ (· * ·) ((rows_apply x0 r k).trans (congrArg x0 (congrArg (fun a => ix2 a k) (Fin.ext ?_)))) ?_
  · refine Eq.trans ?_ (Rect.idx_unit_val (s := ⟨2, ![512, N]⟩) ![0, o] ![512, n] inbO (ix2 r f) 0).symm
    exact (Nat.zero_add _).symm
  · refine Eq.trans ?_ (at_of x1 k (⟨p + f.val, by have := f.isLt; omega⟩ : Fin 4736)).symm
    refine View.ld_unit_apply_of (Val := Elt Ideal) (e := .bf16) x1 _ _ _ _ _ (fun a => ?_)
    match a with
    | ⟨0, _⟩ => exact (Nat.zero_add _).symm
    | ⟨1, _⟩ => rfl

theorem out2_apply (x0 : Vec Ideal S512x1024 .f32) (x1 : Vec Ideal S1024x4736 .bf16) (r : Fin 512) (f : Fin 2048) :
    out0_2 (F := Ideal) x0 x1 (ix2 r f) = entry (M := 512) x0 x1 r (0 + f.val) := by
  unfold out0_2
  refine View.canon_apply_of_pieces (Val := Elt Ideal) (e := .bf16) (fun y : S512x2048.Idx => entry (M := 512) x0 x1 (y 0) (0 + (y 1).val))
    _ (fun p hp => ?_) (ix2 r f) (cover0_2 _ _ _ _ _)
  simp only [List.mem_cons, List.not_mem_nil, or_false] at hp
  rcases hp with rfl | rfl | rfl | rfl
  · exact fun x => piece_apply 512 2048 0 1536 1536 x0 x1 rfl inb_S1024x4736_S1024x512_0_1536 inb_S512x2048_S512x512_0_1536 x _ (fun r f => chunk512 _ _ r f)
  · exact fun x => piece_apply 512 2048 0 1024 1024 x0 x1 rfl inb_S1024x4736_S1024x512_0_1024 inb_S512x2048_S512x512_0_1024 x _ (fun r f => chunk512 _ _ r f)
  · exact fun x => piece_apply 512 2048 0 512 512 x0 x1 rfl inb_S1024x4736_S1024x512_0_512 inb_S512x2048_S512x512_0_512 x _ (fun r f => chunk512 _ _ r f)
  · exact fun x => piece_apply 512 2048 0 0 0 x0 x1 rfl inb_S1024x4736_S1024x512_0_0 inb_S512x2048_S512x512_0_0 x _ (fun r f => chunk512 _ _ r f)

theorem out3_apply (x0 : Vec Ideal S512x1024 .f32) (x1 : Vec Ideal S1024x4736 .bf16) (r : Fin 512) (f : Fin 256) :
    out0_3 (F := Ideal) x0 x1 (ix2 r f) = entry (M := 512) x0 x1 r (2048 + f.val) := by
  unfold out0_3
  refine View.canon_apply_of_pieces (Val := Elt Ideal) (e := .f32) (fun y : S512x256.Idx => entry (M := 512) x0 x1 (y 0) (2048 + (y 1).val))
    _ (fun p hp => ?_) (ix2 r f) (cover0_3 _ _)
  simp only [List.mem_cons, List.not_mem_nil, or_false] at hp
  rcases hp with rfl
  · exact fun x => piece_apply 256 256 2048 0 2048 x0 x1 rfl inb_S1024x4736_S1024x256_0_2048 inb_S512x256_S512x256_0_0 x _ (fun r f => chunk256 _ _ r f)

theorem out4_apply (x0 : Vec Ideal S512x1024 .f32) (x1 : Vec Ideal S1024x4736 .bf16) (r : Fin 512) (f : Fin 256) :
    out0_4 (F := Ideal) x0 x1 (ix2 r f) = entry (M := 512) x0 x1 r (2304 + f.val) := by
  unfold out0_4
  refine View.canon_apply_of_pieces (Val := Elt Ideal) (e := .f32) (fun y : S512x256.Idx => entry (M := 512) x0 x1 (y 0) (2304 + (y 1).val))
    _ (fun p hp => ?_) (ix2 r f) (cover0_4 _ _)
  simp only [List.mem_cons, List.not_mem_nil, or_false] at hp
  rcases hp with rfl
  · exact fun x => piece_apply 256 256 2304 0 2304 x0 x1 rfl inb_S1024x4736_S1024x256_0_2304 inb_S512x256_S512x256_0_0 x _ (fun r f => chunk256 _ _ r f)

theorem out5_apply (x0 : Vec Ideal S512x1024 .f32) (x1 : Vec Ideal S1024x4736 .bf16) (r : Fin 512) (f : Fin 512) :
    out0_5 (F := Ideal) x0 x1 (ix2 r f) = entry (M := 512) x0 x1 r (2560 + f.val) := by
  unfold out0_5
  refine View.canon_apply_of_pieces (Val := Elt Ideal) (e := .bf16) (fun y : S512x512.Idx => entry (M := 512) x0 x1 (y 0) (2560 + (y 1).val))
    _ (fun p hp => ?_) (ix2 r f) (cover0_5 _ _)
  simp only [List.mem_cons, List.not_mem_nil, or_false] at hp
  rcases hp with rfl
  · exact fun x => piece_apply 512 512 2560 0 2560 x0 x1 rfl inb_S1024x4736_S1024x512_0_2560 inb_S512x512_S512x512_0_0 x _ (fun r f => chunk512 _ _ r f)

theorem out6_apply (x0 : Vec Ideal S512x1024 .f32) (x1 : Vec Ideal S1024x4736 .bf16) (r : Fin 512) (f : Fin 512) :
    out0_6 (F := Ideal) x0 x1 (ix2 r f) = entry (M := 512) x0 x1 r (3072 + f.val) := by
  unfold out0_6
  refine View.canon_apply_of_pieces (Val := Elt Ideal) (e := .bf16) (fun y : S512x512.Idx => entry (M := 512) x0 x1 (y 0) (3072 + (y 1).val))
    _ (fun p hp => ?_) (ix2 r f) (cover0_6 _ _)
  simp only [List.mem_cons, List.not_mem_nil, or_false] at hp
  rcases hp with rfl
  · exact fun x => piece_apply 512 512 3072 0 3072 x0 x1 rfl inb_S1024x4736_S1024x512_0_3072 inb_S512x512_S512x512_0_0 x _ (fun r f => chunk512 _ _ r f)

theorem out7_apply (x0 : Vec Ideal S512x1024 .f32) (x1 : Vec Ideal S1024x4736 .bf16) (r : Fin 512) (f : Fin 512) :
    out0_7 (F := Ideal) x0 x1 (ix2 r f) = entry (M := 512) x0 x1 r (3584 + f.val) := by
  unfold out0_7
  refine View.canon_apply_of_pieces (Val := Elt Ideal) (e := .bf16) (fun y : S512x512.Idx => entry (M := 512) x0 x1 (y 0) (3584 + (y 1).val))
    _ (fun p hp => ?_) (ix2 r f) (cover0_7 _ _)
  simp only [List.mem_cons, List.not_mem_nil, or_false] at hp
  rcases hp with rfl
  · exact fun x => piece_apply 512 512 3584 0 3584 x0 x1 rfl inb_S1024x4736_S1024x512_0_3584 inb_S512x512_S512x512_0_0 x _ (fun r f => chunk512 _ _ r f)

theorem out8_apply (x0 : Vec Ideal S512x1024 .f32) (x1 : Vec Ideal S1024x4736 .bf16) (r : Fin 512) (f : Fin 512) :
    out0_8 (F := Ideal) x0 x1 (ix2 r f) = entry (M := 512) x0 x1 r (4096 + f.val) := by
  unfold out0_8
  refine View.canon_apply_of_pieces (Val := Elt Ideal) (e := .bf16) (fun y : S512x512.Idx => entry (M := 512) x0 x1 (y 0) (4096 + (y 1).val))
    _ (fun p hp => ?_) (ix2 r f) (cover0_8 _ _)
  simp only [List.mem_cons, List.not_mem_nil, or_false] at hp
  rcases hp with rfl
  · exact fun x => piece_apply 512 512 4096 0 4096 x0 x1 rfl inb_S1024x4736_S1024x512_0_4096 inb_S512x512_S512x512_0_0 x _ (fun r f => chunk512 _ _ r f)

theorem out9_apply (x0 : Vec Ideal S512x1024 .f32) (x1 : Vec Ideal S1024x4736 .bf16) (r : Fin 512) (f : Fin 128) :
    out0_9 (F := Ideal) x0 x1 (ix2 r f) = entry (M := 512) x0 x1 r (4608 + f.val) := by
  unfold out0_9
  refine View.canon_apply_of_pieces (Val := Elt Ideal) (e := .f32) (fun y : S512x128.Idx => entry (M := 512) x0 x1 (y 0) (4608 + (y 1).val))
    _ (fun p hp => ?_) (ix2 r f) (cover0_9 _ _)
  simp only [List.mem_cons, List.not_mem_nil, or_false] at hp
  rcases hp with rfl
  · exact fun x => piece_apply 128 128 4608 0 4608 x0 x1 rfl inb_S1024x4736_S1024x128_0_4608 inb_S512x128_S512x128_0_0 x _ (fun r f => chunk128 _ _ r f)

/-! ### The arrays -/

theorem blk_read (b : Ref sig .tc) (off size : Fin b.ty.shape.rank → Nat) (inb)
    (X : b.ty.shape.Idx → Elt Ideal b.ty.elt) (y : (Rect.unit off size inb).shape.Idx) (i : b.ty.shape.Idx)
    (hi : ∀ a, (i a).val = off a + (y a).val) :
    ((View.whole b).slice (Rect.unit off size inb)).read (Elt Ideal) X y = X i := by
  refine congrArg X (funext fun a => Fin.ext ?_)
  exact (ValueKit.view_emb_slice_whole_unit_val b off size inb y a).trans (hi a).symm

theorem blk_mem (b : Ref sig .tc) (off size : Fin b.ty.shape.rank → Nat) (inb) (i : b.ty.shape.Idx)
    (hi : ∀ a, off a ≤ (i a).val ∧ (i a).val < off a + size a) : i ∈ ((View.whole b).slice (Rect.unit off size inb)).set := by
  rw [View.set_slice_whole, Rect.mem_set_unit]; exact hi

variable (m : (ℓ : Loc nD τ sig) → Buf (Elt Ideal) ℓ) (c : Dev nD)

abbrev tokens : S65536x1024.Idx → EReal := m ((c.tc : Thread nD τ).loc main_arg0)
abbrev weights : S1024x2608.Idx → EReal := m ((c.tc : Thread nD τ).loc main_arg1)
/-- The weights as the host code lays them out. -/
abbrev laid : S1024x4736.Idx → EReal := V m c main_v31

/-- A row of a point's block, as a row of the tokens. -/
def rowOf (i : grid0.Coords) (r : Fin 512) : Fin 65536 := ⟨512 * (i 0).val + r.val, by have : (i 0).val < 128 := (i 0).isLt; omega⟩

theorem word (n : Nat) (h : n < 128) : (BitVec.ofNat 32 n).toNat = n := by
  rw [BitVec.toNat_ofNat]; exact Nat.mod_eq_of_lt (by omega)

/-- The two blocks of a point. -/
abbrev rowsBlk (t : Fin cfg0.N) : S512x1024.Idx → EReal := iblk m c 0 t
abbrev weightsBlk (t : Fin cfg0.N) : S1024x4736.Idx → EReal := iblk m c 1 t

theorem iblk0_apply (t : Fin cfg0.N) (r : Fin 512) (k : Fin 1024) :
    rowsBlk m c t (ix2 r k) = tokens m c (ix2 (rowOf (grid0.coords t) r) k) := by
  have h0 : (grid0.coords t 0).val < 128 := (grid0.coords t 0).isLt
  refine (blk_read main_arg0 _ _ _ (V m c main_arg0) (ix2 r k) (ix2 (rowOf (grid0.coords t) r) k) (fun ax => ?_)).trans (congrFun (V_main_arg0 m c) _)
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem iblk1_eq (t : Fin cfg0.N) : weightsBlk m c t = laid m c := by
  refine funext fun (y : S1024x4736.Idx) => ?_
  refine blk_read main_v31 _ _ _ (V m c main_v31) y y (fun ax => ?_)
  match ax with
  | ⟨0, _⟩ => exact (Nat.zero_add _).symm
  | ⟨1, _⟩ => exact (Nat.zero_add _).symm

/-- An entry of the product, as a point computes it and as a whole. -/
theorem entry_blk (t : Fin cfg0.N) (r : Fin 512) (j : Nat) :
    entry (M := 512) (rowsBlk m c t) (weightsBlk m c t) r j = entry (M := 65536) (tokens m c) (laid m c) (rowOf (grid0.coords t) r) j := by
  rw [iblk1_eq]
  exact Finset.sum_congr rfl fun k _ => congrArg (· * at' (laid m c) k j) (iblk0_apply m c t r k)

theorem point_of (r : Fin 65536) : ∃ t : Fin cfg0.N, (grid0.coords t 0).val = r.val / 512 := by
  obtain ⟨t, ht⟩ := Pipeline.Grid.coords_surjective grid0 (fun a => match a with | ⟨0, _⟩ => (⟨r.val / 512, by omega⟩ : Fin 128))
  exact ⟨t, by rw [ht]⟩

/-- The array of window 2: columns 0 to 2047 of the product. -/
def product2 : S65536x2048.Idx → EReal := fun i => entry (M := 65536) (tokens m c) (laid m c) (i 0) (0 + (i 1).val)

theorem flushed2_eq (t : Fin cfg0.N) : (dats m 0 c).flushed 2 t = ((cfg0.win 2).blk t).view.read (Elt Ideal) (product2 m c) := by
  rw [Value.flushed2]
  refine funext fun (y : S512x2048.Idx) => ?_
  have h0 : (grid0.coords t 0).val < 128 := (grid0.coords t 0).isLt
  obtain ⟨r, f, rfl⟩ : ∃ (r : Fin 512) (f : Fin 2048), y = ix2 r f := ⟨y 0, y 1, eq_ix2 y⟩
  refine Eq.trans (out2_apply (rowsBlk m c t) (weightsBlk m c t) r f) (Eq.trans (entry_blk m c t r _) ?_)
  refine (blk_read main_v32_0 _ _ _ (product2 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover2 (i : S65536x2048.Idx) : ∃ t : Fin cfg0.N, (cfg0.win 2).flush t = true ∧ i ∈ ((cfg0.win 2).blk t).view.set := by
  have hi0 : (i 0).val < 65536 := (i 0).isLt
  have hi1 : (i 1).val < 2048 := (i 1).isLt
  obtain ⟨t, e0⟩ := point_of (i 0)
  refine ⟨t, flush0_2 t, blk_mem main_v32_0 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 2048 ≤ (i 1).val ∧ (i 1).val < 0 * 2048 + 2048
    omega

theorem final2 : (dats m 0 c).arrAt 2 cfg0.N = product2 m c :=
  (dats m 0 c).arrAt_eq_of_cover 2 (product2 m c) (fun t _ => flushed2_eq m c t) cover2

/-- The array of window 3: columns 2048 to 2303 of the product. -/
def product3 : S65536x256.Idx → EReal := fun i => entry (M := 65536) (tokens m c) (laid m c) (i 0) (2048 + (i 1).val)

theorem flushed3_eq (t : Fin cfg0.N) : (dats m 0 c).flushed 3 t = ((cfg0.win 3).blk t).view.read (Elt Ideal) (product3 m c) := by
  rw [Value.flushed3]
  refine funext fun (y : S512x256.Idx) => ?_
  have h0 : (grid0.coords t 0).val < 128 := (grid0.coords t 0).isLt
  obtain ⟨r, f, rfl⟩ : ∃ (r : Fin 512) (f : Fin 256), y = ix2 r f := ⟨y 0, y 1, eq_ix2 y⟩
  refine Eq.trans (out3_apply (rowsBlk m c t) (weightsBlk m c t) r f) (Eq.trans (entry_blk m c t r _) ?_)
  refine (blk_read main_v32_1 _ _ _ (product3 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover3 (i : S65536x256.Idx) : ∃ t : Fin cfg0.N, (cfg0.win 3).flush t = true ∧ i ∈ ((cfg0.win 3).blk t).view.set := by
  have hi0 : (i 0).val < 65536 := (i 0).isLt
  have hi1 : (i 1).val < 256 := (i 1).isLt
  obtain ⟨t, e0⟩ := point_of (i 0)
  refine ⟨t, flush0_3 t, blk_mem main_v32_1 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 256 ≤ (i 1).val ∧ (i 1).val < 0 * 256 + 256
    omega

theorem final3 : (dats m 0 c).arrAt 3 cfg0.N = product3 m c :=
  (dats m 0 c).arrAt_eq_of_cover 3 (product3 m c) (fun t _ => flushed3_eq m c t) cover3

/-- The array of window 4: columns 2304 to 2559 of the product. -/
def product4 : S65536x256.Idx → EReal := fun i => entry (M := 65536) (tokens m c) (laid m c) (i 0) (2304 + (i 1).val)

theorem flushed4_eq (t : Fin cfg0.N) : (dats m 0 c).flushed 4 t = ((cfg0.win 4).blk t).view.read (Elt Ideal) (product4 m c) := by
  rw [Value.flushed4]
  refine funext fun (y : S512x256.Idx) => ?_
  have h0 : (grid0.coords t 0).val < 128 := (grid0.coords t 0).isLt
  obtain ⟨r, f, rfl⟩ : ∃ (r : Fin 512) (f : Fin 256), y = ix2 r f := ⟨y 0, y 1, eq_ix2 y⟩
  refine Eq.trans (out4_apply (rowsBlk m c t) (weightsBlk m c t) r f) (Eq.trans (entry_blk m c t r _) ?_)
  refine (blk_read main_v32_2 _ _ _ (product4 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover4 (i : S65536x256.Idx) : ∃ t : Fin cfg0.N, (cfg0.win 4).flush t = true ∧ i ∈ ((cfg0.win 4).blk t).view.set := by
  have hi0 : (i 0).val < 65536 := (i 0).isLt
  have hi1 : (i 1).val < 256 := (i 1).isLt
  obtain ⟨t, e0⟩ := point_of (i 0)
  refine ⟨t, flush0_4 t, blk_mem main_v32_2 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 256 ≤ (i 1).val ∧ (i 1).val < 0 * 256 + 256
    omega

theorem final4 : (dats m 0 c).arrAt 4 cfg0.N = product4 m c :=
  (dats m 0 c).arrAt_eq_of_cover 4 (product4 m c) (fun t _ => flushed4_eq m c t) cover4

/-- The array of window 5: columns 2560 to 3071 of the product. -/
def product5 : S65536x512.Idx → EReal := fun i => entry (M := 65536) (tokens m c) (laid m c) (i 0) (2560 + (i 1).val)

theorem flushed5_eq (t : Fin cfg0.N) : (dats m 0 c).flushed 5 t = ((cfg0.win 5).blk t).view.read (Elt Ideal) (product5 m c) := by
  rw [Value.flushed5]
  refine funext fun (y : S512x512.Idx) => ?_
  have h0 : (grid0.coords t 0).val < 128 := (grid0.coords t 0).isLt
  obtain ⟨r, f, rfl⟩ : ∃ (r : Fin 512) (f : Fin 512), y = ix2 r f := ⟨y 0, y 1, eq_ix2 y⟩
  refine Eq.trans (out5_apply (rowsBlk m c t) (weightsBlk m c t) r f) (Eq.trans (entry_blk m c t r _) ?_)
  refine (blk_read main_v32_3 _ _ _ (product5 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover5 (i : S65536x512.Idx) : ∃ t : Fin cfg0.N, (cfg0.win 5).flush t = true ∧ i ∈ ((cfg0.win 5).blk t).view.set := by
  have hi0 : (i 0).val < 65536 := (i 0).isLt
  have hi1 : (i 1).val < 512 := (i 1).isLt
  obtain ⟨t, e0⟩ := point_of (i 0)
  refine ⟨t, flush0_5 t, blk_mem main_v32_3 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 512 ≤ (i 1).val ∧ (i 1).val < 0 * 512 + 512
    omega

theorem final5 : (dats m 0 c).arrAt 5 cfg0.N = product5 m c :=
  (dats m 0 c).arrAt_eq_of_cover 5 (product5 m c) (fun t _ => flushed5_eq m c t) cover5

/-- The array of window 6: columns 3072 to 3583 of the product. -/
def product6 : S65536x512.Idx → EReal := fun i => entry (M := 65536) (tokens m c) (laid m c) (i 0) (3072 + (i 1).val)

theorem flushed6_eq (t : Fin cfg0.N) : (dats m 0 c).flushed 6 t = ((cfg0.win 6).blk t).view.read (Elt Ideal) (product6 m c) := by
  rw [Value.flushed6]
  refine funext fun (y : S512x512.Idx) => ?_
  have h0 : (grid0.coords t 0).val < 128 := (grid0.coords t 0).isLt
  obtain ⟨r, f, rfl⟩ : ∃ (r : Fin 512) (f : Fin 512), y = ix2 r f := ⟨y 0, y 1, eq_ix2 y⟩
  refine Eq.trans (out6_apply (rowsBlk m c t) (weightsBlk m c t) r f) (Eq.trans (entry_blk m c t r _) ?_)
  refine (blk_read main_v32_4 _ _ _ (product6 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover6 (i : S65536x512.Idx) : ∃ t : Fin cfg0.N, (cfg0.win 6).flush t = true ∧ i ∈ ((cfg0.win 6).blk t).view.set := by
  have hi0 : (i 0).val < 65536 := (i 0).isLt
  have hi1 : (i 1).val < 512 := (i 1).isLt
  obtain ⟨t, e0⟩ := point_of (i 0)
  refine ⟨t, flush0_6 t, blk_mem main_v32_4 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 512 ≤ (i 1).val ∧ (i 1).val < 0 * 512 + 512
    omega

theorem final6 : (dats m 0 c).arrAt 6 cfg0.N = product6 m c :=
  (dats m 0 c).arrAt_eq_of_cover 6 (product6 m c) (fun t _ => flushed6_eq m c t) cover6

/-- The array of window 7: columns 3584 to 4095 of the product. -/
def product7 : S65536x512.Idx → EReal := fun i => entry (M := 65536) (tokens m c) (laid m c) (i 0) (3584 + (i 1).val)

theorem flushed7_eq (t : Fin cfg0.N) : (dats m 0 c).flushed 7 t = ((cfg0.win 7).blk t).view.read (Elt Ideal) (product7 m c) := by
  rw [Value.flushed7]
  refine funext fun (y : S512x512.Idx) => ?_
  have h0 : (grid0.coords t 0).val < 128 := (grid0.coords t 0).isLt
  obtain ⟨r, f, rfl⟩ : ∃ (r : Fin 512) (f : Fin 512), y = ix2 r f := ⟨y 0, y 1, eq_ix2 y⟩
  refine Eq.trans (out7_apply (rowsBlk m c t) (weightsBlk m c t) r f) (Eq.trans (entry_blk m c t r _) ?_)
  refine (blk_read main_v32_5 _ _ _ (product7 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover7 (i : S65536x512.Idx) : ∃ t : Fin cfg0.N, (cfg0.win 7).flush t = true ∧ i ∈ ((cfg0.win 7).blk t).view.set := by
  have hi0 : (i 0).val < 65536 := (i 0).isLt
  have hi1 : (i 1).val < 512 := (i 1).isLt
  obtain ⟨t, e0⟩ := point_of (i 0)
  refine ⟨t, flush0_7 t, blk_mem main_v32_5 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 512 ≤ (i 1).val ∧ (i 1).val < 0 * 512 + 512
    omega

theorem final7 : (dats m 0 c).arrAt 7 cfg0.N = product7 m c :=
  (dats m 0 c).arrAt_eq_of_cover 7 (product7 m c) (fun t _ => flushed7_eq m c t) cover7

/-- The array of window 8: columns 4096 to 4607 of the product. -/
def product8 : S65536x512.Idx → EReal := fun i => entry (M := 65536) (tokens m c) (laid m c) (i 0) (4096 + (i 1).val)

theorem flushed8_eq (t : Fin cfg0.N) : (dats m 0 c).flushed 8 t = ((cfg0.win 8).blk t).view.read (Elt Ideal) (product8 m c) := by
  rw [Value.flushed8]
  refine funext fun (y : S512x512.Idx) => ?_
  have h0 : (grid0.coords t 0).val < 128 := (grid0.coords t 0).isLt
  obtain ⟨r, f, rfl⟩ : ∃ (r : Fin 512) (f : Fin 512), y = ix2 r f := ⟨y 0, y 1, eq_ix2 y⟩
  refine Eq.trans (out8_apply (rowsBlk m c t) (weightsBlk m c t) r f) (Eq.trans (entry_blk m c t r _) ?_)
  refine (blk_read main_v32_6 _ _ _ (product8 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover8 (i : S65536x512.Idx) : ∃ t : Fin cfg0.N, (cfg0.win 8).flush t = true ∧ i ∈ ((cfg0.win 8).blk t).view.set := by
  have hi0 : (i 0).val < 65536 := (i 0).isLt
  have hi1 : (i 1).val < 512 := (i 1).isLt
  obtain ⟨t, e0⟩ := point_of (i 0)
  refine ⟨t, flush0_8 t, blk_mem main_v32_6 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 512 ≤ (i 1).val ∧ (i 1).val < 0 * 512 + 512
    omega

theorem final8 : (dats m 0 c).arrAt 8 cfg0.N = product8 m c :=
  (dats m 0 c).arrAt_eq_of_cover 8 (product8 m c) (fun t _ => flushed8_eq m c t) cover8

/-- The array of window 9: columns 4608 to 4735 of the product. -/
def product9 : S65536x128.Idx → EReal := fun i => entry (M := 65536) (tokens m c) (laid m c) (i 0) (4608 + (i 1).val)

theorem flushed9_eq (t : Fin cfg0.N) : (dats m 0 c).flushed 9 t = ((cfg0.win 9).blk t).view.read (Elt Ideal) (product9 m c) := by
  rw [Value.flushed9]
  refine funext fun (y : S512x128.Idx) => ?_
  have h0 : (grid0.coords t 0).val < 128 := (grid0.coords t 0).isLt
  obtain ⟨r, f, rfl⟩ : ∃ (r : Fin 512) (f : Fin 128), y = ix2 r f := ⟨y 0, y 1, eq_ix2 y⟩
  refine Eq.trans (out9_apply (rowsBlk m c t) (weightsBlk m c t) r f) (Eq.trans (entry_blk m c t r _) ?_)
  refine (blk_read main_v32_7 _ _ _ (product9 m c) (ix2 r f) (ix2 (rowOf (grid0.coords t) r) f) (fun ax => ?_)).symm
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem cover9 (i : S65536x128.Idx) : ∃ t : Fin cfg0.N, (cfg0.win 9).flush t = true ∧ i ∈ ((cfg0.win 9).blk t).view.set := by
  have hi0 : (i 0).val < 65536 := (i 0).isLt
  have hi1 : (i 1).val < 128 := (i 1).isLt
  obtain ⟨t, e0⟩ := point_of (i 0)
  refine ⟨t, flush0_9 t, blk_mem main_v32_7 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 128 ≤ (i 1).val ∧ (i 1).val < 0 * 128 + 128
    omega

theorem final9 : (dats m 0 c).arrAt 9 cfg0.N = product9 m c :=
  (dats m 0 c).arrAt_eq_of_cover 9 (product9 m c) (fun t _ => flushed9_eq m c t) cover9

end Cert.Linear5
-- ==== Proof.Linear.Layout5.lean ====
module

public import proofs.«01_k».proof.Proof.Linear.Value5
public import proofs.«01_k».proof.Proof.Gen.Reference5Ideal.Read

/-! The layout of NSA's projection: the columns the host code pads, repeats and scales in the weights are the columns the
reference pads, repeats and scales in the product. -/

@[expose] public section

set_option maxRecDepth 16384

noncomputable section

namespace Cert.Linear5

open Cert.Kernel5Ideal Cert.Kernel5Ideal.Gen
open Idealize.ShloMosaic Idealize.ShloMosaic.TcCoe Idealize.ShloMosaic.ValueIdx

/-! ### Heads of 64 lanes in 128 -/

section Lanes
variable {α : Type} {M n N N2 : Nat}

theorem heads_apply (x : (⟨2, ![M, N2]⟩ : Shape).Idx → α) (hs : (⟨2, ![M, N2]⟩ : Shape).ShapeCasts ⟨3, ![M, n, 64]⟩)
    (r : Fin M) (h : Fin n) (e : Fin 64) (j : Fin N2) (hj : j.val = h.val * 64 + e.val) (hN : N2 = n * 64) :
    shapeCast ⟨3, ![M, n, 64]⟩ x hs (ix3 r h e) = x (ix2 r j) := by
  refine shapeCast_apply x hs (ix3 r h e) (ix2 r j) ?_
  rewrite [Shape.rowMajor_val_two, Shape.rowMajor_val_three]
  show r.val * N2 + j.val = (r.val * n + h.val) * 64 + e.val
  subst hN
  rw [hj]; ring

theorem flat_apply (x : (⟨3, ![M, n, 128]⟩ : Shape).Idx → α) (hs : (⟨3, ![M, n, 128]⟩ : Shape).ShapeCasts ⟨2, ![M, N]⟩)
    (r : Fin M) (h : Fin n) (e : Fin 128) (j : Fin N) (hj : j.val = h.val * 128 + e.val) (hN : N = n * 128) :
    shapeCast ⟨2, ![M, N]⟩ x hs (ix2 r j) = x (ix3 r h e) := by
  refine shapeCast_apply x hs (ix2 r j) (ix3 r h e) ?_
  rewrite [Shape.rowMajor_val_two, Shape.rowMajor_val_three]
  show (r.val * n + h.val) * 128 + e.val = r.val * N + j.val
  subst hN
  rw [hj]; ring

theorem left_apply (x y : (⟨3, ![M, n, 64]⟩ : Shape).Idx → α)
    (hc : Shape.Concatenates [(⟨3, ![M, n, 64]⟩ : Shape), ⟨3, ![M, n, 64]⟩] ⟨3, ![M, n, 128]⟩ 2)
    (r : Fin M) (h : Fin n) (e : Fin 64) (e' : Fin 128) (he : e.val = e'.val) :
    concatenate (⟨3, ![M, n, 128]⟩ : Shape) 2 [⟨(⟨3, ![M, n, 64]⟩ : Shape), x⟩, ⟨(⟨3, ![M, n, 64]⟩ : Shape), y⟩] hc (ix3 r h e') = x (ix3 r h e) :=
  concatenate_pair_apply_left (s₁ := ⟨3, ![M, n, 64]⟩) (s₂ := ⟨3, ![M, n, 64]⟩) (2 : Fin 3) x y hc (ix3 r h e') rfl (ix3 r h e)
    (fun b => by match b with | ⟨0, _⟩ => rfl | ⟨1, _⟩ => rfl | ⟨2, _⟩ => exact he)

theorem right_apply (x y : (⟨3, ![M, n, 64]⟩ : Shape).Idx → α)
    (hc : Shape.Concatenates [(⟨3, ![M, n, 64]⟩ : Shape), ⟨3, ![M, n, 64]⟩] ⟨3, ![M, n, 128]⟩ 2)
    (r : Fin M) (h : Fin n) (e : Fin 64) (e' : Fin 128) (he : e.val + 64 = e'.val) :
    concatenate (⟨3, ![M, n, 128]⟩ : Shape) 2 [⟨(⟨3, ![M, n, 64]⟩ : Shape), x⟩, ⟨(⟨3, ![M, n, 64]⟩ : Shape), y⟩] hc (ix3 r h e') = y (ix3 r h e) :=
  concatenate_pair_apply_right (s₁ := ⟨3, ![M, n, 64]⟩) (s₂ := ⟨3, ![M, n, 64]⟩) (2 : Fin 3) x y hc (ix3 r h e') rfl rfl (ix3 r h e)
    (fun b hb => by match b with | ⟨0, _⟩ => rfl | ⟨1, _⟩ => rfl | ⟨2, _⟩ => exact absurd rfl hb) (by exact he)

/-- The column, of the heads side by side, behind column `f` of the heads in 128 lanes each. -/
def src (n : Nat) (f : Fin (n * 128)) : Fin (n * 64) :=
  ⟨f.val / 128 * 64 + f.val % 64, by
    have h1 : f.val / 128 < n := by have := f.isLt; omega
    have h2 : f.val % 64 < 64 := Nat.mod_lt _ (by decide)
    omega⟩

/-- Heads followed by a second vector of heads, in 128 lanes each. -/
theorem lanes_apply (x : (⟨2, ![M, n * 64]⟩ : Shape).Idx → α) (y : (⟨3, ![M, n, 64]⟩ : Shape).Idx → α)
    (h1 : (⟨2, ![M, n * 64]⟩ : Shape).ShapeCasts ⟨3, ![M, n, 64]⟩)
    (hc : Shape.Concatenates [(⟨3, ![M, n, 64]⟩ : Shape), ⟨3, ![M, n, 64]⟩] ⟨3, ![M, n, 128]⟩ 2)
    (h2 : (⟨3, ![M, n, 128]⟩ : Shape).ShapeCasts ⟨2, ![M, n * 128]⟩) (r : Fin M) (f : Fin (n * 128)) (z : α)
    (hy : ∀ (h : Fin n) (e : Fin 64), h.val = f.val / 128 → e.val = f.val % 64 → y (ix3 r h e) = z) :
    shapeCast (⟨2, ![M, n * 128]⟩ : Shape) (concatenate (⟨3, ![M, n, 128]⟩ : Shape) 2
      [⟨(⟨3, ![M, n, 64]⟩ : Shape), shapeCast (⟨3, ![M, n, 64]⟩ : Shape) x h1⟩, ⟨(⟨3, ![M, n, 64]⟩ : Shape), y⟩] hc) h2 (ix2 r f)
      = if f.val % 128 < 64 then x (ix2 r (src n f)) else z := by
  have hh : f.val / 128 < n := by have := f.isLt; omega
  have he : f.val % 64 < 64 := Nat.mod_lt _ (by decide)
  have hl : f.val % 128 < 128 := Nat.mod_lt _ (by decide)
  rw [flat_apply _ h2 r ⟨f.val / 128, hh⟩ ⟨f.val % 128, hl⟩ f (by show f.val = f.val / 128 * 128 + f.val % 128; omega) rfl]
  split
  · rename_i hlt
    rw [left_apply _ _ hc r ⟨f.val / 128, hh⟩ ⟨f.val % 64, he⟩ ⟨f.val % 128, hl⟩ (by show f.val % 64 = f.val % 128; omega)]
    exact heads_apply x h1 r ⟨f.val / 128, hh⟩ ⟨f.val % 64, he⟩ (src n f) rfl rfl
  · rename_i hge
    rw [right_apply _ _ hc r ⟨f.val / 128, hh⟩ ⟨f.val % 64, he⟩ ⟨f.val % 128, hl⟩ (by show f.val % 64 + 64 = f.val % 128; omega)]
    exact hy _ _ rfl rfl

/-- Heads with zeros after them. -/
theorem padded_apply (x : (⟨2, ![M, n * 64]⟩ : Shape).Idx → EReal) (y : (⟨3, ![M, n, 64]⟩ : Shape).Idx → EReal)
    (h1 : (⟨2, ![M, n * 64]⟩ : Shape).ShapeCasts ⟨3, ![M, n, 64]⟩)
    (hc : Shape.Concatenates [(⟨3, ![M, n, 64]⟩ : Shape), ⟨3, ![M, n, 64]⟩] ⟨3, ![M, n, 128]⟩ 2)
    (h2 : (⟨3, ![M, n, 128]⟩ : Shape).ShapeCasts ⟨2, ![M, n * 128]⟩) (hy : ∀ i, y i = 0) (r : Fin M) (f : Fin (n * 128)) :
    shapeCast (⟨2, ![M, n * 128]⟩ : Shape) (concatenate (⟨3, ![M, n, 128]⟩ : Shape) 2
      [⟨(⟨3, ![M, n, 64]⟩ : Shape), shapeCast (⟨3, ![M, n, 64]⟩ : Shape) x h1⟩, ⟨(⟨3, ![M, n, 64]⟩ : Shape), y⟩] hc) h2 (ix2 r f)
      = if f.val % 128 < 64 then x (ix2 r (src n f)) else 0 :=
  lanes_apply x y h1 hc h2 r f 0 (fun _ _ _ _ => hy _)

/-- Heads repeated. -/
theorem doubled_apply (x : (⟨2, ![M, n * 64]⟩ : Shape).Idx → EReal)
    (h1 : (⟨2, ![M, n * 64]⟩ : Shape).ShapeCasts ⟨3, ![M, n, 64]⟩)
    (hc : Shape.Concatenates [(⟨3, ![M, n, 64]⟩ : Shape), ⟨3, ![M, n, 64]⟩] ⟨3, ![M, n, 128]⟩ 2)
    (h2 : (⟨3, ![M, n, 128]⟩ : Shape).ShapeCasts ⟨2, ![M, n * 128]⟩) (r : Fin M) (f : Fin (n * 128)) :
    shapeCast (⟨2, ![M, n * 128]⟩ : Shape) (concatenate (⟨3, ![M, n, 128]⟩ : Shape) 2
      [⟨(⟨3, ![M, n, 64]⟩ : Shape), shapeCast (⟨3, ![M, n, 64]⟩ : Shape) x h1⟩,
       ⟨(⟨3, ![M, n, 64]⟩ : Shape), shapeCast (⟨3, ![M, n, 64]⟩ : Shape) x h1⟩] hc) h2 (ix2 r f) = x (ix2 r (src n f)) :=
  (lanes_apply x _ h1 hc h2 r f (x (ix2 r (src n f))) (fun h e eh ee =>
    heads_apply x h1 r h e (src n f) (by show f.val / 128 * 64 + f.val % 64 = _; rw [eh, ee]) rfl)).trans (ite_self _)

end Lanes

/-! ### The weights as the host code lays them out -/

section Laid
variable (W : S1024x2608.Idx → EReal)

/-- The factor of the queries. -/
abbrev factor : EReal := Ideal.ofBits .f32 0x3E38AA3B#32

theorem factor_real : ∃ s : ℝ, 0 ≤ s ∧ factor = ((s : ℝ) : EReal) := by
  refine ⟨_, ?_, by simp only [factor, Ideal.ofBits, Ideal.ieee]; simp [-EReal.coe_mul]; rfl⟩
  norm_num

def queries : S1024x1024.Idx → EReal :=
  mulf (F := Ideal) (φ := .f32) (extractStridedSlice S1024x1024 ![0, 0] W slices_S1024x2608_S1024x1024_0_0)
    (broadcastInDim S1024x1024 ![] bcast_S_S1024x1024 (constant (F := Ideal) S_ .f32 0x3E38AA3B#32))

def part0 : S1024x2048.Idx → EReal :=
  shapeCast S1024x2048 (concatenate S1024x16x128 2 [⟨S1024x16x64, shapeCast S1024x16x64 (queries W) shapeCasts_S1024x1024_S1024x16x64⟩,
    ⟨S1024x16x64, broadcastInDim S1024x16x64 ![] bcast_S_S1024x16x64 (constant (F := Ideal) S_ .f32 0x00000000#32)⟩]
    concatenates_S1024x16x64_S1024x16x64_S1024x16x128_d2) shapeCasts_S1024x16x128_S1024x2048

def part1 : S1024x256.Idx → EReal :=
  extractStridedSlice S1024x256 ![0, 1024] W slices_S1024x2608_S1024x256_0_1024

def part2 : S1024x256.Idx → EReal :=
  extractStridedSlice S1024x256 ![0, 1280] W slices_S1024x2608_S1024x256_0_1280

def part3 : S1024x512.Idx → EReal :=
  shapeCast S1024x512 (concatenate S1024x4x128 2 [⟨S1024x4x64, shapeCast S1024x4x64 (extractStridedSlice S1024x256 ![0, 1536] W slices_S1024x2608_S1024x256_0_1536) shapeCasts_S1024x256_S1024x4x64⟩,
    ⟨S1024x4x64, broadcastInDim S1024x4x64 ![] bcast_S_S1024x4x64 (constant (F := Ideal) S_ .f32 0x00000000#32)⟩]
    concatenates_S1024x4x64_S1024x4x64_S1024x4x128_d2) shapeCasts_S1024x4x128_S1024x512

def part4 : S1024x512.Idx → EReal :=
  shapeCast S1024x512 (concatenate S1024x4x128 2 [⟨S1024x4x64, shapeCast S1024x4x64 (extractStridedSlice S1024x256 ![0, 1792] W slices_S1024x2608_S1024x256_0_1792) shapeCasts_S1024x256_S1024x4x64⟩,
    ⟨S1024x4x64, shapeCast S1024x4x64 (extractStridedSlice S1024x256 ![0, 1792] W slices_S1024x2608_S1024x256_0_1792) shapeCasts_S1024x256_S1024x4x64⟩]
    concatenates_S1024x4x64_S1024x4x64_S1024x4x128_d2) shapeCasts_S1024x4x128_S1024x512

def part5 : S1024x512.Idx → EReal :=
  shapeCast S1024x512 (concatenate S1024x4x128 2 [⟨S1024x4x64, shapeCast S1024x4x64 (extractStridedSlice S1024x256 ![0, 2048] W slices_S1024x2608_S1024x256_0_2048) shapeCasts_S1024x256_S1024x4x64⟩,
    ⟨S1024x4x64, broadcastInDim S1024x4x64 ![] bcast_S_S1024x4x64 (constant (F := Ideal) S_ .f32 0x00000000#32)⟩]
    concatenates_S1024x4x64_S1024x4x64_S1024x4x128_d2) shapeCasts_S1024x4x128_S1024x512

def part6 : S1024x512.Idx → EReal :=
  shapeCast S1024x512 (concatenate S1024x4x128 2 [⟨S1024x4x64, shapeCast S1024x4x64 (extractStridedSlice S1024x256 ![0, 2304] W slices_S1024x2608_S1024x256_0_2304) shapeCasts_S1024x256_S1024x4x64⟩,
    ⟨S1024x4x64, shapeCast S1024x4x64 (extractStridedSlice S1024x256 ![0, 2304] W slices_S1024x2608_S1024x256_0_2304) shapeCasts_S1024x256_S1024x4x64⟩]
    concatenates_S1024x4x64_S1024x4x64_S1024x4x128_d2) shapeCasts_S1024x4x128_S1024x512

def part7 : S1024x128.Idx → EReal :=
  concatenate S1024x128 1 [⟨S1024x48, extractStridedSlice S1024x48 ![0, 2560] W slices_S1024x2608_S1024x48_0_2560⟩,
    ⟨S1024x80, broadcastInDim S1024x80 ![] bcast_S_S1024x80 (constant (F := Ideal) S_ .f32 0x00000000#32)⟩] concatenates_S1024x48_S1024x80_S1024x128_d1

abbrev parts : List ((s : Shape) × (s.Idx → EReal)) := [⟨S1024x2048, part0 W⟩, ⟨S1024x256, part1 W⟩, ⟨S1024x256, part2 W⟩, ⟨S1024x512, part3 W⟩, ⟨S1024x512, part4 W⟩, ⟨S1024x512, part5 W⟩, ⟨S1024x512, part6 W⟩, ⟨S1024x128, part7 W⟩]

def whole : S1024x4736.Idx → EReal :=
  concatenate S1024x4736 1 (parts W) concatenates_S1024x2048_S1024x256_S1024x256_S1024x512_S1024x512_S1024x512_S1024x512_S1024x128_S1024x4736_d1

theorem whole0 (k : Fin 1024) (f : Fin 2048) : at' (whole W) k (0 + f.val) = part0 W (ix2 k f) := by
  refine (at_of (whole W) k (⟨0 + f.val, by have := f.isLt; omega⟩ : Fin 4736)).trans ?_
  exact concatenate_apply_piece (t := S1024x4736) 1 (parts W) _ (ix2 k (⟨0 + f.val, by have := f.isLt; omega⟩ : Fin 4736)) 0 (by decide : 0 < 8) S1024x2048 (part0 W) rfl rfl 0 rfl (ix2 k f)
    (fun b hb => by match b with | ⟨0, _⟩ => rfl | ⟨1, _⟩ => exact absurd rfl hb) rfl

theorem whole1 (k : Fin 1024) (f : Fin 256) : at' (whole W) k (2048 + f.val) = part1 W (ix2 k f) := by
  refine (at_of (whole W) k (⟨2048 + f.val, by have := f.isLt; omega⟩ : Fin 4736)).trans ?_
  exact concatenate_apply_piece (t := S1024x4736) 1 (parts W) _ (ix2 k (⟨2048 + f.val, by have := f.isLt; omega⟩ : Fin 4736)) 1 (by decide : 1 < 8) S1024x256 (part1 W) rfl rfl 2048 rfl (ix2 k f)
    (fun b hb => by match b with | ⟨0, _⟩ => rfl | ⟨1, _⟩ => exact absurd rfl hb) rfl

theorem whole2 (k : Fin 1024) (f : Fin 256) : at' (whole W) k (2304 + f.val) = part2 W (ix2 k f) := by
  refine (at_of (whole W) k (⟨2304 + f.val, by have := f.isLt; omega⟩ : Fin 4736)).trans ?_
  exact concatenate_apply_piece (t := S1024x4736) 1 (parts W) _ (ix2 k (⟨2304 + f.val, by have := f.isLt; omega⟩ : Fin 4736)) 2 (by decide : 2 < 8) S1024x256 (part2 W) rfl rfl 2304 rfl (ix2 k f)
    (fun b hb => by match b with | ⟨0, _⟩ => rfl | ⟨1, _⟩ => exact absurd rfl hb) rfl

theorem whole3 (k : Fin 1024) (f : Fin 512) : at' (whole W) k (2560 + f.val) = part3 W (ix2 k f) := by
  refine (at_of (whole W) k (⟨2560 + f.val, by have := f.isLt; omega⟩ : Fin 4736)).trans ?_
  exact concatenate_apply_piece (t := S1024x4736) 1 (parts W) _ (ix2 k (⟨2560 + f.val, by have := f.isLt; omega⟩ : Fin 4736)) 3 (by decide : 3 < 8) S1024x512 (part3 W) rfl rfl 2560 rfl (ix2 k f)
    (fun b hb => by match b with | ⟨0, _⟩ => rfl | ⟨1, _⟩ => exact absurd rfl hb) rfl

theorem whole4 (k : Fin 1024) (f : Fin 512) : at' (whole W) k (3072 + f.val) = part4 W (ix2 k f) := by
  refine (at_of (whole W) k (⟨3072 + f.val, by have := f.isLt; omega⟩ : Fin 4736)).trans ?_
  exact concatenate_apply_piece (t := S1024x4736) 1 (parts W) _ (ix2 k (⟨3072 + f.val, by have := f.isLt; omega⟩ : Fin 4736)) 4 (by decide : 4 < 8) S1024x512 (part4 W) rfl rfl 3072 rfl (ix2 k f)
    (fun b hb => by match b with | ⟨0, _⟩ => rfl | ⟨1, _⟩ => exact absurd rfl hb) rfl

theorem whole5 (k : Fin 1024) (f : Fin 512) : at' (whole W) k (3584 + f.val) = part5 W (ix2 k f) := by
  refine (at_of (whole W) k (⟨3584 + f.val, by have := f.isLt; omega⟩ : Fin 4736)).trans ?_
  exact concatenate_apply_piece (t := S1024x4736) 1 (parts W) _ (ix2 k (⟨3584 + f.val, by have := f.isLt; omega⟩ : Fin 4736)) 5 (by decide : 5 < 8) S1024x512 (part5 W) rfl rfl 3584 rfl (ix2 k f)
    (fun b hb => by match b with | ⟨0, _⟩ => rfl | ⟨1, _⟩ => exact absurd rfl hb) rfl

theorem whole6 (k : Fin 1024) (f : Fin 512) : at' (whole W) k (4096 + f.val) = part6 W (ix2 k f) := by
  refine (at_of (whole W) k (⟨4096 + f.val, by have := f.isLt; omega⟩ : Fin 4736)).trans ?_
  exact concatenate_apply_piece (t := S1024x4736) 1 (parts W) _ (ix2 k (⟨4096 + f.val, by have := f.isLt; omega⟩ : Fin 4736)) 6 (by decide : 6 < 8) S1024x512 (part6 W) rfl rfl 4096 rfl (ix2 k f)
    (fun b hb => by match b with | ⟨0, _⟩ => rfl | ⟨1, _⟩ => exact absurd rfl hb) rfl

theorem whole7 (k : Fin 1024) (f : Fin 128) : at' (whole W) k (4608 + f.val) = part7 W (ix2 k f) := by
  refine (at_of (whole W) k (⟨4608 + f.val, by have := f.isLt; omega⟩ : Fin 4736)).trans ?_
  exact concatenate_apply_piece (t := S1024x4736) 1 (parts W) _ (ix2 k (⟨4608 + f.val, by have := f.isLt; omega⟩ : Fin 4736)) 7 (by decide : 7 < 8) S1024x128 (part7 W) rfl rfl 4608 rfl (ix2 k f)
    (fun b hb => by match b with | ⟨0, _⟩ => rfl | ⟨1, _⟩ => exact absurd rfl hb) rfl

theorem zeros80 (i : S1024x80.Idx) : (broadcastInDim S1024x80 ![] bcast_S_S1024x80 (constant (F := Ideal) S_ .f32 0x00000000#32) : S1024x80.Idx → EReal) i = 0 :=
  Ideal.ofBits_zero_f32

theorem queries_apply (k : Fin 1024) (f : Fin 1024) : queries W (ix2 k f) = W (ix2 k (⟨f.val, by omega⟩ : Fin 2608)) * factor := by
  refine congrArg₂ (fun a b : EReal => a * b) (extractStridedSlice_apply ![0, 0] W slices_S1024x2608_S1024x1024_0_0 (ix2 k f) _ (fun a => ?_)) rfl
  match a with
  | ⟨0, _⟩ => exact (Nat.zero_add _).symm
  | ⟨1, _⟩ => exact (Nat.zero_add _).symm

/-- Columns from `o` on. -/
theorem columns {M n : Nat} (o : Nat) (X : (⟨2, ![M, 2608]⟩ : Shape).Idx → EReal) (hs : (⟨2, ![M, 2608]⟩ : Shape).Slices ![0, o] ⟨2, ![M, n]⟩)
    (k : Fin M) (f : Fin n) (j : Fin 2608) (hj : j.val = o + f.val) : extractStridedSlice (⟨2, ![M, n]⟩ : Shape) ![0, o] X hs (ix2 k f) = X (ix2 k j) :=
  extractStridedSlice_apply ![0, o] X hs (ix2 k f) (ix2 k j) (fun a => by match a with | ⟨0, _⟩ => exact (Nat.zero_add _).symm | ⟨1, _⟩ => exact hj)

/-- Gates followed by zeros. -/
theorem gates {M : Nat} (x : (⟨2, ![M, 48]⟩ : Shape).Idx → EReal) (y : (⟨2, ![M, 80]⟩ : Shape).Idx → EReal) (hy : ∀ i, y i = 0)
    (hc : Shape.Concatenates [(⟨2, ![M, 48]⟩ : Shape), ⟨2, ![M, 80]⟩] ⟨2, ![M, 128]⟩ 1) (r : Fin M) (f : Fin 128) :
    concatenate (⟨2, ![M, 128]⟩ : Shape) 1 [⟨(⟨2, ![M, 48]⟩ : Shape), x⟩, ⟨(⟨2, ![M, 80]⟩ : Shape), y⟩] hc (ix2 r f)
      = if h : f.val < 48 then x (ix2 r ⟨f.val, h⟩) else 0 := by
  split
  · rename_i h
    exact concatenate_pair_apply_left (s₁ := ⟨2, ![M, 48]⟩) (s₂ := ⟨2, ![M, 80]⟩) (1 : Fin 2) x y hc (ix2 r f) rfl (ix2 r (⟨f.val, h⟩ : Fin 48))
      (fun b => by match b with | ⟨0, _⟩ => rfl | ⟨1, _⟩ => rfl)
  · rename_i h
    have hf := f.isLt
    refine (concatenate_pair_apply_right (s₁ := ⟨2, ![M, 48]⟩) (s₂ := ⟨2, ![M, 80]⟩) (1 : Fin 2) x y hc (ix2 r f) rfl rfl
      (ix2 r (⟨f.val - 48, by omega⟩ : Fin 80)) (fun b hb => by match b with | ⟨0, _⟩ => rfl | ⟨1, _⟩ => exact absurd rfl hb) ?_).trans (hy _)
    show f.val - 48 + 48 = f.val
    omega

end Laid

variable (m : (ℓ : Loc nD τ sig) → Buf (Elt Ideal) ℓ) (c : Dev nD)

theorem cat_congr {x0 y0 : S1024x2048.Idx → EReal} {x1 y1 : S1024x256.Idx → EReal} {x2 y2 : S1024x256.Idx → EReal} {x3 y3 : S1024x512.Idx → EReal} {x4 y4 : S1024x512.Idx → EReal} {x5 y5 : S1024x512.Idx → EReal} {x6 y6 : S1024x512.Idx → EReal} {x7 y7 : S1024x128.Idx → EReal}
    {h} (h0 : x0 = y0) (h1 : x1 = y1) (h2 : x2 = y2) (h3 : x3 = y3) (h4 : x4 = y4) (h5 : x5 = y5) (h6 : x6 = y6) (h7 : x7 = y7) :
    concatenate S1024x4736 1 [⟨S1024x2048, x0⟩, ⟨S1024x256, x1⟩, ⟨S1024x256, x2⟩, ⟨S1024x512, x3⟩, ⟨S1024x512, x4⟩, ⟨S1024x512, x5⟩, ⟨S1024x512, x6⟩, ⟨S1024x128, x7⟩] h
      = concatenate S1024x4736 1 [⟨S1024x2048, y0⟩, ⟨S1024x256, y1⟩, ⟨S1024x256, y2⟩, ⟨S1024x512, y3⟩, ⟨S1024x512, y4⟩, ⟨S1024x512, y5⟩, ⟨S1024x512, y6⟩, ⟨S1024x128, y7⟩] h := by
  subst h0 h1 h2 h3 h4 h5 h6 h7; rfl

/-- The buffers the whole is put together from. -/
abbrev sources : Fin 8 → Ref sig .tc := ![main_v15, main_v1, main_v2, main_v19, main_v22, main_v26, main_v29, main_v9]

theorem source0 (S : Valuation τ sig (Elt Ideal)) :
    (S (Proc.tc.devRef (sources 0)) : S1024x2048.Idx → EReal) = StableHlo.after [] S (Proc.devRef .tc main_v15) := rfl
theorem source1 (S : Valuation τ sig (Elt Ideal)) :
    (S (Proc.tc.devRef (sources 1)) : S1024x256.Idx → EReal) = StableHlo.after [] S (Proc.devRef .tc main_v1) := rfl
theorem source2 (S : Valuation τ sig (Elt Ideal)) :
    (S (Proc.tc.devRef (sources 2)) : S1024x256.Idx → EReal) = StableHlo.after [] S (Proc.devRef .tc main_v2) := rfl
theorem source3 (S : Valuation τ sig (Elt Ideal)) :
    (S (Proc.tc.devRef (sources 3)) : S1024x512.Idx → EReal) = StableHlo.after [] S (Proc.devRef .tc main_v19) := rfl
theorem source4 (S : Valuation τ sig (Elt Ideal)) :
    (S (Proc.tc.devRef (sources 4)) : S1024x512.Idx → EReal) = StableHlo.after [] S (Proc.devRef .tc main_v22) := rfl
theorem source5 (S : Valuation τ sig (Elt Ideal)) :
    (S (Proc.tc.devRef (sources 5)) : S1024x512.Idx → EReal) = StableHlo.after [] S (Proc.devRef .tc main_v26) := rfl
theorem source6 (S : Valuation τ sig (Elt Ideal)) :
    (S (Proc.tc.devRef (sources 6)) : S1024x512.Idx → EReal) = StableHlo.after [] S (Proc.devRef .tc main_v29) := rfl
theorem source7 (S : Valuation τ sig (Elt Ideal)) :
    (S (Proc.tc.devRef (sources 7)) : S1024x128.Idx → EReal) = StableHlo.after [] S (Proc.devRef .tc main_v9) := rfl

theorem laid_eq : laid m c = whole (weights m c) := by
  show V m c main_v31 = _
  unfold V hostOps0; after_results
  refine congrArg (fun z : S1024x4736.Idx → EReal => z) (cat_congr ?_ ?_ ?_ ?_ ?_ ?_ ?_ ?_)
  · refine (source0 _).trans ?_
    after_results; rfl
  · refine (source1 _).trans ?_
    after_results; rfl
  · refine (source2 _).trans ?_
    after_results; rfl
  · refine (source3 _).trans ?_
    after_results; rfl
  · refine (source4 _).trans ?_
    after_results; rfl
  · refine (source5 _).trans ?_
    after_results; rfl
  · refine (source6 _).trans ?_
    after_results; rfl
  · refine (source7 _).trans ?_
    after_results; rfl

/-! ### The reference -/

section Reference
open Cert.Reference5Ideal.Read
variable (X : S65536x1024.Idx → EReal) (W : S1024x2608.Idx → EReal)

theorem product_apply (r : Fin 65536) (j : Fin 2608) :
    (val_main_v0 (F := Ideal) X W : (⟨2, ![65536, 2608]⟩ : Shape).Idx → EReal) (ix2 r j) = ∑ k : Fin 1024, X (ix2 r k) * W (ix2 k j) := by
  refine (val_main_v0_apply X W (ix2 r j)).trans (Finset.sum_congr rfl fun k _ => ?_)
  refine congrArg₂ (fun a b : EReal => a * b) (congrArg X (funext fun a => ?_)) (congrArg W (funext fun a => ?_))
  · match a with | ⟨0, _⟩ => rfl | ⟨1, _⟩ => rfl
  · match a with | ⟨0, _⟩ => rfl | ⟨1, _⟩ => rfl

theorem sum_mul_factor {ι : Type} (s : Finset ι) (g : ι → EReal) : (∑ k ∈ s, g k) * factor = ∑ k ∈ s, g k * factor := by
  classical
  obtain ⟨v, hv, hf⟩ := factor_real
  have h0 : (0 : EReal) ≤ factor := hf ▸ EReal.coe_nonneg.mpr hv
  have ht : factor ≠ ⊤ := hf ▸ EReal.coe_ne_top v
  induction s using Finset.induction with
  | empty => simp
  | insert a s ha ih => rw [Finset.sum_insert ha, Finset.sum_insert ha, EReal.right_distrib_of_nonneg_of_ne_top h0 ht, ih]

/-- A column of the product with the weights as laid out. -/
theorem entry_whole {n : Nat} (o : Nat) (part : (⟨2, ![1024, n]⟩ : Shape).Idx → EReal) (r : Fin 65536) (f : Fin n)
    (h : ∀ k : Fin 1024, at' (whole W) k (o + f.val) = part (ix2 k f)) :
    entry (M := 65536) X (whole W) r (o + f.val) = ∑ k : Fin 1024, X (ix2 r k) * part (ix2 k f) :=
  Finset.sum_congr rfl fun k _ => congrArg (fun z : EReal => X (ix2 r k) * z) (h k)

theorem sum_ite (p : Prop) [Decidable p] (a b : Fin 1024 → EReal) :
    (∑ k, a k * if p then b k else 0) = if p then ∑ k, a k * b k else 0 := by
  split
  · rfl
  · simp

theorem sum_dite (p : Prop) [Decidable p] (a : Fin 1024 → EReal) (b : p → Fin 1024 → EReal) :
    (∑ k, a k * if h : p then b h k else 0) = if h : p then ∑ k, a k * b h k else 0 := by
  split
  · rfl
  · simp

theorem ref2 : (val_main_v17 (F := Ideal) X W : S65536x2048.Idx → EReal) = fun i => entry (M := 65536) X (whole W) (i 0) (0 + (i 1).val) := by
  funext y
  obtain ⟨r, f, rfl⟩ : ∃ (r : Fin 65536) (f : Fin 2048), y = ix2 r f := ⟨y 0, y 1, eq_ix2 y⟩
  show _ = entry (M := 65536) X (whole W) r (0 + f.val)
  rw [entry_whole X W 0 (part0 W) r f (fun k => whole0 W k f)]
  refine (padded_apply (M := 65536) (n := 16) _ _ _ Cert.Reference5Ideal.Gen.concatenates_S65536x16x64_S65536x16x64_S65536x16x128_d2 _ (fun _ => Ideal.ofBits_zero_f32) r f).trans ?_
  refine Eq.trans ?_ (Finset.sum_congr rfl fun k _ => congrArg (fun z : EReal => X (ix2 r k) * z) (padded_apply (M := 1024) (n := 16) _ _ _ concatenates_S1024x16x64_S1024x16x64_S1024x16x128_d2 _ (fun _ => Ideal.ofBits_zero_f32) k f).symm)
  rw [sum_ite]
  refine if_congr Iff.rfl ?_ rfl
  refine (congrArg (fun z : EReal => z * factor) ((columns (M := 65536) (n := 1024) 0 _ _ r (src 16 f)
    ⟨(src 16 f).val, by have := (src 16 f).isLt; omega⟩ (Nat.zero_add _).symm).trans (product_apply X W r _))).trans ?_
  rw [sum_mul_factor]
  refine Finset.sum_congr rfl fun k _ => ?_
  rw [mul_assoc]
  exact congrArg (fun z : EReal => X (ix2 r k) * z) (queries_apply W k (src 16 f)).symm
theorem ref3 : (val_main_v2 (F := Ideal) X W : S65536x256.Idx → EReal) = fun i => entry (M := 65536) X (whole W) (i 0) (2048 + (i 1).val) := by
  funext y
  obtain ⟨r, f, rfl⟩ : ∃ (r : Fin 65536) (f : Fin 256), y = ix2 r f := ⟨y 0, y 1, eq_ix2 y⟩
  show _ = entry (M := 65536) X (whole W) r (2048 + f.val)
  rw [entry_whole X W 2048 (part1 W) r f (fun k => whole1 W k f)]
  refine (columns (M := 65536) (n := 256) 1024 _ _ r f ⟨1024 + f.val, by have := f.isLt; omega⟩ rfl).trans ?_
  rw [product_apply]
  refine Finset.sum_congr rfl fun k _ => congrArg (fun z : EReal => X (ix2 r k) * z) ?_
  exact (columns (M := 1024) (n := 256) 1024 W _ k f ⟨1024 + f.val, by have := f.isLt; omega⟩ rfl).symm
theorem ref4 : (val_main_v3 (F := Ideal) X W : S65536x256.Idx → EReal) = fun i => entry (M := 65536) X (whole W) (i 0) (2304 + (i 1).val) := by
  funext y
  obtain ⟨r, f, rfl⟩ : ∃ (r : Fin 65536) (f : Fin 256), y = ix2 r f := ⟨y 0, y 1, eq_ix2 y⟩
  show _ = entry (M := 65536) X (whole W) r (2304 + f.val)
  rw [entry_whole X W 2304 (part2 W) r f (fun k => whole2 W k f)]
  refine (columns (M := 65536) (n := 256) 1280 _ _ r f ⟨1280 + f.val, by have := f.isLt; omega⟩ rfl).trans ?_
  rw [product_apply]
  refine Finset.sum_congr rfl fun k _ => congrArg (fun z : EReal => X (ix2 r k) * z) ?_
  exact (columns (M := 1024) (n := 256) 1280 W _ k f ⟨1280 + f.val, by have := f.isLt; omega⟩ rfl).symm
theorem ref5 : (val_main_v22 (F := Ideal) X W : S65536x512.Idx → EReal) = fun i => entry (M := 65536) X (whole W) (i 0) (2560 + (i 1).val) := by
  funext y
  obtain ⟨r, f, rfl⟩ : ∃ (r : Fin 65536) (f : Fin 512), y = ix2 r f := ⟨y 0, y 1, eq_ix2 y⟩
  show _ = entry (M := 65536) X (whole W) r (2560 + f.val)
  rw [entry_whole X W 2560 (part3 W) r f (fun k => whole3 W k f)]
  refine (padded_apply (M := 65536) (n := 4) _ _ _ Cert.Reference5Ideal.Gen.concatenates_S65536x4x64_S65536x4x64_S65536x4x128_d2 _ (fun _ => Ideal.ofBits_zero_f32) r f).trans ?_
  refine Eq.trans ?_ (Finset.sum_congr rfl fun k _ => congrArg (fun z : EReal => X (ix2 r k) * z) (padded_apply (M := 1024) (n := 4) _ _ _ concatenates_S1024x4x64_S1024x4x64_S1024x4x128_d2 _ (fun _ => Ideal.ofBits_zero_f32) k f).symm)
  rw [sum_ite]
  refine if_congr Iff.rfl ?_ rfl
  refine (columns (M := 65536) (n := 256) 1536 _ _ r (src 4 f) ⟨1536 + (src 4 f).val, by have := (src 4 f).isLt; omega⟩ rfl).trans ?_
  rw [product_apply]
  refine Finset.sum_congr rfl fun k _ => congrArg (fun z : EReal => X (ix2 r k) * z) ?_
  exact (columns (M := 1024) (n := 256) 1536 W _ k (src 4 f) ⟨1536 + (src 4 f).val, by have := (src 4 f).isLt; omega⟩ rfl).symm
theorem ref6 : (val_main_v26 (F := Ideal) X W : S65536x512.Idx → EReal) = fun i => entry (M := 65536) X (whole W) (i 0) (3072 + (i 1).val) := by
  funext y
  obtain ⟨r, f, rfl⟩ : ∃ (r : Fin 65536) (f : Fin 512), y = ix2 r f := ⟨y 0, y 1, eq_ix2 y⟩
  show _ = entry (M := 65536) X (whole W) r (3072 + f.val)
  rw [entry_whole X W 3072 (part4 W) r f (fun k => whole4 W k f)]
  refine (doubled_apply (M := 65536) (n := 4) _ _ Cert.Reference5Ideal.Gen.concatenates_S65536x4x64_S65536x4x64_S65536x4x128_d2 _ r f).trans ?_
  refine Eq.trans ?_ (Finset.sum_congr rfl fun k _ => congrArg (fun z : EReal => X (ix2 r k) * z) (doubled_apply (M := 1024) (n := 4) _ _ concatenates_S1024x4x64_S1024x4x64_S1024x4x128_d2 _ k f).symm)
  refine (columns (M := 65536) (n := 256) 1792 _ _ r (src 4 f) ⟨1792 + (src 4 f).val, by have := (src 4 f).isLt; omega⟩ rfl).trans ?_
  rw [product_apply]
  refine Finset.sum_congr rfl fun k _ => congrArg (fun z : EReal => X (ix2 r k) * z) ?_
  exact (columns (M := 1024) (n := 256) 1792 W _ k (src 4 f) ⟨1792 + (src 4 f).val, by have := (src 4 f).isLt; omega⟩ rfl).symm
theorem ref7 : (val_main_v31 (F := Ideal) X W : S65536x512.Idx → EReal) = fun i => entry (M := 65536) X (whole W) (i 0) (3584 + (i 1).val) := by
  funext y
  obtain ⟨r, f, rfl⟩ : ∃ (r : Fin 65536) (f : Fin 512), y = ix2 r f := ⟨y 0, y 1, eq_ix2 y⟩
  show _ = entry (M := 65536) X (whole W) r (3584 + f.val)
  rw [entry_whole X W 3584 (part5 W) r f (fun k => whole5 W k f)]
  refine (padded_apply (M := 65536) (n := 4) _ _ _ Cert.Reference5Ideal.Gen.concatenates_S65536x4x64_S65536x4x64_S65536x4x128_d2 _ (fun _ => Ideal.ofBits_zero_f32) r f).trans ?_
  refine Eq.trans ?_ (Finset.sum_congr rfl fun k _ => congrArg (fun z : EReal => X (ix2 r k) * z) (padded_apply (M := 1024) (n := 4) _ _ _ concatenates_S1024x4x64_S1024x4x64_S1024x4x128_d2 _ (fun _ => Ideal.ofBits_zero_f32) k f).symm)
  rw [sum_ite]
  refine if_congr Iff.rfl ?_ rfl
  refine (columns (M := 65536) (n := 256) 2048 _ _ r (src 4 f) ⟨2048 + (src 4 f).val, by have := (src 4 f).isLt; omega⟩ rfl).trans ?_
  rw [product_apply]
  refine Finset.sum_congr rfl fun k _ => congrArg (fun z : EReal => X (ix2 r k) * z) ?_
  exact (columns (M := 1024) (n := 256) 2048 W _ k (src 4 f) ⟨2048 + (src 4 f).val, by have := (src 4 f).isLt; omega⟩ rfl).symm
theorem ref8 : (val_main_v35 (F := Ideal) X W : S65536x512.Idx → EReal) = fun i => entry (M := 65536) X (whole W) (i 0) (4096 + (i 1).val) := by
  funext y
  obtain ⟨r, f, rfl⟩ : ∃ (r : Fin 65536) (f : Fin 512), y = ix2 r f := ⟨y 0, y 1, eq_ix2 y⟩
  show _ = entry (M := 65536) X (whole W) r (4096 + f.val)
  rw [entry_whole X W 4096 (part6 W) r f (fun k => whole6 W k f)]
  refine (doubled_apply (M := 65536) (n := 4) _ _ Cert.Reference5Ideal.Gen.concatenates_S65536x4x64_S65536x4x64_S65536x4x128_d2 _ r f).trans ?_
  refine Eq.trans ?_ (Finset.sum_congr rfl fun k _ => congrArg (fun z : EReal => X (ix2 r k) * z) (doubled_apply (M := 1024) (n := 4) _ _ concatenates_S1024x4x64_S1024x4x64_S1024x4x128_d2 _ k f).symm)
  refine (columns (M := 65536) (n := 256) 2304 _ _ r (src 4 f) ⟨2304 + (src 4 f).val, by have := (src 4 f).isLt; omega⟩ rfl).trans ?_
  rw [product_apply]
  refine Finset.sum_congr rfl fun k _ => congrArg (fun z : EReal => X (ix2 r k) * z) ?_
  exact (columns (M := 1024) (n := 256) 2304 W _ k (src 4 f) ⟨2304 + (src 4 f).val, by have := (src 4 f).isLt; omega⟩ rfl).symm
theorem ref9 : (val_main_v12 (F := Ideal) X W : S65536x128.Idx → EReal) = fun i => entry (M := 65536) X (whole W) (i 0) (4608 + (i 1).val) := by
  funext y
  obtain ⟨r, f, rfl⟩ : ∃ (r : Fin 65536) (f : Fin 128), y = ix2 r f := ⟨y 0, y 1, eq_ix2 y⟩
  show _ = entry (M := 65536) X (whole W) r (4608 + f.val)
  rw [entry_whole X W 4608 (part7 W) r f (fun k => whole7 W k f)]
  refine (gates (M := 65536) _ _ (fun _ => Ideal.ofBits_zero_f32) Cert.Reference5Ideal.Gen.concatenates_S65536x48_S65536x80_S65536x128_d1 r f).trans ?_
  refine Eq.trans ?_ (Finset.sum_congr rfl fun k _ => congrArg (fun z : EReal => X (ix2 r k) * z) (gates (M := 1024) _ _ (fun _ => Ideal.ofBits_zero_f32) concatenates_S1024x48_S1024x80_S1024x128_d1 k f).symm)
  rw [sum_dite]
  refine dite_congr rfl (fun h => ?_) (fun _ => rfl)
  refine (columns (M := 65536) (n := 48) 2560 _ _ r ⟨f.val, h⟩ ⟨2560 + f.val, by have := f.isLt; omega⟩ rfl).trans ?_
  rw [product_apply]
  refine Finset.sum_congr rfl fun k _ => congrArg (fun z : EReal => X (ix2 r k) * z) ?_
  exact (columns (M := 1024) (n := 48) 2560 W _ k ⟨f.val, h⟩ ⟨2560 + f.val, by have := f.isLt; omega⟩ rfl).symm
end Reference

variable (m : (ℓ : Loc nD τ sig) → Buf (Elt Ideal) ℓ) (c : Dev nD)

theorem ref_value2 : (Cert.Reference5Ideal.Read.val_main_v17 (F := Ideal) (tokens m c) (weights m c) : S65536x2048.Idx → EReal) = product2 m c :=
  (ref2 (tokens m c) (weights m c)).trans (by unfold product2; rw [laid_eq])

theorem ref_value3 : (Cert.Reference5Ideal.Read.val_main_v2 (F := Ideal) (tokens m c) (weights m c) : S65536x256.Idx → EReal) = product3 m c :=
  (ref3 (tokens m c) (weights m c)).trans (by unfold product3; rw [laid_eq])

theorem ref_value4 : (Cert.Reference5Ideal.Read.val_main_v3 (F := Ideal) (tokens m c) (weights m c) : S65536x256.Idx → EReal) = product4 m c :=
  (ref4 (tokens m c) (weights m c)).trans (by unfold product4; rw [laid_eq])

theorem ref_value5 : (Cert.Reference5Ideal.Read.val_main_v22 (F := Ideal) (tokens m c) (weights m c) : S65536x512.Idx → EReal) = product5 m c :=
  (ref5 (tokens m c) (weights m c)).trans (by unfold product5; rw [laid_eq])

theorem ref_value6 : (Cert.Reference5Ideal.Read.val_main_v26 (F := Ideal) (tokens m c) (weights m c) : S65536x512.Idx → EReal) = product6 m c :=
  (ref6 (tokens m c) (weights m c)).trans (by unfold product6; rw [laid_eq])

theorem ref_value7 : (Cert.Reference5Ideal.Read.val_main_v31 (F := Ideal) (tokens m c) (weights m c) : S65536x512.Idx → EReal) = product7 m c :=
  (ref7 (tokens m c) (weights m c)).trans (by unfold product7; rw [laid_eq])

theorem ref_value8 : (Cert.Reference5Ideal.Read.val_main_v35 (F := Ideal) (tokens m c) (weights m c) : S65536x512.Idx → EReal) = product8 m c :=
  (ref8 (tokens m c) (weights m c)).trans (by unfold product8; rw [laid_eq])

theorem ref_value9 : (Cert.Reference5Ideal.Read.val_main_v12 (F := Ideal) (tokens m c) (weights m c) : S65536x128.Idx → EReal) = product9 m c :=
  (ref9 (tokens m c) (weights m c)).trans (by unfold product9; rw [laid_eq])

end Cert.Linear5
-- ==== Proof.Linear.Value6.lean ====
module

public import proofs.«01_k».proof.Proof.Gen.Kernel6Ideal.Value
public import Idealize.ShloMosaic.Lib.MatmulPlain
public import Idealize.ShloMosaic.Lib.WholeRead
public import Idealize.ShloMosaic.Lib.ValueIdx
public import Idealize.ShloMosaic.Lib.ValueLayoutCasts
public import Idealize.ShloMosaic.Lib.Pipeline.ValueKit.Tiles
public import Idealize.ShloMosaic.Lib.Pipeline.ValueKit.Geometry
public import Idealize.ShloMosaic.Lib.Pipeline.Covers

/-! The projection of the dilated attention: what the body leaves in each of its three blocks. The second and third
pattern go through a scratch of twelve bands of 128 columns, read back one residue of the rows at a time. -/

@[expose] public section

set_option maxRecDepth 16384

noncomputable section

namespace Cert.Linear6

open Cert.Kernel6Ideal Cert.Kernel6Ideal.Gen
open Idealize.ShloMosaic Idealize.ShloMosaic.TcCoe Idealize.ShloMosaic.ValueIdx

/-- An entry of the weights, 0 past the last column. -/
def at' (W : S1024x4608.Idx → EReal) (k : Fin 1024) (j : Nat) : EReal := if h : j < 4608 then W (ix2 k ⟨j, h⟩) else 0

theorem at_of (W : S1024x4608.Idx → EReal) (k : Fin 1024) (j : Fin 4608) : at' W k j.val = W (ix2 k j) := dif_pos j.isLt

/-- An entry of the rows, 0 past the last row. -/
def row' {M : Nat} (X : (⟨2, ![M, 1024]⟩ : Shape).Idx → EReal) (r : Nat) (k : Fin 1024) : EReal := if h : r < M then X (ix2 ⟨r, h⟩ k) else 0

theorem row_of {M : Nat} (X : (⟨2, ![M, 1024]⟩ : Shape).Idx → EReal) (r : Fin M) (k : Fin 1024) : row' X r.val k = X (ix2 r k) := dif_pos r.isLt

/-- A row of the first matrix times a column of the weights. -/
def entry {M : Nat} (X : (⟨2, ![M, 1024]⟩ : Shape).Idx → EReal) (W : S1024x4608.Idx → EReal) (r : Nat) (j : Nat) : EReal :=
  ∑ k : Fin 1024, row' X r k * at' W k j

/-- A chunk of 512 columns, as the body computes it. -/
theorem chunk512 (x : FVec Ideal S512x1024 .bf16) (w : Vec Ideal S1024x512 .bf16) (r : Fin 512) (f : Fin 512) :
    matmul dot_S512x1024_S1024x512_S512x512_1_0_0_1_n_n none x (shapeCast S1024x512 w shapeCasts_S1024x512_S1024x512 : FVec Ideal S1024x512 .bf16)
      (constant S512x512 .f32 0x00000000#32) (ix2 r f) = ∑ k : Fin 1024, (x (ix2 r k) : EReal) * (w (ix2 k f) : EReal) := by
  rw [shapeCast_self]
  refine (Ideal.matmul_plain_apply (M := 512) (K := 1024) (N := 512) none x w _ r f).trans ?_
  show Ideal.ofBits .f32 0x00000000#32 + _ = _
  rw [Ideal.ofBits_zero_f32, zero_add]

/-- The rows as the body reads them. -/
abbrev rowsRead (arg1 : Memref sig .tc .vmem S512x1024 .f32) (harg1 : arg1.IsWhole) (x0 : Vec Ideal S512x1024 .f32) : Vec Ideal S512x1024 .f32 :=
  View.readAt (Elt Ideal) arg1.view (Rect.unit (s := S512x1024) ![0, 0] S512x1024.size inb_S512x1024_S512x1024_0_0).toLoadRect (harg1.unread x0)

/-- A chunk of 512 columns of the weights as the body reads it. -/
abbrev colsRead (arg2 : Memref sig .tc .vmem S1024x4608 .bf16) (harg2 : arg2.IsWhole) (x1 : Vec Ideal S1024x4608 .bf16) (o : Nat)
    (inb : ∀ a, (![0, o] : Fin 2 → Nat) a + S1024x512.size a ≤ S1024x4608.size a) : Vec Ideal S1024x512 .bf16 :=
  View.readAt (Elt Ideal) arg2.view (Rect.unit (s := S1024x4608) ![0, o] S1024x512.size inb).toLoadRect (harg2.unread x1)

/-- The product of the two. -/
abbrev chunk (arg1 : Memref sig .tc .vmem S512x1024 .f32) (harg1 : arg1.IsWhole) (arg2 : Memref sig .tc .vmem S1024x4608 .bf16) (harg2 : arg2.IsWhole)
    (x0 : Vec Ideal S512x1024 .f32) (x1 : Vec Ideal S1024x4608 .bf16) (o : Nat)
    (inb : ∀ a, (![0, o] : Fin 2 → Nat) a + S1024x512.size a ≤ S1024x4608.size a) : FVec Ideal S512x512 .f32 :=
  matmul dot_S512x1024_S1024x512_S512x512_1_0_0_1_n_n none (truncf .bf16 (rowsRead arg1 harg1 x0 : FVec Ideal S512x1024 .f32) bitsLt_bf16_f32 : FVec Ideal S512x1024 .bf16)
    (shapeCast S1024x512 (colsRead arg2 harg2 x1 o inb) shapeCasts_S1024x512_S1024x512 : FVec Ideal S1024x512 .bf16) (constant S512x512 .f32 0x00000000#32)

theorem chunk_apply (arg1 : Memref sig .tc .vmem S512x1024 .f32) (harg1 : arg1.IsWhole) (arg2 : Memref sig .tc .vmem S1024x4608 .bf16) (harg2 : arg2.IsWhole)
    (x0 : Vec Ideal S512x1024 .f32) (x1 : Vec Ideal S1024x4608 .bf16) (o : Nat)
    (inb : ∀ a, (![0, o] : Fin 2 → Nat) a + S1024x512.size a ≤ S1024x4608.size a) (r f : Fin 512) :
    chunk arg1 harg1 arg2 harg2 x0 x1 o inb (ix2 r f) = entry (M := 512) x0 x1 r.val (o + f.val) := by
  have hW : o + 512 ≤ 4608 := inb 1
  refine (chunk512 _ _ r f).trans (Finset.sum_congr rfl fun k _ => ?_)
  refine congrArg₂ (· * ·) ?_ ?_
  · refine Eq.trans ?_ (row_of x0 r k).symm
    refine (harg1.readAt_unread x0 (Rect.unit (s := S512x1024) ![0, 0] S512x1024.size inb_S512x1024_S512x1024_0_0).toLoadRect (ix2 r k)).trans (congrArg x0 (funext fun a => Fin.ext ?_))
    match a with
    | ⟨0, _⟩ => show 0 + 1 * r.val = r.val; omega
    | ⟨1, _⟩ => show 0 + 1 * k.val = k.val; omega
  · refine Eq.trans ?_ (at_of x1 k (⟨o + f.val, by have := f.isLt; omega⟩ : Fin 4608)).symm
    refine (harg2.readAt_unread x1 (Rect.unit (s := S1024x4608) ![0, o] S1024x512.size inb).toLoadRect (ix2 k f)).trans (congrArg x1 (funext fun a => Fin.ext ?_))
    match a with
    | ⟨0, _⟩ => show 0 + 1 * k.val = k.val; omega
    | ⟨1, _⟩ => show o + 1 * f.val = o + f.val; omega

/-! ### The first pattern -/

theorem piece1_apply (arg1 : Memref sig .tc .vmem S512x1024 .f32) (harg1 : arg1.IsWhole) (arg2 : Memref sig .tc .vmem S1024x4608 .bf16) (harg2 : arg2.IsWhole)
    (x0 : Vec Ideal S512x1024 .f32) (x1 : Vec Ideal S1024x4608 .bf16) (o : Nat)
    (inb : ∀ a, (![0, o] : Fin 2 → Nat) a + S1024x512.size a ≤ S1024x4608.size a)
    (inbO : ∀ a, (![0, o] : Fin 2 → Nat) a + (![512, 512] : Fin 2 → Nat) a ≤ S512x1536.size a) (x : S512x512.Idx) :
    (truncf .bf16 (chunk arg1 harg1 arg2 harg2 x0 x1 o inb) bitsLt_bf16_f32 : FVec Ideal S512x512 .bf16) x
      = entry (M := 512) x0 x1 ((Rect.unit (s := S512x1536) ![0, o] ![512, 512] inbO).emb x 0).val ((Rect.unit (s := S512x1536) ![0, o] ![512, 512] inbO).emb x 1).val := by
  obtain ⟨r, f, rfl⟩ : ∃ (r f : Fin 512), x = ix2 r f := ⟨x 0, x 1, eq_ix2 x⟩
  refine Eq.trans (chunk_apply arg1 harg1 arg2 harg2 x0 x1 o inb r f) (congrArg₂ (entry (M := 512) x0 x1) ?_ ?_)
  · exact (Nat.zero_add _).symm.trans (Rect.idx_unit_val (s := S512x1536) ![0, o] ![512, 512] inbO (ix2 r f) 0).symm
  · exact (Rect.idx_unit_val (s := S512x1536) ![0, o] ![512, 512] inbO (ix2 r f) 1).symm

theorem out2_apply (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S512x1536 .bf16) (harg3 : arg3.IsWhole) (arg4 : Memref sig .tc .vmem S128x6144 .bf16) (harg4 : arg4.IsWhole) (arg5 : Memref sig .tc .vmem S32x24576 .bf16) (harg5 : arg5.IsWhole) (arg6 : Memref sig .tc .vmem S12x512x128 .f32) (harg6 : arg6.IsWhole)
    (x0 : Vec Ideal S512x1024 .f32) (x1 : Vec Ideal S1024x4608 .bf16) (y : S512x1536.Idx) :
    out0_A_2 (F := Ideal) c i arg1 harg1 arg2 harg2 arg3 harg3 arg4 harg4 arg5 harg5 arg6 harg6 x0 x1 y = entry (M := 512) x0 x1 (y 0).val (y 1).val := by
  unfold out0_A_2
  rw [View.read_writes_junk_eq_canon]
  refine View.canon_apply_of_pieces (Val := Elt Ideal) (e := .bf16) (fun y : S512x1536.Idx => entry (M := 512) x0 x1 (y 0).val (y 1).val)
    _ ?_ y (cover0_A_2 c i arg1 harg1 arg2 harg2 arg3 harg3 arg4 harg4 arg5 harg5 arg6 harg6 x0 x1 y)
  unfold kernelRun0_A
  dsimp only
  refine List.forall_mem_cons.2 ⟨fun x => piece1_apply arg1 harg1 arg2 harg2 x0 x1 1024 inb_S1024x4608_S1024x512_0_1024 inb_S512x1536_S512x512_0_1024 x, ?_⟩
  refine List.forall_mem_cons.2 ⟨fun x => piece1_apply arg1 harg1 arg2 harg2 x0 x1 512 inb_S1024x4608_S1024x512_0_512 inb_S512x1536_S512x512_0_512 x, ?_⟩
  refine List.forall_mem_cons.2 ⟨fun x => piece1_apply arg1 harg1 arg2 harg2 x0 x1 0 inb_S1024x4608_S1024x512_0_0 inb_S512x1536_S512x512_0_0 x, ?_⟩
  exact fun p hp => absurd hp List.not_mem_nil

/-! ### The scratch -/

/-- The scratch of pattern `p`, band by band. -/
def bands (x0 : Vec Ideal S512x1024 .f32) (x1 : Vec Ideal S1024x4608 .bf16) (p : Nat) : S12x512x128.Idx → EReal := fun y =>
  entry (M := 512) x0 x1 (y 1).val (1536 * p + (128 * (y 0).val + (y 2).val))

/-- A band: 128 columns of a chunk. -/
theorem band_apply (arg1 : Memref sig .tc .vmem S512x1024 .f32) (harg1 : arg1.IsWhole) (arg2 : Memref sig .tc .vmem S1024x4608 .bf16) (harg2 : arg2.IsWhole)
    (x0 : Vec Ideal S512x1024 .f32) (x1 : Vec Ideal S1024x4608 .bf16) (p j o q : Nat) (ho : o + q = 1536 * p + 128 * j)
    (inb : ∀ a, (![0, o] : Fin 2 → Nat) a + S1024x512.size a ≤ S1024x4608.size a) (hq : S512x512.Slices ![0, q] S512x128)
    (inbS : ∀ a, (![j, 0, 0] : Fin 3 → Nat) a + S1x512x128.size a ≤ S12x512x128.size a) (x : S1x512x128.Idx) :
    (shapeCast S1x512x128 (extractStridedSlice S512x128 ![0, q] (chunk arg1 harg1 arg2 harg2 x0 x1 o inb) hq : FVec Ideal S512x128 .f32)
        shapeCasts_S512x128_S1x512x128 : FVec Ideal S1x512x128 .f32) x
      = bands x0 x1 p ((Rect.unit (s := S12x512x128) ![j, 0, 0] S1x512x128.size inbS).emb x) := by
  obtain ⟨z, r, l, rfl⟩ : ∃ (z : Fin 1) (r : Fin 512) (l : Fin 128), x = ix3 z r l := ⟨x 0, x 1, x 2, eq_ix3 x⟩
  have hz : z.val = 0 := by omega
  have hql : q + 128 ≤ 512 := by
    obtain ⟨h, hs⟩ := hq
    have h1 : q + 128 ≤ S512x512.size 1 := hs 1
    exact h1
  refine (shapeCast_apply _ shapeCasts_S512x128_S1x512x128 (ix3 z r l) (ix2 r l) (by
    rw [Shape.rowMajor_val_two, Shape.rowMajor_val_three]
    show r.val * 128 + l.val = (z.val * 512 + r.val) * 128 + l.val
    omega)).trans ?_
  refine (extractStridedSlice_apply _ _ hq (ix2 r l) (ix2 r (⟨q + l.val, by have := l.isLt; omega⟩ : Fin 512)) (fun a => ?_)).trans ?_
  · match a with
    | ⟨0, _⟩ => exact (Nat.zero_add _).symm
    | ⟨1, _⟩ => rfl
  · refine (chunk_apply arg1 harg1 arg2 harg2 x0 x1 o inb r _).trans (congrArg₂ (entry (M := 512) x0 x1) ?_ ?_)
    · exact (Nat.zero_add _).symm.trans (Rect.idx_unit_val (s := S12x512x128) ![j, 0, 0] S1x512x128.size inbS (ix3 z r l) 1).symm
    · have e0 : ((Rect.unit (s := S12x512x128) ![j, 0, 0] S1x512x128.size inbS).emb (ix3 z r l) 0).val = j + z.val :=
        Rect.idx_unit_val (s := S12x512x128) ![j, 0, 0] S1x512x128.size inbS (ix3 z r l) 0
      have e2 : ((Rect.unit (s := S12x512x128) ![j, 0, 0] S1x512x128.size inbS).emb (ix3 z r l) 2).val = 0 + l.val :=
        Rect.idx_unit_val (s := S12x512x128) ![j, 0, 0] S1x512x128.size inbS (ix3 z r l) 2
      rw [e0, e2]
      show o + (q + l.val) = _
      omega

/-- A band of the scratch on top of older writes: at its own indices it decides, elsewhere the older ones do. -/
theorem band_step (G : S12x512x128.Idx → EReal) (j : Nat) (inbS : ∀ a, (![j, 0, 0] : Fin 3 → Nat) a + S1x512x128.size a ≤ S12x512x128.size a)
    (w : S1x512x128.Idx → Elt Ideal .f32) (L : List (View.Piece (Elt Ideal) S12x512x128 .f32)) (y : S12x512x128.Idx)
    (hw : ∀ x : S1x512x128.Idx, w x = G ((Rect.unit (s := S12x512x128) ![j, 0, 0] S1x512x128.size inbS).emb x))
    (h : (y 0).val ≠ j → View.canon (Val := Elt Ideal) L y = G y) :
    View.canon (Val := Elt Ideal) ((⟨Rect.unit (s := S12x512x128) ![j, 0, 0] S1x512x128.size inbS, w⟩ : View.Piece (Elt Ideal) S12x512x128 .f32) :: L) y = G y := by
  by_cases hm : y ∈ (Rect.unit (s := S12x512x128) ![j, 0, 0] S1x512x128.size inbS).set
  · obtain ⟨x, rfl⟩ := (Rect.unit (s := S12x512x128) ![j, 0, 0] S1x512x128.size inbS).exists_idx_of_mem hm
    exact (View.canon_cons_emb (Val := Elt Ideal) _ w L x).trans (hw x)
  · refine (View.canon_cons_of_not_mem (Val := Elt Ideal) (⟨Rect.unit (s := S12x512x128) ![j, 0, 0] S1x512x128.size inbS, w⟩ : View.Piece (Elt Ideal) S12x512x128 .f32) L hm).trans ?_
    refine h fun e => hm ?_
    rw [Rect.mem_set_unit]
    intro a
    match a with
    | ⟨0, _⟩ => show j ≤ (y 0).val ∧ (y 0).val < j + 1; omega
    | ⟨1, _⟩ => have hy : (y 1).val < 512 := (y 1).isLt; exact ⟨Nat.zero_le _, by show (y 1).val < 0 + 512; omega⟩
    | ⟨2, _⟩ => have hy : (y 2).val < 128 := (y 2).isLt; exact ⟨Nat.zero_le _, by show (y 2).val < 0 + 128; omega⟩

theorem scratch1 (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S512x1536 .bf16) (harg3 : arg3.IsWhole) (arg4 : Memref sig .tc .vmem S128x6144 .bf16) (harg4 : arg4.IsWhole) (arg5 : Memref sig .tc .vmem S32x24576 .bf16) (harg5 : arg5.IsWhole) (arg6 : Memref sig .tc .vmem S12x512x128 .f32) (harg6 : arg6.IsWhole)
    (x0 : Vec Ideal S512x1024 .f32) (x1 : Vec Ideal S1024x4608 .bf16) (y : S12x512x128.Idx) :
    View.canon (Val := Elt Ideal) (kernelRun0_A.sl.HS0_12 c arg1 harg1 arg2 harg2 x0 x1) y = bands x0 x1 1 y := by
  unfold kernelRun0_A.sl.HS0_12
  refine band_step (bands x0 x1 1) 11 inb_S12x512x128_S1x512x128_11_0_0 _ _ y (fun x => band_apply arg1 harg1 arg2 harg2 x0 x1 1 11 2560 384 rfl inb_S1024x4608_S1024x512_0_2560 slices_S512x512_o0_384_S512x128 inb_S12x512x128_S1x512x128_11_0_0 x) fun n11 => ?_
  refine band_step (bands x0 x1 1) 10 inb_S12x512x128_S1x512x128_10_0_0 _ _ y (fun x => band_apply arg1 harg1 arg2 harg2 x0 x1 1 10 2560 256 rfl inb_S1024x4608_S1024x512_0_2560 slices_S512x512_o0_256_S512x128 inb_S12x512x128_S1x512x128_10_0_0 x) fun n10 => ?_
  refine band_step (bands x0 x1 1) 9 inb_S12x512x128_S1x512x128_9_0_0 _ _ y (fun x => band_apply arg1 harg1 arg2 harg2 x0 x1 1 9 2560 128 rfl inb_S1024x4608_S1024x512_0_2560 slices_S512x512_o0_128_S512x128 inb_S12x512x128_S1x512x128_9_0_0 x) fun n9 => ?_
  refine band_step (bands x0 x1 1) 8 inb_S12x512x128_S1x512x128_8_0_0 _ _ y (fun x => band_apply arg1 harg1 arg2 harg2 x0 x1 1 8 2560 0 rfl inb_S1024x4608_S1024x512_0_2560 slices_S512x512_o0_0_S512x128 inb_S12x512x128_S1x512x128_8_0_0 x) fun n8 => ?_
  refine band_step (bands x0 x1 1) 7 inb_S12x512x128_S1x512x128_7_0_0 _ _ y (fun x => band_apply arg1 harg1 arg2 harg2 x0 x1 1 7 2048 384 rfl inb_S1024x4608_S1024x512_0_2048 slices_S512x512_o0_384_S512x128 inb_S12x512x128_S1x512x128_7_0_0 x) fun n7 => ?_
  refine band_step (bands x0 x1 1) 6 inb_S12x512x128_S1x512x128_6_0_0 _ _ y (fun x => band_apply arg1 harg1 arg2 harg2 x0 x1 1 6 2048 256 rfl inb_S1024x4608_S1024x512_0_2048 slices_S512x512_o0_256_S512x128 inb_S12x512x128_S1x512x128_6_0_0 x) fun n6 => ?_
  refine band_step (bands x0 x1 1) 5 inb_S12x512x128_S1x512x128_5_0_0 _ _ y (fun x => band_apply arg1 harg1 arg2 harg2 x0 x1 1 5 2048 128 rfl inb_S1024x4608_S1024x512_0_2048 slices_S512x512_o0_128_S512x128 inb_S12x512x128_S1x512x128_5_0_0 x) fun n5 => ?_
  refine band_step (bands x0 x1 1) 4 inb_S12x512x128_S1x512x128_4_0_0 _ _ y (fun x => band_apply arg1 harg1 arg2 harg2 x0 x1 1 4 2048 0 rfl inb_S1024x4608_S1024x512_0_2048 slices_S512x512_o0_0_S512x128 inb_S12x512x128_S1x512x128_4_0_0 x) fun n4 => ?_
  refine band_step (bands x0 x1 1) 3 inb_S12x512x128_S1x512x128_3_0_0 _ _ y (fun x => band_apply arg1 harg1 arg2 harg2 x0 x1 1 3 1536 384 rfl inb_S1024x4608_S1024x512_0_1536 slices_S512x512_o0_384_S512x128 inb_S12x512x128_S1x512x128_3_0_0 x) fun n3 => ?_
  refine band_step (bands x0 x1 1) 2 inb_S12x512x128_S1x512x128_2_0_0 _ _ y (fun x => band_apply arg1 harg1 arg2 harg2 x0 x1 1 2 1536 256 rfl inb_S1024x4608_S1024x512_0_1536 slices_S512x512_o0_256_S512x128 inb_S12x512x128_S1x512x128_2_0_0 x) fun n2 => ?_
  refine band_step (bands x0 x1 1) 1 inb_S12x512x128_S1x512x128_1_0_0 _ _ y (fun x => band_apply arg1 harg1 arg2 harg2 x0 x1 1 1 1536 128 rfl inb_S1024x4608_S1024x512_0_1536 slices_S512x512_o0_128_S512x128 inb_S12x512x128_S1x512x128_1_0_0 x) fun n1 => ?_
  refine band_step (bands x0 x1 1) 0 inb_S12x512x128_S1x512x128_0_0_0 _ _ y (fun x => band_apply arg1 harg1 arg2 harg2 x0 x1 1 0 1536 0 rfl inb_S1024x4608_S1024x512_0_1536 slices_S512x512_o0_0_S512x128 inb_S12x512x128_S1x512x128_0_0_0 x) fun n0 => ?_
  have hy : (y 0).val < 12 := (y 0).isLt
  exact absurd hy (by omega)

theorem scratch2 (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S512x1536 .bf16) (harg3 : arg3.IsWhole) (arg4 : Memref sig .tc .vmem S128x6144 .bf16) (harg4 : arg4.IsWhole) (arg5 : Memref sig .tc .vmem S32x24576 .bf16) (harg5 : arg5.IsWhole) (arg6 : Memref sig .tc .vmem S12x512x128 .f32) (harg6 : arg6.IsWhole)
    (x0 : Vec Ideal S512x1024 .f32) (x1 : Vec Ideal S1024x4608 .bf16) (y : S12x512x128.Idx) :
    View.canon (Val := Elt Ideal) (kernelRun0_A.sl.HS0_24 c arg1 harg1 arg2 harg2 x0 x1) y = bands x0 x1 2 y := by
  unfold kernelRun0_A.sl.HS0_24
  refine band_step (bands x0 x1 2) 11 inb_S12x512x128_S1x512x128_11_0_0 _ _ y (fun x => band_apply arg1 harg1 arg2 harg2 x0 x1 2 11 4096 384 rfl inb_S1024x4608_S1024x512_0_4096 slices_S512x512_o0_384_S512x128 inb_S12x512x128_S1x512x128_11_0_0 x) fun n11 => ?_
  refine band_step (bands x0 x1 2) 10 inb_S12x512x128_S1x512x128_10_0_0 _ _ y (fun x => band_apply arg1 harg1 arg2 harg2 x0 x1 2 10 4096 256 rfl inb_S1024x4608_S1024x512_0_4096 slices_S512x512_o0_256_S512x128 inb_S12x512x128_S1x512x128_10_0_0 x) fun n10 => ?_
  refine band_step (bands x0 x1 2) 9 inb_S12x512x128_S1x512x128_9_0_0 _ _ y (fun x => band_apply arg1 harg1 arg2 harg2 x0 x1 2 9 4096 128 rfl inb_S1024x4608_S1024x512_0_4096 slices_S512x512_o0_128_S512x128 inb_S12x512x128_S1x512x128_9_0_0 x) fun n9 => ?_
  refine band_step (bands x0 x1 2) 8 inb_S12x512x128_S1x512x128_8_0_0 _ _ y (fun x => band_apply arg1 harg1 arg2 harg2 x0 x1 2 8 4096 0 rfl inb_S1024x4608_S1024x512_0_4096 slices_S512x512_o0_0_S512x128 inb_S12x512x128_S1x512x128_8_0_0 x) fun n8 => ?_
  refine band_step (bands x0 x1 2) 7 inb_S12x512x128_S1x512x128_7_0_0 _ _ y (fun x => band_apply arg1 harg1 arg2 harg2 x0 x1 2 7 3584 384 rfl inb_S1024x4608_S1024x512_0_3584 slices_S512x512_o0_384_S512x128 inb_S12x512x128_S1x512x128_7_0_0 x) fun n7 => ?_
  refine band_step (bands x0 x1 2) 6 inb_S12x512x128_S1x512x128_6_0_0 _ _ y (fun x => band_apply arg1 harg1 arg2 harg2 x0 x1 2 6 3584 256 rfl inb_S1024x4608_S1024x512_0_3584 slices_S512x512_o0_256_S512x128 inb_S12x512x128_S1x512x128_6_0_0 x) fun n6 => ?_
  refine band_step (bands x0 x1 2) 5 inb_S12x512x128_S1x512x128_5_0_0 _ _ y (fun x => band_apply arg1 harg1 arg2 harg2 x0 x1 2 5 3584 128 rfl inb_S1024x4608_S1024x512_0_3584 slices_S512x512_o0_128_S512x128 inb_S12x512x128_S1x512x128_5_0_0 x) fun n5 => ?_
  refine band_step (bands x0 x1 2) 4 inb_S12x512x128_S1x512x128_4_0_0 _ _ y (fun x => band_apply arg1 harg1 arg2 harg2 x0 x1 2 4 3584 0 rfl inb_S1024x4608_S1024x512_0_3584 slices_S512x512_o0_0_S512x128 inb_S12x512x128_S1x512x128_4_0_0 x) fun n4 => ?_
  refine band_step (bands x0 x1 2) 3 inb_S12x512x128_S1x512x128_3_0_0 _ _ y (fun x => band_apply arg1 harg1 arg2 harg2 x0 x1 2 3 3072 384 rfl inb_S1024x4608_S1024x512_0_3072 slices_S512x512_o0_384_S512x128 inb_S12x512x128_S1x512x128_3_0_0 x) fun n3 => ?_
  refine band_step (bands x0 x1 2) 2 inb_S12x512x128_S1x512x128_2_0_0 _ _ y (fun x => band_apply arg1 harg1 arg2 harg2 x0 x1 2 2 3072 256 rfl inb_S1024x4608_S1024x512_0_3072 slices_S512x512_o0_256_S512x128 inb_S12x512x128_S1x512x128_2_0_0 x) fun n2 => ?_
  refine band_step (bands x0 x1 2) 1 inb_S12x512x128_S1x512x128_1_0_0 _ _ y (fun x => band_apply arg1 harg1 arg2 harg2 x0 x1 2 1 3072 128 rfl inb_S1024x4608_S1024x512_0_3072 slices_S512x512_o0_128_S512x128 inb_S12x512x128_S1x512x128_1_0_0 x) fun n1 => ?_
  refine band_step (bands x0 x1 2) 0 inb_S12x512x128_S1x512x128_0_0_0 _ _ y (fun x => band_apply arg1 harg1 arg2 harg2 x0 x1 2 0 3072 0 rfl inb_S1024x4608_S1024x512_0_3072 slices_S512x512_o0_0_S512x128 inb_S12x512x128_S1x512x128_0_0_0 x) fun n0 => ?_
  have hy : (y 0).val < 12 := (y 0).isLt
  exact absurd hy (by omega)

/-! ### The second and the third pattern -/

/-- The rows of residue `c'` in band `j`, at their column of the block. -/
theorem piece3_apply (v : View sig .tc .vmem S12x512x128 .f32) (L : List (View.Piece (Elt Ideal) S12x512x128 .f32))
    (x0 : Vec Ideal S512x1024 .f32) (x1 : Vec Ideal S1024x4608 .bf16) (hL : ∀ y, View.canon (Val := Elt Ideal) L y = bands x0 x1 1 y) (j c' q : Nat) (hj : j < 12) (hc : c' < 4) (hq : q = 1536 * c' + 128 * j)
    (inbL : ∀ a, (![1, 128, 128] : Fin 3 → Nat) a = 0 ∨ (![j, c', 0] : Fin 3 → Nat) a + (![1, 4, 1] : Fin 3 → Nat) a * ((![1, 128, 128] : Fin 3 → Nat) a - 1) < S12x512x128.size a)
    (inbO : ∀ a, (![0, q] : Fin 2 → Nat) a + (![128, 128] : Fin 2 → Nat) a ≤ S128x6144.size a) (x : S128x128.Idx) :
    (truncf .bf16 (shapeCast S128x128 (v.readCov L
        (⟨![j, c', 0], ![1, 128, 128], ![1, 4, 1], inbL⟩ : LoadRect S12x512x128) : Vec Ideal S1x128x128 .f32) shapeCasts_S1x128x128_S128x128 : FVec Ideal S128x128 .f32) bitsLt_bf16_f32 : FVec Ideal S128x128 .bf16) x
      = (fun y : S128x6144.Idx => entry (M := 512) x0 x1 (4 * (y 0).val + (y 1).val / 1536) (1536 * 1 + (y 1).val % 1536)) ((Rect.unit (s := S128x6144) ![0, q] ![128, 128] inbO).emb x) := by
  obtain ⟨r, l, rfl⟩ : ∃ (r : Fin 128) (l : Fin 128), x = ix2 r l := ⟨x 0, x 1, eq_ix2 x⟩
  have hr := r.isLt
  have hl := l.isLt
  refine Eq.trans (shapeCast_apply (s := S1x128x128) (t := S128x128) (v.readCov L (⟨![j, c', 0], ![1, 128, 128], ![1, 4, 1], inbL⟩ : LoadRect S12x512x128) : Vec Ideal S1x128x128 .f32) shapeCasts_S1x128x128_S128x128 (ix2 r l) (ix3 (0 : Fin 1) r l) (by
    rw [Shape.rowMajor_val_two, Shape.rowMajor_val_three]
    show (0 * 128 + r.val) * 128 + l.val = r.val * 128 + l.val
    omega)) ?_
  refine (congrFun (View.readCov_eq_canon' v L _) _).trans ?_
  refine (hL _).trans ?_
  have e0 : ((Rect.unit (s := S128x6144) ![0, q] ![128, 128] inbO).emb (ix2 r l) 0).val = 0 + r.val :=
    Rect.idx_unit_val (s := S128x6144) ![0, q] ![128, 128] inbO (ix2 r l) 0
  have e1 : ((Rect.unit (s := S128x6144) ![0, q] ![128, 128] inbO).emb (ix2 r l) 1).val = q + l.val :=
    Rect.idx_unit_val (s := S128x6144) ![0, q] ![128, 128] inbO (ix2 r l) 1
  dsimp only
  rw [e0, e1]
  refine congrArg₂ (entry (M := 512) x0 x1) ?_ ?_
  · show c' + 4 * r.val = 4 * (0 + r.val) + (q + l.val) / 1536
    omega
  · show 1536 * 1 + (128 * (j + 1 * 0) + (0 + 1 * l.val)) = 1536 * 1 + (q + l.val) % 1536
    omega

theorem out3_apply (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S512x1536 .bf16) (harg3 : arg3.IsWhole) (arg4 : Memref sig .tc .vmem S128x6144 .bf16) (harg4 : arg4.IsWhole) (arg5 : Memref sig .tc .vmem S32x24576 .bf16) (harg5 : arg5.IsWhole) (arg6 : Memref sig .tc .vmem S12x512x128 .f32) (harg6 : arg6.IsWhole)
    (x0 : Vec Ideal S512x1024 .f32) (x1 : Vec Ideal S1024x4608 .bf16) (y : S128x6144.Idx) :
    out0_A_3 (F := Ideal) c i arg1 harg1 arg2 harg2 arg3 harg3 arg4 harg4 arg5 harg5 arg6 harg6 x0 x1 y = entry (M := 512) x0 x1 (4 * (y 0).val + (y 1).val / 1536) (1536 * 1 + (y 1).val % 1536) := by
  unfold out0_A_3
  rw [View.read_writes_junk_eq_canon]
  refine View.canon_apply_of_pieces (Val := Elt Ideal) (e := .bf16) (fun y : S128x6144.Idx => entry (M := 512) x0 x1 (4 * (y 0).val + (y 1).val / 1536) (1536 * 1 + (y 1).val % 1536))
    _ ?_ y (cover0_A_3 c i arg1 harg1 arg2 harg2 arg3 harg3 arg4 harg4 arg5 harg5 arg6 harg6 x0 x1 y)
  have piece := piece3_apply arg6.view (kernelRun0_A.sl.HS0_12 (F := Ideal) c arg1 harg1 arg2 harg2 x0 x1) x0 x1 (scratch1 c i arg1 harg1 arg2 harg2 arg3 harg3 arg4 harg4 arg5 harg5 arg6 harg6 x0 x1)
  unfold kernelRun0_A
  dsimp only
  refine List.forall_mem_cons.2 ⟨piece 11 3 6016 (by omega) (by omega) rfl inb_S12x512x128_S1x128x128_11_3_0_s_1_4_1 inb_S128x6144_S128x128_0_6016, ?_⟩
  refine List.forall_mem_cons.2 ⟨piece 10 3 5888 (by omega) (by omega) rfl inb_S12x512x128_S1x128x128_10_3_0_s_1_4_1 inb_S128x6144_S128x128_0_5888, ?_⟩
  refine List.forall_mem_cons.2 ⟨piece 9 3 5760 (by omega) (by omega) rfl inb_S12x512x128_S1x128x128_9_3_0_s_1_4_1 inb_S128x6144_S128x128_0_5760, ?_⟩
  refine List.forall_mem_cons.2 ⟨piece 8 3 5632 (by omega) (by omega) rfl inb_S12x512x128_S1x128x128_8_3_0_s_1_4_1 inb_S128x6144_S128x128_0_5632, ?_⟩
  refine List.forall_mem_cons.2 ⟨piece 7 3 5504 (by omega) (by omega) rfl inb_S12x512x128_S1x128x128_7_3_0_s_1_4_1 inb_S128x6144_S128x128_0_5504, ?_⟩
  refine List.forall_mem_cons.2 ⟨piece 6 3 5376 (by omega) (by omega) rfl inb_S12x512x128_S1x128x128_6_3_0_s_1_4_1 inb_S128x6144_S128x128_0_5376, ?_⟩
  refine List.forall_mem_cons.2 ⟨piece 5 3 5248 (by omega) (by omega) rfl inb_S12x512x128_S1x128x128_5_3_0_s_1_4_1 inb_S128x6144_S128x128_0_5248, ?_⟩
  refine List.forall_mem_cons.2 ⟨piece 4 3 5120 (by omega) (by omega) rfl inb_S12x512x128_S1x128x128_4_3_0_s_1_4_1 inb_S128x6144_S128x128_0_5120, ?_⟩
  refine List.forall_mem_cons.2 ⟨piece 3 3 4992 (by omega) (by omega) rfl inb_S12x512x128_S1x128x128_3_3_0_s_1_4_1 inb_S128x6144_S128x128_0_4992, ?_⟩
  refine List.forall_mem_cons.2 ⟨piece 2 3 4864 (by omega) (by omega) rfl inb_S12x512x128_S1x128x128_2_3_0_s_1_4_1 inb_S128x6144_S128x128_0_4864, ?_⟩
  refine List.forall_mem_cons.2 ⟨piece 1 3 4736 (by omega) (by omega) rfl inb_S12x512x128_S1x128x128_1_3_0_s_1_4_1 inb_S128x6144_S128x128_0_4736, ?_⟩
  refine List.forall_mem_cons.2 ⟨piece 0 3 4608 (by omega) (by omega) rfl inb_S12x512x128_S1x128x128_0_3_0_s_1_4_1 inb_S128x6144_S128x128_0_4608, ?_⟩
  refine List.forall_mem_cons.2 ⟨piece 11 2 4480 (by omega) (by omega) rfl inb_S12x512x128_S1x128x128_11_2_0_s_1_4_1 inb_S128x6144_S128x128_0_4480, ?_⟩
  refine List.forall_mem_cons.2 ⟨piece 10 2 4352 (by omega) (by omega) rfl inb_S12x512x128_S1x128x128_10_2_0_s_1_4_1 inb_S128x6144_S128x128_0_4352, ?_⟩
  refine List.forall_mem_cons.2 ⟨piece 9 2 4224 (by omega) (by omega) rfl inb_S12x512x128_S1x128x128_9_2_0_s_1_4_1 inb_S128x6144_S128x128_0_4224, ?_⟩
  refine List.forall_mem_cons.2 ⟨piece 8 2 4096 (by omega) (by omega) rfl inb_S12x512x128_S1x128x128_8_2_0_s_1_4_1 inb_S128x6144_S128x128_0_4096, ?_⟩
  refine List.forall_mem_cons.2 ⟨piece 7 2 3968 (by omega) (by omega) rfl inb_S12x512x128_S1x128x128_7_2_0_s_1_4_1 inb_S128x6144_S128x128_0_3968, ?_⟩
  refine List.forall_mem_cons.2 ⟨piece 6 2 3840 (by omega) (by omega) rfl inb_S12x512x128_S1x128x128_6_2_0_s_1_4_1 inb_S128x6144_S128x128_0_3840, ?_⟩
  refine List.forall_mem_cons.2 ⟨piece 5 2 3712 (by omega) (by omega) rfl inb_S12x512x128_S1x128x128_5_2_0_s_1_4_1 inb_S128x6144_S128x128_0_3712, ?_⟩
  refine List.forall_mem_cons.2 ⟨piece 4 2 3584 (by omega) (by omega) rfl inb_S12x512x128_S1x128x128_4_2_0_s_1_4_1 inb_S128x6144_S128x128_0_3584, ?_⟩
  refine List.forall_mem_cons.2 ⟨piece 3 2 3456 (by omega) (by omega) rfl inb_S12x512x128_S1x128x128_3_2_0_s_1_4_1 inb_S128x6144_S128x128_0_3456, ?_⟩
  refine List.forall_mem_cons.2 ⟨piece 2 2 3328 (by omega) (by omega) rfl inb_S12x512x128_S1x128x128_2_2_0_s_1_4_1 inb_S128x6144_S128x128_0_3328, ?_⟩
  refine List.forall_mem_cons.2 ⟨piece 1 2 3200 (by omega) (by omega) rfl inb_S12x512x128_S1x128x128_1_2_0_s_1_4_1 inb_S128x6144_S128x128_0_3200, ?_⟩
  refine List.forall_mem_cons.2 ⟨piece 0 2 3072 (by omega) (by omega) rfl inb_S12x512x128_S1x128x128_0_2_0_s_1_4_1 inb_S128x6144_S128x128_0_3072, ?_⟩
  refine List.forall_mem_cons.2 ⟨piece 11 1 2944 (by omega) (by omega) rfl inb_S12x512x128_S1x128x128_11_1_0_s_1_4_1 inb_S128x6144_S128x128_0_2944, ?_⟩
  refine List.forall_mem_cons.2 ⟨piece 10 1 2816 (by omega) (by omega) rfl inb_S12x512x128_S1x128x128_10_1_0_s_1_4_1 inb_S128x6144_S128x128_0_2816, ?_⟩
  refine List.forall_mem_cons.2 ⟨piece 9 1 2688 (by omega) (by omega) rfl inb_S12x512x128_S1x128x128_9_1_0_s_1_4_1 inb_S128x6144_S128x128_0_2688, ?_⟩
  refine List.forall_mem_cons.2 ⟨piece 8 1 2560 (by omega) (by omega) rfl inb_S12x512x128_S1x128x128_8_1_0_s_1_4_1 inb_S128x6144_S128x128_0_2560, ?_⟩
  refine List.forall_mem_cons.2 ⟨piece 7 1 2432 (by omega) (by omega) rfl inb_S12x512x128_S1x128x128_7_1_0_s_1_4_1 inb_S128x6144_S128x128_0_2432, ?_⟩
  refine List.forall_mem_cons.2 ⟨piece 6 1 2304 (by omega) (by omega) rfl inb_S12x512x128_S1x128x128_6_1_0_s_1_4_1 inb_S128x6144_S128x128_0_2304, ?_⟩
  refine List.forall_mem_cons.2 ⟨piece 5 1 2176 (by omega) (by omega) rfl inb_S12x512x128_S1x128x128_5_1_0_s_1_4_1 inb_S128x6144_S128x128_0_2176, ?_⟩
  refine List.forall_mem_cons.2 ⟨piece 4 1 2048 (by omega) (by omega) rfl inb_S12x512x128_S1x128x128_4_1_0_s_1_4_1 inb_S128x6144_S128x128_0_2048, ?_⟩
  refine List.forall_mem_cons.2 ⟨piece 3 1 1920 (by omega) (by omega) rfl inb_S12x512x128_S1x128x128_3_1_0_s_1_4_1 inb_S128x6144_S128x128_0_1920, ?_⟩
  refine List.forall_mem_cons.2 ⟨piece 2 1 1792 (by omega) (by omega) rfl inb_S12x512x128_S1x128x128_2_1_0_s_1_4_1 inb_S128x6144_S128x128_0_1792, ?_⟩
  refine List.forall_mem_cons.2 ⟨piece 1 1 1664 (by omega) (by omega) rfl inb_S12x512x128_S1x128x128_1_1_0_s_1_4_1 inb_S128x6144_S128x128_0_1664, ?_⟩
  refine List.forall_mem_cons.2 ⟨piece 0 1 1536 (by omega) (by omega) rfl inb_S12x512x128_S1x128x128_0_1_0_s_1_4_1 inb_S128x6144_S128x128_0_1536, ?_⟩
  refine List.forall_mem_cons.2 ⟨piece 11 0 1408 (by omega) (by omega) rfl inb_S12x512x128_S1x128x128_11_0_0_s_1_4_1 inb_S128x6144_S128x128_0_1408, ?_⟩
  refine List.forall_mem_cons.2 ⟨piece 10 0 1280 (by omega) (by omega) rfl inb_S12x512x128_S1x128x128_10_0_0_s_1_4_1 inb_S128x6144_S128x128_0_1280, ?_⟩
  refine List.forall_mem_cons.2 ⟨piece 9 0 1152 (by omega) (by omega) rfl inb_S12x512x128_S1x128x128_9_0_0_s_1_4_1 inb_S128x6144_S128x128_0_1152, ?_⟩
  refine List.forall_mem_cons.2 ⟨piece 8 0 1024 (by omega) (by omega) rfl inb_S12x512x128_S1x128x128_8_0_0_s_1_4_1 inb_S128x6144_S128x128_0_1024, ?_⟩
  refine List.forall_mem_cons.2 ⟨piece 7 0 896 (by omega) (by omega) rfl inb_S12x512x128_S1x128x128_7_0_0_s_1_4_1 inb_S128x6144_S128x128_0_896, ?_⟩
  refine List.forall_mem_cons.2 ⟨piece 6 0 768 (by omega) (by omega) rfl inb_S12x512x128_S1x128x128_6_0_0_s_1_4_1 inb_S128x6144_S128x128_0_768, ?_⟩
  refine List.forall_mem_cons.2 ⟨piece 5 0 640 (by omega) (by omega) rfl inb_S12x512x128_S1x128x128_5_0_0_s_1_4_1 inb_S128x6144_S128x128_0_640, ?_⟩
  refine List.forall_mem_cons.2 ⟨piece 4 0 512 (by omega) (by omega) rfl inb_S12x512x128_S1x128x128_4_0_0_s_1_4_1 inb_S128x6144_S128x128_0_512, ?_⟩
  refine List.forall_mem_cons.2 ⟨piece 3 0 384 (by omega) (by omega) rfl inb_S12x512x128_S1x128x128_3_0_0_s_1_4_1 inb_S128x6144_S128x128_0_384, ?_⟩
  refine List.forall_mem_cons.2 ⟨piece 2 0 256 (by omega) (by omega) rfl inb_S12x512x128_S1x128x128_2_0_0_s_1_4_1 inb_S128x6144_S128x128_0_256, ?_⟩
  refine List.forall_mem_cons.2 ⟨piece 1 0 128 (by omega) (by omega) rfl inb_S12x512x128_S1x128x128_1_0_0_s_1_4_1 inb_S128x6144_S128x128_0_128, ?_⟩
  refine List.forall_mem_cons.2 ⟨piece 0 0 0 (by omega) (by omega) rfl inb_S12x512x128_S1x128x128_0_0_0_s_1_4_1 inb_S128x6144_S128x128_0_0, ?_⟩
  exact fun p hp => absurd hp List.not_mem_nil

/-- The rows of residue `c'` in band `j`, at their column of the block. -/
theorem piece4_apply (v : View sig .tc .vmem S12x512x128 .f32) (L : List (View.Piece (Elt Ideal) S12x512x128 .f32))
    (x0 : Vec Ideal S512x1024 .f32) (x1 : Vec Ideal S1024x4608 .bf16) (hL : ∀ y, View.canon (Val := Elt Ideal) L y = bands x0 x1 2 y) (j c' q : Nat) (hj : j < 12) (hc : c' < 16) (hq : q = 1536 * c' + 128 * j)
    (inbL : ∀ a, (![1, 32, 128] : Fin 3 → Nat) a = 0 ∨ (![j, c', 0] : Fin 3 → Nat) a + (![1, 16, 1] : Fin 3 → Nat) a * ((![1, 32, 128] : Fin 3 → Nat) a - 1) < S12x512x128.size a)
    (inbO : ∀ a, (![0, q] : Fin 2 → Nat) a + (![32, 128] : Fin 2 → Nat) a ≤ S32x24576.size a) (x : S32x128.Idx) :
    (truncf .bf16 (shapeCast S32x128 (v.readCov L
        (⟨![j, c', 0], ![1, 32, 128], ![1, 16, 1], inbL⟩ : LoadRect S12x512x128) : Vec Ideal S1x32x128 .f32) shapeCasts_S1x32x128_S32x128 : FVec Ideal S32x128 .f32) bitsLt_bf16_f32 : FVec Ideal S32x128 .bf16) x
      = (fun y : S32x24576.Idx => entry (M := 512) x0 x1 (16 * (y 0).val + (y 1).val / 1536) (1536 * 2 + (y 1).val % 1536)) ((Rect.unit (s := S32x24576) ![0, q] ![32, 128] inbO).emb x) := by
  obtain ⟨r, l, rfl⟩ : ∃ (r : Fin 32) (l : Fin 128), x = ix2 r l := ⟨x 0, x 1, eq_ix2 x⟩
  have hr := r.isLt
  have hl := l.isLt
  refine Eq.trans (shapeCast_apply (s := S1x32x128) (t := S32x128) (v.readCov L (⟨![j, c', 0], ![1, 32, 128], ![1, 16, 1], inbL⟩ : LoadRect S12x512x128) : Vec Ideal S1x32x128 .f32) shapeCasts_S1x32x128_S32x128 (ix2 r l) (ix3 (0 : Fin 1) r l) (by
    rw [Shape.rowMajor_val_two, Shape.rowMajor_val_three]
    show (0 * 32 + r.val) * 128 + l.val = r.val * 128 + l.val
    omega)) ?_
  refine (congrFun (View.readCov_eq_canon' v L _) _).trans ?_
  refine (hL _).trans ?_
  have e0 : ((Rect.unit (s := S32x24576) ![0, q] ![32, 128] inbO).emb (ix2 r l) 0).val = 0 + r.val :=
    Rect.idx_unit_val (s := S32x24576) ![0, q] ![32, 128] inbO (ix2 r l) 0
  have e1 : ((Rect.unit (s := S32x24576) ![0, q] ![32, 128] inbO).emb (ix2 r l) 1).val = q + l.val :=
    Rect.idx_unit_val (s := S32x24576) ![0, q] ![32, 128] inbO (ix2 r l) 1
  dsimp only
  rw [e0, e1]
  refine congrArg₂ (entry (M := 512) x0 x1) ?_ ?_
  · show c' + 16 * r.val = 16 * (0 + r.val) + (q + l.val) / 1536
    omega
  · show 1536 * 2 + (128 * (j + 1 * 0) + (0 + 1 * l.val)) = 1536 * 2 + (q + l.val) % 1536
    omega

theorem out4_apply (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S512x1536 .bf16) (harg3 : arg3.IsWhole) (arg4 : Memref sig .tc .vmem S128x6144 .bf16) (harg4 : arg4.IsWhole) (arg5 : Memref sig .tc .vmem S32x24576 .bf16) (harg5 : arg5.IsWhole) (arg6 : Memref sig .tc .vmem S12x512x128 .f32) (harg6 : arg6.IsWhole)
    (x0 : Vec Ideal S512x1024 .f32) (x1 : Vec Ideal S1024x4608 .bf16) (y : S32x24576.Idx) :
    out0_A_4 (F := Ideal) c i arg1 harg1 arg2 harg2 arg3 harg3 arg4 harg4 arg5 harg5 arg6 harg6 x0 x1 y = entry (M := 512) x0 x1 (16 * (y 0).val + (y 1).val / 1536) (1536 * 2 + (y 1).val % 1536) := by
  unfold out0_A_4
  rw [View.read_writes_junk_eq_canon]
  refine View.canon_apply_of_pieces (Val := Elt Ideal) (e := .bf16) (fun y : S32x24576.Idx => entry (M := 512) x0 x1 (16 * (y 0).val + (y 1).val / 1536) (1536 * 2 + (y 1).val % 1536))
    _ ?_ y (cover0_A_4 c i arg1 harg1 arg2 harg2 arg3 harg3 arg4 harg4 arg5 harg5 arg6 harg6 x0 x1 y)
  have piece := piece4_apply arg6.view (kernelRun0_A.sl.HS0_24 (F := Ideal) c arg1 harg1 arg2 harg2 x0 x1) x0 x1 (scratch2 c i arg1 harg1 arg2 harg2 arg3 harg3 arg4 harg4 arg5 harg5 arg6 harg6 x0 x1)
  unfold kernelRun0_A
  dsimp only
  refine List.forall_mem_cons.2 ⟨piece 11 15 24448 (by omega) (by omega) rfl inb_S12x512x128_S1x32x128_11_15_0_s_1_16_1 inb_S32x24576_S32x128_0_24448, ?_⟩
  refine List.forall_mem_cons.2 ⟨piece 10 15 24320 (by omega) (by omega) rfl inb_S12x512x128_S1x32x128_10_15_0_s_1_16_1 inb_S32x24576_S32x128_0_24320, ?_⟩
  refine List.forall_mem_cons.2 ⟨piece 9 15 24192 (by omega) (by omega) rfl inb_S12x512x128_S1x32x128_9_15_0_s_1_16_1 inb_S32x24576_S32x128_0_24192, ?_⟩
  refine List.forall_mem_cons.2 ⟨piece 8 15 24064 (by omega) (by omega) rfl inb_S12x512x128_S1x32x128_8_15_0_s_1_16_1 inb_S32x24576_S32x128_0_24064, ?_⟩
  refine List.forall_mem_cons.2 ⟨piece 7 15 23936 (by omega) (by omega) rfl inb_S12x512x128_S1x32x128_7_15_0_s_1_16_1 inb_S32x24576_S32x128_0_23936, ?_⟩
  refine List.forall_mem_cons.2 ⟨piece 6 15 23808 (by omega) (by omega) rfl inb_S12x512x128_S1x32x128_6_15_0_s_1_16_1 inb_S32x24576_S32x128_0_23808, ?_⟩
  refine List.forall_mem_cons.2 ⟨piece 5 15 23680 (by omega) (by omega) rfl inb_S12x512x128_S1x32x128_5_15_0_s_1_16_1 inb_S32x24576_S32x128_0_23680, ?_⟩
  refine List.forall_mem_cons.2 ⟨piece 4 15 23552 (by omega) (by omega) rfl inb_S12x512x128_S1x32x128_4_15_0_s_1_16_1 inb_S32x24576_S32x128_0_23552, ?_⟩
  refine List.forall_mem_cons.2 ⟨piece 3 15 23424 (by omega) (by omega) rfl inb_S12x512x128_S1x32x128_3_15_0_s_1_16_1 inb_S32x24576_S32x128_0_23424, ?_⟩
  refine List.forall_mem_cons.2 ⟨piece 2 15 23296 (by omega) (by omega) rfl inb_S12x512x128_S1x32x128_2_15_0_s_1_16_1 inb_S32x24576_S32x128_0_23296, ?_⟩
  refine List.forall_mem_cons.2 ⟨piece 1 15 23168 (by omega) (by omega) rfl inb_S12x512x128_S1x32x128_1_15_0_s_1_16_1 inb_S32x24576_S32x128_0_23168, ?_⟩
  refine List.forall_mem_cons.2 ⟨piece 0 15 23040 (by omega) (by omega) rfl inb_S12x512x128_S1x32x128_0_15_0_s_1_16_1 inb_S32x24576_S32x128_0_23040, ?_⟩
  refine List.forall_mem_cons.2 ⟨piece 11 14 22912 (by omega) (by omega) rfl inb_S12x512x128_S1x32x128_11_14_0_s_1_16_1 inb_S32x24576_S32x128_0_22912, ?_⟩
  refine List.forall_mem_cons.2 ⟨piece 10 14 22784 (by omega) (by omega) rfl inb_S12x512x128_S1x32x128_10_14_0_s_1_16_1 inb_S32x24576_S32x128_0_22784, ?_⟩
  refine List.forall_mem_cons.2 ⟨piece 9 14 22656 (by omega) (by omega) rfl inb_S12x512x128_S1x32x128_9_14_0_s_1_16_1 inb_S32x24576_S32x128_0_22656, ?_⟩
  refine List.forall_mem_cons.2 ⟨piece 8 14 22528 (by omega) (by omega) rfl inb_S12x512x128_S1x32x128_8_14_0_s_1_16_1 inb_S32x24576_S32x128_0_22528, ?_⟩
  refine List.forall_mem_cons.2 ⟨piece 7 14 22400 (by omega) (by omega) rfl inb_S12x512x128_S1x32x128_7_14_0_s_1_16_1 inb_S32x24576_S32x128_0_22400, ?_⟩
  refine List.forall_mem_cons.2 ⟨piece 6 14 22272 (by omega) (by omega) rfl inb_S12x512x128_S1x32x128_6_14_0_s_1_16_1 inb_S32x24576_S32x128_0_22272, ?_⟩
  refine List.forall_mem_cons.2 ⟨piece 5 14 22144 (by omega) (by omega) rfl inb_S12x512x128_S1x32x128_5_14_0_s_1_16_1 inb_S32x24576_S32x128_0_22144, ?_⟩
  refine List.forall_mem_cons.2 ⟨piece 4 14 22016 (by omega) (by omega) rfl inb_S12x512x128_S1x32x128_4_14_0_s_1_16_1 inb_S32x24576_S32x128_0_22016, ?_⟩
  refine List.forall_mem_cons.2 ⟨piece 3 14 21888 (by omega) (by omega) rfl inb_S12x512x128_S1x32x128_3_14_0_s_1_16_1 inb_S32x24576_S32x128_0_21888, ?_⟩
  refine List.forall_mem_cons.2 ⟨piece 2 14 21760 (by omega) (by omega) rfl inb_S12x512x128_S1x32x128_2_14_0_s_1_16_1 inb_S32x24576_S32x128_0_21760, ?_⟩
  refine List.forall_mem_cons.2 ⟨piece 1 14 21632 (by omega) (by omega) rfl inb_S12x512x128_S1x32x128_1_14_0_s_1_16_1 inb_S32x24576_S32x128_0_21632, ?_⟩
  refine List.forall_mem_cons.2 ⟨piece 0 14 21504 (by omega) (by omega) rfl inb_S12x512x128_S1x32x128_0_14_0_s_1_16_1 inb_S32x24576_S32x128_0_21504, ?_⟩
  refine List.forall_mem_cons.2 ⟨piece 11 13 21376 (by omega) (by omega) rfl inb_S12x512x128_S1x32x128_11_13_0_s_1_16_1 inb_S32x24576_S32x128_0_21376, ?_⟩
  refine List.forall_mem_cons.2 ⟨piece 10 13 21248 (by omega) (by omega) rfl inb_S12x512x128_S1x32x128_10_13_0_s_1_16_1 inb_S32x24576_S32x128_0_21248, ?_⟩
  refine List.forall_mem_cons.2 ⟨piece 9 13 21120 (by omega) (by omega) rfl inb_S12x512x128_S1x32x128_9_13_0_s_1_16_1 inb_S32x24576_S32x128_0_21120, ?_⟩
  refine List.forall_mem_cons.2 ⟨piece 8 13 20992 (by omega) (by omega) rfl inb_S12x512x128_S1x32x128_8_13_0_s_1_16_1 inb_S32x24576_S32x128_0_20992, ?_⟩
  refine List.forall_mem_cons.2 ⟨piece 7 13 20864 (by omega) (by omega) rfl inb_S12x512x128_S1x32x128_7_13_0_s_1_16_1 inb_S32x24576_S32x128_0_20864, ?_⟩
  refine List.forall_mem_cons.2 ⟨piece 6 13 20736 (by omega) (by omega) rfl inb_S12x512x128_S1x32x128_6_13_0_s_1_16_1 inb_S32x24576_S32x128_0_20736, ?_⟩
  refine List.forall_mem_cons.2 ⟨piece 5 13 20608 (by omega) (by omega) rfl inb_S12x512x128_S1x32x128_5_13_0_s_1_16_1 inb_S32x24576_S32x128_0_20608, ?_⟩
  refine List.forall_mem_cons.2 ⟨piece 4 13 20480 (by omega) (by omega) rfl inb_S12x512x128_S1x32x128_4_13_0_s_1_16_1 inb_S32x24576_S32x128_0_20480, ?_⟩
  refine List.forall_mem_cons.2 ⟨piece 3 13 20352 (by omega) (by omega) rfl inb_S12x512x128_S1x32x128_3_13_0_s_1_16_1 inb_S32x24576_S32x128_0_20352, ?_⟩
  refine List.forall_mem_cons.2 ⟨piece 2 13 20224 (by omega) (by omega) rfl inb_S12x512x128_S1x32x128_2_13_0_s_1_16_1 inb_S32x24576_S32x128_0_20224, ?_⟩
  refine List.forall_mem_cons.2 ⟨piece 1 13 20096 (by omega) (by omega) rfl inb_S12x512x128_S1x32x128_1_13_0_s_1_16_1 inb_S32x24576_S32x128_0_20096, ?_⟩
  refine List.forall_mem_cons.2 ⟨piece 0 13 19968 (by omega) (by omega) rfl inb_S12x512x128_S1x32x128_0_13_0_s_1_16_1 inb_S32x24576_S32x128_0_19968, ?_⟩
  refine List.forall_mem_cons.2 ⟨piece 11 12 19840 (by omega) (by omega) rfl inb_S12x512x128_S1x32x128_11_12_0_s_1_16_1 inb_S32x24576_S32x128_0_19840, ?_⟩
  refine List.forall_mem_cons.2 ⟨piece 10 12 19712 (by omega) (by omega) rfl inb_S12x512x128_S1x32x128_10_12_0_s_1_16_1 inb_S32x24576_S32x128_0_19712, ?_⟩
  refine List.forall_mem_cons.2 ⟨piece 9 12 19584 (by omega) (by omega) rfl inb_S12x512x128_S1x32x128_9_12_0_s_1_16_1 inb_S32x24576_S32x128_0_19584, ?_⟩
  refine List.forall_mem_cons.2 ⟨piece 8 12 19456 (by omega) (by omega) rfl inb_S12x512x128_S1x32x128_8_12_0_s_1_16_1 inb_S32x24576_S32x128_0_19456, ?_⟩
  refine List.forall_mem_cons.2 ⟨piece 7 12 19328 (by omega) (by omega) rfl inb_S12x512x128_S1x32x128_7_12_0_s_1_16_1 inb_S32x24576_S32x128_0_19328, ?_⟩
  refine List.forall_mem_cons.2 ⟨piece 6 12 19200 (by omega) (by omega) rfl inb_S12x512x128_S1x32x128_6_12_0_s_1_16_1 inb_S32x24576_S32x128_0_19200, ?_⟩
  refine List.forall_mem_cons.2 ⟨piece 5 12 19072 (by omega) (by omega) rfl inb_S12x512x128_S1x32x128_5_12_0_s_1_16_1 inb_S32x24576_S32x128_0_19072, ?_⟩
  refine List.forall_mem_cons.2 ⟨piece 4 12 18944 (by omega) (by omega) rfl inb_S12x512x128_S1x32x128_4_12_0_s_1_16_1 inb_S32x24576_S32x128_0_18944, ?_⟩
  refine List.forall_mem_cons.2 ⟨piece 3 12 18816 (by omega) (by omega) rfl inb_S12x512x128_S1x32x128_3_12_0_s_1_16_1 inb_S32x24576_S32x128_0_18816, ?_⟩
  refine List.forall_mem_cons.2 ⟨piece 2 12 18688 (by omega) (by omega) rfl inb_S12x512x128_S1x32x128_2_12_0_s_1_16_1 inb_S32x24576_S32x128_0_18688, ?_⟩
  refine List.forall_mem_cons.2 ⟨piece 1 12 18560 (by omega) (by omega) rfl inb_S12x512x128_S1x32x128_1_12_0_s_1_16_1 inb_S32x24576_S32x128_0_18560, ?_⟩
  refine List.forall_mem_cons.2 ⟨piece 0 12 18432 (by omega) (by omega) rfl inb_S12x512x128_S1x32x128_0_12_0_s_1_16_1 inb_S32x24576_S32x128_0_18432, ?_⟩
  refine List.forall_mem_cons.2 ⟨piece 11 11 18304 (by omega) (by omega) rfl inb_S12x512x128_S1x32x128_11_11_0_s_1_16_1 inb_S32x24576_S32x128_0_18304, ?_⟩
  refine List.forall_mem_cons.2 ⟨piece 10 11 18176 (by omega) (by omega) rfl inb_S12x512x128_S1x32x128_10_11_0_s_1_16_1 inb_S32x24576_S32x128_0_18176, ?_⟩
  refine List.forall_mem_cons.2 ⟨piece 9 11 18048 (by omega) (by omega) rfl inb_S12x512x128_S1x32x128_9_11_0_s_1_16_1 inb_S32x24576_S32x128_0_18048, ?_⟩
  refine List.forall_mem_cons.2 ⟨piece 8 11 17920 (by omega) (by omega) rfl inb_S12x512x128_S1x32x128_8_11_0_s_1_16_1 inb_S32x24576_S32x128_0_17920, ?_⟩
  refine List.forall_mem_cons.2 ⟨piece 7 11 17792 (by omega) (by omega) rfl inb_S12x512x128_S1x32x128_7_11_0_s_1_16_1 inb_S32x24576_S32x128_0_17792, ?_⟩
  refine List.forall_mem_cons.2 ⟨piece 6 11 17664 (by omega) (by omega) rfl inb_S12x512x128_S1x32x128_6_11_0_s_1_16_1 inb_S32x24576_S32x128_0_17664, ?_⟩
  refine List.forall_mem_cons.2 ⟨piece 5 11 17536 (by omega) (by omega) rfl inb_S12x512x128_S1x32x128_5_11_0_s_1_16_1 inb_S32x24576_S32x128_0_17536, ?_⟩
  refine List.forall_mem_cons.2 ⟨piece 4 11 17408 (by omega) (by omega) rfl inb_S12x512x128_S1x32x128_4_11_0_s_1_16_1 inb_S32x24576_S32x128_0_17408, ?_⟩
  refine List.forall_mem_cons.2 ⟨piece 3 11 17280 (by omega) (by omega) rfl inb_S12x512x128_S1x32x128_3_11_0_s_1_16_1 inb_S32x24576_S32x128_0_17280, ?_⟩
  refine List.forall_mem_cons.2 ⟨piece 2 11 17152 (by omega) (by omega) rfl inb_S12x512x128_S1x32x128_2_11_0_s_1_16_1 inb_S32x24576_S32x128_0_17152, ?_⟩
  refine List.forall_mem_cons.2 ⟨piece 1 11 17024 (by omega) (by omega) rfl inb_S12x512x128_S1x32x128_1_11_0_s_1_16_1 inb_S32x24576_S32x128_0_17024, ?_⟩
  refine List.forall_mem_cons.2 ⟨piece 0 11 16896 (by omega) (by omega) rfl inb_S12x512x128_S1x32x128_0_11_0_s_1_16_1 inb_S32x24576_S32x128_0_16896, ?_⟩
  refine List.forall_mem_cons.2 ⟨piece 11 10 16768 (by omega) (by omega) rfl inb_S12x512x128_S1x32x128_11_10_0_s_1_16_1 inb_S32x24576_S32x128_0_16768, ?_⟩
  refine List.forall_mem_cons.2 ⟨piece 10 10 16640 (by omega) (by omega) rfl inb_S12x512x128_S1x32x128_10_10_0_s_1_16_1 inb_S32x24576_S32x128_0_16640, ?_⟩
  refine List.forall_mem_cons.2 ⟨piece 9 10 16512 (by omega) (by omega) rfl inb_S12x512x128_S1x32x128_9_10_0_s_1_16_1 inb_S32x24576_S32x128_0_16512, ?_⟩
  refine List.forall_mem_cons.2 ⟨piece 8 10 16384 (by omega) (by omega) rfl inb_S12x512x128_S1x32x128_8_10_0_s_1_16_1 inb_S32x24576_S32x128_0_16384, ?_⟩
  refine List.forall_mem_cons.2 ⟨piece 7 10 16256 (by omega) (by omega) rfl inb_S12x512x128_S1x32x128_7_10_0_s_1_16_1 inb_S32x24576_S32x128_0_16256, ?_⟩
  refine List.forall_mem_cons.2 ⟨piece 6 10 16128 (by omega) (by omega) rfl inb_S12x512x128_S1x32x128_6_10_0_s_1_16_1 inb_S32x24576_S32x128_0_16128, ?_⟩
  refine List.forall_mem_cons.2 ⟨piece 5 10 16000 (by omega) (by omega) rfl inb_S12x512x128_S1x32x128_5_10_0_s_1_16_1 inb_S32x24576_S32x128_0_16000, ?_⟩
  refine List.forall_mem_cons.2 ⟨piece 4 10 15872 (by omega) (by omega) rfl inb_S12x512x128_S1x32x128_4_10_0_s_1_16_1 inb_S32x24576_S32x128_0_15872, ?_⟩
  refine List.forall_mem_cons.2 ⟨piece 3 10 15744 (by omega) (by omega) rfl inb_S12x512x128_S1x32x128_3_10_0_s_1_16_1 inb_S32x24576_S32x128_0_15744, ?_⟩
  refine List.forall_mem_cons.2 ⟨piece 2 10 15616 (by omega) (by omega) rfl inb_S12x512x128_S1x32x128_2_10_0_s_1_16_1 inb_S32x24576_S32x128_0_15616, ?_⟩
  refine List.forall_mem_cons.2 ⟨piece 1 10 15488 (by omega) (by omega) rfl inb_S12x512x128_S1x32x128_1_10_0_s_1_16_1 inb_S32x24576_S32x128_0_15488, ?_⟩
  refine List.forall_mem_cons.2 ⟨piece 0 10 15360 (by omega) (by omega) rfl inb_S12x512x128_S1x32x128_0_10_0_s_1_16_1 inb_S32x24576_S32x128_0_15360, ?_⟩
  refine List.forall_mem_cons.2 ⟨piece 11 9 15232 (by omega) (by omega) rfl inb_S12x512x128_S1x32x128_11_9_0_s_1_16_1 inb_S32x24576_S32x128_0_15232, ?_⟩
  refine List.forall_mem_cons.2 ⟨piece 10 9 15104 (by omega) (by omega) rfl inb_S12x512x128_S1x32x128_10_9_0_s_1_16_1 inb_S32x24576_S32x128_0_15104, ?_⟩
  refine List.forall_mem_cons.2 ⟨piece 9 9 14976 (by omega) (by omega) rfl inb_S12x512x128_S1x32x128_9_9_0_s_1_16_1 inb_S32x24576_S32x128_0_14976, ?_⟩
  refine List.forall_mem_cons.2 ⟨piece 8 9 14848 (by omega) (by omega) rfl inb_S12x512x128_S1x32x128_8_9_0_s_1_16_1 inb_S32x24576_S32x128_0_14848, ?_⟩
  refine List.forall_mem_cons.2 ⟨piece 7 9 14720 (by omega) (by omega) rfl inb_S12x512x128_S1x32x128_7_9_0_s_1_16_1 inb_S32x24576_S32x128_0_14720, ?_⟩
  refine List.forall_mem_cons.2 ⟨piece 6 9 14592 (by omega) (by omega) rfl inb_S12x512x128_S1x32x128_6_9_0_s_1_16_1 inb_S32x24576_S32x128_0_14592, ?_⟩
  refine List.forall_mem_cons.2 ⟨piece 5 9 14464 (by omega) (by omega) rfl inb_S12x512x128_S1x32x128_5_9_0_s_1_16_1 inb_S32x24576_S32x128_0_14464, ?_⟩
  refine List.forall_mem_cons.2 ⟨piece 4 9 14336 (by omega) (by omega) rfl inb_S12x512x128_S1x32x128_4_9_0_s_1_16_1 inb_S32x24576_S32x128_0_14336, ?_⟩
  refine List.forall_mem_cons.2 ⟨piece 3 9 14208 (by omega) (by omega) rfl inb_S12x512x128_S1x32x128_3_9_0_s_1_16_1 inb_S32x24576_S32x128_0_14208, ?_⟩
  refine List.forall_mem_cons.2 ⟨piece 2 9 14080 (by omega) (by omega) rfl inb_S12x512x128_S1x32x128_2_9_0_s_1_16_1 inb_S32x24576_S32x128_0_14080, ?_⟩
  refine List.forall_mem_cons.2 ⟨piece 1 9 13952 (by omega) (by omega) rfl inb_S12x512x128_S1x32x128_1_9_0_s_1_16_1 inb_S32x24576_S32x128_0_13952, ?_⟩
  refine List.forall_mem_cons.2 ⟨piece 0 9 13824 (by omega) (by omega) rfl inb_S12x512x128_S1x32x128_0_9_0_s_1_16_1 inb_S32x24576_S32x128_0_13824, ?_⟩
  refine List.forall_mem_cons.2 ⟨piece 11 8 13696 (by omega) (by omega) rfl inb_S12x512x128_S1x32x128_11_8_0_s_1_16_1 inb_S32x24576_S32x128_0_13696, ?_⟩
  refine List.forall_mem_cons.2 ⟨piece 10 8 13568 (by omega) (by omega) rfl inb_S12x512x128_S1x32x128_10_8_0_s_1_16_1 inb_S32x24576_S32x128_0_13568, ?_⟩
  refine List.forall_mem_cons.2 ⟨piece 9 8 13440 (by omega) (by omega) rfl inb_S12x512x128_S1x32x128_9_8_0_s_1_16_1 inb_S32x24576_S32x128_0_13440, ?_⟩
  refine List.forall_mem_cons.2 ⟨piece 8 8 13312 (by omega) (by omega) rfl inb_S12x512x128_S1x32x128_8_8_0_s_1_16_1 inb_S32x24576_S32x128_0_13312, ?_⟩
  refine List.forall_mem_cons.2 ⟨piece 7 8 13184 (by omega) (by omega) rfl inb_S12x512x128_S1x32x128_7_8_0_s_1_16_1 inb_S32x24576_S32x128_0_13184, ?_⟩
  refine List.forall_mem_cons.2 ⟨piece 6 8 13056 (by omega) (by omega) rfl inb_S12x512x128_S1x32x128_6_8_0_s_1_16_1 inb_S32x24576_S32x128_0_13056, ?_⟩
  refine List.forall_mem_cons.2 ⟨piece 5 8 12928 (by omega) (by omega) rfl inb_S12x512x128_S1x32x128_5_8_0_s_1_16_1 inb_S32x24576_S32x128_0_12928, ?_⟩
  refine List.forall_mem_cons.2 ⟨piece 4 8 12800 (by omega) (by omega) rfl inb_S12x512x128_S1x32x128_4_8_0_s_1_16_1 inb_S32x24576_S32x128_0_12800, ?_⟩
  refine List.forall_mem_cons.2 ⟨piece 3 8 12672 (by omega) (by omega) rfl inb_S12x512x128_S1x32x128_3_8_0_s_1_16_1 inb_S32x24576_S32x128_0_12672, ?_⟩
  refine List.forall_mem_cons.2 ⟨piece 2 8 12544 (by omega) (by omega) rfl inb_S12x512x128_S1x32x128_2_8_0_s_1_16_1 inb_S32x24576_S32x128_0_12544, ?_⟩
  refine List.forall_mem_cons.2 ⟨piece 1 8 12416 (by omega) (by omega) rfl inb_S12x512x128_S1x32x128_1_8_0_s_1_16_1 inb_S32x24576_S32x128_0_12416, ?_⟩
  refine List.forall_mem_cons.2 ⟨piece 0 8 12288 (by omega) (by omega) rfl inb_S12x512x128_S1x32x128_0_8_0_s_1_16_1 inb_S32x24576_S32x128_0_12288, ?_⟩
  refine List.forall_mem_cons.2 ⟨piece 11 7 12160 (by omega) (by omega) rfl inb_S12x512x128_S1x32x128_11_7_0_s_1_16_1 inb_S32x24576_S32x128_0_12160, ?_⟩
  refine List.forall_mem_cons.2 ⟨piece 10 7 12032 (by omega) (by omega) rfl inb_S12x512x128_S1x32x128_10_7_0_s_1_16_1 inb_S32x24576_S32x128_0_12032, ?_⟩
  refine List.forall_mem_cons.2 ⟨piece 9 7 11904 (by omega) (by omega) rfl inb_S12x512x128_S1x32x128_9_7_0_s_1_16_1 inb_S32x24576_S32x128_0_11904, ?_⟩
  refine List.forall_mem_cons.2 ⟨piece 8 7 11776 (by omega) (by omega) rfl inb_S12x512x128_S1x32x128_8_7_0_s_1_16_1 inb_S32x24576_S32x128_0_11776, ?_⟩
  refine List.forall_mem_cons.2 ⟨piece 7 7 11648 (by omega) (by omega) rfl inb_S12x512x128_S1x32x128_7_7_0_s_1_16_1 inb_S32x24576_S32x128_0_11648, ?_⟩
  refine List.forall_mem_cons.2 ⟨piece 6 7 11520 (by omega) (by omega) rfl inb_S12x512x128_S1x32x128_6_7_0_s_1_16_1 inb_S32x24576_S32x128_0_11520, ?_⟩
  refine List.forall_mem_cons.2 ⟨piece 5 7 11392 (by omega) (by omega) rfl inb_S12x512x128_S1x32x128_5_7_0_s_1_16_1 inb_S32x24576_S32x128_0_11392, ?_⟩
  refine List.forall_mem_cons.2 ⟨piece 4 7 11264 (by omega) (by omega) rfl inb_S12x512x128_S1x32x128_4_7_0_s_1_16_1 inb_S32x24576_S32x128_0_11264, ?_⟩
  refine List.forall_mem_cons.2 ⟨piece 3 7 11136 (by omega) (by omega) rfl inb_S12x512x128_S1x32x128_3_7_0_s_1_16_1 inb_S32x24576_S32x128_0_11136, ?_⟩
  refine List.forall_mem_cons.2 ⟨piece 2 7 11008 (by omega) (by omega) rfl inb_S12x512x128_S1x32x128_2_7_0_s_1_16_1 inb_S32x24576_S32x128_0_11008, ?_⟩
  refine List.forall_mem_cons.2 ⟨piece 1 7 10880 (by omega) (by omega) rfl inb_S12x512x128_S1x32x128_1_7_0_s_1_16_1 inb_S32x24576_S32x128_0_10880, ?_⟩
  refine List.forall_mem_cons.2 ⟨piece 0 7 10752 (by omega) (by omega) rfl inb_S12x512x128_S1x32x128_0_7_0_s_1_16_1 inb_S32x24576_S32x128_0_10752, ?_⟩
  refine List.forall_mem_cons.2 ⟨piece 11 6 10624 (by omega) (by omega) rfl inb_S12x512x128_S1x32x128_11_6_0_s_1_16_1 inb_S32x24576_S32x128_0_10624, ?_⟩
  refine List.forall_mem_cons.2 ⟨piece 10 6 10496 (by omega) (by omega) rfl inb_S12x512x128_S1x32x128_10_6_0_s_1_16_1 inb_S32x24576_S32x128_0_10496, ?_⟩
  refine List.forall_mem_cons.2 ⟨piece 9 6 10368 (by omega) (by omega) rfl inb_S12x512x128_S1x32x128_9_6_0_s_1_16_1 inb_S32x24576_S32x128_0_10368, ?_⟩
  refine List.forall_mem_cons.2 ⟨piece 8 6 10240 (by omega) (by omega) rfl inb_S12x512x128_S1x32x128_8_6_0_s_1_16_1 inb_S32x24576_S32x128_0_10240, ?_⟩
  refine List.forall_mem_cons.2 ⟨piece 7 6 10112 (by omega) (by omega) rfl inb_S12x512x128_S1x32x128_7_6_0_s_1_16_1 inb_S32x24576_S32x128_0_10112, ?_⟩
  refine List.forall_mem_cons.2 ⟨piece 6 6 9984 (by omega) (by omega) rfl inb_S12x512x128_S1x32x128_6_6_0_s_1_16_1 inb_S32x24576_S32x128_0_9984, ?_⟩
  refine List.forall_mem_cons.2 ⟨piece 5 6 9856 (by omega) (by omega) rfl inb_S12x512x128_S1x32x128_5_6_0_s_1_16_1 inb_S32x24576_S32x128_0_9856, ?_⟩
  refine List.forall_mem_cons.2 ⟨piece 4 6 9728 (by omega) (by omega) rfl inb_S12x512x128_S1x32x128_4_6_0_s_1_16_1 inb_S32x24576_S32x128_0_9728, ?_⟩
  refine List.forall_mem_cons.2 ⟨piece 3 6 9600 (by omega) (by omega) rfl inb_S12x512x128_S1x32x128_3_6_0_s_1_16_1 inb_S32x24576_S32x128_0_9600, ?_⟩
  refine List.forall_mem_cons.2 ⟨piece 2 6 9472 (by omega) (by omega) rfl inb_S12x512x128_S1x32x128_2_6_0_s_1_16_1 inb_S32x24576_S32x128_0_9472, ?_⟩
  refine List.forall_mem_cons.2 ⟨piece 1 6 9344 (by omega) (by omega) rfl inb_S12x512x128_S1x32x128_1_6_0_s_1_16_1 inb_S32x24576_S32x128_0_9344, ?_⟩
  refine List.forall_mem_cons.2 ⟨piece 0 6 9216 (by omega) (by omega) rfl inb_S12x512x128_S1x32x128_0_6_0_s_1_16_1 inb_S32x24576_S32x128_0_9216, ?_⟩
  refine List.forall_mem_cons.2 ⟨piece 11 5 9088 (by omega) (by omega) rfl inb_S12x512x128_S1x32x128_11_5_0_s_1_16_1 inb_S32x24576_S32x128_0_9088, ?_⟩
  refine List.forall_mem_cons.2 ⟨piece 10 5 8960 (by omega) (by omega) rfl inb_S12x512x128_S1x32x128_10_5_0_s_1_16_1 inb_S32x24576_S32x128_0_8960, ?_⟩
  refine List.forall_mem_cons.2 ⟨piece 9 5 8832 (by omega) (by omega) rfl inb_S12x512x128_S1x32x128_9_5_0_s_1_16_1 inb_S32x24576_S32x128_0_8832, ?_⟩
  refine List.forall_mem_cons.2 ⟨piece 8 5 8704 (by omega) (by omega) rfl inb_S12x512x128_S1x32x128_8_5_0_s_1_16_1 inb_S32x24576_S32x128_0_8704, ?_⟩
  refine List.forall_mem_cons.2 ⟨piece 7 5 8576 (by omega) (by omega) rfl inb_S12x512x128_S1x32x128_7_5_0_s_1_16_1 inb_S32x24576_S32x128_0_8576, ?_⟩
  refine List.forall_mem_cons.2 ⟨piece 6 5 8448 (by omega) (by omega) rfl inb_S12x512x128_S1x32x128_6_5_0_s_1_16_1 inb_S32x24576_S32x128_0_8448, ?_⟩
  refine List.forall_mem_cons.2 ⟨piece 5 5 8320 (by omega) (by omega) rfl inb_S12x512x128_S1x32x128_5_5_0_s_1_16_1 inb_S32x24576_S32x128_0_8320, ?_⟩
  refine List.forall_mem_cons.2 ⟨piece 4 5 8192 (by omega) (by omega) rfl inb_S12x512x128_S1x32x128_4_5_0_s_1_16_1 inb_S32x24576_S32x128_0_8192, ?_⟩
  refine List.forall_mem_cons.2 ⟨piece 3 5 8064 (by omega) (by omega) rfl inb_S12x512x128_S1x32x128_3_5_0_s_1_16_1 inb_S32x24576_S32x128_0_8064, ?_⟩
  refine List.forall_mem_cons.2 ⟨piece 2 5 7936 (by omega) (by omega) rfl inb_S12x512x128_S1x32x128_2_5_0_s_1_16_1 inb_S32x24576_S32x128_0_7936, ?_⟩
  refine List.forall_mem_cons.2 ⟨piece 1 5 7808 (by omega) (by omega) rfl inb_S12x512x128_S1x32x128_1_5_0_s_1_16_1 inb_S32x24576_S32x128_0_7808, ?_⟩
  refine List.forall_mem_cons.2 ⟨piece 0 5 7680 (by omega) (by omega) rfl inb_S12x512x128_S1x32x128_0_5_0_s_1_16_1 inb_S32x24576_S32x128_0_7680, ?_⟩
  refine List.forall_mem_cons.2 ⟨piece 11 4 7552 (by omega) (by omega) rfl inb_S12x512x128_S1x32x128_11_4_0_s_1_16_1 inb_S32x24576_S32x128_0_7552, ?_⟩
  refine List.forall_mem_cons.2 ⟨piece 10 4 7424 (by omega) (by omega) rfl inb_S12x512x128_S1x32x128_10_4_0_s_1_16_1 inb_S32x24576_S32x128_0_7424, ?_⟩
  refine List.forall_mem_cons.2 ⟨piece 9 4 7296 (by omega) (by omega) rfl inb_S12x512x128_S1x32x128_9_4_0_s_1_16_1 inb_S32x24576_S32x128_0_7296, ?_⟩
  refine List.forall_mem_cons.2 ⟨piece 8 4 7168 (by omega) (by omega) rfl inb_S12x512x128_S1x32x128_8_4_0_s_1_16_1 inb_S32x24576_S32x128_0_7168, ?_⟩
  refine List.forall_mem_cons.2 ⟨piece 7 4 7040 (by omega) (by omega) rfl inb_S12x512x128_S1x32x128_7_4_0_s_1_16_1 inb_S32x24576_S32x128_0_7040, ?_⟩
  refine List.forall_mem_cons.2 ⟨piece 6 4 6912 (by omega) (by omega) rfl inb_S12x512x128_S1x32x128_6_4_0_s_1_16_1 inb_S32x24576_S32x128_0_6912, ?_⟩
  refine List.forall_mem_cons.2 ⟨piece 5 4 6784 (by omega) (by omega) rfl inb_S12x512x128_S1x32x128_5_4_0_s_1_16_1 inb_S32x24576_S32x128_0_6784, ?_⟩
  refine List.forall_mem_cons.2 ⟨piece 4 4 6656 (by omega) (by omega) rfl inb_S12x512x128_S1x32x128_4_4_0_s_1_16_1 inb_S32x24576_S32x128_0_6656, ?_⟩
  refine List.forall_mem_cons.2 ⟨piece 3 4 6528 (by omega) (by omega) rfl inb_S12x512x128_S1x32x128_3_4_0_s_1_16_1 inb_S32x24576_S32x128_0_6528, ?_⟩
  refine List.forall_mem_cons.2 ⟨piece 2 4 6400 (by omega) (by omega) rfl inb_S12x512x128_S1x32x128_2_4_0_s_1_16_1 inb_S32x24576_S32x128_0_6400, ?_⟩
  refine List.forall_mem_cons.2 ⟨piece 1 4 6272 (by omega) (by omega) rfl inb_S12x512x128_S1x32x128_1_4_0_s_1_16_1 inb_S32x24576_S32x128_0_6272, ?_⟩
  refine List.forall_mem_cons.2 ⟨piece 0 4 6144 (by omega) (by omega) rfl inb_S12x512x128_S1x32x128_0_4_0_s_1_16_1 inb_S32x24576_S32x128_0_6144, ?_⟩
  refine List.forall_mem_cons.2 ⟨piece 11 3 6016 (by omega) (by omega) rfl inb_S12x512x128_S1x32x128_11_3_0_s_1_16_1 inb_S32x24576_S32x128_0_6016, ?_⟩
  refine List.forall_mem_cons.2 ⟨piece 10 3 5888 (by omega) (by omega) rfl inb_S12x512x128_S1x32x128_10_3_0_s_1_16_1 inb_S32x24576_S32x128_0_5888, ?_⟩
  refine List.forall_mem_cons.2 ⟨piece 9 3 5760 (by omega) (by omega) rfl inb_S12x512x128_S1x32x128_9_3_0_s_1_16_1 inb_S32x24576_S32x128_0_5760, ?_⟩
  refine List.forall_mem_cons.2 ⟨piece 8 3 5632 (by omega) (by omega) rfl inb_S12x512x128_S1x32x128_8_3_0_s_1_16_1 inb_S32x24576_S32x128_0_5632, ?_⟩
  refine List.forall_mem_cons.2 ⟨piece 7 3 5504 (by omega) (by omega) rfl inb_S12x512x128_S1x32x128_7_3_0_s_1_16_1 inb_S32x24576_S32x128_0_5504, ?_⟩
  refine List.forall_mem_cons.2 ⟨piece 6 3 5376 (by omega) (by omega) rfl inb_S12x512x128_S1x32x128_6_3_0_s_1_16_1 inb_S32x24576_S32x128_0_5376, ?_⟩
  refine List.forall_mem_cons.2 ⟨piece 5 3 5248 (by omega) (by omega) rfl inb_S12x512x128_S1x32x128_5_3_0_s_1_16_1 inb_S32x24576_S32x128_0_5248, ?_⟩
  refine List.forall_mem_cons.2 ⟨piece 4 3 5120 (by omega) (by omega) rfl inb_S12x512x128_S1x32x128_4_3_0_s_1_16_1 inb_S32x24576_S32x128_0_5120, ?_⟩
  refine List.forall_mem_cons.2 ⟨piece 3 3 4992 (by omega) (by omega) rfl inb_S12x512x128_S1x32x128_3_3_0_s_1_16_1 inb_S32x24576_S32x128_0_4992, ?_⟩
  refine List.forall_mem_cons.2 ⟨piece 2 3 4864 (by omega) (by omega) rfl inb_S12x512x128_S1x32x128_2_3_0_s_1_16_1 inb_S32x24576_S32x128_0_4864, ?_⟩
  refine List.forall_mem_cons.2 ⟨piece 1 3 4736 (by omega) (by omega) rfl inb_S12x512x128_S1x32x128_1_3_0_s_1_16_1 inb_S32x24576_S32x128_0_4736, ?_⟩
  refine List.forall_mem_cons.2 ⟨piece 0 3 4608 (by omega) (by omega) rfl inb_S12x512x128_S1x32x128_0_3_0_s_1_16_1 inb_S32x24576_S32x128_0_4608, ?_⟩
  refine List.forall_mem_cons.2 ⟨piece 11 2 4480 (by omega) (by omega) rfl inb_S12x512x128_S1x32x128_11_2_0_s_1_16_1 inb_S32x24576_S32x128_0_4480, ?_⟩
  refine List.forall_mem_cons.2 ⟨piece 10 2 4352 (by omega) (by omega) rfl inb_S12x512x128_S1x32x128_10_2_0_s_1_16_1 inb_S32x24576_S32x128_0_4352, ?_⟩
  refine List.forall_mem_cons.2 ⟨piece 9 2 4224 (by omega) (by omega) rfl inb_S12x512x128_S1x32x128_9_2_0_s_1_16_1 inb_S32x24576_S32x128_0_4224, ?_⟩
  refine List.forall_mem_cons.2 ⟨piece 8 2 4096 (by omega) (by omega) rfl inb_S12x512x128_S1x32x128_8_2_0_s_1_16_1 inb_S32x24576_S32x128_0_4096, ?_⟩
  refine List.forall_mem_cons.2 ⟨piece 7 2 3968 (by omega) (by omega) rfl inb_S12x512x128_S1x32x128_7_2_0_s_1_16_1 inb_S32x24576_S32x128_0_3968, ?_⟩
  refine List.forall_mem_cons.2 ⟨piece 6 2 3840 (by omega) (by omega) rfl inb_S12x512x128_S1x32x128_6_2_0_s_1_16_1 inb_S32x24576_S32x128_0_3840, ?_⟩
  refine List.forall_mem_cons.2 ⟨piece 5 2 3712 (by omega) (by omega) rfl inb_S12x512x128_S1x32x128_5_2_0_s_1_16_1 inb_S32x24576_S32x128_0_3712, ?_⟩
  refine List.forall_mem_cons.2 ⟨piece 4 2 3584 (by omega) (by omega) rfl inb_S12x512x128_S1x32x128_4_2_0_s_1_16_1 inb_S32x24576_S32x128_0_3584, ?_⟩
  refine List.forall_mem_cons.2 ⟨piece 3 2 3456 (by omega) (by omega) rfl inb_S12x512x128_S1x32x128_3_2_0_s_1_16_1 inb_S32x24576_S32x128_0_3456, ?_⟩
  refine List.forall_mem_cons.2 ⟨piece 2 2 3328 (by omega) (by omega) rfl inb_S12x512x128_S1x32x128_2_2_0_s_1_16_1 inb_S32x24576_S32x128_0_3328, ?_⟩
  refine List.forall_mem_cons.2 ⟨piece 1 2 3200 (by omega) (by omega) rfl inb_S12x512x128_S1x32x128_1_2_0_s_1_16_1 inb_S32x24576_S32x128_0_3200, ?_⟩
  refine List.forall_mem_cons.2 ⟨piece 0 2 3072 (by omega) (by omega) rfl inb_S12x512x128_S1x32x128_0_2_0_s_1_16_1 inb_S32x24576_S32x128_0_3072, ?_⟩
  refine List.forall_mem_cons.2 ⟨piece 11 1 2944 (by omega) (by omega) rfl inb_S12x512x128_S1x32x128_11_1_0_s_1_16_1 inb_S32x24576_S32x128_0_2944, ?_⟩
  refine List.forall_mem_cons.2 ⟨piece 10 1 2816 (by omega) (by omega) rfl inb_S12x512x128_S1x32x128_10_1_0_s_1_16_1 inb_S32x24576_S32x128_0_2816, ?_⟩
  refine List.forall_mem_cons.2 ⟨piece 9 1 2688 (by omega) (by omega) rfl inb_S12x512x128_S1x32x128_9_1_0_s_1_16_1 inb_S32x24576_S32x128_0_2688, ?_⟩
  refine List.forall_mem_cons.2 ⟨piece 8 1 2560 (by omega) (by omega) rfl inb_S12x512x128_S1x32x128_8_1_0_s_1_16_1 inb_S32x24576_S32x128_0_2560, ?_⟩
  refine List.forall_mem_cons.2 ⟨piece 7 1 2432 (by omega) (by omega) rfl inb_S12x512x128_S1x32x128_7_1_0_s_1_16_1 inb_S32x24576_S32x128_0_2432, ?_⟩
  refine List.forall_mem_cons.2 ⟨piece 6 1 2304 (by omega) (by omega) rfl inb_S12x512x128_S1x32x128_6_1_0_s_1_16_1 inb_S32x24576_S32x128_0_2304, ?_⟩
  refine List.forall_mem_cons.2 ⟨piece 5 1 2176 (by omega) (by omega) rfl inb_S12x512x128_S1x32x128_5_1_0_s_1_16_1 inb_S32x24576_S32x128_0_2176, ?_⟩
  refine List.forall_mem_cons.2 ⟨piece 4 1 2048 (by omega) (by omega) rfl inb_S12x512x128_S1x32x128_4_1_0_s_1_16_1 inb_S32x24576_S32x128_0_2048, ?_⟩
  refine List.forall_mem_cons.2 ⟨piece 3 1 1920 (by omega) (by omega) rfl inb_S12x512x128_S1x32x128_3_1_0_s_1_16_1 inb_S32x24576_S32x128_0_1920, ?_⟩
  refine List.forall_mem_cons.2 ⟨piece 2 1 1792 (by omega) (by omega) rfl inb_S12x512x128_S1x32x128_2_1_0_s_1_16_1 inb_S32x24576_S32x128_0_1792, ?_⟩
  refine List.forall_mem_cons.2 ⟨piece 1 1 1664 (by omega) (by omega) rfl inb_S12x512x128_S1x32x128_1_1_0_s_1_16_1 inb_S32x24576_S32x128_0_1664, ?_⟩
  refine List.forall_mem_cons.2 ⟨piece 0 1 1536 (by omega) (by omega) rfl inb_S12x512x128_S1x32x128_0_1_0_s_1_16_1 inb_S32x24576_S32x128_0_1536, ?_⟩
  refine List.forall_mem_cons.2 ⟨piece 11 0 1408 (by omega) (by omega) rfl inb_S12x512x128_S1x32x128_11_0_0_s_1_16_1 inb_S32x24576_S32x128_0_1408, ?_⟩
  refine List.forall_mem_cons.2 ⟨piece 10 0 1280 (by omega) (by omega) rfl inb_S12x512x128_S1x32x128_10_0_0_s_1_16_1 inb_S32x24576_S32x128_0_1280, ?_⟩
  refine List.forall_mem_cons.2 ⟨piece 9 0 1152 (by omega) (by omega) rfl inb_S12x512x128_S1x32x128_9_0_0_s_1_16_1 inb_S32x24576_S32x128_0_1152, ?_⟩
  refine List.forall_mem_cons.2 ⟨piece 8 0 1024 (by omega) (by omega) rfl inb_S12x512x128_S1x32x128_8_0_0_s_1_16_1 inb_S32x24576_S32x128_0_1024, ?_⟩
  refine List.forall_mem_cons.2 ⟨piece 7 0 896 (by omega) (by omega) rfl inb_S12x512x128_S1x32x128_7_0_0_s_1_16_1 inb_S32x24576_S32x128_0_896, ?_⟩
  refine List.forall_mem_cons.2 ⟨piece 6 0 768 (by omega) (by omega) rfl inb_S12x512x128_S1x32x128_6_0_0_s_1_16_1 inb_S32x24576_S32x128_0_768, ?_⟩
  refine List.forall_mem_cons.2 ⟨piece 5 0 640 (by omega) (by omega) rfl inb_S12x512x128_S1x32x128_5_0_0_s_1_16_1 inb_S32x24576_S32x128_0_640, ?_⟩
  refine List.forall_mem_cons.2 ⟨piece 4 0 512 (by omega) (by omega) rfl inb_S12x512x128_S1x32x128_4_0_0_s_1_16_1 inb_S32x24576_S32x128_0_512, ?_⟩
  refine List.forall_mem_cons.2 ⟨piece 3 0 384 (by omega) (by omega) rfl inb_S12x512x128_S1x32x128_3_0_0_s_1_16_1 inb_S32x24576_S32x128_0_384, ?_⟩
  refine List.forall_mem_cons.2 ⟨piece 2 0 256 (by omega) (by omega) rfl inb_S12x512x128_S1x32x128_2_0_0_s_1_16_1 inb_S32x24576_S32x128_0_256, ?_⟩
  refine List.forall_mem_cons.2 ⟨piece 1 0 128 (by omega) (by omega) rfl inb_S12x512x128_S1x32x128_1_0_0_s_1_16_1 inb_S32x24576_S32x128_0_128, ?_⟩
  refine List.forall_mem_cons.2 ⟨piece 0 0 0 (by omega) (by omega) rfl inb_S12x512x128_S1x32x128_0_0_0_s_1_16_1 inb_S32x24576_S32x128_0_0, ?_⟩
  exact fun p hp => absurd hp List.not_mem_nil

end Cert.Linear6
-- ==== Proof.Linear.Layout6.lean ====
module

public import proofs.«01_k».proof.Proof.Linear.Value6
public import proofs.«01_k».proof.Proof.Gen.Reference6Ideal.Read

/-! The three arrays the projection of the dilated attention leaves, and the reference's: row `R`, column `C` of an array
of dilation `d` is row `d * R + C / 1536`, column `C % 1536` of the pattern's columns of the product. -/

@[expose] public section

set_option maxRecDepth 16384

noncomputable section

namespace Cert.Linear6

open Cert.Kernel6Ideal Cert.Kernel6Ideal.Gen
open Idealize.ShloMosaic Idealize.ShloMosaic.TcCoe Idealize.ShloMosaic.ValueIdx
open Idealize.ShloMosaic.Pipeline (Dat Cfg Window)

/-! ### The reference -/

section Reference
open Cert.Reference6Ideal.Read

variable (X : S65536x1024.Idx → EReal) (W : S1024x4608.Idx → EReal)

theorem product_apply (r : Fin 65536) (j : Fin 4608) :
    (val_main_v0 (F := Ideal) X W : Cert.Reference6Ideal.S65536x4608.Idx → EReal) (ix2 r j) = entry (M := 65536) X W r.val j.val := by
  refine (val_main_v0_apply X W (ix2 r j)).trans (Finset.sum_congr rfl fun k _ => ?_)
  refine congrArg₂ (fun a b : EReal => a * b) (Eq.trans (congrArg X (funext fun a => ?_)) (row_of X r k).symm) (Eq.trans (congrArg W (funext fun a => ?_)) (at_of W k j).symm)
  · match a with | ⟨0, _⟩ => rfl | ⟨1, _⟩ => rfl
  · match a with | ⟨0, _⟩ => rfl | ⟨1, _⟩ => rfl

/-- A range of columns of the product. -/
theorem columns (o : Nat) (hs : Cert.Reference6Ideal.S65536x4608.Slices ![0, o] S65536x1536) (r : Fin 65536) (f : Fin 1536) (ho : o + 1536 ≤ 4608) :
    (extractStridedSlice S65536x1536 ![0, o] (val_main_v0 (F := Ideal) X W) hs : S65536x1536.Idx → EReal) (ix2 r f) = entry (M := 65536) X W r.val (o + f.val) :=
  (extractStridedSlice_apply ![0, o] (val_main_v0 (F := Ideal) X W) hs (ix2 r f) (ix2 r (⟨o + f.val, by have := f.isLt; omega⟩ : Fin 4608))
    (fun a => by match a with | ⟨0, _⟩ => exact (Nat.zero_add _).symm | ⟨1, _⟩ => rfl)).trans (product_apply X W r _)

theorem ref2 : (val_main_v4 (F := Ideal) X W : S65536x1536.Idx → EReal) = fun i => entry (M := 65536) X W (i 0).val (i 1).val := by
  funext y
  obtain ⟨r, f, rfl⟩ : ∃ (r : Fin 65536) (f : Fin 1536), y = ix2 r f := ⟨y 0, y 1, eq_ix2 y⟩
  refine Eq.trans (columns X W 0 Cert.Reference6Ideal.Gen.slices_S65536x4608_S65536x1536_0_0 r f (by omega)) ?_
  rw [Nat.zero_add]

theorem ref3 : (val_main_v6 (F := Ideal) X W : S16384x6144.Idx → EReal)
    = fun i => entry (M := 65536) X W (4 * (i 0).val + (i 1).val / 1536) (1536 * 1 + (i 1).val % 1536) := by
  funext y
  obtain ⟨r, f, rfl⟩ : ∃ (r : Fin 16384) (f : Fin 6144), y = ix2 r f := ⟨y 0, y 1, eq_ix2 y⟩
  have hr := r.isLt
  have hf := f.isLt
  refine Eq.trans (shapeCast_apply (s := S65536x1536) (t := S16384x6144) (val_main_v2 (F := Ideal) X W) Cert.Reference6Ideal.Gen.shapeCasts_S65536x1536_S16384x6144 (ix2 r f)
    (ix2 (⟨4 * r.val + f.val / 1536, by omega⟩ : Fin 65536) (⟨f.val % 1536, by omega⟩ : Fin 1536)) (by
      rw [Shape.rowMajor_val_two, Shape.rowMajor_val_two]
      show (4 * r.val + f.val / 1536) * 1536 + f.val % 1536 = r.val * 6144 + f.val
      omega)) ?_
  exact columns X W 1536 Cert.Reference6Ideal.Gen.slices_S65536x4608_S65536x1536_0_1536 _ _ (by omega)

theorem ref4 : (val_main_v8 (F := Ideal) X W : S4096x24576.Idx → EReal)
    = fun i => entry (M := 65536) X W (16 * (i 0).val + (i 1).val / 1536) (1536 * 2 + (i 1).val % 1536) := by
  funext y
  obtain ⟨r, f, rfl⟩ : ∃ (r : Fin 4096) (f : Fin 24576), y = ix2 r f := ⟨y 0, y 1, eq_ix2 y⟩
  have hr := r.isLt
  have hf := f.isLt
  refine Eq.trans (shapeCast_apply (s := S65536x1536) (t := S4096x24576) (val_main_v3 (F := Ideal) X W) Cert.Reference6Ideal.Gen.shapeCasts_S65536x1536_S4096x24576 (ix2 r f)
    (ix2 (⟨16 * r.val + f.val / 1536, by omega⟩ : Fin 65536) (⟨f.val % 1536, by omega⟩ : Fin 1536)) (by
      rw [Shape.rowMajor_val_two, Shape.rowMajor_val_two]
      show (16 * r.val + f.val / 1536) * 1536 + f.val % 1536 = r.val * 24576 + f.val
      omega)) ?_
  exact columns X W 3072 Cert.Reference6Ideal.Gen.slices_S65536x4608_S65536x1536_0_3072 _ _ (by omega)

end Reference

/-! ### The arrays -/

theorem blk_read (b : Ref sig .tc) (off size : Fin b.ty.shape.rank → Nat) (inb)
    (X : b.ty.shape.Idx → Elt Ideal b.ty.elt) (y : (Rect.unit off size inb).shape.Idx) (i : b.ty.shape.Idx)
    (hi : ∀ a, (i a).val = off a + (y a).val) :
    ((View.whole b).slice (Rect.unit off size inb)).read (Elt Ideal) X y = X i := by
  refine congrArg X (funext fun a => Fin.ext ?_)
  exact (ValueKit.view_emb_slice_whole_unit_val b off size inb y a).trans (hi a).symm

theorem blk_mem (b : Ref sig .tc) (off size : Fin b.ty.shape.rank → Nat) (inb) (i : b.ty.shape.Idx)
    (hi : ∀ a, off a ≤ (i a).val ∧ (i a).val < off a + size a) : i ∈ ((View.whole b).slice (Rect.unit off size inb)).set := by
  rw [View.set_slice_whole, Rect.mem_set_unit]; exact hi

variable (m : (ℓ : Loc nD τ sig) → Buf (Elt Ideal) ℓ) (c : Dev nD)

abbrev tokens : S65536x1024.Idx → EReal := m ((c.tc : Thread nD τ).loc main_arg0)
abbrev weights : S1024x4608.Idx → EReal := m ((c.tc : Thread nD τ).loc main_arg1)

theorem laid_eq : (V m c main_v0 : S1024x4608.Idx → EReal) = weights m c := by
  unfold V hostOps0
  after_results
  rfl

theorem word (n : Nat) (h : n < 128) : (BitVec.ofNat 32 n).toNat = n := by
  rw [BitVec.toNat_ofNat]; exact Nat.mod_eq_of_lt (by omega)

/-- The two blocks of a point. -/
abbrev rowsBlk (t : Fin cfg0.N) : S512x1024.Idx → EReal := iblk m c 0 t
abbrev weightsBlk (t : Fin cfg0.N) : S1024x4608.Idx → EReal := iblk m c 1 t

theorem iblk0_apply (t : Fin cfg0.N) (r : Fin 512) (k : Fin 1024) :
    rowsBlk m c t (ix2 r k) = row' (M := 65536) (tokens m c) (512 * (grid0.coords t 0).val + r.val) k := by
  have h0 : (grid0.coords t 0).val < 128 := (grid0.coords t 0).isLt
  have hr := r.isLt
  refine Eq.trans ?_ (row_of (tokens m c) (⟨512 * (grid0.coords t 0).val + r.val, by omega⟩ : Fin 65536) k).symm
  refine (blk_read main_arg0 _ _ _ (V m c main_arg0) (ix2 r k) (ix2 (⟨512 * (grid0.coords t 0).val + r.val, by omega⟩ : Fin 65536) k) (fun ax => ?_)).trans (congrFun (V_main_arg0 m c) _)
  match ax with
  | ⟨0, _⟩ =>
    show 512 * (grid0.coords t 0).val + r.val = (BitVec.ofNat 32 (grid0.coords t 0).val).toNat * 512 + r.val
    rw [word _ h0]; omega
  | ⟨1, _⟩ => exact (Nat.zero_add _).symm

theorem iblk1_eq (t : Fin cfg0.N) : weightsBlk m c t = weights m c := by
  refine Eq.trans (funext fun (y : S1024x4608.Idx) => ?_) (laid_eq m c)
  refine blk_read main_v0 _ _ _ (V m c main_v0) y y (fun ax => ?_)
  match ax with
  | ⟨0, _⟩ => exact (Nat.zero_add _).symm
  | ⟨1, _⟩ => exact (Nat.zero_add _).symm

/-- An entry of the product, as a point computes it and as a whole. -/
theorem entry_blk (t : Fin cfg0.N) (r : Nat) (hr : r < 512) (j : Nat) :
    entry (M := 512) (rowsBlk m c t) (weightsBlk m c t) r j = entry (M := 65536) (tokens m c) (weights m c) (512 * (grid0.coords t 0).val + r) j := by
  rw [iblk1_eq]
  exact Finset.sum_congr rfl fun k _ => congrArg (· * at' (weights m c) k j)
    ((row_of (rowsBlk m c t) (⟨r, hr⟩ : Fin 512) k).trans (iblk0_apply m c t (⟨r, hr⟩ : Fin 512) k))

theorem point_of (r : Nat) (h : r < 128) : ∃ t : Fin cfg0.N, (grid0.coords t 0).val = r := by
  obtain ⟨t, ht⟩ := Pipeline.Grid.coords_surjective grid0 (fun a => match a with | ⟨0, _⟩ => (⟨r, h⟩ : Fin 128))
  exact ⟨t, by rw [ht]⟩

/-- The array of dilation 1. -/
def product2 : S65536x1536.Idx → EReal := fun i => entry (M := 65536) (tokens m c) (weights m c) ((i 0).val) ((i 1).val)

theorem flushed2_eq (t : Fin cfg0.N) : (dats m 0 c).flushed 2 t = ((cfg0.win 2).blk t).view.read (Elt Ideal) (product2 m c) := by
  rw [Value.flushed2_A]
  refine funext fun (y : S512x1536.Idx) => ?_
  have h0 : (grid0.coords t 0).val < 128 := (grid0.coords t 0).isLt
  obtain ⟨r, f, rfl⟩ : ∃ (r : Fin 512) (f : Fin 1536), y = ix2 r f := ⟨y 0, y 1, eq_ix2 y⟩
  have hr := r.isLt
  have hf := f.isLt
  refine Eq.trans (out2_apply c (grid0.coords t) (ms0_0 t) (hs0_0 t) (ms0_1 t) (hs0_1 t) (ms0_2 t) (hs0_2 t) (ms0_3 t) (hs0_3 t) (ms0_4 t) (hs0_4 t) scM0_0 (Memref.isWhole_whole _) (rowsBlk m c t) (weightsBlk m c t) (ix2 r f)) ?_
  refine Eq.trans (entry_blk m c t (r.val) (by omega) _) ?_
  refine Eq.trans ?_ (blk_read main_v1_0 _ _ _ (product2 m c) (ix2 r f) (ix2 (⟨512 * (grid0.coords t 0).val + r.val, by omega⟩ : Fin 65536) f) (fun ax => ?_)).symm
  · refine congrArg₂ (entry (M := 65536) (tokens m c) (weights m c)) ?_ rfl
    show 512 * (grid0.coords t 0).val + (r.val) = 512 * (grid0.coords t 0).val + r.val
    omega
  · match ax with
    | ⟨0, _⟩ =>
      show 512 * (grid0.coords t 0).val + r.val = (BitVec.ofNat 32 (grid0.coords t 0).val).toNat * 512 + r.val
      rw [word _ h0]; omega
    | ⟨1, _⟩ =>
      show f.val = 0 * 1536 + f.val
      omega

theorem cover2 (i : S65536x1536.Idx) : ∃ t : Fin cfg0.N, (cfg0.win 2).flush t = true ∧ i ∈ ((cfg0.win 2).blk t).view.set := by
  have hi0 : (i 0).val < 65536 := (i 0).isLt
  have hi1 : (i 1).val < 1536 := (i 1).isLt
  obtain ⟨t, e0⟩ := point_of ((i 0).val / 512) (by omega)
  refine ⟨t, flush0_2 t, blk_mem main_v1_0 _ _ _ i (fun ax => ?_)⟩
  match ax with
  | ⟨0, _⟩ =>
    show (BitVec.ofNat 32 (grid0.coords t 0).val).toNat * 512 ≤ (i 0).val ∧ (i 0).val < (BitVec.ofNat 32 (grid0.coords t 0).val).toNat * 512 + 512
    rw [e0, word _ (by omega)]; omega
  | ⟨1, _⟩ =>
    show 0 * 1536 ≤ (i 1).val ∧ (i 1).val < 0 * 1536 + 1536
    omega

theorem final2 : (dats m 0 c).arrAt 2 cfg0.N = product2 m c :=
  (dats m 0 c).arrAt_eq_of_cover 2 (product2 m c) (fun t _ => flushed2_eq m c t) cover2

/-- The array of dilation 4. -/
def product3 : S16384x6144.Idx → EReal := fun i => entry (M := 65536) (tokens m c) (weights m c) (4 * (i 0).val + (i 1).val / 1536) (1536 * 1 + (i 1).val % 1536)

theorem flushed3_eq (t : Fin cfg0.N) : (dats m 0 c).flushed 3 t = ((cfg0.win 3).blk t).view.read (Elt Ideal) (product3 m c) := by
  rw [Value.flushed3_A]
  refine funext fun (y : S128x6144.Idx) => ?_
  have h0 : (grid0.coords t 0).val < 128 := (grid0.coords t 0).isLt
  obtain ⟨r, f, rfl⟩ : ∃ (r : Fin 128) (f : Fin 6144), y = ix2 r f := ⟨y 0, y 1, eq_ix2 y⟩
  have hr := r.isLt
  have hf := f.isLt
  refine Eq.trans (out3_apply c (grid0.coords t) (ms0_0 t) (hs0_0 t) (ms0_1 t) (hs0_1 t) (ms0_2 t) (hs0_2 t) (ms0_3 t) (hs0_3 t) (ms0_4 t) (hs0_4 t) scM0_0 (Memref.isWhole_whole _) (rowsBlk m c t) (weightsBlk m c t) (ix2 r f)) ?_
  refine Eq.trans (entry_blk m c t (4 * r.val + f.val / 1536) (by omega) _) ?_
  refine Eq.trans ?_ (blk_read main_v1_1 _ _ _ (product3 m c) (ix2 r f) (ix2 (⟨128 * (grid0.coords t 0).val + r.val, by omega⟩ : Fin 16384) f) (fun ax => ?_)).symm
  · refine congrArg₂ (entry (M := 65536) (tokens m c) (weights m c)) ?_ rfl
    show 512 * (grid0.coords t 0).val + (4 * r.val + f.val / 1536) = 4 * (128 * (grid0.coords t 0).val + r.val) + f.val / 1536
    omega
  · match ax with
    | ⟨0, _⟩ =>
      show 128 * (grid0.coords t 0).val + r.val = (BitVec.ofNat 32 (grid0.coords t 0).val).toNat * 128 + r.val
      rw [word _ h0]; omega
    | ⟨1, _⟩ =>
      show f.val = 0 * 6144 + f.val
      omega

theorem cover3 (i : S16384x6144.Idx) : ∃ t : Fin cfg0.N, (cfg0.win 3).flush t = true ∧ i ∈ ((cfg0.win 3).blk t).view.set := by
  have hi0 : (i 0).val < 16384 := (i 0).isLt
  have hi1 : (i 1).val < 6144 := (i 1).isLt
  obtain ⟨t, e0⟩ := point_of ((i 0).val / 128) (by omega)
  refine ⟨t, flush0_3 t, blk_mem main_v1_1 _ _ _ i (fun ax => ?_)⟩
  match ax with
  | ⟨0, _⟩ =>
    show (BitVec.ofNat 32 (grid0.coords t 0).val).toNat * 128 ≤ (i 0).val ∧ (i 0).val < (BitVec.ofNat 32 (grid0.coords t 0).val).toNat * 128 + 128
    rw [e0, word _ (by omega)]; omega
  | ⟨1, _⟩ =>
    show 0 * 6144 ≤ (i 1).val ∧ (i 1).val < 0 * 6144 + 6144
    omega

theorem final3 : (dats m 0 c).arrAt 3 cfg0.N = product3 m c :=
  (dats m 0 c).arrAt_eq_of_cover 3 (product3 m c) (fun t _ => flushed3_eq m c t) cover3

/-- The array of dilation 16. -/
def product4 : S4096x24576.Idx → EReal := fun i => entry (M := 65536) (tokens m c) (weights m c) (16 * (i 0).val + (i 1).val / 1536) (1536 * 2 + (i 1).val % 1536)

theorem flushed4_eq (t : Fin cfg0.N) : (dats m 0 c).flushed 4 t = ((cfg0.win 4).blk t).view.read (Elt Ideal) (product4 m c) := by
  rw [Value.flushed4_A]
  refine funext fun (y : S32x24576.Idx) => ?_
  have h0 : (grid0.coords t 0).val < 128 := (grid0.coords t 0).isLt
  obtain ⟨r, f, rfl⟩ : ∃ (r : Fin 32) (f : Fin 24576), y = ix2 r f := ⟨y 0, y 1, eq_ix2 y⟩
  have hr := r.isLt
  have hf := f.isLt
  refine Eq.trans (out4_apply c (grid0.coords t) (ms0_0 t) (hs0_0 t) (ms0_1 t) (hs0_1 t) (ms0_2 t) (hs0_2 t) (ms0_3 t) (hs0_3 t) (ms0_4 t) (hs0_4 t) scM0_0 (Memref.isWhole_whole _) (rowsBlk m c t) (weightsBlk m c t) (ix2 r f)) ?_
  refine Eq.trans (entry_blk m c t (16 * r.val + f.val / 1536) (by omega) _) ?_
  refine Eq.trans ?_ (blk_read main_v1_2 _ _ _ (product4 m c) (ix2 r f) (ix2 (⟨32 * (grid0.coords t 0).val + r.val, by omega⟩ : Fin 4096) f) (fun ax => ?_)).symm
  · refine congrArg₂ (entry (M := 65536) (tokens m c) (weights m c)) ?_ rfl
    show 512 * (grid0.coords t 0).val + (16 * r.val + f.val / 1536) = 16 * (32 * (grid0.coords t 0).val + r.val) + f.val / 1536
    omega
  · match ax with
    | ⟨0, _⟩ =>
      show 32 * (grid0.coords t 0).val + r.val = (BitVec.ofNat 32 (grid0.coords t 0).val).toNat * 32 + r.val
      rw [word _ h0]; omega
    | ⟨1, _⟩ =>
      show f.val = 0 * 24576 + f.val
      omega

theorem cover4 (i : S4096x24576.Idx) : ∃ t : Fin cfg0.N, (cfg0.win 4).flush t = true ∧ i ∈ ((cfg0.win 4).blk t).view.set := by
  have hi0 : (i 0).val < 4096 := (i 0).isLt
  have hi1 : (i 1).val < 24576 := (i 1).isLt
  obtain ⟨t, e0⟩ := point_of ((i 0).val / 32) (by omega)
  refine ⟨t, flush0_4 t, blk_mem main_v1_2 _ _ _ i (fun ax => ?_)⟩
  match ax with
  | ⟨0, _⟩ =>
    show (BitVec.ofNat 32 (grid0.coords t 0).val).toNat * 32 ≤ (i 0).val ∧ (i 0).val < (BitVec.ofNat 32 (grid0.coords t 0).val).toNat * 32 + 32
    rw [e0, word _ (by omega)]; omega
  | ⟨1, _⟩ =>
    show 0 * 24576 ≤ (i 1).val ∧ (i 1).val < 0 * 24576 + 24576
    omega

theorem final4 : (dats m 0 c).arrAt 4 cfg0.N = product4 m c :=
  (dats m 0 c).arrAt_eq_of_cover 4 (product4 m c) (fun t _ => flushed4_eq m c t) cover4

/-! ### The two sides -/

theorem ref_value2 : (Cert.Reference6Ideal.Read.val_main_v4 (F := Ideal) (tokens m c) (weights m c) : S65536x1536.Idx → EReal) = product2 m c :=
  ref2 (tokens m c) (weights m c)

theorem ref_value3 : (Cert.Reference6Ideal.Read.val_main_v6 (F := Ideal) (tokens m c) (weights m c) : S16384x6144.Idx → EReal) = product3 m c :=
  ref3 (tokens m c) (weights m c)

theorem ref_value4 : (Cert.Reference6Ideal.Read.val_main_v8 (F := Ideal) (tokens m c) (weights m c) : S4096x24576.Idx → EReal) = product4 m c :=
  ref4 (tokens m c) (weights m c)

end Cert.Linear6
-- ==== Proof.Linear.Value7.lean ====
module

public import proofs.«01_k».proof.Proof.Gen.Kernel7Ideal.Value
public import Idealize.ShloMosaic.Lib.MatmulPlain
public import Idealize.ShloMosaic.Lib.ValueIdx
public import Idealize.ShloMosaic.Lib.ValueLayoutCasts
public import Idealize.ShloMosaic.Lib.Pipeline.ValueKit.Tiles
public import Idealize.ShloMosaic.Lib.Pipeline.ValueKit.Geometry
public import Idealize.ShloMosaic.Lib.Pipeline.Covers

/-! The projection of MLA: the three arrays the grid leaves, row by row, from the tokens and the matrices in the kernel's
layout. -/

@[expose] public section

set_option maxRecDepth 16384

noncomputable section

namespace Cert.Linear7

open Cert.Kernel7Ideal Cert.Kernel7Ideal.Gen
open Idealize.ShloMosaic Idealize.ShloMosaic.TcCoe Idealize.ShloMosaic.ValueIdx
open Idealize.ShloMosaic.Pipeline (Dat Cfg Window)

/-! ### A row of the results -/

/-- An entry of a row of a matrix, 0 past the last column. -/
def col {M N : Nat} (A : (⟨2, ![M, N]⟩ : Shape).Idx → EReal) (r : Fin M) (j : Nat) : EReal := if h : j < N then A (ix2 r ⟨j, h⟩) else 0

theorem col_of {M N : Nat} (A : (⟨2, ![M, N]⟩ : Shape).Idx → EReal) (r : Fin M) (j : Fin N) : col A r j.val = A (ix2 r j) := dif_pos j.isLt

theorem col_lt {M N : Nat} (A : (⟨2, ![M, N]⟩ : Shape).Idx → EReal) (r : Fin M) (j : Nat) (h : j < N) : col A r j = A (ix2 r ⟨j, h⟩) := dif_pos h

/-- A row times a column of a matrix. -/
def dotc {K N : Nat} (f : Fin K → EReal) (W : (⟨2, ![K, N]⟩ : Shape).Idx → EReal) (j : Nat) : EReal := ∑ k : Fin K, f k * col W k j

/-- A row over the root of its mean square, times a gain. -/
def nrm {n : Nat} (d : EReal) (f g : Fin n → EReal) (j : Fin n) : EReal :=
  f j * Ideal.rsqrt (Ideal.div (∑ k : Fin n, f k * f k) d + Ideal.ofBits .f32 0x358637BD#32) * g j

/-- The factor of the queries. -/
abbrev factor : EReal := Ideal.ofBits .f32 0x3E16C740#32

/-- The latent row of the queries, and that of the keys and values. -/
def latq {N : Nat} (x : Fin 1024 → EReal) (W : (⟨2, ![1024, N]⟩ : Shape).Idx → EReal) (g : Fin 384 → EReal) : Fin 384 → EReal :=
  nrm (Ideal.ofBits .f32 0x43C00000#32) (fun j => dotc x W j.val) g
def latkv {N : Nat} (x : Fin 1024 → EReal) (W : (⟨2, ![1024, N]⟩ : Shape).Idx → EReal) (g : Fin 256 → EReal) : Fin 256 → EReal :=
  nrm (Ideal.ofBits .f32 0x43800000#32) (fun j => dotc x W (384 + j.val)) g

/-- A row of the queries, of the keys and of the values, in the kernel's layout. -/
def rowQ (x : Fin 1024 → EReal) (W : S1024x896.Idx → EReal) (g : Fin 384 → EReal) (A B : S384x2048.Idx → EReal) (ct st : Nat → EReal) (j : Nat) : EReal :=
  (dotc (latq x W g) A j * ct (j % 128) + dotc (latq x W g) B j * st (j % 128)) * factor
def rowK (x : Fin 1024 → EReal) (W : S1024x896.Idx → EReal) (g : Fin 256 → EReal) (A : S256x2048.Idx → EReal) (ct st : Nat → EReal) (j : Nat) : EReal :=
  dotc (latkv x W g) A j + (dotc x W (640 + j % 128) * ct (j % 128) + dotc x W (768 + j % 128) * st (j % 128))
def rowV (x : Fin 1024 → EReal) (W : S1024x896.Idx → EReal) (g : Fin 256 → EReal) (A : S256x1024.Idx → EReal) (j : Nat) : EReal :=
  dotc (latkv x W g) A j

/-! ### The body's blocks -/

section Body

theorem ld0 (x : Vec Ideal S256x1024 .f32) : View.ld (Val := Elt Ideal) x r0_0 = x := by
  funext y; exact View.ld_unit_apply_of (Val := Elt Ideal) (e := .f32) x _ _ _ _ _ (fun a => by match a with | ⟨0, _⟩ => exact (Nat.zero_add _).symm | ⟨1, _⟩ => exact (Nat.zero_add _).symm)
theorem ld0b (x : Vec Ideal S256x1024 .bf16) : View.ld (Val := Elt Ideal) x r0_0 = x := by
  funext y; exact View.ld_unit_apply_of (Val := Elt Ideal) (e := .bf16) x _ _ _ _ _ (fun a => by match a with | ⟨0, _⟩ => exact (Nat.zero_add _).symm | ⟨1, _⟩ => exact (Nat.zero_add _).symm)
theorem ld1 (x : Vec Ideal S1024x896 .bf16) : View.ld (Val := Elt Ideal) x r0_1 = x := by
  funext y; exact View.ld_unit_apply_of (Val := Elt Ideal) (e := .bf16) x _ _ _ _ _ (fun a => by match a with | ⟨0, _⟩ => exact (Nat.zero_add _).symm | ⟨1, _⟩ => exact (Nat.zero_add _).symm)
theorem ld2 (x : Vec Ideal S1x384 .f32) : View.ld (Val := Elt Ideal) x r0_2 = x := by
  funext y; exact View.ld_unit_apply_of (Val := Elt Ideal) (e := .f32) x _ _ _ _ _ (fun a => by match a with | ⟨0, _⟩ => exact (Nat.zero_add _).symm | ⟨1, _⟩ => exact (Nat.zero_add _).symm)
theorem ld3 (x : Vec Ideal S1x256 .f32) : View.ld (Val := Elt Ideal) x r0_3 = x := by
  funext y; exact View.ld_unit_apply_of (Val := Elt Ideal) (e := .f32) x _ _ _ _ _ (fun a => by match a with | ⟨0, _⟩ => exact (Nat.zero_add _).symm | ⟨1, _⟩ => exact (Nat.zero_add _).symm)
theorem ld4 (x : Vec Ideal S256x128 .f32) : View.ld (Val := Elt Ideal) x r0_4 = x := by
  funext y; exact View.ld_unit_apply_of (Val := Elt Ideal) (e := .f32) x _ _ _ _ _ (fun a => by match a with | ⟨0, _⟩ => exact (Nat.zero_add _).symm | ⟨1, _⟩ => exact (Nat.zero_add _).symm)

/-- A product of the body. -/
theorem times {K N : Nat} (d : DotDims ⟨2, ![256, K]⟩ ⟨2, ![K, N]⟩ ⟨2, ![256, N]⟩) (hd : d = DotDims.plain 256 K N)
    (x : FVec Ideal ⟨2, ![256, K]⟩ .bf16) (w : FVec Ideal ⟨2, ![K, N]⟩ .bf16) (h : (⟨2, ![K, N]⟩ : Shape).ShapeCasts ⟨2, ![K, N]⟩) (r : Fin 256) (f : Fin N) :
    matmul d none x (shapeCast ⟨2, ![K, N]⟩ w h : FVec Ideal ⟨2, ![K, N]⟩ .bf16)
      (constant ⟨2, ![256, N]⟩ .f32 0x00000000#32) (ix2 r f) = ∑ k : Fin K, (x (ix2 r k) : EReal) * (w (ix2 k f) : EReal) := by
  subst hd
  rw [shapeCast_self]
  refine (Ideal.matmul_plain_apply (M := 256) (K := K) (N := N) none x w _ r f).trans ?_
  show Ideal.ofBits .f32 0x00000000#32 + _ = _
  rw [Ideal.ofBits_zero_f32, zero_add]

abbrev rowOfX (x0 : Vec Ideal S256x1024 .f32) (r : Fin 256) : Fin 1024 → EReal := fun k => x0 (ix2 r k)

theorem pay1_apply (x0 : Vec Ideal S256x1024 .f32) (x1 : Vec Ideal S1024x896 .bf16) (r : Fin 256) (j : Fin 896) :
    k0_pay1 (F := Ideal) x0 x1 (ix2 r j) = dotc (rowOfX x0 r) x1 j.val := by
  unfold dotc
  refine (times (K := 1024) (N := 896) _ rfl x0 x1 _ r j).trans (Finset.sum_congr rfl fun k _ => ?_)
  rw [col_of]

theorem spread {α : Type} {n : Nat} (x : (⟨2, ![256, 1]⟩ : Shape).Idx → α) (h : (⟨2, ![256, 1]⟩ : Shape).Broadcasts ⟨2, ![256, n]⟩) (r : Fin 256) (d : Fin n) :
    broadcastTo ⟨2, ![256, n]⟩ x h (ix2 r d) = x (ix2 r 0) :=
  broadcastTo_apply x _ _ _ (fun a => by match a with | ⟨0, _⟩ => rfl | ⟨1, _⟩ => rfl)

theorem spreadRow384 {α : Type} (x : S1x384.Idx → α) (r : Fin 256) (d : Fin 384) :
    broadcastTo S256x384 x broadcasts_S1x384_S256x384 (ix2 r d) = x (ix2 0 d) :=
  broadcastTo_apply x _ _ _ (fun a => by match a with | ⟨0, _⟩ => rfl | ⟨1, _⟩ => rfl)
theorem spreadRow256 {α : Type} (x : S1x256.Idx → α) (r : Fin 256) (d : Fin 256) :
    broadcastTo S256x256 x broadcasts_S1x256_S256x256 (ix2 r d) = x (ix2 0 d) :=
  broadcastTo_apply x _ _ _ (fun a => by match a with | ⟨0, _⟩ => rfl | ⟨1, _⟩ => rfl)

theorem sum384 (x : FVec Ideal S256x384 .f32) (r : Fin 256) :
    multiReduction .add [1] S256 x 0x00000000#32 reduces_S256x384_S256 (.inl rfl) rfl (ix1 r) = ∑ k : Fin 384, x (ix2 r k) := by
  refine (Ideal.multiReduction_add_single x _ _ _ _ (ix1 r)).trans (Finset.sum_congr rfl fun k _ => congrArg x ?_)
  funext a; match a with | ⟨0, _⟩ => rfl | ⟨1, _⟩ => rfl
theorem sum256 (x : FVec Ideal S256x256 .f32) (r : Fin 256) :
    multiReduction .add [1] S256 x 0x00000000#32 reduces_S256x256_S256 (.inl rfl) rfl (ix1 r) = ∑ k : Fin 256, x (ix2 r k) := by
  refine (Ideal.multiReduction_add_single x _ _ _ _ (ix1 r)).trans (Finset.sum_congr rfl fun k _ => congrArg x ?_)
  funext a; match a with | ⟨0, _⟩ => rfl | ⟨1, _⟩ => rfl

/-- Columns from `o` on of the first product. -/
theorem cut {n : Nat} (o : Nat) (X : S256x896.Idx → EReal) (hs : S256x896.Slices ![0, o] ⟨2, ![256, n]⟩) (r : Fin 256) (f : Fin n) (j : Fin 896)
    (hj : j.val = o + f.val) : extractStridedSlice (⟨2, ![256, n]⟩ : Shape) ![0, o] X hs (ix2 r f) = X (ix2 r j) :=
  extractStridedSlice_apply ![0, o] X hs (ix2 r f) (ix2 r j) (fun a => by match a with | ⟨0, _⟩ => exact (Nat.zero_add _).symm | ⟨1, _⟩ => exact hj)

theorem pay2_apply (x0 : Vec Ideal S256x1024 .f32) (x1 : Vec Ideal S1024x896 .bf16) (x2 : Vec Ideal S1x384 .f32) (r : Fin 256) (j : Fin 384) :
    k0_pay2 (F := Ideal) x0 x1 x2 (ix2 r j) = latq (rowOfX x0 r) x1 (fun j => x2 (ix2 0 j)) j := by
  unfold k0_pay2 latq nrm
  have hz : ∀ k : Fin 384, extractStridedSlice S256x384 ![0, 0] (k0_pay1 (F := Ideal) x0 x1) slices_S256x896_o0_0_S256x384 (ix2 r k) = dotc (rowOfX x0 r) x1 k.val := fun k =>
    (cut 0 (k0_pay1 (F := Ideal) x0 x1) _ r k ⟨k.val, by omega⟩ (Nat.zero_add _).symm).trans (pay1_apply x0 x1 r _)
  generalize extractStridedSlice S256x384 ![0, 0] (k0_pay1 (F := Ideal) x0 x1) slices_S256x896_o0_0_S256x384 = z at hz ⊢
  show z (ix2 r j) * broadcastTo S256x384 _ _ (ix2 r j) * broadcastTo S256x384 _ _ (ix2 r j) = _
  rw [spread (n := 384), spreadRow384, shapeCast_self, hz j]
  refine congrArg (fun e : EReal => dotc (rowOfX x0 r) x1 j.val * e * x2 (ix2 0 j)) ?_
  show Ideal.rsqrt (Ideal.div (shapeCast S256x1 _ _ (ix2 r 0)) _ + _) = _
  rw [shapeCast_a_a1_apply, sum384]
  refine congrArg (fun e : EReal => Ideal.rsqrt (Ideal.div e (Ideal.ofBits .f32 0x43C00000#32) + Ideal.ofBits .f32 0x358637BD#32)) (Finset.sum_congr rfl fun k _ => ?_)
  show z (ix2 r k) * z (ix2 r k) = _
  rw [hz k]

theorem pay3_apply (x0 : Vec Ideal S256x1024 .f32) (x1 : Vec Ideal S1024x896 .bf16) (x3 : Vec Ideal S1x256 .f32) (r : Fin 256) (j : Fin 256) :
    k0_pay3 (F := Ideal) x0 x1 x3 (ix2 r j) = latkv (rowOfX x0 r) x1 (fun j => x3 (ix2 0 j)) j := by
  unfold k0_pay3 latkv nrm
  have hz : ∀ k : Fin 256, extractStridedSlice S256x256 ![0, 384] (k0_pay1 (F := Ideal) x0 x1) slices_S256x896_o0_384_S256x256 (ix2 r k) = dotc (rowOfX x0 r) x1 (384 + k.val) := fun k =>
    (cut 384 (k0_pay1 (F := Ideal) x0 x1) _ r k ⟨384 + k.val, by omega⟩ rfl).trans (pay1_apply x0 x1 r _)
  generalize extractStridedSlice S256x256 ![0, 384] (k0_pay1 (F := Ideal) x0 x1) slices_S256x896_o0_384_S256x256 = z at hz ⊢
  show z (ix2 r j) * broadcastTo S256x256 _ _ (ix2 r j) * broadcastTo S256x256 _ _ (ix2 r j) = _
  rw [spread (n := 256), spreadRow256, shapeCast_self, hz j]
  refine congrArg (fun e : EReal => dotc (rowOfX x0 r) x1 (384 + j.val) * e * x3 (ix2 0 j)) ?_
  show Ideal.rsqrt (Ideal.div (shapeCast S256x1 _ _ (ix2 r 0)) _ + _) = _
  rw [shapeCast_a_a1_apply, sum256]
  refine congrArg (fun e : EReal => Ideal.rsqrt (Ideal.div e (Ideal.ofBits .f32 0x43800000#32) + Ideal.ofBits .f32 0x358637BD#32)) (Finset.sum_congr rfl fun k _ => ?_)
  show z (ix2 r k) * z (ix2 r k) = _
  rw [hz k]

/-- A table repeated for the two heads of a pair. -/
theorem twice_apply (v : S256x128.Idx → EReal) (r : Fin 256) (f : Fin 256) :
    concatenate S256x256 1 [⟨S256x128, v⟩, ⟨S256x128, v⟩] concatenates_S256x128_S256x128_S256x256_d1 (ix2 r f) = col v r (f.val % 128) := by
  have hf := f.isLt
  by_cases h : f.val < 128
  · refine (concatenate_pair_apply_left (s₁ := S256x128) (s₂ := S256x128) (1 : Fin 2) v v _ (ix2 r f) rfl (ix2 r (⟨f.val, h⟩ : Fin 128))
      (fun b => by match b with | ⟨0, _⟩ => rfl | ⟨1, _⟩ => rfl)).trans ?_
    rw [Nat.mod_eq_of_lt h, col_lt v r f.val h]
  · refine (concatenate_pair_apply_right (s₁ := S256x128) (s₂ := S256x128) (1 : Fin 2) v v _ (ix2 r f) rfl rfl
      (ix2 r (⟨f.val - 128, by omega⟩ : Fin 128)) (fun b hb => by match b with | ⟨0, _⟩ => rfl | ⟨1, _⟩ => exact absurd rfl hb)
      (by show f.val - 128 + 128 = f.val; omega)).trans ?_
    rw [show f.val % 128 = f.val - 128 by omega, col_lt v r (f.val - 128) (by omega)]

theorem pay7_apply (x8 : Vec Ideal S256x128 .f32) (r f : Fin 256) : k0_pay7 (F := Ideal) x8 (ix2 r f) = col x8 r (f.val % 128) :=
  twice_apply x8 r f

theorem pay4_eq (x8 : Vec Ideal S256x128 .f32) : k0_pay4 (F := Ideal) x8 = x8 := shapeCast_self _ _

theorem pay5_eq (x8 : Vec Ideal S256x128 .f32) : k0_pay5 (F := Ideal) x8 = x8 := shapeCast_self _ _

theorem pay8_apply (x9 : Vec Ideal S256x128 .f32) (r f : Fin 256) : k0_pay8 (F := Ideal) x9 (ix2 r f) = col x9 r (f.val % 128) := by
  refine (twice_apply (k0_pay5 (F := Ideal) x9) r f).trans ?_
  rw [pay5_eq]

theorem pay9_apply (x0 : Vec Ideal S256x1024 .f32) (x1 : Vec Ideal S1024x896 .bf16) (x8 x9 : Vec Ideal S256x128 .f32) (r f : Fin 256) :
    k0_pay9 (F := Ideal) (k0_pay1 (F := Ideal) x0 x1) x8 x9 (ix2 r f)
      = dotc (rowOfX x0 r) x1 (640 + f.val % 128) * col x8 r (f.val % 128) + dotc (rowOfX x0 r) x1 (768 + f.val % 128) * col x9 r (f.val % 128) := by
  have hl : f.val % 128 < 128 := Nat.mod_lt _ (by decide)
  unfold k0_pay9
  refine (twice_apply _ r f).trans ?_
  refine (col_lt _ r (f.val % 128) hl).trans ?_
  rw [col_lt x8 r _ hl, col_lt x9 r _ hl, pay5_eq]
  refine congrArg₂ (fun a b : EReal => a * x8 (ix2 r ⟨f.val % 128, hl⟩) + b * x9 (ix2 r ⟨f.val % 128, hl⟩)) ?_ ?_
  · exact (cut 640 (k0_pay1 (F := Ideal) x0 x1) _ r (⟨f.val % 128, hl⟩ : Fin 128) ⟨640 + f.val % 128, by omega⟩ rfl).trans (pay1_apply x0 x1 r _)
  · exact (cut 768 (k0_pay1 (F := Ideal) x0 x1) _ r (⟨f.val % 128, hl⟩ : Fin 128) ⟨768 + f.val % 128, by omega⟩ rfl).trans (pay1_apply x0 x1 r _)

/-- A pair of heads of the queries, as the body computes it. -/
theorem pairQ (v20 : FVec Ideal S256x384 .bf16) (v51 v52 : FVec Ideal S256x256 .f32) (w w' : Vec Ideal S384x256 .bf16) (r f : Fin 256) :
    k0_pay15 (F := Ideal) v20 v51 v52 w w' (ix2 r f)
      = (((∑ k : Fin 384, (v20 (ix2 r k) : EReal) * (w (ix2 k f) : EReal)) * v51 (ix2 r f) + (∑ k : Fin 384, (v20 (ix2 r k) : EReal) * (w' (ix2 k f) : EReal)) * v52 (ix2 r f)) * factor : EReal) := by
  unfold k0_pay15
  refine congrArg₂ (fun a b : EReal => (a * v51 (ix2 r f) + b * v52 (ix2 r f)) * factor) ?_ ?_
  · exact times (K := 384) (N := 256) _ rfl v20 w _ r f
  · exact times (K := 384) (N := 256) _ rfl v20 w' _ r f

/-- A pair of heads of the keys, as the body computes it. -/
theorem pairK (v36 : FVec Ideal S256x256 .bf16) (v53 : FVec Ideal S256x256 .f32) (w : Vec Ideal S256x256 .bf16) (r f : Fin 256) :
    k0_pay14 (F := Ideal) v36 v53 w (ix2 r f)
      = ((∑ k : Fin 256, (v36 (ix2 r k) : EReal) * (w (ix2 k f) : EReal)) + v53 (ix2 r f) : EReal) := by
  unfold k0_pay14
  exact congrArg (fun a : EReal => a + v53 (ix2 r f)) (times (K := 256) (N := 256) _ rfl v36 w _ r f)

variable (x0 : Vec Ideal S256x1024 .f32) (x1 : Vec Ideal S1024x896 .bf16) (x2 : Vec Ideal S1x384 .f32) (x3 : Vec Ideal S1x256 .f32)
  (x4 x5 : Vec Ideal S384x2048 .bf16) (x6 : Vec Ideal S256x2048 .bf16) (x7 : Vec Ideal S256x1024 .bf16) (x8 x9 : Vec Ideal S256x128 .f32)

theorem val31 (r : Fin 256) (k : Fin 384) : k0_pay31 (F := Ideal) x0 x1 x2 x3 x4 x5 x6 x7 x8 x9 (ix2 r k) = latq (rowOfX x0 r) x1 (fun j => x2 (ix2 0 j)) k := by
  unfold k0_pay31; rw [ld0, ld1, ld2]; exact pay2_apply x0 x1 x2 r k
theorem val32 (r : Fin 256) (k : Fin 256) : k0_pay32 (F := Ideal) x0 x1 x2 x3 x4 x5 x6 x7 x8 x9 (ix2 r k) = latkv (rowOfX x0 r) x1 (fun j => x3 (ix2 0 j)) k := by
  unfold k0_pay32; rw [ld0, ld1, ld3]; exact pay3_apply x0 x1 x3 r k
theorem val34 (r f : Fin 256) : k0_pay34 (F := Ideal) x0 x1 x2 x3 x4 x5 x6 x7 x8 x9 (ix2 r f) = col x8 r (f.val % 128) := by
  unfold k0_pay34 k0_pay33; rw [ld4, pay4_eq]; exact pay7_apply x8 r f
theorem val35 (r f : Fin 256) : k0_pay35 (F := Ideal) x0 x1 x2 x3 x4 x5 x6 x7 x8 x9 (ix2 r f) = col x9 r (f.val % 128) := by
  unfold k0_pay35; rw [ld4]; exact pay8_apply x9 r f
theorem val36 (r f : Fin 256) : k0_pay36 (F := Ideal) x0 x1 x2 x3 x4 x5 x6 x7 x8 x9 (ix2 r f)
    = dotc (rowOfX x0 r) x1 (640 + f.val % 128) * col x8 r (f.val % 128) + dotc (rowOfX x0 r) x1 (768 + f.val % 128) * col x9 r (f.val % 128) := by
  unfold k0_pay36 k0_pay30 k0_pay33; rw [ld0, ld1, ld4, ld4, pay4_eq]; exact pay9_apply x0 x1 x8 x9 r f

/-- A column of a chunk. -/
theorem chunk {K N : Nat} (W : Vec Ideal ⟨2, ![K, N]⟩ .bf16) (o n : Nat)
    (inb : ∀ a, (![0, o] : Fin 2 → Nat) a + (![K, n] : Fin 2 → Nat) a ≤ (⟨2, ![K, N]⟩ : Shape).size a) (k : Fin K) (f : Fin n) :
    (View.ld (Val := Elt Ideal) W (Rect.unit (s := ⟨2, ![K, N]⟩) ![0, o] ![K, n] inb) (ix2 k f) : EReal) = col (M := K) (N := N) W k (o + f.val) := by
  have hW : o + n ≤ N := inb 1
  have hf := f.isLt
  refine Eq.trans ?_ (col_lt (M := K) (N := N) W k (o + f.val) (by omega)).symm
  refine View.ld_unit_apply_of (Val := Elt Ideal) (e := .bf16) W _ _ _ _ _ (fun a => ?_)
  match a with
  | ⟨0, _⟩ => exact (Nat.zero_add _).symm
  | ⟨1, _⟩ => rfl

theorem at0 (o : Nat) (inb : ∀ a, (![0, o] : Fin 2 → Nat) a + (![256, 256] : Fin 2 → Nat) a ≤ S256x2048.size a) (r f : Fin 256) :
    ((Rect.unit (s := S256x2048) ![0, o] ![256, 256] inb).emb (ix2 r f) 0 : Fin 256) = r :=
  Fin.ext ((Rect.idx_unit_val (s := S256x2048) ![0, o] ![256, 256] inb (ix2 r f) 0).trans (Nat.zero_add _))
theorem at1 (o : Nat) (inb : ∀ a, (![0, o] : Fin 2 → Nat) a + (![256, 256] : Fin 2 → Nat) a ≤ S256x2048.size a) (r f : Fin 256) :
    ((Rect.unit (s := S256x2048) ![0, o] ![256, 256] inb).emb (ix2 r f) 1).val = o + f.val :=
  Rect.idx_unit_val (s := S256x2048) ![0, o] ![256, 256] inb (ix2 r f) 1

theorem pieceQ (o : Nat) (ho : o % 128 = 0)
    (inbW : ∀ a, (![0, o] : Fin 2 → Nat) a + (![384, 256] : Fin 2 → Nat) a ≤ S384x2048.size a)
    (inbO : ∀ a, (![0, o] : Fin 2 → Nat) a + (![256, 256] : Fin 2 → Nat) a ≤ S256x2048.size a) (x : S256x256.Idx) (y : S256x256.Idx → EReal)
    (hy : y = k0_pay15 (F := Ideal) (k0_pay31 x0 x1 x2 x3 x4 x5 x6 x7 x8 x9) (k0_pay34 x0 x1 x2 x3 x4 x5 x6 x7 x8 x9) (k0_pay35 x0 x1 x2 x3 x4 x5 x6 x7 x8 x9)
      (View.ld (Val := Elt Ideal) x4 (Rect.unit (s := S384x2048) ![0, o] ![384, 256] inbW)) (View.ld (Val := Elt Ideal) x5 (Rect.unit (s := S384x2048) ![0, o] ![384, 256] inbW))) :
    y x = rowQ (rowOfX x0 ((Rect.unit (s := S256x2048) ![0, o] ![256, 256] inbO).emb x 0)) x1 (fun j => x2 (ix2 0 j)) x4 x5
      (col x8 ((Rect.unit (s := S256x2048) ![0, o] ![256, 256] inbO).emb x 0)) (col x9 ((Rect.unit (s := S256x2048) ![0, o] ![256, 256] inbO).emb x 0))
      ((Rect.unit (s := S256x2048) ![0, o] ![256, 256] inbO).emb x 1).val := by
  obtain ⟨r, f, rfl⟩ : ∃ (r : Fin 256) (f : Fin 256), x = ix2 r f := ⟨x 0, x 1, eq_ix2 x⟩
  rw [at0 o inbO r f, at1 o inbO r f, hy, pairQ, val34, val35]
  unfold rowQ
  rw [show (o + f.val) % 128 = f.val % 128 by omega]
  refine congrArg₂ (fun a b : EReal => (a * col x8 r (f.val % 128) + b * col x9 r (f.val % 128)) * factor) ?_ ?_
  · exact Finset.sum_congr rfl fun k _ => congrArg₂ (fun a b : EReal => a * b) (val31 x0 x1 x2 x3 x4 x5 x6 x7 x8 x9 r k) (chunk (K := 384) (N := 2048) x4 o 256 inbW k f)
  · exact Finset.sum_congr rfl fun k _ => congrArg₂ (fun a b : EReal => a * b) (val31 x0 x1 x2 x3 x4 x5 x6 x7 x8 x9 r k) (chunk (K := 384) (N := 2048) x5 o 256 inbW k f)

theorem pieceK (o : Nat) (ho : o % 128 = 0)
    (inbO : ∀ a, (![0, o] : Fin 2 → Nat) a + (![256, 256] : Fin 2 → Nat) a ≤ S256x2048.size a) (x : S256x256.Idx) (y : S256x256.Idx → EReal)
    (hy : y = k0_pay14 (F := Ideal) (k0_pay32 x0 x1 x2 x3 x4 x5 x6 x7 x8 x9) (k0_pay36 x0 x1 x2 x3 x4 x5 x6 x7 x8 x9)
      (View.ld (Val := Elt Ideal) x6 (Rect.unit (s := S256x2048) ![0, o] ![256, 256] inbO))) :
    y x = rowK (rowOfX x0 ((Rect.unit (s := S256x2048) ![0, o] ![256, 256] inbO).emb x 0)) x1 (fun j => x3 (ix2 0 j)) x6
      (col x8 ((Rect.unit (s := S256x2048) ![0, o] ![256, 256] inbO).emb x 0)) (col x9 ((Rect.unit (s := S256x2048) ![0, o] ![256, 256] inbO).emb x 0))
      ((Rect.unit (s := S256x2048) ![0, o] ![256, 256] inbO).emb x 1).val := by
  obtain ⟨r, f, rfl⟩ : ∃ (r : Fin 256) (f : Fin 256), x = ix2 r f := ⟨x 0, x 1, eq_ix2 x⟩
  rw [at0 o inbO r f, at1 o inbO r f, hy, pairK, val36]
  unfold rowK
  rw [show (o + f.val) % 128 = f.val % 128 by omega]
  refine congrArg (fun a : EReal => a + _) ?_
  exact Finset.sum_congr rfl fun k _ => congrArg₂ (fun a b : EReal => a * b) (val32 x0 x1 x2 x3 x4 x5 x6 x7 x8 x9 r k) (chunk (K := 256) (N := 2048) x6 o 256 inbO k f)

theorem out10_apply (r : Fin 256) (f : Fin 2048) : out0_10 (F := Ideal) x0 x1 x2 x3 x4 x5 x6 x7 x8 x9 (ix2 r f)
    = rowQ (rowOfX x0 r) x1 (fun j => x2 (ix2 0 j)) x4 x5 (col x8 r) (col x9 r) f.val := by
  unfold out0_10
  refine View.canon_apply_of_pieces (Val := Elt Ideal) (e := .bf16) (fun y : S256x2048.Idx => rowQ (rowOfX x0 (y 0)) x1 (fun j => x2 (ix2 0 j)) x4 x5 (col x8 (y 0)) (col x9 (y 0)) (y 1).val)
    _ (fun p hp => ?_) (ix2 r f) (cover0_10 _ _ _ _ _ _ _ _ _)
  simp only [List.mem_cons, List.not_mem_nil, or_false] at hp
  rcases hp with rfl | rfl | rfl | rfl | rfl | rfl | rfl | rfl
  · exact fun x => pieceQ x0 x1 x2 x3 x4 x5 x6 x7 x8 x9 1792 rfl inb_S384x2048_S384x256_0_1792 inb_S256x2048_S256x256_0_1792 x _ rfl
  · exact fun x => pieceQ x0 x1 x2 x3 x4 x5 x6 x7 x8 x9 1536 rfl inb_S384x2048_S384x256_0_1536 inb_S256x2048_S256x256_0_1536 x _ rfl
  · exact fun x => pieceQ x0 x1 x2 x3 x4 x5 x6 x7 x8 x9 1280 rfl inb_S384x2048_S384x256_0_1280 inb_S256x2048_S256x256_0_1280 x _ rfl
  · exact fun x => pieceQ x0 x1 x2 x3 x4 x5 x6 x7 x8 x9 1024 rfl inb_S384x2048_S384x256_0_1024 inb_S256x2048_S256x256_0_1024 x _ rfl
  · exact fun x => pieceQ x0 x1 x2 x3 x4 x5 x6 x7 x8 x9 768 rfl inb_S384x2048_S384x256_0_768 inb_S256x2048_S256x256_0_768 x _ rfl
  · exact fun x => pieceQ x0 x1 x2 x3 x4 x5 x6 x7 x8 x9 512 rfl inb_S384x2048_S384x256_0_512 inb_S256x2048_S256x256_0_512 x _ rfl
  · exact fun x => pieceQ x0 x1 x2 x3 x4 x5 x6 x7 x8 x9 256 rfl inb_S384x2048_S384x256_0_256 inb_S256x2048_S256x256_0_256 x _ rfl
  · exact fun x => pieceQ x0 x1 x2 x3 x4 x5 x6 x7 x8 x9 0 rfl inb_S384x2048_S384x256_0_0 inb_S256x2048_S256x256_0_0 x _ rfl

theorem out11_apply (r : Fin 256) (f : Fin 2048) : out0_11 (F := Ideal) x0 x1 x2 x3 x4 x5 x6 x7 x8 x9 (ix2 r f)
    = rowK (rowOfX x0 r) x1 (fun j => x3 (ix2 0 j)) x6 (col x8 r) (col x9 r) f.val := by
  unfold out0_11
  refine View.canon_apply_of_pieces (Val := Elt Ideal) (e := .bf16) (fun y : S256x2048.Idx => rowK (rowOfX x0 (y 0)) x1 (fun j => x3 (ix2 0 j)) x6 (col x8 (y 0)) (col x9 (y 0)) (y 1).val)
    _ (fun p hp => ?_) (ix2 r f) (cover0_11 _ _ _ _ _ _ _ _ _)
  simp only [List.mem_cons, List.not_mem_nil, or_false] at hp
  rcases hp with rfl | rfl | rfl | rfl | rfl | rfl | rfl | rfl
  · exact fun x => pieceK x0 x1 x2 x3 x4 x5 x6 x7 x8 x9 1792 rfl inb_S256x2048_S256x256_0_1792 x _ rfl
  · exact fun x => pieceK x0 x1 x2 x3 x4 x5 x6 x7 x8 x9 1536 rfl inb_S256x2048_S256x256_0_1536 x _ rfl
  · exact fun x => pieceK x0 x1 x2 x3 x4 x5 x6 x7 x8 x9 1280 rfl inb_S256x2048_S256x256_0_1280 x _ rfl
  · exact fun x => pieceK x0 x1 x2 x3 x4 x5 x6 x7 x8 x9 1024 rfl inb_S256x2048_S256x256_0_1024 x _ rfl
  · exact fun x => pieceK x0 x1 x2 x3 x4 x5 x6 x7 x8 x9 768 rfl inb_S256x2048_S256x256_0_768 x _ rfl
  · exact fun x => pieceK x0 x1 x2 x3 x4 x5 x6 x7 x8 x9 512 rfl inb_S256x2048_S256x256_0_512 x _ rfl
  · exact fun x => pieceK x0 x1 x2 x3 x4 x5 x6 x7 x8 x9 256 rfl inb_S256x2048_S256x256_0_256 x _ rfl
  · exact fun x => pieceK x0 x1 x2 x3 x4 x5 x6 x7 x8 x9 0 rfl inb_S256x2048_S256x256_0_0 x _ rfl

theorem out12_apply (r : Fin 256) (f : Fin 1024) : out0_12 (F := Ideal) x0 x1 x2 x3 x4 x5 x6 x7 x8 x9 (ix2 r f)
    = rowV (rowOfX x0 r) x1 (fun j => x3 (ix2 0 j)) x7 f.val := by
  unfold out0_12
  refine View.canon_apply_of_pieces (Val := Elt Ideal) (e := .bf16) (fun y : S256x1024.Idx => rowV (rowOfX x0 (y 0)) x1 (fun j => x3 (ix2 0 j)) x7 (y 1).val)
    _ (fun p hp => ?_) (ix2 r f) (cover0_12 _ _)
  simp only [List.mem_cons, List.not_mem_nil, or_false] at hp
  rcases hp with rfl
  intro x
  obtain ⟨r, f, rfl⟩ : ∃ (r : Fin 256) (f : Fin 1024), x = ix2 r f := ⟨x 0, x 1, eq_ix2 x⟩
  have e0 : ((Rect.unit (s := S256x1024) ![0, 0] ![256, 1024] inb_S256x1024_S256x1024_0_0).emb (ix2 r f) 0 : Fin 256) = r :=
    Fin.ext ((Rect.idx_unit_val (s := S256x1024) ![0, 0] ![256, 1024] inb_S256x1024_S256x1024_0_0 (ix2 r f) 0).trans (Nat.zero_add _))
  have e1 : ((Rect.unit (s := S256x1024) ![0, 0] ![256, 1024] inb_S256x1024_S256x1024_0_0).emb (ix2 r f) 1).val = f.val :=
    (Rect.idx_unit_val (s := S256x1024) ![0, 0] ![256, 1024] inb_S256x1024_S256x1024_0_0 (ix2 r f) 1).trans (Nat.zero_add _)
  show k0_pay6 (F := Ideal) (k0_pay32 x0 x1 x2 x3 x4 x5 x6 x7 x8 x9) (View.ld (Val := Elt Ideal) x7 r0_0) (ix2 r f)
    = rowV (rowOfX x0 ((Rect.unit (s := S256x1024) ![0, 0] ![256, 1024] inb_S256x1024_S256x1024_0_0).emb (ix2 r f) 0)) x1 (fun j => x3 (ix2 0 j)) x7
      ((Rect.unit (s := S256x1024) ![0, 0] ![256, 1024] inb_S256x1024_S256x1024_0_0).emb (ix2 r f) 1).val
  rw [e0, e1, ld0b]
  unfold k0_pay6 rowV dotc
  refine (times (K := 256) (N := 1024) _ rfl _ x7 _ r f).trans (Finset.sum_congr rfl fun k _ => ?_)
  exact congrArg₂ (fun a b : EReal => a * b) (val32 x0 x1 x2 x3 x4 x5 x6 x7 x8 x9 r k) (col_of x7 k f).symm

end Body

/-! ### The arrays -/

theorem blk_read (b : Ref sig .tc) (off size : Fin b.ty.shape.rank → Nat) (inb)
    (X : b.ty.shape.Idx → Elt Ideal b.ty.elt) (y : (Rect.unit off size inb).shape.Idx) (i : b.ty.shape.Idx)
    (hi : ∀ a, (i a).val = off a + (y a).val) :
    ((View.whole b).slice (Rect.unit off size inb)).read (Elt Ideal) X y = X i := by
  refine congrArg X (funext fun a => Fin.ext ?_)
  exact (ValueKit.view_emb_slice_whole_unit_val b off size inb y a).trans (hi a).symm

theorem blk_mem (b : Ref sig .tc) (off size : Fin b.ty.shape.rank → Nat) (inb) (i : b.ty.shape.Idx)
    (hi : ∀ a, off a ≤ (i a).val ∧ (i a).val < off a + size a) : i ∈ ((View.whole b).slice (Rect.unit off size inb)).set := by
  rw [View.set_slice_whole, Rect.mem_set_unit]; exact hi

variable (m : (ℓ : Loc nD τ sig) → Buf (Elt Ideal) ℓ) (c : Dev nD)

abbrev tokens : S65536x1024.Idx → EReal := m ((c.tc : Thread nD τ).loc main_arg0)
/-- The matrices, gains and tables as the host code lays them out. -/
abbrev laidIn : S1024x896.Idx → EReal := V m c main_v10
abbrev gainQ : S1x384.Idx → EReal := V m c main_v55
abbrev gainKV : S1x256.Idx → EReal := V m c main_v56
abbrev laidQ : S384x2048.Idx → EReal := V m c main_v15
abbrev laidQs : S384x2048.Idx → EReal := V m c main_v24
abbrev laidK : S256x2048.Idx → EReal := V m c main_v30
abbrev laidV : S256x1024.Idx → EReal := V m c main_v33
abbrev cosT : S2048x128.Idx → EReal := V m c main_v50
abbrev sinT : S2048x128.Idx → EReal := V m c main_v54

/-- A row of a point's block, as a row of the tokens; and the row of the tables it reads. -/
def rowOf (i : grid0.Coords) (r : Fin 256) : Fin 65536 := ⟨256 * (i 0).val + r.val, by have : (i 0).val < 256 := (i 0).isLt; omega⟩
def posOf (n : Fin 65536) : Fin 2048 := ⟨n.val % 2048, Nat.mod_lt _ (by decide)⟩

theorem word (n : Nat) (h : n < 256) : (BitVec.ofNat 32 n).toNat = n := by
  rw [BitVec.toNat_ofNat]; exact Nat.mod_eq_of_lt (by omega)

def point (n : Fin 256) : grid0.Coords := fun a => match a with | ⟨0, _⟩ => n

theorem tbl8_point : ∀ n : Fin 256, cc0_transform_8 (point n) 0 = n.val % 8 := by decide +kernel
theorem tbl9_point : ∀ n : Fin 256, cc0_transform_9 (point n) 0 = n.val % 8 := by decide +kernel

theorem point_eq (i : grid0.Coords) : i = point (i 0) := by
  funext a; match a with | ⟨0, _⟩ => rfl

theorem tbl8 (i : grid0.Coords) : cc0_transform_8 i 0 = (i 0).val % 8 := (congrArg (fun j => cc0_transform_8 j 0) (point_eq i)).trans (tbl8_point (i 0))
theorem tbl9 (i : grid0.Coords) : cc0_transform_9 i 0 = (i 0).val % 8 := (congrArg (fun j => cc0_transform_9 j 0) (point_eq i)).trans (tbl9_point (i 0))

/-- The blocks of a point. -/
abbrev blk0 (t : Fin cfg0.N) : S256x1024.Idx → EReal := iblk m c 0 t
abbrev blk1 (t : Fin cfg0.N) : S1024x896.Idx → EReal := iblk m c 1 t
abbrev blk2 (t : Fin cfg0.N) : S1x384.Idx → EReal := iblk m c 2 t
abbrev blk3 (t : Fin cfg0.N) : S1x256.Idx → EReal := iblk m c 3 t
abbrev blk4 (t : Fin cfg0.N) : S384x2048.Idx → EReal := iblk m c 4 t
abbrev blk5 (t : Fin cfg0.N) : S384x2048.Idx → EReal := iblk m c 5 t
abbrev blk6 (t : Fin cfg0.N) : S256x2048.Idx → EReal := iblk m c 6 t
abbrev blk7 (t : Fin cfg0.N) : S256x1024.Idx → EReal := iblk m c 7 t
abbrev blk8 (t : Fin cfg0.N) : S256x128.Idx → EReal := iblk m c 8 t
abbrev blk9 (t : Fin cfg0.N) : S256x128.Idx → EReal := iblk m c 9 t

theorem blk0_apply (t : Fin cfg0.N) (r : Fin 256) (k : Fin 1024) :
    blk0 m c t (ix2 r k) = tokens m c (ix2 (rowOf (grid0.coords t) r) k) := by
  have h0 : (grid0.coords t 0).val < 256 := (grid0.coords t 0).isLt
  refine (blk_read main_arg0 _ _ _ (V m c main_arg0) (ix2 r k) (ix2 (rowOf (grid0.coords t) r) k) (fun ax => ?_)).trans (congrFun (V_main_arg0 m c) _)
  match ax with
  | ⟨0, _⟩ =>
    show 256 * (grid0.coords t 0).val + r.val = (BitVec.ofNat 32 (grid0.coords t 0).val).toNat * 256 + r.val
    rw [word _ h0]; omega
  | ⟨1, _⟩ => exact (Nat.zero_add _).symm

theorem blk1_eq (t : Fin cfg0.N) : blk1 m c t = laidIn m c := by
  refine funext fun (y : S1024x896.Idx) => ?_
  refine blk_read main_v10 _ _ _ (V m c main_v10) y y (fun ax => ?_)
  match ax with
  | ⟨0, _⟩ => exact (Nat.zero_add _).symm
  | ⟨1, _⟩ => exact (Nat.zero_add _).symm

theorem blk2_eq (t : Fin cfg0.N) : blk2 m c t = gainQ m c := by
  refine funext fun (y : S1x384.Idx) => ?_
  refine blk_read main_v55 _ _ _ (V m c main_v55) y y (fun ax => ?_)
  match ax with
  | ⟨0, _⟩ => exact (Nat.zero_add _).symm
  | ⟨1, _⟩ => exact (Nat.zero_add _).symm

theorem blk3_eq (t : Fin cfg0.N) : blk3 m c t = gainKV m c := by
  refine funext fun (y : S1x256.Idx) => ?_
  refine blk_read main_v56 _ _ _ (V m c main_v56) y y (fun ax => ?_)
  match ax with
  | ⟨0, _⟩ => exact (Nat.zero_add _).symm
  | ⟨1, _⟩ => exact (Nat.zero_add _).symm

theorem blk4_eq (t : Fin cfg0.N) : blk4 m c t = laidQ m c := by
  refine funext fun (y : S384x2048.Idx) => ?_
  refine blk_read main_v15 _ _ _ (V m c main_v15) y y (fun ax => ?_)
  match ax with
  | ⟨0, _⟩ => exact (Nat.zero_add _).symm
  | ⟨1, _⟩ => exact (Nat.zero_add _).symm

theorem blk5_eq (t : Fin cfg0.N) : blk5 m c t = laidQs m c := by
  refine funext fun (y : S384x2048.Idx) => ?_
  refine blk_read main_v24 _ _ _ (V m c main_v24) y y (fun ax => ?_)
  match ax with
  | ⟨0, _⟩ => exact (Nat.zero_add _).symm
  | ⟨1, _⟩ => exact (Nat.zero_add _).symm

theorem blk6_eq (t : Fin cfg0.N) : blk6 m c t = laidK m c := by
  refine funext fun (y : S256x2048.Idx) => ?_
  refine blk_read main_v30 _ _ _ (V m c main_v30) y y (fun ax => ?_)
  match ax with
  | ⟨0, _⟩ => exact (Nat.zero_add _).symm
  | ⟨1, _⟩ => exact (Nat.zero_add _).symm

theorem blk7_eq (t : Fin cfg0.N) : blk7 m c t = laidV m c := by
  refine funext fun (y : S256x1024.Idx) => ?_
  refine blk_read main_v33 _ _ _ (V m c main_v33) y y (fun ax => ?_)
  match ax with
  | ⟨0, _⟩ => exact (Nat.zero_add _).symm
  | ⟨1, _⟩ => exact (Nat.zero_add _).symm

theorem blk8_apply (t : Fin cfg0.N) (r : Fin 256) (k : Fin 128) :
    blk8 m c t (ix2 r k) = cosT m c (ix2 (posOf (rowOf (grid0.coords t) r)) k) := by
  have h0 : (grid0.coords t 0).val < 256 := (grid0.coords t 0).isLt
  refine blk_read main_v50 _ _ _ (V m c main_v50) (ix2 r k) (ix2 (posOf (rowOf (grid0.coords t) r)) k) (fun ax => ?_)
  match ax with
  | ⟨0, _⟩ =>
    show (256 * (grid0.coords t 0).val + r.val) % 2048 = cc0_transform_8 (grid0.coords t) 0 * 256 + r.val
    rw [tbl8]; have := r.isLt; omega
  | ⟨1, _⟩ => exact (Nat.zero_add _).symm

theorem col8_eq (t : Fin cfg0.N) (r : Fin 256) :
    col (M := 256) (N := 128) (blk8 m c t) r = col (M := 2048) (N := 128) (cosT m c) (posOf (rowOf (grid0.coords t) r)) := by
  funext j
  unfold col
  split
  · exact blk8_apply m c t r _
  · rfl

theorem blk9_apply (t : Fin cfg0.N) (r : Fin 256) (k : Fin 128) :
    blk9 m c t (ix2 r k) = sinT m c (ix2 (posOf (rowOf (grid0.coords t) r)) k) := by
  have h0 : (grid0.coords t 0).val < 256 := (grid0.coords t 0).isLt
  refine blk_read main_v54 _ _ _ (V m c main_v54) (ix2 r k) (ix2 (posOf (rowOf (grid0.coords t) r)) k) (fun ax => ?_)
  match ax with
  | ⟨0, _⟩ =>
    show (256 * (grid0.coords t 0).val + r.val) % 2048 = cc0_transform_9 (grid0.coords t) 0 * 256 + r.val
    rw [tbl9]; have := r.isLt; omega
  | ⟨1, _⟩ => exact (Nat.zero_add _).symm

theorem col9_eq (t : Fin cfg0.N) (r : Fin 256) :
    col (M := 256) (N := 128) (blk9 m c t) r = col (M := 2048) (N := 128) (sinT m c) (posOf (rowOf (grid0.coords t) r)) := by
  funext j
  unfold col
  split
  · exact blk9_apply m c t r _
  · rfl

theorem rowX_eq (t : Fin cfg0.N) (r : Fin 256) : rowOfX (blk0 m c t) r = fun k => tokens m c (ix2 (rowOf (grid0.coords t) r) k) :=
  funext fun k => blk0_apply m c t r k

theorem point_of (r : Fin 65536) : ∃ t : Fin cfg0.N, (grid0.coords t 0).val = r.val / 256 := by
  obtain ⟨t, ht⟩ := Pipeline.Grid.coords_surjective grid0 (fun a => match a with | ⟨0, _⟩ => (⟨r.val / 256, by omega⟩ : Fin 256))
  exact ⟨t, by rw [ht]⟩

/-- The array of window 10: the queries. -/
def product10 : S65536x2048.Idx → EReal := fun i => rowQ (fun k => tokens m c (ix2 (i 0) k)) (laidIn m c) (fun j => gainQ m c (ix2 0 j)) (laidQ m c) (laidQs m c) (col (cosT m c) (posOf (i 0))) (col (sinT m c) (posOf (i 0))) (i 1).val

theorem flushed10_eq (t : Fin cfg0.N) : (dats m 0 c).flushed 10 t = ((cfg0.win 10).blk t).view.read (Elt Ideal) (product10 m c) := by
  rw [Value.flushed10]
  refine funext fun (y : S256x2048.Idx) => ?_
  have h0 : (grid0.coords t 0).val < 256 := (grid0.coords t 0).isLt
  obtain ⟨r, f, rfl⟩ : ∃ (r : Fin 256) (f : Fin 2048), y = ix2 r f := ⟨y 0, y 1, eq_ix2 y⟩
  refine Eq.trans (out10_apply (blk0 m c t) (blk1 m c t) (blk2 m c t) (blk3 m c t) (blk4 m c t) (blk5 m c t) (blk6 m c t) (blk7 m c t) (blk8 m c t) (blk9 m c t) r f) ?_
  rw [rowX_eq, blk1_eq, blk2_eq, blk4_eq, blk5_eq, col8_eq, col9_eq]
  refine (blk_read main_v57_0 _ _ _ (product10 m c) (ix2 r f) (ix2 (rowOf (grid0.coords t) r) f) (fun ax => ?_)).symm
  match ax with
  | ⟨0, _⟩ =>
    show 256 * (grid0.coords t 0).val + r.val = (BitVec.ofNat 32 (grid0.coords t 0).val).toNat * 256 + r.val
    rw [word _ h0]; omega
  | ⟨1, _⟩ => exact (Nat.zero_add _).symm

theorem cover10 (i : S65536x2048.Idx) : ∃ t : Fin cfg0.N, (cfg0.win 10).flush t = true ∧ i ∈ ((cfg0.win 10).blk t).view.set := by
  have hi0 : (i 0).val < 65536 := (i 0).isLt
  have hi1 : (i 1).val < 2048 := (i 1).isLt
  obtain ⟨t, e0⟩ := point_of (i 0)
  refine ⟨t, flush0_10 t, blk_mem main_v57_0 _ _ _ i (fun ax => ?_)⟩
  match ax with
  | ⟨0, _⟩ =>
    show (BitVec.ofNat 32 (grid0.coords t 0).val).toNat * 256 ≤ (i 0).val ∧ (i 0).val < (BitVec.ofNat 32 (grid0.coords t 0).val).toNat * 256 + 256
    rw [e0, word _ (by omega)]; omega
  | ⟨1, _⟩ =>
    show 0 * 2048 ≤ (i 1).val ∧ (i 1).val < 0 * 2048 + 2048
    omega

theorem final10 : (dats m 0 c).arrAt 10 cfg0.N = product10 m c :=
  (dats m 0 c).arrAt_eq_of_cover 10 (product10 m c) (fun t _ => flushed10_eq m c t) cover10

/-- The array of window 11: the keys. -/
def product11 : S65536x2048.Idx → EReal := fun i => rowK (fun k => tokens m c (ix2 (i 0) k)) (laidIn m c) (fun j => gainKV m c (ix2 0 j)) (laidK m c) (col (cosT m c) (posOf (i 0))) (col (sinT m c) (posOf (i 0))) (i 1).val

theorem flushed11_eq (t : Fin cfg0.N) : (dats m 0 c).flushed 11 t = ((cfg0.win 11).blk t).view.read (Elt Ideal) (product11 m c) := by
  rw [Value.flushed11]
  refine funext fun (y : S256x2048.Idx) => ?_
  have h0 : (grid0.coords t 0).val < 256 := (grid0.coords t 0).isLt
  obtain ⟨r, f, rfl⟩ : ∃ (r : Fin 256) (f : Fin 2048), y = ix2 r f := ⟨y 0, y 1, eq_ix2 y⟩
  refine Eq.trans (out11_apply (blk0 m c t) (blk1 m c t) (blk2 m c t) (blk3 m c t) (blk4 m c t) (blk5 m c t) (blk6 m c t) (blk7 m c t) (blk8 m c t) (blk9 m c t) r f) ?_
  rw [rowX_eq, blk1_eq, blk3_eq, blk6_eq, col8_eq, col9_eq]
  refine (blk_read main_v57_1 _ _ _ (product11 m c) (ix2 r f) (ix2 (rowOf (grid0.coords t) r) f) (fun ax => ?_)).symm
  match ax with
  | ⟨0, _⟩ =>
    show 256 * (grid0.coords t 0).val + r.val = (BitVec.ofNat 32 (grid0.coords t 0).val).toNat * 256 + r.val
    rw [word _ h0]; omega
  | ⟨1, _⟩ => exact (Nat.zero_add _).symm

theorem cover11 (i : S65536x2048.Idx) : ∃ t : Fin cfg0.N, (cfg0.win 11).flush t = true ∧ i ∈ ((cfg0.win 11).blk t).view.set := by
  have hi0 : (i 0).val < 65536 := (i 0).isLt
  have hi1 : (i 1).val < 2048 := (i 1).isLt
  obtain ⟨t, e0⟩ := point_of (i 0)
  refine ⟨t, flush0_11 t, blk_mem main_v57_1 _ _ _ i (fun ax => ?_)⟩
  match ax with
  | ⟨0, _⟩ =>
    show (BitVec.ofNat 32 (grid0.coords t 0).val).toNat * 256 ≤ (i 0).val ∧ (i 0).val < (BitVec.ofNat 32 (grid0.coords t 0).val).toNat * 256 + 256
    rw [e0, word _ (by omega)]; omega
  | ⟨1, _⟩ =>
    show 0 * 2048 ≤ (i 1).val ∧ (i 1).val < 0 * 2048 + 2048
    omega

theorem final11 : (dats m 0 c).arrAt 11 cfg0.N = product11 m c :=
  (dats m 0 c).arrAt_eq_of_cover 11 (product11 m c) (fun t _ => flushed11_eq m c t) cover11

/-- The array of window 12: the values. -/
def product12 : S65536x1024.Idx → EReal := fun i => rowV (fun k => tokens m c (ix2 (i 0) k)) (laidIn m c) (fun j => gainKV m c (ix2 0 j)) (laidV m c) (i 1).val

theorem flushed12_eq (t : Fin cfg0.N) : (dats m 0 c).flushed 12 t = ((cfg0.win 12).blk t).view.read (Elt Ideal) (product12 m c) := by
  rw [Value.flushed12]
  refine funext fun (y : S256x1024.Idx) => ?_
  have h0 : (grid0.coords t 0).val < 256 := (grid0.coords t 0).isLt
  obtain ⟨r, f, rfl⟩ : ∃ (r : Fin 256) (f : Fin 1024), y = ix2 r f := ⟨y 0, y 1, eq_ix2 y⟩
  refine Eq.trans (out12_apply (blk0 m c t) (blk1 m c t) (blk2 m c t) (blk3 m c t) (blk4 m c t) (blk5 m c t) (blk6 m c t) (blk7 m c t) (blk8 m c t) (blk9 m c t) r f) ?_
  rw [rowX_eq, blk1_eq, blk3_eq, blk7_eq]
  refine (blk_read main_v57_2 _ _ _ (product12 m c) (ix2 r f) (ix2 (rowOf (grid0.coords t) r) f) (fun ax => ?_)).symm
  match ax with
  | ⟨0, _⟩ =>
    show 256 * (grid0.coords t 0).val + r.val = (BitVec.ofNat 32 (grid0.coords t 0).val).toNat * 256 + r.val
    rw [word _ h0]; omega
  | ⟨1, _⟩ => exact (Nat.zero_add _).symm

theorem cover12 (i : S65536x1024.Idx) : ∃ t : Fin cfg0.N, (cfg0.win 12).flush t = true ∧ i ∈ ((cfg0.win 12).blk t).view.set := by
  have hi0 : (i 0).val < 65536 := (i 0).isLt
  have hi1 : (i 1).val < 1024 := (i 1).isLt
  obtain ⟨t, e0⟩ := point_of (i 0)
  refine ⟨t, flush0_12 t, blk_mem main_v57_2 _ _ _ i (fun ax => ?_)⟩
  match ax with
  | ⟨0, _⟩ =>
    show (BitVec.ofNat 32 (grid0.coords t 0).val).toNat * 256 ≤ (i 0).val ∧ (i 0).val < (BitVec.ofNat 32 (grid0.coords t 0).val).toNat * 256 + 256
    rw [e0, word _ (by omega)]; omega
  | ⟨1, _⟩ =>
    show 0 * 1024 ≤ (i 1).val ∧ (i 1).val < 0 * 1024 + 1024
    omega

theorem final12 : (dats m 0 c).arrAt 12 cfg0.N = product12 m c :=
  (dats m 0 c).arrAt_eq_of_cover 12 (product12 m c) (fun t _ => flushed12_eq m c t) cover12

end Cert.Linear7

end
-- ==== Proof.Linear.Layout7.lean ====
module

public import proofs.«01_k».proof.Proof.Linear.Value7

/-! The layout of MLA's projection: what the host code puts in the columns of the matrices and in the lanes of the tables. -/

@[expose] public section

set_option maxRecDepth 16384

noncomputable section

namespace Cert.Linear7

open Cert.Kernel7Ideal Cert.Kernel7Ideal.Gen
open Idealize.ShloMosaic Idealize.ShloMosaic.TcCoe Idealize.ShloMosaic.ValueIdx

/-! ### Columns, heads and lanes -/

section Lanes
variable {α : Type} {M n L N : Nat}

/-- Columns from `o` on. -/
theorem columns {N2 w : Nat} (o : Nat) (X : (⟨2, ![M, N2]⟩ : Shape).Idx → EReal) (hs : (⟨2, ![M, N2]⟩ : Shape).Slices ![0, o] ⟨2, ![M, w]⟩)
    (k : Fin M) (f : Fin w) (hb : o + f.val < N2) : extractStridedSlice (⟨2, ![M, w]⟩ : Shape) ![0, o] X hs (ix2 k f) = col X k (o + f.val) := by
  refine Eq.trans ?_ (col_lt X k (o + f.val) hb).symm
  exact extractStridedSlice_apply ![0, o] X hs (ix2 k f) (ix2 k ⟨o + f.val, hb⟩) (fun a => by match a with | ⟨0, _⟩ => exact (Nat.zero_add _).symm | ⟨1, _⟩ => rfl)

/-- Lanes from `o` on of every head. -/
theorem lanes {w : Nat} (o : Nat) (X : (⟨3, ![M, n, L]⟩ : Shape).Idx → α) (hs : (⟨3, ![M, n, L]⟩ : Shape).Slices ![0, 0, o] ⟨3, ![M, n, w]⟩)
    (k : Fin M) (h : Fin n) (e : Fin w) (e' : Fin L) (he : e'.val = o + e.val) :
    extractStridedSlice (⟨3, ![M, n, w]⟩ : Shape) ![0, 0, o] X hs (ix3 k h e) = X (ix3 k h e') :=
  extractStridedSlice_apply ![0, 0, o] X hs (ix3 k h e) (ix3 k h e') (fun a => by
    match a with | ⟨0, _⟩ => exact (Nat.zero_add _).symm | ⟨1, _⟩ => exact (Nat.zero_add _).symm | ⟨2, _⟩ => exact he)

theorem heads (x : (⟨2, ![M, N]⟩ : Shape).Idx → EReal) (hs : (⟨2, ![M, N]⟩ : Shape).ShapeCasts ⟨3, ![M, n, L]⟩)
    (r : Fin M) (h : Fin n) (e : Fin L) (j : Nat) (hj : j = h.val * L + e.val) (hN : N = n * L) :
    shapeCast (⟨3, ![M, n, L]⟩ : Shape) x hs (ix3 r h e) = col x r j := by
  have hb : j < N := by
    have := h.isLt; have := e.isLt
    calc j = h.val * L + e.val := hj
      _ < h.val * L + L := by omega
      _ = (h.val + 1) * L := by ring
      _ ≤ n * L := Nat.mul_le_mul_right L h.isLt
      _ = N := hN.symm
  refine Eq.trans ?_ (col_lt x r j hb).symm
  refine shapeCast_apply x hs (ix3 r h e) (ix2 r ⟨j, hb⟩) ?_
  rewrite [Shape.rowMajor_val_two, Shape.rowMajor_val_three]
  show r.val * N + j = (r.val * n + h.val) * L + e.val
  subst hN
  rw [hj]; ring

theorem flat (x : (⟨3, ![M, n, L]⟩ : Shape).Idx → EReal) (hs : (⟨3, ![M, n, L]⟩ : Shape).ShapeCasts ⟨2, ![M, N]⟩)
    (r : Fin M) (h : Fin n) (e : Fin L) (j : Nat) (hj : j = h.val * L + e.val) (hb : j < N) (hN : N = n * L) :
    col (shapeCast (⟨2, ![M, N]⟩ : Shape) x hs) r j = x (ix3 r h e) := by
  refine (col_lt _ r j hb).trans ?_
  refine shapeCast_apply x hs (ix2 r ⟨j, hb⟩) (ix3 r h e) ?_
  rewrite [Shape.rowMajor_val_two, Shape.rowMajor_val_three]
  show (r.val * n + h.val) * L + e.val = r.val * N + j
  subst hN
  rw [hj]; ring

theorem two_left {a b w : Nat} (x : (⟨3, ![M, n, a]⟩ : Shape).Idx → α) (y : (⟨3, ![M, n, b]⟩ : Shape).Idx → α)
    (hc : Shape.Concatenates [(⟨3, ![M, n, a]⟩ : Shape), ⟨3, ![M, n, b]⟩] ⟨3, ![M, n, w]⟩ 2)
    (r : Fin M) (h : Fin n) (e' : Fin w) (e : Fin a) (he : e.val = e'.val) :
    concatenate (⟨3, ![M, n, w]⟩ : Shape) 2 [⟨(⟨3, ![M, n, a]⟩ : Shape), x⟩, ⟨(⟨3, ![M, n, b]⟩ : Shape), y⟩] hc (ix3 r h e') = x (ix3 r h e) :=
  concatenate_pair_apply_left (s₁ := ⟨3, ![M, n, a]⟩) (s₂ := ⟨3, ![M, n, b]⟩) (2 : Fin 3) x y hc (ix3 r h e') rfl (ix3 r h e)
    (fun b => by match b with | ⟨0, _⟩ => rfl | ⟨1, _⟩ => rfl | ⟨2, _⟩ => exact he)

theorem two_right {a b w : Nat} (x : (⟨3, ![M, n, a]⟩ : Shape).Idx → α) (y : (⟨3, ![M, n, b]⟩ : Shape).Idx → α)
    (hc : Shape.Concatenates [(⟨3, ![M, n, a]⟩ : Shape), ⟨3, ![M, n, b]⟩] ⟨3, ![M, n, w]⟩ 2)
    (r : Fin M) (h : Fin n) (e' : Fin w) (e : Fin b) (he : e.val + a = e'.val) :
    concatenate (⟨3, ![M, n, w]⟩ : Shape) 2 [⟨(⟨3, ![M, n, a]⟩ : Shape), x⟩, ⟨(⟨3, ![M, n, b]⟩ : Shape), y⟩] hc (ix3 r h e') = y (ix3 r h e) :=
  concatenate_pair_apply_right (s₁ := ⟨3, ![M, n, a]⟩) (s₂ := ⟨3, ![M, n, b]⟩) (2 : Fin 3) x y hc (ix3 r h e') rfl rfl (ix3 r h e)
    (fun b hb => by match b with | ⟨0, _⟩ => rfl | ⟨1, _⟩ => rfl | ⟨2, _⟩ => exact absurd rfl hb) (by exact he)

end Lanes

/-! ### The matrices -/

/-- Zeros of a shape. -/
abbrev none0 (s : Shape) (h : S_.BroadcastsInDim s ![]) : s.Idx → EReal := broadcastInDim s ![] h (constant (F := Ideal) S_ .f32 0x00000000#32)

theorem none0_apply (s : Shape) (h : S_.BroadcastsInDim s ![]) (i : s.Idx) : none0 s h i = 0 := Ideal.ofBits_zero_f32

section Laid
variable (W : S1024x672.Idx → EReal) (A : S384x1536.Idx → EReal) (B : S256x2048.Idx → EReal)

abbrev ropeW : S1024x32.Idx → EReal := extractStridedSlice S1024x32 ![0, 640] W slices_S1024x672_S1024x32_0_640
abbrev swapW : S1024x32.Idx → EReal :=
  concatenate S1024x32 1 [⟨S1024x16, extractStridedSlice S1024x16 ![0, 16] (ropeW W) slices_S1024x32_S1024x16_0_16⟩,
    ⟨S1024x16, extractStridedSlice S1024x16 ![0, 0] (ropeW W) slices_S1024x32_S1024x16_0_0⟩] concatenates_S1024x16_S1024x16_S1024x32_d1

abbrev partsIn : List ((s : Shape) × (s.Idx → EReal)) :=
  [⟨S1024x640, extractStridedSlice S1024x640 ![0, 0] W slices_S1024x672_S1024x640_0_0⟩, ⟨S1024x64, none0 S1024x64 bcast_S_S1024x64⟩, ⟨S1024x32, ropeW W⟩,
   ⟨S1024x32, none0 S1024x32 bcast_S_S1024x32⟩, ⟨S1024x64, none0 S1024x64 bcast_S_S1024x64⟩, ⟨S1024x32, swapW W⟩, ⟨S1024x32, none0 S1024x32 bcast_S_S1024x32⟩]

def inW : S1024x896.Idx → EReal :=
  concatenate S1024x896 1 (partsIn W) concatenates_S1024x640_S1024x64_S1024x32_S1024x32_S1024x64_S1024x32_S1024x32_S1024x896_d1

theorem in0 (k : Fin 1024) (j : Nat) (f : Fin 640) (h : j = 0 + f.val) : col (inW W) k j = (extractStridedSlice S1024x640 ![0, 0] W slices_S1024x672_S1024x640_0_0) (ix2 k f) := by
  have hf := f.isLt
  have hj : j < 896 := by omega
  refine (col_lt (inW W) k j hj).trans ?_
  exact concatenate_apply_piece (t := S1024x896) 1 (partsIn W) _ (ix2 k (⟨j, hj⟩ : Fin 896)) 0 (by decide : 0 < 7) S1024x640 (extractStridedSlice S1024x640 ![0, 0] W slices_S1024x672_S1024x640_0_0) rfl rfl 0 rfl (ix2 k f)
    (fun b hb => by match b with | ⟨0, _⟩ => rfl | ⟨1, _⟩ => exact absurd rfl hb) (by exact h.symm)

theorem in1 (k : Fin 1024) (j : Nat) (f : Fin 64) (h : j = 640 + f.val) : col (inW W) k j = (none0 S1024x64 bcast_S_S1024x64) (ix2 k f) := by
  have hf := f.isLt
  have hj : j < 896 := by omega
  refine (col_lt (inW W) k j hj).trans ?_
  exact concatenate_apply_piece (t := S1024x896) 1 (partsIn W) _ (ix2 k (⟨j, hj⟩ : Fin 896)) 1 (by decide : 1 < 7) S1024x64 (none0 S1024x64 bcast_S_S1024x64) rfl rfl 640 rfl (ix2 k f)
    (fun b hb => by match b with | ⟨0, _⟩ => rfl | ⟨1, _⟩ => exact absurd rfl hb) (by exact h.symm)

theorem in2 (k : Fin 1024) (j : Nat) (f : Fin 32) (h : j = 704 + f.val) : col (inW W) k j = (ropeW W) (ix2 k f) := by
  have hf := f.isLt
  have hj : j < 896 := by omega
  refine (col_lt (inW W) k j hj).trans ?_
  exact concatenate_apply_piece (t := S1024x896) 1 (partsIn W) _ (ix2 k (⟨j, hj⟩ : Fin 896)) 2 (by decide : 2 < 7) S1024x32 (ropeW W) rfl rfl 704 rfl (ix2 k f)
    (fun b hb => by match b with | ⟨0, _⟩ => rfl | ⟨1, _⟩ => exact absurd rfl hb) (by exact h.symm)

theorem in3 (k : Fin 1024) (j : Nat) (f : Fin 32) (h : j = 736 + f.val) : col (inW W) k j = (none0 S1024x32 bcast_S_S1024x32) (ix2 k f) := by
  have hf := f.isLt
  have hj : j < 896 := by omega
  refine (col_lt (inW W) k j hj).trans ?_
  exact concatenate_apply_piece (t := S1024x896) 1 (partsIn W) _ (ix2 k (⟨j, hj⟩ : Fin 896)) 3 (by decide : 3 < 7) S1024x32 (none0 S1024x32 bcast_S_S1024x32) rfl rfl 736 rfl (ix2 k f)
    (fun b hb => by match b with | ⟨0, _⟩ => rfl | ⟨1, _⟩ => exact absurd rfl hb) (by exact h.symm)

theorem in4 (k : Fin 1024) (j : Nat) (f : Fin 64) (h : j = 768 + f.val) : col (inW W) k j = (none0 S1024x64 bcast_S_S1024x64) (ix2 k f) := by
  have hf := f.isLt
  have hj : j < 896 := by omega
  refine (col_lt (inW W) k j hj).trans ?_
  exact concatenate_apply_piece (t := S1024x896) 1 (partsIn W) _ (ix2 k (⟨j, hj⟩ : Fin 896)) 4 (by decide : 4 < 7) S1024x64 (none0 S1024x64 bcast_S_S1024x64) rfl rfl 768 rfl (ix2 k f)
    (fun b hb => by match b with | ⟨0, _⟩ => rfl | ⟨1, _⟩ => exact absurd rfl hb) (by exact h.symm)

theorem in5 (k : Fin 1024) (j : Nat) (f : Fin 32) (h : j = 832 + f.val) : col (inW W) k j = (swapW W) (ix2 k f) := by
  have hf := f.isLt
  have hj : j < 896 := by omega
  refine (col_lt (inW W) k j hj).trans ?_
  exact concatenate_apply_piece (t := S1024x896) 1 (partsIn W) _ (ix2 k (⟨j, hj⟩ : Fin 896)) 5 (by decide : 5 < 7) S1024x32 (swapW W) rfl rfl 832 rfl (ix2 k f)
    (fun b hb => by match b with | ⟨0, _⟩ => rfl | ⟨1, _⟩ => exact absurd rfl hb) (by exact h.symm)

theorem in6 (k : Fin 1024) (j : Nat) (f : Fin 32) (h : j = 864 + f.val) : col (inW W) k j = (none0 S1024x32 bcast_S_S1024x32) (ix2 k f) := by
  have hf := f.isLt
  have hj : j < 896 := by omega
  refine (col_lt (inW W) k j hj).trans ?_
  exact concatenate_apply_piece (t := S1024x896) 1 (partsIn W) _ (ix2 k (⟨j, hj⟩ : Fin 896)) 6 (by decide : 6 < 7) S1024x32 (none0 S1024x32 bcast_S_S1024x32) rfl rfl 864 rfl (ix2 k f)
    (fun b hb => by match b with | ⟨0, _⟩ => rfl | ⟨1, _⟩ => exact absurd rfl hb) (by exact h.symm)

theorem ropeW_apply (k : Fin 1024) (f : Fin 32) : ropeW W (ix2 k f) = col W k (640 + f.val) :=
  columns 640 W _ k f (by have := f.isLt; omega)

theorem swapW_apply (k : Fin 1024) (f : Fin 32) : swapW W (ix2 k f) = col W k (if f.val < 16 then 656 + f.val else 624 + f.val) := by
  have hf := f.isLt
  split
  · rename_i h
    refine (concatenate_pair_apply_left (s₁ := S1024x16) (s₂ := S1024x16) (1 : Fin 2) _ _ concatenates_S1024x16_S1024x16_S1024x32_d1 (ix2 k f) rfl (ix2 k (⟨f.val, h⟩ : Fin 16))
      (fun b => by match b with | ⟨0, _⟩ => rfl | ⟨1, _⟩ => rfl)).trans ?_
    refine (columns 16 (ropeW W) slices_S1024x32_S1024x16_0_16 k (⟨f.val, h⟩ : Fin 16) (by show 16 + f.val < 32; omega)).trans ?_
    refine (col_lt (ropeW W) k (16 + f.val) (by omega)).trans ?_
    refine (ropeW_apply W k _).trans (congrArg (col W k) ?_)
    show 640 + (16 + f.val) = 656 + f.val
    omega
  · rename_i h
    refine (concatenate_pair_apply_right (s₁ := S1024x16) (s₂ := S1024x16) (1 : Fin 2) _ _ concatenates_S1024x16_S1024x16_S1024x32_d1 (ix2 k f) rfl rfl (ix2 k (⟨f.val - 16, by omega⟩ : Fin 16))
      (fun b hb => by match b with | ⟨0, _⟩ => rfl | ⟨1, _⟩ => exact absurd rfl hb) (by show f.val - 16 + 16 = f.val; omega)).trans ?_
    refine (columns 0 (ropeW W) slices_S1024x32_S1024x16_0_0 k (⟨f.val - 16, by omega⟩ : Fin 16) (by show 0 + (f.val - 16) < 32; omega)).trans ?_
    refine (col_lt (ropeW W) k (0 + (f.val - 16)) (by omega)).trans ?_
    refine (ropeW_apply W k _).trans (congrArg (col W k) ?_)
    show 640 + (0 + (f.val - 16)) = 624 + f.val
    omega

theorem in_latent (k : Fin 1024) (j : Nat) (h : j < 640) : col (inW W) k j = col W k j := by
  refine (in0 W k j ⟨j, h⟩ (Nat.zero_add _).symm).trans ?_
  refine (columns 0 W _ k (⟨j, h⟩ : Fin 640) (by show 0 + j < 672; omega)).trans (congrArg (col W k) (Nat.zero_add _))

theorem in_zero (k : Fin 1024) (j : Nat) (h : (640 ≤ j ∧ j < 704) ∨ (736 ≤ j ∧ j < 832) ∨ (864 ≤ j ∧ j < 896)) : col (inW W) k j = 0 := by
  by_cases h1 : j < 704
  · exact (in1 W k j ⟨j - 640, by omega⟩ (by show j = 640 + (j - 640); omega)).trans (none0_apply _ _ _)
  by_cases h2 : j < 768
  · exact (in3 W k j ⟨j - 736, by omega⟩ (by show j = 736 + (j - 736); omega)).trans (none0_apply _ _ _)
  by_cases h3 : j < 832
  · exact (in4 W k j ⟨j - 768, by omega⟩ (by show j = 768 + (j - 768); omega)).trans (none0_apply _ _ _)
  · exact (in6 W k j ⟨j - 864, by omega⟩ (by show j = 864 + (j - 864); omega)).trans (none0_apply _ _ _)

theorem in_rope (k : Fin 1024) (j : Nat) (h : 704 ≤ j ∧ j < 736) : col (inW W) k j = col W k (j - 64) := by
  refine (in2 W k j ⟨j - 704, by omega⟩ (by show j = 704 + (j - 704); omega)).trans ?_
  refine (ropeW_apply W k _).trans (congrArg (col W k) ?_)
  show 640 + (j - 704) = j - 64
  omega

theorem in_swap (k : Fin 1024) (j : Nat) (h : 832 ≤ j ∧ j < 864) : col (inW W) k j = col W k (if j < 848 then j - 176 else j - 208) := by
  refine (in5 W k j ⟨j - 832, by omega⟩ (by show j = 832 + (j - 832); omega)).trans ?_
  refine (swapW_apply W k _).trans (congrArg (col W k) ?_)
  show (if j - 832 < 16 then 656 + (j - 832) else 624 + (j - 832)) = if j < 848 then j - 176 else j - 208
  split <;> split <;> omega

/-! Queries. -/

abbrev headsA : S384x16x96.Idx → EReal := shapeCast S384x16x96 A shapeCasts_S384x1536_S384x16x96

def qW : S384x2048.Idx → EReal :=
  shapeCast S384x2048 (concatenate S384x16x128 2 [⟨S384x16x96, headsA A⟩, ⟨S384x16x32, none0 S384x16x32 bcast_S_S384x16x32⟩] concatenates_S384x16x96_S384x16x32_S384x16x128_d2)
    shapeCasts_S384x16x128_S384x2048

theorem q_lane (k : Fin 384) (h e : Nat) (hh : h < 16) (he : e < 128) :
    col (qW A) k (128 * h + e) = if e < 96 then col A k (96 * h + e) else 0 := by
  refine (flat (M := 384) (n := 16) (L := 128) _ _ k ⟨h, hh⟩ ⟨e, he⟩ _ (by show 128 * h + e = h * 128 + e; omega) (by omega) rfl).trans ?_
  split
  · rename_i h1
    refine (two_left (headsA A) _ _ k ⟨h, hh⟩ ⟨e, he⟩ ⟨e, h1⟩ rfl).trans ?_
    exact heads (M := 384) (n := 16) (L := 96) A _ k ⟨h, hh⟩ ⟨e, h1⟩ _ (by show 96 * h + e = h * 96 + e; omega) rfl
  · rename_i h1
    exact (two_right (headsA A) _ _ k ⟨h, hh⟩ ⟨e, he⟩ (⟨e - 96, by omega⟩ : Fin 32) (by show e - 96 + 96 = e; omega)).trans (none0_apply _ _ _)

abbrev ropeA : S384x16x32.Idx → EReal := extractStridedSlice S384x16x32 ![0, 0, 64] (headsA A) slices_S384x16x96_S384x16x32_0_0_64
abbrev swapA : S384x16x32.Idx → EReal :=
  concatenate S384x16x32 2 [⟨S384x16x16, extractStridedSlice S384x16x16 ![0, 0, 16] (ropeA A) slices_S384x16x32_S384x16x16_0_0_16⟩,
    ⟨S384x16x16, extractStridedSlice S384x16x16 ![0, 0, 0] (ropeA A) slices_S384x16x32_S384x16x16_0_0_0⟩] concatenates_S384x16x16_S384x16x16_S384x16x32_d2
abbrev partsQs : List ((s : Shape) × (s.Idx → EReal)) :=
  [⟨S384x16x64, none0 S384x16x64 bcast_S_S384x16x64⟩, ⟨S384x16x32, swapA A⟩, ⟨S384x16x32, none0 S384x16x32 bcast_S_S384x16x32⟩]
abbrev headsQs : S384x16x128.Idx → EReal := concatenate S384x16x128 2 (partsQs A) concatenates_S384x16x64_S384x16x32_S384x16x32_S384x16x128_d2
def qsW : S384x2048.Idx → EReal := shapeCast S384x2048 (headsQs A) shapeCasts_S384x16x128_S384x2048

theorem qs0 (k : Fin 384) (h : Fin 16) (e : Fin 128) (f : Fin 64) (he : e.val = 0 + f.val) : headsQs A (ix3 k h e) = (none0 S384x16x64 bcast_S_S384x16x64) (ix3 k h f) :=
  concatenate_apply_piece (t := S384x16x128) 2 (partsQs A) _ (ix3 k h e) 0 (by decide : 0 < 3) S384x16x64 (none0 S384x16x64 bcast_S_S384x16x64) rfl rfl 0 rfl (ix3 k h f)
    (fun b hb => by match b with | ⟨0, _⟩ => rfl | ⟨1, _⟩ => rfl | ⟨2, _⟩ => exact absurd rfl hb) (by exact he.symm)

theorem qs1 (k : Fin 384) (h : Fin 16) (e : Fin 128) (f : Fin 32) (he : e.val = 64 + f.val) : headsQs A (ix3 k h e) = (swapA A) (ix3 k h f) :=
  concatenate_apply_piece (t := S384x16x128) 2 (partsQs A) _ (ix3 k h e) 1 (by decide : 1 < 3) S384x16x32 (swapA A) rfl rfl 64 rfl (ix3 k h f)
    (fun b hb => by match b with | ⟨0, _⟩ => rfl | ⟨1, _⟩ => rfl | ⟨2, _⟩ => exact absurd rfl hb) (by exact he.symm)

theorem qs2 (k : Fin 384) (h : Fin 16) (e : Fin 128) (f : Fin 32) (he : e.val = 96 + f.val) : headsQs A (ix3 k h e) = (none0 S384x16x32 bcast_S_S384x16x32) (ix3 k h f) :=
  concatenate_apply_piece (t := S384x16x128) 2 (partsQs A) _ (ix3 k h e) 2 (by decide : 2 < 3) S384x16x32 (none0 S384x16x32 bcast_S_S384x16x32) rfl rfl 96 rfl (ix3 k h f)
    (fun b hb => by match b with | ⟨0, _⟩ => rfl | ⟨1, _⟩ => rfl | ⟨2, _⟩ => exact absurd rfl hb) (by exact he.symm)

theorem ropeA_apply (k : Fin 384) (h : Fin 16) (f : Fin 32) : ropeA A (ix3 k h f) = col A k (96 * h.val + 64 + f.val) := by
  have hf := f.isLt
  refine (lanes 64 (headsA A) _ k h f (⟨64 + f.val, by omega⟩ : Fin 96) rfl).trans ?_
  exact heads (M := 384) (n := 16) (L := 96) A _ k h _ _ (by show 96 * h.val + 64 + f.val = h.val * 96 + (64 + f.val); omega) rfl

theorem swapA_apply (k : Fin 384) (h : Fin 16) (f : Fin 32) :
    swapA A (ix3 k h f) = col A k (if f.val < 16 then 96 * h.val + 80 + f.val else 96 * h.val + 48 + f.val) := by
  have hf := f.isLt
  split
  · rename_i h1
    refine (two_left _ _ concatenates_S384x16x16_S384x16x16_S384x16x32_d2 k h f (⟨f.val, h1⟩ : Fin 16) rfl).trans ?_
    refine (lanes 16 (ropeA A) _ k h (⟨f.val, h1⟩ : Fin 16) (⟨16 + f.val, by omega⟩ : Fin 32) rfl).trans ?_
    refine (ropeA_apply A k h _).trans (congrArg (col A k) ?_)
    show 96 * h.val + 64 + (16 + f.val) = _
    omega
  · rename_i h1
    refine (two_right _ _ concatenates_S384x16x16_S384x16x16_S384x16x32_d2 k h f (⟨f.val - 16, by omega⟩ : Fin 16) (by show f.val - 16 + 16 = f.val; omega)).trans ?_
    refine (lanes 0 (ropeA A) _ k h (⟨f.val - 16, by omega⟩ : Fin 16) (⟨f.val - 16, by omega⟩ : Fin 32) (Nat.zero_add _).symm).trans ?_
    refine (ropeA_apply A k h _).trans (congrArg (col A k) ?_)
    show 96 * h.val + 64 + (f.val - 16) = _
    omega

theorem qs_zero (k : Fin 384) (h e : Nat) (hh : h < 16) (he : e < 128) (hz : e < 64 ∨ 96 ≤ e) : col (qsW A) k (128 * h + e) = 0 := by
  refine (flat (M := 384) (n := 16) (L := 128) _ _ k ⟨h, hh⟩ ⟨e, he⟩ _ (by show 128 * h + e = h * 128 + e; omega) (by omega) rfl).trans ?_
  by_cases h1 : e < 64
  · exact (qs0 A k ⟨h, hh⟩ ⟨e, he⟩ ⟨e, h1⟩ (Nat.zero_add _).symm).trans (none0_apply _ _ _)
  · exact (qs2 A k ⟨h, hh⟩ ⟨e, he⟩ ⟨e - 96, by omega⟩ (by show e = 96 + (e - 96); omega)).trans (none0_apply _ _ _)

theorem qs_swap (k : Fin 384) (h e : Nat) (hh : h < 16) (he : 64 ≤ e ∧ e < 96) :
    col (qsW A) k (128 * h + e) = col A k (if e < 80 then 96 * h + e + 16 else 96 * h + e - 16) := by
  refine (flat (M := 384) (n := 16) (L := 128) _ _ k ⟨h, hh⟩ ⟨e, by omega⟩ _ (by show 128 * h + e = h * 128 + e; omega) (by omega) rfl).trans ?_
  refine (qs1 A k ⟨h, hh⟩ ⟨e, by omega⟩ ⟨e - 64, by omega⟩ (by show e = 64 + (e - 64); omega)).trans ?_
  refine (swapA_apply A k _ _).trans (congrArg (col A k) ?_)
  show (if e - 64 < 16 then 96 * h + 80 + (e - 64) else 96 * h + 48 + (e - 64)) = _
  split <;> split <;> omega

/-! Keys and values. -/

abbrev headsB : S256x16x128.Idx → EReal := shapeCast S256x16x128 B shapeCasts_S256x2048_S256x16x128
def kW : S256x2048.Idx → EReal :=
  shapeCast S256x2048 (concatenate S256x16x128 2 [⟨S256x16x64, extractStridedSlice S256x16x64 ![0, 0, 0] (headsB B) slices_S256x16x128_S256x16x64_0_0_0⟩,
    ⟨S256x16x64, none0 S256x16x64 bcast_S_S256x16x64⟩] concatenates_S256x16x64_S256x16x64_S256x16x128_d2) shapeCasts_S256x16x128_S256x2048
def vW : S256x1024.Idx → EReal :=
  shapeCast S256x1024 (extractStridedSlice S256x16x64 ![0, 0, 64] (headsB B) slices_S256x16x128_S256x16x64_0_0_64) shapeCasts_S256x16x64_S256x1024

theorem k_lane (k : Fin 256) (h e : Nat) (hh : h < 16) (he : e < 128) :
    col (kW B) k (128 * h + e) = if e < 64 then col B k (128 * h + e) else 0 := by
  refine (flat (M := 256) (n := 16) (L := 128) _ _ k ⟨h, hh⟩ ⟨e, he⟩ _ (by show 128 * h + e = h * 128 + e; omega) (by omega) rfl).trans ?_
  split
  · rename_i h1
    refine (two_left _ _ concatenates_S256x16x64_S256x16x64_S256x16x128_d2 k ⟨h, hh⟩ ⟨e, he⟩ ⟨e, h1⟩ rfl).trans ?_
    refine (lanes 0 (headsB B) _ k ⟨h, hh⟩ (⟨e, h1⟩ : Fin 64) (⟨e, he⟩ : Fin 128) (Nat.zero_add _).symm).trans ?_
    exact heads (M := 256) (n := 16) (L := 128) B _ k ⟨h, hh⟩ ⟨e, he⟩ _ (by show 128 * h + e = h * 128 + e; omega) rfl
  · rename_i h1
    exact (two_right _ _ concatenates_S256x16x64_S256x16x64_S256x16x128_d2 k ⟨h, hh⟩ ⟨e, he⟩ (⟨e - 64, by omega⟩ : Fin 64) (by show e - 64 + 64 = e; omega)).trans (none0_apply _ _ _)

theorem v_lane (k : Fin 256) (h e : Nat) (hh : h < 16) (he : e < 64) : col (vW B) k (64 * h + e) = col B k (128 * h + 64 + e) := by
  refine (flat (M := 256) (n := 16) (L := 64) _ _ k ⟨h, hh⟩ ⟨e, he⟩ _ (by show 64 * h + e = h * 64 + e; omega) (by omega) rfl).trans ?_
  refine (lanes 64 (headsB B) _ k ⟨h, hh⟩ (⟨e, he⟩ : Fin 64) (⟨64 + e, by omega⟩ : Fin 128) rfl).trans ?_
  exact heads (M := 256) (n := 16) (L := 128) B _ k ⟨h, hh⟩ _ _ (by show 128 * h + 64 + e = h * 128 + (64 + e); omega) rfl

end Laid

/-! ### The tables -/

/-- The angle of a position and a frequency. -/
def angles : S2048x16.Idx → EReal :=
  mulf (F := Ideal) (φ := .f32)
    (broadcastInDim S2048x16 ![0, 1] bcast_S2048x1_S2048x16_0_1 (broadcastInDim S2048x1 ![0] bcast_S2048_S2048x1_0 (sitofp (F := Ideal) .f32 (iotaInDim S2048 32 0))))
    (broadcastInDim S2048x16 ![0, 1] bcast_S1x16_S2048x16_0_1 (broadcastInDim S1x16 ![1] bcast_S16_S1x16_1
      (Host.powf (F := Ideal) (φ := .f32) (broadcastInDim S16 ![] bcast_S_S16 (constant (F := Ideal) S_ .f32 0x461C4000#32))
        (Host.divf (F := Ideal) (φ := .f32) (Host.negf (F := Ideal) (φ := .f32) (sitofp (F := Ideal) .f32 (iotaInDim S16 32 0)))
          (broadcastInDim S16 ![] bcast_S_S16 (constant (F := Ideal) S_ .f32 0x41800000#32))))))

def cosA : S2048x16.Idx → EReal := Host.cos (F := Ideal) (φ := .f32) angles
def sinA : S2048x16.Idx → EReal := Host.sin (F := Ideal) (φ := .f32) angles

abbrev ones : S2048x64.Idx → EReal := broadcastInDim S2048x64 ![] bcast_S_S2048x64 (constant (F := Ideal) S_ .f32 0x3F800000#32)
abbrev minus : S2048x16.Idx → EReal := Host.negf (F := Ideal) (φ := .f32) sinA
abbrev noSin : S2048x64.Idx → EReal := mulf (F := Ideal) (φ := .f32) (none0 S2048x64 bcast_S_S2048x64) ones

theorem bits_one : Ideal.ofBits .f32 0x3F800000#32 = 1 := by
  simp [Ideal.ofBits, Ideal.ieee, -EReal.coe_mul]; norm_num
theorem ones_apply (i : S2048x64.Idx) : ones i = 1 := bits_one
theorem noSin_apply (i : S2048x64.Idx) : noSin i = 0 :=
  (congrArg (fun z : EReal => z * ones i) (none0_apply S2048x64 bcast_S_S2048x64 i)).trans (zero_mul _)
theorem minus_apply (p : Fin 2048) (f : Fin 16) : minus (ix2 p f) = - col sinA p f.val := by
  rw [col_of]; rfl

abbrev partsCos : List ((s : Shape) × (s.Idx → EReal)) := [⟨S2048x64, ones⟩, ⟨S2048x16, cosA⟩, ⟨S2048x16, cosA⟩, ⟨S2048x32, none0 S2048x32 bcast_S_S2048x32⟩]
abbrev partsSin : List ((s : Shape) × (s.Idx → EReal)) := [⟨S2048x64, noSin⟩, ⟨S2048x16, minus⟩, ⟨S2048x16, sinA⟩, ⟨S2048x32, none0 S2048x32 bcast_S_S2048x32⟩]
def cosL : S2048x128.Idx → EReal := concatenate S2048x128 1 partsCos concatenates_S2048x64_S2048x16_S2048x16_S2048x32_S2048x128_d1
def sinL : S2048x128.Idx → EReal := concatenate S2048x128 1 partsSin concatenates_S2048x64_S2048x16_S2048x16_S2048x32_S2048x128_d1

theorem cosL0 (p : Fin 2048) (e : Nat) (f : Fin 64) (h : e = 0 + f.val) : col cosL p e = (ones) (ix2 p f) := by
  have hf := f.isLt
  have he : e < 128 := by omega
  refine (col_lt cosL p e he).trans ?_
  exact concatenate_apply_piece (t := S2048x128) 1 partsCos _ (ix2 p (⟨e, he⟩ : Fin 128)) 0 (by decide : 0 < 4) S2048x64 (ones) rfl rfl 0 rfl (ix2 p f)
    (fun b hb => by match b with | ⟨0, _⟩ => rfl | ⟨1, _⟩ => exact absurd rfl hb) (by exact h.symm)

theorem cosL1 (p : Fin 2048) (e : Nat) (f : Fin 16) (h : e = 64 + f.val) : col cosL p e = (cosA) (ix2 p f) := by
  have hf := f.isLt
  have he : e < 128 := by omega
  refine (col_lt cosL p e he).trans ?_
  exact concatenate_apply_piece (t := S2048x128) 1 partsCos _ (ix2 p (⟨e, he⟩ : Fin 128)) 1 (by decide : 1 < 4) S2048x16 (cosA) rfl rfl 64 rfl (ix2 p f)
    (fun b hb => by match b with | ⟨0, _⟩ => rfl | ⟨1, _⟩ => exact absurd rfl hb) (by exact h.symm)

theorem cosL2 (p : Fin 2048) (e : Nat) (f : Fin 16) (h : e = 80 + f.val) : col cosL p e = (cosA) (ix2 p f) := by
  have hf := f.isLt
  have he : e < 128 := by omega
  refine (col_lt cosL p e he).trans ?_
  exact concatenate_apply_piece (t := S2048x128) 1 partsCos _ (ix2 p (⟨e, he⟩ : Fin 128)) 2 (by decide : 2 < 4) S2048x16 (cosA) rfl rfl 80 rfl (ix2 p f)
    (fun b hb => by match b with | ⟨0, _⟩ => rfl | ⟨1, _⟩ => exact absurd rfl hb) (by exact h.symm)

theorem cosL3 (p : Fin 2048) (e : Nat) (f : Fin 32) (h : e = 96 + f.val) : col cosL p e = (none0 S2048x32 bcast_S_S2048x32) (ix2 p f) := by
  have hf := f.isLt
  have he : e < 128 := by omega
  refine (col_lt cosL p e he).trans ?_
  exact concatenate_apply_piece (t := S2048x128) 1 partsCos _ (ix2 p (⟨e, he⟩ : Fin 128)) 3 (by decide : 3 < 4) S2048x32 (none0 S2048x32 bcast_S_S2048x32) rfl rfl 96 rfl (ix2 p f)
    (fun b hb => by match b with | ⟨0, _⟩ => rfl | ⟨1, _⟩ => exact absurd rfl hb) (by exact h.symm)

theorem sinL0 (p : Fin 2048) (e : Nat) (f : Fin 64) (h : e = 0 + f.val) : col sinL p e = (noSin) (ix2 p f) := by
  have hf := f.isLt
  have he : e < 128 := by omega
  refine (col_lt sinL p e he).trans ?_
  exact concatenate_apply_piece (t := S2048x128) 1 partsSin _ (ix2 p (⟨e, he⟩ : Fin 128)) 0 (by decide : 0 < 4) S2048x64 (noSin) rfl rfl 0 rfl (ix2 p f)
    (fun b hb => by match b with | ⟨0, _⟩ => rfl | ⟨1, _⟩ => exact absurd rfl hb) (by exact h.symm)

theorem sinL1 (p : Fin 2048) (e : Nat) (f : Fin 16) (h : e = 64 + f.val) : col sinL p e = (minus) (ix2 p f) := by
  have hf := f.isLt
  have he : e < 128 := by omega
  refine (col_lt sinL p e he).trans ?_
  exact concatenate_apply_piece (t := S2048x128) 1 partsSin _ (ix2 p (⟨e, he⟩ : Fin 128)) 1 (by decide : 1 < 4) S2048x16 (minus) rfl rfl 64 rfl (ix2 p f)
    (fun b hb => by match b with | ⟨0, _⟩ => rfl | ⟨1, _⟩ => exact absurd rfl hb) (by exact h.symm)

theorem sinL2 (p : Fin 2048) (e : Nat) (f : Fin 16) (h : e = 80 + f.val) : col sinL p e = (sinA) (ix2 p f) := by
  have hf := f.isLt
  have he : e < 128 := by omega
  refine (col_lt sinL p e he).trans ?_
  exact concatenate_apply_piece (t := S2048x128) 1 partsSin _ (ix2 p (⟨e, he⟩ : Fin 128)) 2 (by decide : 2 < 4) S2048x16 (sinA) rfl rfl 80 rfl (ix2 p f)
    (fun b hb => by match b with | ⟨0, _⟩ => rfl | ⟨1, _⟩ => exact absurd rfl hb) (by exact h.symm)

theorem sinL3 (p : Fin 2048) (e : Nat) (f : Fin 32) (h : e = 96 + f.val) : col sinL p e = (none0 S2048x32 bcast_S_S2048x32) (ix2 p f) := by
  have hf := f.isLt
  have he : e < 128 := by omega
  refine (col_lt sinL p e he).trans ?_
  exact concatenate_apply_piece (t := S2048x128) 1 partsSin _ (ix2 p (⟨e, he⟩ : Fin 128)) 3 (by decide : 3 < 4) S2048x32 (none0 S2048x32 bcast_S_S2048x32) rfl rfl 96 rfl (ix2 p f)
    (fun b hb => by match b with | ⟨0, _⟩ => rfl | ⟨1, _⟩ => exact absurd rfl hb) (by exact h.symm)

theorem cos_plain (p : Fin 2048) (e : Nat) (h : e < 64) : col cosL p e = 1 := (cosL0 p e ⟨e, h⟩ (Nat.zero_add _).symm).trans (ones_apply _)
theorem cos_first (p : Fin 2048) (e : Nat) (h : 64 ≤ e ∧ e < 80) : col cosL p e = col cosA p (e - 64) :=
  (cosL1 p e ⟨e - 64, by omega⟩ (by show e = 64 + (e - 64); omega)).trans (col_lt cosA p (e - 64) (by omega)).symm
theorem cos_second (p : Fin 2048) (e : Nat) (h : 80 ≤ e ∧ e < 96) : col cosL p e = col cosA p (e - 80) :=
  (cosL2 p e ⟨e - 80, by omega⟩ (by show e = 80 + (e - 80); omega)).trans (col_lt cosA p (e - 80) (by omega)).symm
theorem cos_pad (p : Fin 2048) (e : Nat) (h : 96 ≤ e ∧ e < 128) : col cosL p e = 0 :=
  (cosL3 p e ⟨e - 96, by omega⟩ (by show e = 96 + (e - 96); omega)).trans (none0_apply _ _ _)
theorem sin_plain (p : Fin 2048) (e : Nat) (h : e < 64) : col sinL p e = 0 := (sinL0 p e ⟨e, h⟩ (Nat.zero_add _).symm).trans (noSin_apply _)
theorem sin_first (p : Fin 2048) (e : Nat) (h : 64 ≤ e ∧ e < 80) : col sinL p e = - col sinA p (e - 64) :=
  (sinL1 p e ⟨e - 64, by omega⟩ (by show e = 64 + (e - 64); omega)).trans (minus_apply p ⟨e - 64, by omega⟩)
theorem sin_second (p : Fin 2048) (e : Nat) (h : 80 ≤ e ∧ e < 96) : col sinL p e = col sinA p (e - 80) :=
  (sinL2 p e ⟨e - 80, by omega⟩ (by show e = 80 + (e - 80); omega)).trans (col_lt sinA p (e - 80) (by omega)).symm
theorem sin_pad (p : Fin 2048) (e : Nat) (h : 96 ≤ e ∧ e < 128) : col sinL p e = 0 :=
  (sinL3 p e ⟨e - 96, by omega⟩ (by show e = 96 + (e - 96); omega)).trans (none0_apply _ _ _)

/-! ### The host code -/

variable (m : (ℓ : Loc nD τ sig) → Buf (Elt Ideal) ℓ) (c : Dev nD)

abbrev argIn : S1024x672.Idx → EReal := m ((c.tc : Thread nD τ).loc main_arg1)
abbrev argGq : S384.Idx → EReal := m ((c.tc : Thread nD τ).loc main_arg2)
abbrev argGk : S256.Idx → EReal := m ((c.tc : Thread nD τ).loc main_arg3)
abbrev argQ : S384x1536.Idx → EReal := m ((c.tc : Thread nD τ).loc main_arg4)
abbrev argKV : S256x2048.Idx → EReal := m ((c.tc : Thread nD τ).loc main_arg5)

theorem catIn {x0 y0 : S1024x640.Idx → EReal} {x1 y1 : S1024x64.Idx → EReal} {x2 y2 : S1024x32.Idx → EReal} {x3 y3 : S1024x32.Idx → EReal} {x4 y4 : S1024x64.Idx → EReal} {x5 y5 : S1024x32.Idx → EReal} {x6 y6 : S1024x32.Idx → EReal}
    {h} (h0 : x0 = y0) (h1 : x1 = y1) (h2 : x2 = y2) (h3 : x3 = y3) (h4 : x4 = y4) (h5 : x5 = y5) (h6 : x6 = y6) :
    concatenate S1024x896 1 [⟨S1024x640, x0⟩, ⟨S1024x64, x1⟩, ⟨S1024x32, x2⟩, ⟨S1024x32, x3⟩, ⟨S1024x64, x4⟩, ⟨S1024x32, x5⟩, ⟨S1024x32, x6⟩] h
      = concatenate S1024x896 1 [⟨S1024x640, y0⟩, ⟨S1024x64, y1⟩, ⟨S1024x32, y2⟩, ⟨S1024x32, y3⟩, ⟨S1024x64, y4⟩, ⟨S1024x32, y5⟩, ⟨S1024x32, y6⟩] h := by
  subst h0 h1 h2 h3 h4 h5 h6; rfl

abbrev sourcesIn : Fin 7 → Ref sig .tc := ![main_v1, main_v2, main_v0, main_v3, main_v4, main_v7, main_v8]

theorem sourceIn0 (S : Valuation τ sig (Elt Ideal)) :
    (S (Proc.tc.devRef (sourcesIn 0)) : S1024x640.Idx → EReal) = StableHlo.after [] S (Proc.devRef .tc main_v1) := rfl
theorem sourceIn1 (S : Valuation τ sig (Elt Ideal)) :
    (S (Proc.tc.devRef (sourcesIn 1)) : S1024x64.Idx → EReal) = StableHlo.after [] S (Proc.devRef .tc main_v2) := rfl
theorem sourceIn2 (S : Valuation τ sig (Elt Ideal)) :
    (S (Proc.tc.devRef (sourcesIn 2)) : S1024x32.Idx → EReal) = StableHlo.after [] S (Proc.devRef .tc main_v0) := rfl
theorem sourceIn3 (S : Valuation τ sig (Elt Ideal)) :
    (S (Proc.tc.devRef (sourcesIn 3)) : S1024x32.Idx → EReal) = StableHlo.after [] S (Proc.devRef .tc main_v3) := rfl
theorem sourceIn4 (S : Valuation τ sig (Elt Ideal)) :
    (S (Proc.tc.devRef (sourcesIn 4)) : S1024x64.Idx → EReal) = StableHlo.after [] S (Proc.devRef .tc main_v4) := rfl
theorem sourceIn5 (S : Valuation τ sig (Elt Ideal)) :
    (S (Proc.tc.devRef (sourcesIn 5)) : S1024x32.Idx → EReal) = StableHlo.after [] S (Proc.devRef .tc main_v7) := rfl
theorem sourceIn6 (S : Valuation τ sig (Elt Ideal)) :
    (S (Proc.tc.devRef (sourcesIn 6)) : S1024x32.Idx → EReal) = StableHlo.after [] S (Proc.devRef .tc main_v8) := rfl

theorem laidIn_eq : laidIn m c = inW (argIn m c) := by
  show V m c main_v10 = _
  unfold V hostOps0; after_results
  refine congrArg (fun z : S1024x896.Idx → EReal => z) (catIn ?_ ?_ ?_ ?_ ?_ ?_ ?_)
  · refine (sourceIn0 _).trans ?_
    after_results <;> rfl
  · refine (sourceIn1 _).trans ?_
    after_results <;> rfl
  · refine (sourceIn2 _).trans ?_
    after_results <;> rfl
  · refine (sourceIn3 _).trans ?_
    after_results <;> rfl
  · refine (sourceIn4 _).trans ?_
    after_results <;> rfl
  · refine (sourceIn5 _).trans ?_
    after_results <;> rfl
  · refine (sourceIn6 _).trans ?_
    after_results <;> rfl

theorem laidQ_eq : laidQ m c = qW (argQ m c) := by
  show V m c main_v15 = _
  unfold V hostOps0; after_results; rfl

theorem catQs {x0 y0 : S384x16x64.Idx → EReal} {x1 y1 : S384x16x32.Idx → EReal} {x2 y2 : S384x16x32.Idx → EReal}
    {h} (h0 : x0 = y0) (h1 : x1 = y1) (h2 : x2 = y2) :
    concatenate S384x16x128 2 [⟨S384x16x64, x0⟩, ⟨S384x16x32, x1⟩, ⟨S384x16x32, x2⟩] h
      = concatenate S384x16x128 2 [⟨S384x16x64, y0⟩, ⟨S384x16x32, y1⟩, ⟨S384x16x32, y2⟩] h := by
  subst h0 h1 h2; rfl

abbrev sourcesQs : Fin 3 → Ref sig .tc := ![main_v16, main_v20, main_v21]

theorem sourceQs0 (S : Valuation τ sig (Elt Ideal)) :
    (S (Proc.tc.devRef (sourcesQs 0)) : S384x16x64.Idx → EReal) = StableHlo.after [] S (Proc.devRef .tc main_v16) := rfl
theorem sourceQs1 (S : Valuation τ sig (Elt Ideal)) :
    (S (Proc.tc.devRef (sourcesQs 1)) : S384x16x32.Idx → EReal) = StableHlo.after [] S (Proc.devRef .tc main_v20) := rfl
theorem sourceQs2 (S : Valuation τ sig (Elt Ideal)) :
    (S (Proc.tc.devRef (sourcesQs 2)) : S384x16x32.Idx → EReal) = StableHlo.after [] S (Proc.devRef .tc main_v21) := rfl

theorem laidQs_eq : laidQs m c = qsW (argQ m c) := by
  show V m c main_v24 = _
  unfold V hostOps0; after_results
  refine congrArg (fun z : S384x16x128.Idx → EReal => shapeCast S384x2048 z shapeCasts_S384x16x128_S384x2048) (catQs ?_ ?_ ?_)
  · refine (sourceQs0 _).trans ?_
    after_results <;> rfl
  · refine (sourceQs1 _).trans ?_
    after_results <;> rfl
  · refine (sourceQs2 _).trans ?_
    after_results <;> rfl

theorem laidK_eq : laidK m c = kW (argKV m c) := by
  show V m c main_v30 = _
  unfold V hostOps0; after_results; rfl

theorem laidV_eq : laidV m c = vW (argKV m c) := by
  show V m c main_v33 = _
  unfold V hostOps0; after_results; rfl

theorem catT {x0 y0 : S2048x64.Idx → EReal} {x1 y1 : S2048x16.Idx → EReal} {x2 y2 : S2048x16.Idx → EReal} {x3 y3 : S2048x32.Idx → EReal}
    {h} (h0 : x0 = y0) (h1 : x1 = y1) (h2 : x2 = y2) (h3 : x3 = y3) :
    concatenate S2048x128 1 [⟨S2048x64, x0⟩, ⟨S2048x16, x1⟩, ⟨S2048x16, x2⟩, ⟨S2048x32, x3⟩] h
      = concatenate S2048x128 1 [⟨S2048x64, y0⟩, ⟨S2048x16, y1⟩, ⟨S2048x16, y2⟩, ⟨S2048x32, y3⟩] h := by
  subst h0 h1 h2 h3; rfl

abbrev sourcesCos : Fin 4 → Ref sig .tc := ![main_v48, main_v46, main_v46, main_v49]

theorem sourceCos0 (S : Valuation τ sig (Elt Ideal)) :
    (S (Proc.tc.devRef (sourcesCos 0)) : S2048x64.Idx → EReal) = StableHlo.after [] S (Proc.devRef .tc main_v48) := rfl
theorem sourceCos1 (S : Valuation τ sig (Elt Ideal)) :
    (S (Proc.tc.devRef (sourcesCos 1)) : S2048x16.Idx → EReal) = StableHlo.after [] S (Proc.devRef .tc main_v46) := rfl
theorem sourceCos2 (S : Valuation τ sig (Elt Ideal)) :
    (S (Proc.tc.devRef (sourcesCos 2)) : S2048x16.Idx → EReal) = StableHlo.after [] S (Proc.devRef .tc main_v46) := rfl
theorem sourceCos3 (S : Valuation τ sig (Elt Ideal)) :
    (S (Proc.tc.devRef (sourcesCos 3)) : S2048x32.Idx → EReal) = StableHlo.after [] S (Proc.devRef .tc main_v49) := rfl

theorem cosT_eq : cosT m c = cosL := by
  show V m c main_v50 = _
  unfold V hostOps0; after_results
  refine congrArg (fun z : S2048x128.Idx → EReal => z) (catT ?_ ?_ ?_ ?_)
  · refine (sourceCos0 _).trans ?_
    after_results <;> rfl
  · refine (sourceCos1 _).trans ?_
    after_results <;> rfl
  · refine (sourceCos2 _).trans ?_
    after_results <;> rfl
  · refine (sourceCos3 _).trans ?_
    after_results <;> rfl

abbrev sourcesSin : Fin 4 → Ref sig .tc := ![main_v52, main_v53, main_v47, main_v49]

theorem sourceSin0 (S : Valuation τ sig (Elt Ideal)) :
    (S (Proc.tc.devRef (sourcesSin 0)) : S2048x64.Idx → EReal) = StableHlo.after [] S (Proc.devRef .tc main_v52) := rfl
theorem sourceSin1 (S : Valuation τ sig (Elt Ideal)) :
    (S (Proc.tc.devRef (sourcesSin 1)) : S2048x16.Idx → EReal) = StableHlo.after [] S (Proc.devRef .tc main_v53) := rfl
theorem sourceSin2 (S : Valuation τ sig (Elt Ideal)) :
    (S (Proc.tc.devRef (sourcesSin 2)) : S2048x16.Idx → EReal) = StableHlo.after [] S (Proc.devRef .tc main_v47) := rfl
theorem sourceSin3 (S : Valuation τ sig (Elt Ideal)) :
    (S (Proc.tc.devRef (sourcesSin 3)) : S2048x32.Idx → EReal) = StableHlo.after [] S (Proc.devRef .tc main_v49) := rfl

theorem sinT_eq : sinT m c = sinL := by
  show V m c main_v54 = _
  unfold V hostOps0; after_results
  refine congrArg (fun z : S2048x128.Idx → EReal => z) (catT ?_ ?_ ?_ ?_)
  · refine (sourceSin0 _).trans ?_
    after_results <;> rfl
  · refine (sourceSin1 _).trans ?_
    after_results <;> rfl
  · refine (sourceSin2 _).trans ?_
    after_results <;> rfl
  · refine (sourceSin3 _).trans ?_
    after_results <;> rfl

theorem gainQ_apply (j : Fin 384) : gainQ m c (ix2 0 j) = argGq m c (ix1 j) := by
  have e : gainQ m c = shapeCast S1x384 (argGq m c) shapeCasts_S384_S1x384 := by
    show V m c main_v55 = _
    unfold V hostOps0; after_results; rfl
  rw [e]
  refine shapeCast_apply (argGq m c) _ (ix2 0 j) (ix1 j) ?_
  rewrite [Shape.rowMajor_val_two, Shape.rowMajor_val_one]
  show j.val = 0 * 384 + j.val
  omega

theorem gainKV_apply (j : Fin 256) : gainKV m c (ix2 0 j) = argGk m c (ix1 j) := by
  have e : gainKV m c = shapeCast S1x256 (argGk m c) shapeCasts_S256_S1x256 := by
    show V m c main_v56 = _
    unfold V hostOps0; after_results; rfl
  rw [e]
  refine shapeCast_apply (argGk m c) _ (ix2 0 j) (ix1 j) ?_
  rewrite [Shape.rowMajor_val_two, Shape.rowMajor_val_one]
  show j.val = 0 * 256 + j.val
  omega

end Cert.Linear7

end
-- ==== Proof.Linear.Plain7.lean ====
module

public import proofs.«01_k».proof.Proof.Linear.Layout7
public import proofs.«01_k».proof.Proof.Gen.Reference7Ideal.Read

/-! The projection of MLA lane by lane: the kernel's three arrays and the reference's are the same plain rows. -/

@[expose] public section

set_option maxRecDepth 16384

noncomputable section

namespace Cert.Linear7

open Idealize.ShloMosaic Idealize.ShloMosaic.TcCoe Idealize.ShloMosaic.ValueIdx

/-! ### Plain rows -/

section Plain
variable (x : Fin 1024 → EReal) (W : Cert.Kernel7Ideal.S1024x672.Idx → EReal) (gq : Fin 384 → EReal) (gk : Fin 256 → EReal)
  (A : Cert.Kernel7Ideal.S384x1536.Idx → EReal) (B : Cert.Kernel7Ideal.S256x2048.Idx → EReal) (p : Fin 2048)

/-- Lane `e` of head `h` of the queries at position `p`, before the factor: 64 lanes as they are, 32 turned, 32 of zeros. -/
def laneQ (h e : Nat) : EReal :=
  if e < 64 then dotc (latq x W gq) A (96 * h + e)
  else if e < 80 then dotc (latq x W gq) A (96 * h + e) * col cosA p (e - 64) - dotc (latq x W gq) A (96 * h + (e + 16)) * col sinA p (e - 64)
  else if e < 96 then dotc (latq x W gq) A (96 * h + (e - 16)) * col sinA p (e - 80) + dotc (latq x W gq) A (96 * h + e) * col cosA p (e - 80)
  else 0

/-- Lane `e` of head `h` of the keys: 64 lanes of the head's own, 32 turned ones common to the heads, 32 of zeros. -/
def laneK (h e : Nat) : EReal :=
  if e < 64 then dotc (latkv x W gk) B (128 * h + e)
  else if e < 80 then dotc x W (576 + e) * col cosA p (e - 64) - dotc x W (592 + e) * col sinA p (e - 64)
  else if e < 96 then dotc x W (560 + e) * col sinA p (e - 80) + dotc x W (576 + e) * col cosA p (e - 80)
  else 0

theorem dotc_congr {K N N' : Nat} (f : Fin K → EReal) (U : (⟨2, ![K, N]⟩ : Shape).Idx → EReal) (V : (⟨2, ![K, N']⟩ : Shape).Idx → EReal) (i j : Nat)
    (h : ∀ k, col U k i = col V k j) : dotc f U i = dotc f V j :=
  Finset.sum_congr rfl fun k _ => congrArg (fun z : EReal => f k * z) (h k)

theorem dotc_zero {K N : Nat} (f : Fin K → EReal) (U : (⟨2, ![K, N]⟩ : Shape).Idx → EReal) (i : Nat) (h : ∀ k, col U k i = 0) : dotc f U i = 0 :=
  Finset.sum_eq_zero fun k _ => by rw [h k, mul_zero]

theorem latq_in : latq x (inW W) gq = latq x W gq :=
  congrArg (fun f : Fin 384 → EReal => nrm (Ideal.ofBits .f32 0x43C00000#32) f gq)
    (funext fun j => dotc_congr x (inW W) W _ _ (fun k => in_latent W k j.val (by have := j.isLt; omega)))
theorem latkv_in : latkv x (inW W) gk = latkv x W gk :=
  congrArg (fun f : Fin 256 → EReal => nrm (Ideal.ofBits .f32 0x43800000#32) f gk)
    (funext fun j => dotc_congr x (inW W) W _ _ (fun k => in_latent W k (384 + j.val) (by have := j.isLt; omega)))

theorem rowQ_eq (h e : Nat) (hh : h < 16) (he : e < 128) :
    rowQ x (inW W) gq (qW A) (qsW A) (col cosL p) (col sinL p) (128 * h + e) = laneQ x W gq A p h e * factor := by
  unfold rowQ laneQ
  rw [latq_in, show (128 * h + e) % 128 = e by omega]
  refine congrArg (fun z : EReal => z * factor) ?_
  have hq : e < 96 → dotc (latq x W gq) (qW A) (128 * h + e) = dotc (latq x W gq) A (96 * h + e) := fun h1 =>
    dotc_congr _ _ _ _ _ (fun k => (q_lane A k h e hh he).trans (if_pos h1))
  by_cases h1 : e < 64
  · rw [if_pos h1, cos_plain p e h1, sin_plain p e h1, mul_one, mul_zero, add_zero, hq (by omega)]
  rw [if_neg h1]
  by_cases h2 : e < 80
  · rw [if_pos h2, cos_first p e ⟨by omega, h2⟩, sin_first p e ⟨by omega, h2⟩, hq (by omega), mul_neg, sub_eq_add_neg,
      dotc_congr (latq x W gq) (qsW A) A (128 * h + e) (96 * h + (e + 16)) (fun k => (qs_swap A k h e hh ⟨by omega, by omega⟩).trans (by rw [if_pos h2]; rfl))]
  rw [if_neg h2]
  by_cases h3 : e < 96
  · rw [if_pos h3, cos_second p e ⟨by omega, h3⟩, sin_second p e ⟨by omega, h3⟩, hq h3,
      dotc_congr (latq x W gq) (qsW A) A (128 * h + e) (96 * h + (e - 16)) (fun k => (qs_swap A k h e hh ⟨by omega, by omega⟩).trans
        (by rw [if_neg h2, show 96 * h + e - 16 = 96 * h + (e - 16) by omega])), add_comm]
  · rw [if_neg h3, cos_pad p e ⟨by omega, he⟩, sin_pad p e ⟨by omega, he⟩, mul_zero, mul_zero, add_zero]

theorem rowK_eq (h e : Nat) (hh : h < 16) (he : e < 128) :
    rowK x (inW W) gk (kW B) (col cosL p) (col sinL p) (128 * h + e) = laneK x W gk B p h e := by
  unfold rowK laneK
  rw [latkv_in, show (128 * h + e) % 128 = e by omega]
  by_cases h1 : e < 64
  · rw [if_pos h1, dotc_zero x (inW W) (640 + e) (fun k => in_zero W k _ (Or.inl ⟨by omega, by omega⟩)),
      dotc_zero x (inW W) (768 + e) (fun k => in_zero W k _ (Or.inr (Or.inl ⟨by omega, by omega⟩))), zero_mul, zero_mul, add_zero, add_zero]
    exact dotc_congr _ _ _ _ _ (fun k => (k_lane B k h e hh he).trans (if_pos h1))
  rw [if_neg h1, dotc_zero (latkv x W gk) (kW B) (128 * h + e) (fun k => (k_lane B k h e hh he).trans (if_neg h1)), zero_add]
  by_cases h2 : e < 80
  · rw [if_pos h2, cos_first p e ⟨by omega, h2⟩, sin_first p e ⟨by omega, h2⟩, mul_neg, sub_eq_add_neg,
      dotc_congr x (inW W) W (640 + e) (576 + e) (fun k => (in_rope W k _ ⟨by omega, by omega⟩).trans (congrArg (col W k) (by omega))),
      dotc_congr x (inW W) W (768 + e) (592 + e) (fun k => (in_swap W k _ ⟨by omega, by omega⟩).trans (congrArg (col W k) (by split <;> omega)))]
  rw [if_neg h2]
  by_cases h3 : e < 96
  · rw [if_pos h3, cos_second p e ⟨by omega, h3⟩, sin_second p e ⟨by omega, h3⟩,
      dotc_congr x (inW W) W (640 + e) (576 + e) (fun k => (in_rope W k _ ⟨by omega, by omega⟩).trans (congrArg (col W k) (by omega))),
      dotc_congr x (inW W) W (768 + e) (560 + e) (fun k => (in_swap W k _ ⟨by omega, by omega⟩).trans (congrArg (col W k) (by split <;> omega))), add_comm]
  · rw [if_neg h3, cos_pad p e ⟨by omega, he⟩, sin_pad p e ⟨by omega, he⟩, mul_zero, mul_zero, add_zero]

theorem rowV_eq (h e : Nat) (hh : h < 16) (he : e < 64) : rowV x (inW W) gk (vW B) (64 * h + e) = dotc (latkv x W gk) B (128 * h + 64 + e) := by
  unfold rowV
  rw [latkv_in]
  exact dotc_congr _ _ _ _ _ (fun k => v_lane B k h e hh he)

end Plain

/-! ### The plain arrays -/

section Arrays
variable (X : Cert.Kernel7Ideal.S65536x1024.Idx → EReal) (W : Cert.Kernel7Ideal.S1024x672.Idx → EReal) (G : Cert.Kernel7Ideal.S384.Idx → EReal)
  (H : Cert.Kernel7Ideal.S256.Idx → EReal) (A : Cert.Kernel7Ideal.S384x1536.Idx → EReal) (B : Cert.Kernel7Ideal.S256x2048.Idx → EReal)

abbrev rowAt (n : Fin 65536) : Fin 1024 → EReal := fun k => X (ix2 n k)

def plainQ : Cert.Kernel7Ideal.S65536x2048.Idx → EReal := fun i =>
  laneQ (rowAt X (i 0)) W (fun j => G (ix1 j)) A (posOf (i 0)) ((i 1).val / 128) ((i 1).val % 128) * factor
def plainK : Cert.Kernel7Ideal.S65536x2048.Idx → EReal := fun i =>
  laneK (rowAt X (i 0)) W (fun j => H (ix1 j)) B (posOf (i 0)) ((i 1).val / 128) ((i 1).val % 128)
def plainV : Cert.Kernel7Ideal.S65536x1024.Idx → EReal := fun i =>
  dotc (latkv (rowAt X (i 0)) W (fun j => H (ix1 j))) B (128 * ((i 1).val / 64) + 64 + (i 1).val % 64)

end Arrays

section Kernel
open Cert.Kernel7Ideal Cert.Kernel7Ideal.Gen
variable (m : (ℓ : Loc nD τ sig) → Buf (Elt Ideal) ℓ) (c : Dev nD)

theorem gainQ_fun : (fun j : Fin 384 => gainQ m c (ix2 0 j)) = fun j => argGq m c (ix1 j) := funext fun j => gainQ_apply m c j
theorem gainKV_fun : (fun j : Fin 256 => gainKV m c (ix2 0 j)) = fun j => argGk m c (ix1 j) := funext fun j => gainKV_apply m c j

theorem product10_eq : product10 m c = plainQ (tokens m c) (argIn m c) (argGq m c) (argQ m c) := by
  funext y
  have h1 : (y 1).val < 2048 := (y 1).isLt
  unfold product10 plainQ
  rw [laidIn_eq, laidQ_eq, laidQs_eq, cosT_eq, sinT_eq, gainQ_fun, ← rowQ_eq _ _ _ _ _ _ _ (by omega) (by omega),
    show 128 * ((y 1).val / 128) + (y 1).val % 128 = (y 1).val by omega]

theorem product11_eq : product11 m c = plainK (tokens m c) (argIn m c) (argGk m c) (argKV m c) := by
  funext y
  have h1 : (y 1).val < 2048 := (y 1).isLt
  unfold product11 plainK
  rw [laidIn_eq, laidK_eq, cosT_eq, sinT_eq, gainKV_fun, ← rowK_eq _ _ _ _ _ _ _ (by omega) (by omega),
    show 128 * ((y 1).val / 128) + (y 1).val % 128 = (y 1).val by omega]

theorem product12_eq : product12 m c = plainV (tokens m c) (argIn m c) (argGk m c) (argKV m c) := by
  funext y
  have h1 : (y 1).val < 1024 := (y 1).isLt
  unfold product12 plainV
  rw [laidIn_eq, laidV_eq, gainKV_fun, ← rowV_eq _ _ _ _ _ _ (by omega) (by omega),
    show 64 * ((y 1).val / 64) + (y 1).val % 64 = (y 1).val by omega]

end Kernel

/-! ### The reference -/

section Reference
open Cert.Reference7Ideal Cert.Reference7Ideal.Read
variable (X : S65536x1024.Idx → EReal) (W : S1024x672.Idx → EReal) (G : S384.Idx → EReal) (H : S256.Idx → EReal) (A : S384x1536.Idx → EReal)
  (B : S256x2048.Idx → EReal)

/-- The token of a batch and a position. -/
def tok (b : Fin 32) (s : Fin 2048) : Fin 65536 := ⟨2048 * b.val + s.val, by omega⟩
abbrev at3 (b : Fin 32) (s : Fin 2048) : Fin 1024 → EReal := rowAt X (tok b s)
abbrev refLq (b : Fin 32) (s : Fin 2048) : Fin 384 → EReal := latq (at3 X b s) W (fun j => G (ix1 j))
abbrev refLk (b : Fin 32) (s : Fin 2048) : Fin 256 → EReal := latkv (at3 X b s) W (fun j => H (ix1 j))

theorem r1 (i : S32x2048x672.Idx) : val_main_v1 (F := Ideal) X W i = dotc (at3 X (i 0) (i 1)) W (i 2).val := by
  refine (val_main_v1_apply X W i).trans (Finset.sum_congr rfl fun k _ => ?_)
  refine congrArg₂ (fun a b : EReal => a * b) ((val_main_v0_apply (F := Ideal) X (lidx_main_v1 i k)).trans (congrArg X (funext fun a => ?_))) ((congrArg W (funext fun a => ?_)).trans (col_of W k (i 2)).symm)
  · have h0 : (i 0).val < 32 := (i 0).isLt
    have h1 : (i 1).val < 2048 := (i 1).isLt
    have h2 : k.val < 1024 := k.isLt
    match a with
    | ⟨0, _⟩ =>
      refine Fin.ext ?_
      show (((i 0).val * 2048 + (i 1).val) * 1024 + k.val) / 1024 = 2048 * (i 0).val + (i 1).val
      omega
    | ⟨1, _⟩ =>
      refine Fin.ext ?_
      show (((i 0).val * 2048 + (i 1).val) * 1024 + k.val) % 1024 = k.val
      omega
  · match a with | ⟨0, _⟩ => rfl | ⟨1, _⟩ => rfl

theorem r2 (i : S32x2048x384.Idx) : val_main_v2 (F := Ideal) X W i = dotc (at3 X (i 0) (i 1)) W (i 2).val :=
  (val_main_v2_apply (F := Ideal) X W i).trans (r1 X W (idx_main_v2 i))
theorem r3 (i : S32x2048x256.Idx) : val_main_v3 (F := Ideal) X W i = dotc (at3 X (i 0) (i 1)) W (384 + (i 2).val) :=
  (val_main_v3_apply (F := Ideal) X W i).trans (r1 X W (idx_main_v3 i))
theorem r4 (i : S32x2048x32.Idx) : val_main_v4 (F := Ideal) X W i = dotc (at3 X (i 0) (i 1)) W (640 + (i 2).val) :=
  (val_main_v4_apply (F := Ideal) X W i).trans (r1 X W (idx_main_v4 i))

theorem r17 (i : S32x2048x384.Idx) : val_main_v17 (F := Ideal) X W G i = refLq X W G (i 0) (i 1) (i 2) := by
  rw [val_main_v17_apply, val_main_v14_apply, val_main_v13_apply, val_main_v12_apply, val_main_v11_apply, val_main_v9_apply, val_main_v7_apply, val_main_v6_apply,
    val_main_v16_apply, val_main_v15_apply, r2]
  unfold refLq latq nrm
  refine congrArg₂ (fun a b : EReal => dotc (at3 X (i 0) (i 1)) W (i 2).val *
    Ideal.rsqrt (Ideal.div a (Ideal.ofBits .f32 0x43C00000#32) + Ideal.ofBits .f32 0x358637BD#32) * b) ?_ (congrArg G (funext fun a => by match a with | ⟨0, _⟩ => rfl))
  show Ideal.ofBits .f32 0x00000000#32 + _ = _
  rw [Ideal.ofBits_zero_f32, zero_add]
  refine Finset.sum_congr rfl fun k _ => ?_
  rw [val_main_v5_apply, r2]
  rfl

theorem r32 (i : S32x2048x256.Idx) : val_main_v32 (F := Ideal) X W H i = refLk X W H (i 0) (i 1) (i 2) := by
  rw [val_main_v32_apply, val_main_v29_apply, val_main_v28_apply, val_main_v27_apply, val_main_v26_apply, val_main_v24_apply, val_main_v22_apply, val_main_v21_apply,
    val_main_v31_apply, val_main_v30_apply, r3]
  unfold refLk latkv nrm
  refine congrArg₂ (fun a b : EReal => dotc (at3 X (i 0) (i 1)) W (384 + (i 2).val) *
    Ideal.rsqrt (Ideal.div a (Ideal.ofBits .f32 0x43800000#32) + Ideal.ofBits .f32 0x358637BD#32) * b) ?_ (congrArg H (funext fun a => by match a with | ⟨0, _⟩ => rfl))
  show Ideal.ofBits .f32 0x00000000#32 + _ = _
  rw [Ideal.ofBits_zero_f32, zero_add]
  refine Finset.sum_congr rfl fun k _ => ?_
  rw [val_main_v20_apply, r3]
  rfl

theorem r18 (i : S32x2048x1536.Idx) : val_main_v18 (F := Ideal) X W G A i = dotc (refLq X W G (i 0) (i 1)) A (i 2).val := by
  refine (val_main_v18_apply X W G A i).trans (Finset.sum_congr rfl fun k _ => ?_)
  refine congrArg₂ (fun a b : EReal => a * b) (r17 X W G _) ((congrArg A (funext fun a => ?_)).trans (col_of A k (i 2)).symm)
  match a with | ⟨0, _⟩ => rfl | ⟨1, _⟩ => rfl

theorem r33 (i : S32x2048x2048.Idx) : val_main_v33 (F := Ideal) X W H B i = dotc (refLk X W H (i 0) (i 1)) B (i 2).val := by
  refine (val_main_v33_apply X W H B i).trans (Finset.sum_congr rfl fun k _ => ?_)
  refine congrArg₂ (fun a b : EReal => a * b) (r32 X W H _) ((congrArg B (funext fun a => ?_)).trans (col_of B k (i 2)).symm)
  match a with | ⟨0, _⟩ => rfl | ⟨1, _⟩ => rfl

theorem idx19 (i : S32x2048x16x96.Idx) (h : 96 * (i 2).val + (i 3).val < 1536) : idx_main_v19 i = ix3 (i 0) (i 1) (⟨96 * (i 2).val + (i 3).val, h⟩ : Fin 1536) := by
  have h0 : (i 0).val < 32 := (i 0).isLt
  have h1 : (i 1).val < 2048 := (i 1).isLt
  have h2 : (i 2).val < 16 := (i 2).isLt
  have h3 : (i 3).val < 96 := (i 3).isLt
  funext a
  match a with
  | ⟨0, _⟩ =>
    refine Fin.ext ?_
    show ((((i 0).val * 2048 + (i 1).val) * 16 + (i 2).val) * 96 + (i 3).val) / 3145728 = (i 0).val
    omega
  | ⟨1, _⟩ =>
    refine Fin.ext ?_
    show ((((i 0).val * 2048 + (i 1).val) * 16 + (i 2).val) * 96 + (i 3).val) / 1536 % 2048 = (i 1).val
    omega
  | ⟨2, _⟩ =>
    refine Fin.ext ?_
    show ((((i 0).val * 2048 + (i 1).val) * 16 + (i 2).val) * 96 + (i 3).val) % 1536 = 96 * (i 2).val + (i 3).val
    omega

theorem r19 (i : S32x2048x16x96.Idx) : val_main_v19 (F := Ideal) X W G A i = dotc (refLq X W G (i 0) (i 1)) A (96 * (i 2).val + (i 3).val) := by
  have h2 : (i 2).val < 16 := (i 2).isLt
  have h3 : (i 3).val < 96 := (i 3).isLt
  have h : 96 * (i 2).val + (i 3).val < 1536 := by omega
  refine (val_main_v19_apply (F := Ideal) X W G A i).trans ?_
  refine (congrArg (val_main_v18 (F := Ideal) X W G A) (idx19 i h)).trans ?_
  exact r18 X W G A _

theorem idx34 (i : S32x2048x16x128.Idx) (h : 128 * (i 2).val + (i 3).val < 2048) : idx_main_v34 i = ix3 (i 0) (i 1) (⟨128 * (i 2).val + (i 3).val, h⟩ : Fin 2048) := by
  have h0 : (i 0).val < 32 := (i 0).isLt
  have h1 : (i 1).val < 2048 := (i 1).isLt
  have h2 : (i 2).val < 16 := (i 2).isLt
  have h3 : (i 3).val < 128 := (i 3).isLt
  funext a
  match a with
  | ⟨0, _⟩ =>
    refine Fin.ext ?_
    show ((((i 0).val * 2048 + (i 1).val) * 16 + (i 2).val) * 128 + (i 3).val) / 4194304 = (i 0).val
    omega
  | ⟨1, _⟩ =>
    refine Fin.ext ?_
    show ((((i 0).val * 2048 + (i 1).val) * 16 + (i 2).val) * 128 + (i 3).val) / 2048 % 2048 = (i 1).val
    omega
  | ⟨2, _⟩ =>
    refine Fin.ext ?_
    show ((((i 0).val * 2048 + (i 1).val) * 16 + (i 2).val) * 128 + (i 3).val) % 2048 = 128 * (i 2).val + (i 3).val
    omega

theorem r34 (i : S32x2048x16x128.Idx) : val_main_v34 (F := Ideal) X W H B i = dotc (refLk X W H (i 0) (i 1)) B (128 * (i 2).val + (i 3).val) := by
  have h2 : (i 2).val < 16 := (i 2).isLt
  have h3 : (i 3).val < 128 := (i 3).isLt
  have h : 128 * (i 2).val + (i 3).val < 2048 := by omega
  refine (val_main_v34_apply (F := Ideal) X W H B i).trans ?_
  refine (congrArg (val_main_v33 (F := Ideal) X W H B) (idx34 i h)).trans ?_
  exact r33 X W H B _

/-! The tables. -/

theorem t51 : val_main_v51 (F := Ideal) = cosA := rfl
theorem t53 : val_main_v53 (F := Ideal) = sinA := rfl
theorem t86 : val_main_v86 (F := Ideal) = cosA := rfl
theorem t88 : val_main_v88 (F := Ideal) = sinA := rfl

theorem tab (T : S2048x16.Idx → EReal) (i : S2048x16.Idx) : T i = col T (i 0) (i 1).val :=
  (congrArg T (eq_ix2 i)).trans (col_of T (i 0) (i 1)).symm

/-! Queries. -/

theorem r63 (i : S32x2048x16x16.Idx) : val_main_v63 (F := Ideal) X W G A i
    = dotc (refLq X W G (i 0) (i 1)) A (96 * (i 2).val + (64 + (i 3).val)) * col cosA (i 1) (i 3).val
      - dotc (refLq X W G (i 0) (i 1)) A (96 * (i 2).val + (64 + (16 + (i 3).val))) * col sinA (i 1) (i 3).val := by
  rw [val_main_v63_apply, val_main_v59_apply, val_main_v62_apply, val_main_v55_apply, val_main_v56_apply, val_main_v38_apply, val_main_v38_apply, r19, r19,
    val_main_v58_apply, val_main_v57_apply, val_main_v52_apply, val_main_v61_apply, val_main_v60_apply, val_main_v54_apply, t51, t53, tab cosA, tab sinA]
  rfl

theorem r70 (i : S32x2048x16x16.Idx) : val_main_v70 (F := Ideal) X W G A i
    = dotc (refLq X W G (i 0) (i 1)) A (96 * (i 2).val + (64 + (i 3).val)) * col sinA (i 1) (i 3).val
      + dotc (refLq X W G (i 0) (i 1)) A (96 * (i 2).val + (64 + (16 + (i 3).val))) * col cosA (i 1) (i 3).val := by
  rw [val_main_v70_apply, val_main_v66_apply, val_main_v69_apply, val_main_v55_apply, val_main_v56_apply, val_main_v38_apply, val_main_v38_apply, r19, r19,
    val_main_v65_apply, val_main_v64_apply, val_main_v54_apply, val_main_v68_apply, val_main_v67_apply, val_main_v52_apply, t51, t53, tab cosA, tab sinA]
  rfl

abbrev partsQ : List ((s : Shape) × (s.Idx → EReal)) :=
  [⟨S32x2048x16x64, val_main_v37 (F := Ideal) X W G A⟩, ⟨S32x2048x16x32, val_main_v71 (F := Ideal) X W G A⟩, ⟨S32x2048x16x32, val_main_v36 (F := Ideal)⟩]

theorem r72 (b : Fin 32) (s : Fin 2048) (h : Fin 16) (e : Fin 128) :
    val_main_v72 (F := Ideal) X W G A (ix4 b s h e) = laneQ (at3 X b s) W (fun j => G (ix1 j)) A s h.val e.val := by
  have he := e.isLt
  unfold laneQ
  by_cases h1 : e.val < 64
  · rw [if_pos h1]
    refine (concatenate_apply_piece (t := S32x2048x16x128) 3 (partsQ X W G A) _ (ix4 b s h e) 0 (by decide : 0 < 3) S32x2048x16x64 (val_main_v37 (F := Ideal) X W G A) rfl rfl 0 rfl
      (ix4 b s h (⟨e.val, h1⟩ : Fin 64)) (fun b hb => by match b with | ⟨0, _⟩ => rfl | ⟨1, _⟩ => rfl | ⟨2, _⟩ => rfl | ⟨3, _⟩ => exact absurd rfl hb) (by exact Nat.zero_add _)).trans ?_
    rw [val_main_v37_apply, r19]
    rfl
  rw [if_neg h1]
  by_cases h3 : e.val < 96
  · refine (concatenate_apply_piece (t := S32x2048x16x128) 3 (partsQ X W G A) _ (ix4 b s h e) 1 (by decide : 1 < 3) S32x2048x16x32 (val_main_v71 (F := Ideal) X W G A) rfl rfl 64 rfl
      (ix4 b s h (⟨e.val - 64, by omega⟩ : Fin 32)) (fun b hb => by match b with | ⟨0, _⟩ => rfl | ⟨1, _⟩ => rfl | ⟨2, _⟩ => rfl | ⟨3, _⟩ => exact absurd rfl hb) (by show 64 + (e.val - 64) = e.val; omega)).trans ?_
    by_cases h2 : e.val < 80
    · rw [if_pos h2]
      refine (concatenate_pair_apply_left (s₁ := S32x2048x16x16) (s₂ := S32x2048x16x16) (3 : Fin 4) (val_main_v63 (F := Ideal) X W G A) (val_main_v70 (F := Ideal) X W G A)
        _ (ix4 b s h (⟨e.val - 64, by omega⟩ : Fin 32)) rfl (ix4 b s h (⟨e.val - 64, by omega⟩ : Fin 16))
        (fun b => by match b with | ⟨0, _⟩ => rfl | ⟨1, _⟩ => rfl | ⟨2, _⟩ => rfl | ⟨3, _⟩ => rfl)).trans ?_
      refine (r63 X W G A _).trans ?_
      show dotc (refLq X W G b s) A (96 * h.val + (64 + (e.val - 64))) * col cosA s (e.val - 64) - dotc (refLq X W G b s) A (96 * h.val + (64 + (16 + (e.val - 64)))) * col sinA s (e.val - 64) = _
      rw [show 64 + (e.val - 64) = e.val by omega, show 64 + (16 + (e.val - 64)) = e.val + 16 by omega]
    · rw [if_neg h2, if_pos h3]
      refine (concatenate_pair_apply_right (s₁ := S32x2048x16x16) (s₂ := S32x2048x16x16) (3 : Fin 4) (val_main_v63 (F := Ideal) X W G A) (val_main_v70 (F := Ideal) X W G A)
        _ (ix4 b s h (⟨e.val - 64, by omega⟩ : Fin 32)) rfl rfl (ix4 b s h (⟨e.val - 80, by omega⟩ : Fin 16))
        (fun b hb => by match b with | ⟨0, _⟩ => rfl | ⟨1, _⟩ => rfl | ⟨2, _⟩ => rfl | ⟨3, _⟩ => exact absurd rfl hb) (by show e.val - 80 + 16 = e.val - 64; omega)).trans ?_
      refine (r70 X W G A _).trans ?_
      show dotc (refLq X W G b s) A (96 * h.val + (64 + (e.val - 80))) * col sinA s (e.val - 80) + dotc (refLq X W G b s) A (96 * h.val + (64 + (16 + (e.val - 80)))) * col cosA s (e.val - 80) = _
      rw [show 64 + (e.val - 80) = e.val - 16 by omega, show 64 + (16 + (e.val - 80)) = e.val by omega]
  · rw [if_neg (by omega), if_neg h3]
    refine (concatenate_apply_piece (t := S32x2048x16x128) 3 (partsQ X W G A) _ (ix4 b s h e) 2 (by decide : 2 < 3) S32x2048x16x32 (val_main_v36 (F := Ideal)) rfl rfl 96 rfl
      (ix4 b s h (⟨e.val - 96, by omega⟩ : Fin 32)) (fun b hb => by match b with | ⟨0, _⟩ => rfl | ⟨1, _⟩ => rfl | ⟨2, _⟩ => rfl | ⟨3, _⟩ => exact absurd rfl hb) (by show 96 + (e.val - 96) = e.val; omega)).trans ?_
    exact Ideal.ofBits_zero_f32

/-! Keys. -/

theorem r98 (i : S32x2048x1x16.Idx) : val_main_v98 (F := Ideal) X W i
    = dotc (at3 X (i 0) (i 1)) W (640 + (i 3).val) * col cosA (i 1) (i 3).val - dotc (at3 X (i 0) (i 1)) W (640 + (16 + (i 3).val)) * col sinA (i 1) (i 3).val := by
  rw [val_main_v98_apply, val_main_v94_apply, val_main_v97_apply, val_main_v90_apply, val_main_v91_apply, val_main_v73_apply, val_main_v73_apply, r4, r4,
    val_main_v93_apply, val_main_v92_apply, val_main_v87_apply, val_main_v96_apply, val_main_v95_apply, val_main_v89_apply, t86, t88, tab cosA, tab sinA]
  rfl

theorem r105 (i : S32x2048x1x16.Idx) : val_main_v105 (F := Ideal) X W i
    = dotc (at3 X (i 0) (i 1)) W (640 + (i 3).val) * col sinA (i 1) (i 3).val + dotc (at3 X (i 0) (i 1)) W (640 + (16 + (i 3).val)) * col cosA (i 1) (i 3).val := by
  rw [val_main_v105_apply, val_main_v101_apply, val_main_v104_apply, val_main_v90_apply, val_main_v91_apply, val_main_v73_apply, val_main_v73_apply, r4, r4,
    val_main_v100_apply, val_main_v99_apply, val_main_v89_apply, val_main_v103_apply, val_main_v102_apply, val_main_v87_apply, t86, t88, tab cosA, tab sinA]
  rfl

abbrev partsK : List ((s : Shape) × (s.Idx → EReal)) :=
  [⟨S32x2048x16x64, val_main_v108 (F := Ideal) X W H B⟩, ⟨S32x2048x16x32, val_main_v107 (F := Ideal) X W⟩, ⟨S32x2048x16x32, val_main_v36 (F := Ideal)⟩]

theorem idx107 (b : Fin 32) (s : Fin 2048) (h : Fin 16) (f : Fin 32) : idx_main_v107 (ix4 b s h f) = ix4 b s (0 : Fin 1) f := by
  funext a
  match a with | ⟨0, _⟩ => rfl | ⟨1, _⟩ => rfl | ⟨2, _⟩ => rfl | ⟨3, _⟩ => rfl

theorem r109 (b : Fin 32) (s : Fin 2048) (h : Fin 16) (e : Fin 128) :
    val_main_v109 (F := Ideal) X W H B (ix4 b s h e) = laneK (at3 X b s) W (fun j => H (ix1 j)) B s h.val e.val := by
  have he := e.isLt
  unfold laneK
  by_cases h1 : e.val < 64
  · rw [if_pos h1]
    refine (concatenate_apply_piece (t := S32x2048x16x128) 3 (partsK X W H B) _ (ix4 b s h e) 0 (by decide : 0 < 3) S32x2048x16x64 (val_main_v108 (F := Ideal) X W H B) rfl rfl 0 rfl
      (ix4 b s h (⟨e.val, h1⟩ : Fin 64)) (fun b hb => by match b with | ⟨0, _⟩ => rfl | ⟨1, _⟩ => rfl | ⟨2, _⟩ => rfl | ⟨3, _⟩ => exact absurd rfl hb) (by exact Nat.zero_add _)).trans ?_
    rw [val_main_v108_apply, r34]
    rfl
  rw [if_neg h1]
  by_cases h3 : e.val < 96
  · refine (concatenate_apply_piece (t := S32x2048x16x128) 3 (partsK X W H B) _ (ix4 b s h e) 1 (by decide : 1 < 3) S32x2048x16x32 (val_main_v107 (F := Ideal) X W) rfl rfl 64 rfl
      (ix4 b s h (⟨e.val - 64, by omega⟩ : Fin 32)) (fun b hb => by match b with | ⟨0, _⟩ => rfl | ⟨1, _⟩ => rfl | ⟨2, _⟩ => rfl | ⟨3, _⟩ => exact absurd rfl hb) (by show 64 + (e.val - 64) = e.val; omega)).trans ?_
    refine (val_main_v107_apply (F := Ideal) X W _).trans ?_
    refine (congrArg (val_main_v106 (F := Ideal) X W) (idx107 b s h _)).trans ?_
    by_cases h2 : e.val < 80
    · rw [if_pos h2]
      refine (concatenate_pair_apply_left (s₁ := S32x2048x1x16) (s₂ := S32x2048x1x16) (3 : Fin 4) (val_main_v98 (F := Ideal) X W) (val_main_v105 (F := Ideal) X W)
        _ (ix4 b s (0 : Fin 1) (⟨e.val - 64, by omega⟩ : Fin 32)) rfl (ix4 b s (0 : Fin 1) (⟨e.val - 64, by omega⟩ : Fin 16))
        (fun b => by match b with | ⟨0, _⟩ => rfl | ⟨1, _⟩ => rfl | ⟨2, _⟩ => rfl | ⟨3, _⟩ => rfl)).trans ?_
      refine (r98 X W _).trans ?_
      show dotc (at3 X b s) W (640 + (e.val - 64)) * col cosA s (e.val - 64) - dotc (at3 X b s) W (640 + (16 + (e.val - 64))) * col sinA s (e.val - 64) = _
      rw [show 640 + (e.val - 64) = 576 + e.val by omega, show 640 + (16 + (e.val - 64)) = 592 + e.val by omega]
    · rw [if_neg h2, if_pos h3]
      refine (concatenate_pair_apply_right (s₁ := S32x2048x1x16) (s₂ := S32x2048x1x16) (3 : Fin 4) (val_main_v98 (F := Ideal) X W) (val_main_v105 (F := Ideal) X W)
        _ (ix4 b s (0 : Fin 1) (⟨e.val - 64, by omega⟩ : Fin 32)) rfl rfl (ix4 b s (0 : Fin 1) (⟨e.val - 80, by omega⟩ : Fin 16))
        (fun b hb => by match b with | ⟨0, _⟩ => rfl | ⟨1, _⟩ => rfl | ⟨2, _⟩ => rfl | ⟨3, _⟩ => exact absurd rfl hb) (by show e.val - 80 + 16 = e.val - 64; omega)).trans ?_
      refine (r105 X W _).trans ?_
      show dotc (at3 X b s) W (640 + (e.val - 80)) * col sinA s (e.val - 80) + dotc (at3 X b s) W (640 + (16 + (e.val - 80))) * col cosA s (e.val - 80) = _
      rw [show 640 + (e.val - 80) = 560 + e.val by omega, show 640 + (16 + (e.val - 80)) = 576 + e.val by omega]
  · rw [if_neg (by omega), if_neg h3]
    refine (concatenate_apply_piece (t := S32x2048x16x128) 3 (partsK X W H B) _ (ix4 b s h e) 2 (by decide : 2 < 3) S32x2048x16x32 (val_main_v36 (F := Ideal)) rfl rfl 96 rfl
      (ix4 b s h (⟨e.val - 96, by omega⟩ : Fin 32)) (fun b hb => by match b with | ⟨0, _⟩ => rfl | ⟨1, _⟩ => rfl | ⟨2, _⟩ => rfl | ⟨3, _⟩ => exact absurd rfl hb) (by show 96 + (e.val - 96) = e.val; omega)).trans ?_
    exact Ideal.ofBits_zero_f32

/-! The whole arrays. -/

def batch (n : Fin 65536) : Fin 32 := ⟨n.val / 2048, by omega⟩

theorem tok_eq (n : Fin 65536) : tok (batch n) (posOf n) = n := Fin.ext (by show 2048 * (n.val / 2048) + n.val % 2048 = n.val; omega)

theorem idx112 (y : S65536x2048.Idx) (hh : (y 1).val / 128 < 16) (he : (y 1).val % 128 < 128) :
    idx_main_v112 y = ix4 (batch (y 0)) (posOf (y 0)) (⟨(y 1).val / 128, hh⟩ : Fin 16) (⟨(y 1).val % 128, he⟩ : Fin 128) := by
  have h0 : (y 0).val < 65536 := (y 0).isLt
  have h1 : (y 1).val < 2048 := (y 1).isLt
  funext a
  match a with
  | ⟨0, _⟩ =>
    refine Fin.ext ?_
    show ((y 0).val * 2048 + (y 1).val) / 4194304 = (y 0).val / 2048
    omega
  | ⟨1, _⟩ =>
    refine Fin.ext ?_
    show ((y 0).val * 2048 + (y 1).val) / 2048 % 2048 = (y 0).val % 2048
    omega
  | ⟨2, _⟩ =>
    refine Fin.ext ?_
    show ((y 0).val * 2048 + (y 1).val) / 128 % 16 = (y 1).val / 128
    omega
  | ⟨3, _⟩ =>
    refine Fin.ext ?_
    show ((y 0).val * 2048 + (y 1).val) % 128 = (y 1).val % 128
    omega

theorem refQ : (val_main_v113 (F := Ideal) X W G A : S65536x2048.Idx → EReal) = plainQ X W G A := by
  refine funext fun (y : S65536x2048.Idx) => ?_
  obtain ⟨n, j, rfl⟩ : ∃ (n : Fin 65536) (j : Fin 2048), y = ix2 n j := ⟨y 0, y 1, eq_ix2 y⟩
  have h1 : j.val < 2048 := j.isLt
  have hh : j.val / 128 < 16 := by omega
  have he : j.val % 128 < 128 := Nat.mod_lt _ (by decide)
  refine (val_main_v113_apply (F := Ideal) X W G A (ix2 n j)).trans ((val_main_v112_apply (F := Ideal) X W G A (ix2 n j)).trans ?_)
  refine (congrArg (val_main_v111 (F := Ideal) X W G A) (idx112 (ix2 n j) hh he)).trans ?_
  refine (congrArg (fun z : EReal => z * factor) (r72 X W G A _ _ _ _)).trans ?_
  show laneQ (rowAt X (tok (batch n) (posOf n))) W (fun j => G (ix1 j)) A (posOf n) (j.val / 128) (j.val % 128) * factor = plainQ X W G A (ix2 n j)
  rw [tok_eq]
  rfl

theorem idx114 (y : S65536x2048.Idx) (hh : (y 1).val / 128 < 16) (he : (y 1).val % 128 < 128) :
    idx_main_v114 y = ix4 (batch (y 0)) (posOf (y 0)) (⟨(y 1).val / 128, hh⟩ : Fin 16) (⟨(y 1).val % 128, he⟩ : Fin 128) := by
  have h0 : (y 0).val < 65536 := (y 0).isLt
  have h1 : (y 1).val < 2048 := (y 1).isLt
  funext a
  match a with
  | ⟨0, _⟩ =>
    refine Fin.ext ?_
    show ((y 0).val * 2048 + (y 1).val) / 4194304 = (y 0).val / 2048
    omega
  | ⟨1, _⟩ =>
    refine Fin.ext ?_
    show ((y 0).val * 2048 + (y 1).val) / 2048 % 2048 = (y 0).val % 2048
    omega
  | ⟨2, _⟩ =>
    refine Fin.ext ?_
    show ((y 0).val * 2048 + (y 1).val) / 128 % 16 = (y 1).val / 128
    omega
  | ⟨3, _⟩ =>
    refine Fin.ext ?_
    show ((y 0).val * 2048 + (y 1).val) % 128 = (y 1).val % 128
    omega

theorem refK : (val_main_v115 (F := Ideal) X W H B : S65536x2048.Idx → EReal) = plainK X W H B := by
  refine funext fun (y : S65536x2048.Idx) => ?_
  obtain ⟨n, j, rfl⟩ : ∃ (n : Fin 65536) (j : Fin 2048), y = ix2 n j := ⟨y 0, y 1, eq_ix2 y⟩
  have h1 : j.val < 2048 := j.isLt
  have hh : j.val / 128 < 16 := by omega
  have he : j.val % 128 < 128 := Nat.mod_lt _ (by decide)
  refine (val_main_v115_apply (F := Ideal) X W H B (ix2 n j)).trans ((val_main_v114_apply (F := Ideal) X W H B (ix2 n j)).trans ?_)
  refine (congrArg (val_main_v109 (F := Ideal) X W H B) (idx114 (ix2 n j) hh he)).trans ?_
  refine (r109 X W H B _ _ _ _).trans ?_
  show laneK (rowAt X (tok (batch n) (posOf n))) W (fun j => H (ix1 j)) B (posOf n) (j.val / 128) (j.val % 128) = plainK X W H B (ix2 n j)
  rw [tok_eq]
  rfl

theorem idx117 (y : S65536x1024.Idx) (hh : (y 1).val / 64 < 16) (he : (y 1).val % 64 < 64) :
    idx_main_v117 y = ix4 (batch (y 0)) (posOf (y 0)) (⟨(y 1).val / 64, hh⟩ : Fin 16) (⟨(y 1).val % 64, he⟩ : Fin 64) := by
  have h0 : (y 0).val < 65536 := (y 0).isLt
  have h1 : (y 1).val < 1024 := (y 1).isLt
  funext a
  match a with
  | ⟨0, _⟩ =>
    refine Fin.ext ?_
    show ((y 0).val * 1024 + (y 1).val) / 2097152 = (y 0).val / 2048
    omega
  | ⟨1, _⟩ =>
    refine Fin.ext ?_
    show ((y 0).val * 1024 + (y 1).val) / 1024 % 2048 = (y 0).val % 2048
    omega
  | ⟨2, _⟩ =>
    refine Fin.ext ?_
    show ((y 0).val * 1024 + (y 1).val) / 64 % 16 = (y 1).val / 64
    omega
  | ⟨3, _⟩ =>
    refine Fin.ext ?_
    show ((y 0).val * 1024 + (y 1).val) % 64 = (y 1).val % 64
    omega

theorem refV : (val_main_v118 (F := Ideal) X W H B : S65536x1024.Idx → EReal) = plainV X W H B := by
  refine funext fun (y : S65536x1024.Idx) => ?_
  obtain ⟨n, j, rfl⟩ : ∃ (n : Fin 65536) (j : Fin 1024), y = ix2 n j := ⟨y 0, y 1, eq_ix2 y⟩
  have h1 : j.val < 1024 := j.isLt
  have hh : j.val / 64 < 16 := by omega
  have he : j.val % 64 < 64 := Nat.mod_lt _ (by decide)
  refine (val_main_v118_apply (F := Ideal) X W H B (ix2 n j)).trans ((val_main_v117_apply (F := Ideal) X W H B (ix2 n j)).trans ?_)
  refine (congrArg (val_main_v116 (F := Ideal) X W H B) (idx117 (ix2 n j) hh he)).trans ?_
  refine (val_main_v116_apply (F := Ideal) X W H B _).trans ((r34 X W H B _).trans ?_)
  show dotc (latkv (rowAt X (tok (batch n) (posOf n))) W (fun j => H (ix1 j))) B (128 * (j.val / 64) + (64 + j.val % 64)) = plainV X W H B (ix2 n j)
  rw [tok_eq, ← Nat.add_assoc]
  rfl

end Reference

end Cert.Linear7

end
-- ==== Proof.lean ====
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_routed
public import proofs.«01_k».proof.Proof.Gen.ReferenceIdeal.Run
public import proofs.«01_k».proof.Proof.Gen.ReferenceIdeal.Read
public import proofs.«01_k».proof.Proof.Tables
public import proofs.«01_k».proof.Proof.Value
public import proofs.«01_k».proof.Proof.Ref
public import proofs.«01_k».proof.Proof.Same
public import proofs.«01_k».proof.Proof.Attend.Final
public import proofs.«01_k».proof.Proof.Norm.Value3
public import proofs.«01_k».proof.Proof.Linear.Value4
public import proofs.«01_k».proof.Proof.Linear.Value5
public import proofs.«01_k».proof.Proof.Linear.Layout5
public import proofs.«01_k».proof.Proof.Linear.Value6
public import proofs.«01_k».proof.Proof.Linear.Layout6
public import proofs.«01_k».proof.Proof.Linear.Value7
public import proofs.«01_k».proof.Proof.Linear.Layout7
public import proofs.«01_k».proof.Proof.Linear.Plain7
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) (hPre_routed := Cert.Pre_routed.Gen.facts) := by
  intro m g hpre
  rw [Cert.Same.defs, Cert.Same.main]
  exact (θ_run Cert.KernelIdeal.defs _ _).mono (fun r h => ⟨fun c => (h.1 c).2, h.2⟩) (Cert.Moe.run_all (F := Bits) m g hpre)

theorem frame_kernelIdeal :
    Cert.quiescent_KernelIdeal (hKernelIdeal := Cert.KernelIdeal.Gen.facts) (hPre_routed := Cert.Pre_routed.Gen.facts) := by
  intro m g hpre
  exact (θ_run Cert.KernelIdeal.defs _ _).mono (fun r h => ⟨fun c => (h.1 c).2, h.2⟩) (Cert.Moe.run_all (F := Ideal) m g hpre)

theorem frame_referenceIdeal :
    Cert.quiescent_ReferenceIdeal (hReferenceIdeal := Cert.ReferenceIdeal.Gen.facts) (hPre_routed := Cert.Pre_routed.Gen.facts) := by
  intro m g _
  exact (θ_run Cert.ReferenceIdeal.defs _ _).mono
    (fun r h => ⟨fun c => (h c).2, Idealize.ShloMosaic.sem_eq_zero_of_no_sems (by decide) r.2⟩) (Cert.ReferenceIdeal.Value.run m g)

theorem algebraic : Cert.algebraic_KernelIdeal_ReferenceIdeal (hKernelIdeal := Cert.KernelIdeal.Gen.facts)
    (hReferenceIdeal := Cert.ReferenceIdeal.Gen.facts) (hPre_routed := Cert.Pre_routed.Gen.facts) := by
  intro m g m' g' hpre hargs
  have hr : Cert.Moe.Routed m := hpre
  refine ⟨fun c => Cert.Moe.out m c, ?_, ?_⟩
  · exact (θ_run Cert.KernelIdeal.defs _ _).mono (fun r h c => ⟨(h.1 c).1.trans (Cert.Moe.final_out m hr c), (h.1 c).2⟩)
      (Cert.Moe.run_all (F := Ideal) m g hr)
  · refine (θ_run Cert.ReferenceIdeal.defs _ _).mono (fun r h c => ⟨(h c).1.trans ?_, (h c).2⟩) (Cert.ReferenceIdeal.Value.run m' g')
    obtain ⟨a0, a1, a2, a3, a4, a5, a6, a7, a8⟩ := hargs c
    rw [Cert.ReferenceIdeal.Read.val_main_v63_eq, a0, a1, a2, a3, a4, a5, a6, a7, a8]
    exact Cert.Moe.Ref.value _ _ _ _ _ _ _ _ _ (fun t => Cert.Moe.routed_entry (hr c) _)

theorem frame_kernel2 : Cert.quiescent_Kernel2 (hKernel2 := Cert.Kernel2.Gen.facts) := fun m g _ => Cert.Kernel2.Gen.frame m g

theorem frame_kernel2Ideal : Cert.quiescent_Kernel2Ideal (hKernel2Ideal := Cert.Kernel2Ideal.Gen.facts) :=
  fun m g _ => Cert.Kernel2Ideal.Gen.frame m g

theorem frame_reference2Ideal : Cert.quiescent_Reference2Ideal (hReference2Ideal := Cert.Reference2Ideal.Gen.facts) := fun m g _ =>
  (θ_run Cert.Reference2Ideal.defs _ _).mono
    (fun r h => ⟨fun c => (h c).2.2, Idealize.ShloMosaic.sem_eq_zero_of_no_sems (by decide) r.2⟩) (Cert.Reference2Ideal.Value.run m g)

/-- Each of the four named constants is, as a word, the rounding of the real number that its name stands for, or the
    stand-in for minus infinity. -/
theorem preserves2 : Cert.preserves_Kernel2_Kernel2Ideal :=
  ⟨IdealRules.named_const.statement Cert.Kernel2Ideal.κ "scale" .f32 0x3E38AA3B#32 _ rfl,
   IdealRules.named_const.statement Cert.Kernel2Ideal.κ "slope" .f32 0x40B8AA3B#32 _ rfl,
   IdealRules.named_const.statement Cert.Kernel2Ideal.κ "mask" .f32 0xF149F2CA#32 _ rfl,
   IdealRules.named_const.statement Cert.Kernel2Ideal.κ "log2e" .f32 0x3FB8AA3B#32 _ rfl⟩

theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => Cert.Reference2Ideal.Read.val_main_v78 (F := Ideal) (Cert.Attend.arg m c),
    fun c => Cert.Reference2Ideal.Read.val_main_v79 (F := Ideal) (Cert.Attend.arg m c), ?_, ?_⟩
  · exact (θ_run Cert.Kernel2Ideal.defs _ _).mono
      (fun r h c => ⟨(h c).1.trans (Cert.Attend.final4 m c (hpre c)), (h c).2.1.trans (Cert.Attend.final5 m c (hpre c)), (h c).2.2⟩)
      (Cert.Kernel2Ideal.Value.run_blocks (F := Ideal) m g)
  · refine (θ_run Cert.Reference2Ideal.defs _ _).mono (fun r h c => ⟨(h c).1.trans ?_, (h c).2.1.trans ?_, (h c).2.2⟩)
      (Cert.Reference2Ideal.Value.run m' g')
    · rw [Cert.Reference2Ideal.Read.val_main_v78_eq, hargs c]
    · rw [Cert.Reference2Ideal.Read.val_main_v79_eq, hargs c]

theorem frame_reference3Ideal : Cert.quiescent_Reference3Ideal (hReference3Ideal := Cert.Reference3Ideal.Gen.facts) := fun m g _ =>
  (θ_run Cert.Reference3Ideal.defs _ _).mono
    (fun r h => ⟨fun c => (h c).2, Idealize.ShloMosaic.sem_eq_zero_of_no_sems (by decide) r.2⟩) (Cert.Reference3Ideal.Value.run m g)

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Norm3.result m c, ?_, ?_⟩
  · exact (θ_run Cert.Kernel3Ideal.defs _ _).mono (fun r h c => ⟨(h c).1.trans (Cert.Norm3.final_out m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run m' g')
    obtain ⟨a0, a1, a2, a3, a4⟩ := hargs c
    rw [Cert.Reference3Ideal.Read.val_main_v28_eq, a0, a1, a2, a3, a4]
    exact funext (Cert.Norm3.Ref.value _ _ _ _ _)

theorem frame_reference4Ideal : Cert.quiescent_Reference4Ideal (hReference4Ideal := Cert.Reference4Ideal.Gen.facts) := fun m g _ =>
  (θ_run Cert.Reference4Ideal.defs _ _).mono
    (fun r h => ⟨fun c => (h c).2, Idealize.ShloMosaic.sem_eq_zero_of_no_sems (by decide) r.2⟩) (Cert.Reference4Ideal.Value.run m g)

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Linear4.product m c, ?_, ?_⟩
  · exact (θ_run Cert.Kernel4Ideal.defs _ _).mono (fun r h c => ⟨(h c).1.trans (Cert.Linear4.final_out m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run m' g')
    obtain ⟨a0, a1⟩ := hargs c
    rw [Cert.Reference4Ideal.Read.val_main_v1_eq, a0, a1]
    exact Cert.Linear4.ref_value m c

theorem frame_reference5Ideal : Cert.quiescent_Reference5Ideal (hReference5Ideal := Cert.Reference5Ideal.Gen.facts) := fun m g _ =>
  (θ_run Cert.Reference5Ideal.defs _ _).mono
    (fun r h => ⟨fun c => (h c).2.2.2.2.2.2.2.2, Idealize.ShloMosaic.sem_eq_zero_of_no_sems (by decide) r.2⟩) (Cert.Reference5Ideal.Value.run m g)

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Linear5.product2 m c, fun c => Cert.Linear5.product3 m c, fun c => Cert.Linear5.product4 m c, fun c => Cert.Linear5.product5 m c, fun c => Cert.Linear5.product6 m c, fun c => Cert.Linear5.product7 m c, fun c => Cert.Linear5.product8 m c, fun c => Cert.Linear5.product9 m c, ?_, ?_⟩
  · exact (θ_run Cert.Kernel5Ideal.defs _ _).mono (fun r h c => ⟨(h c).1.trans (Cert.Linear5.final2 m c),
        (h c).2.1.trans (Cert.Linear5.final3 m c),
        (h c).2.2.1.trans (Cert.Linear5.final4 m c),
        (h c).2.2.2.1.trans (Cert.Linear5.final5 m c),
        (h c).2.2.2.2.1.trans (Cert.Linear5.final6 m c),
        (h c).2.2.2.2.2.1.trans (Cert.Linear5.final7 m c),
        (h c).2.2.2.2.2.2.1.trans (Cert.Linear5.final8 m c),
        (h c).2.2.2.2.2.2.2.1.trans (Cert.Linear5.final9 m c), (h c).2.2.2.2.2.2.2.2⟩)
      (Cert.Kernel5Ideal.Value.run_blocks (F := Ideal) m g)
  · refine (θ_run Cert.Reference5Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.Reference5Ideal.Value.run m' g')
    all_goals obtain ⟨a0, a1⟩ := hargs c
    · rw [Cert.Reference5Ideal.Read.val_main_v17_eq, a0, a1]
      exact Cert.Linear5.ref_value2 m c
    · rw [Cert.Reference5Ideal.Read.val_main_v2_eq, a0, a1]
      exact Cert.Linear5.ref_value3 m c
    · rw [Cert.Reference5Ideal.Read.val_main_v3_eq, a0, a1]
      exact Cert.Linear5.ref_value4 m c
    · rw [Cert.Reference5Ideal.Read.val_main_v22_eq, a0, a1]
      exact Cert.Linear5.ref_value5 m c
    · rw [Cert.Reference5Ideal.Read.val_main_v26_eq, a0, a1]
      exact Cert.Linear5.ref_value6 m c
    · rw [Cert.Reference5Ideal.Read.val_main_v31_eq, a0, a1]
      exact Cert.Linear5.ref_value7 m c
    · rw [Cert.Reference5Ideal.Read.val_main_v35_eq, a0, a1]
      exact Cert.Linear5.ref_value8 m c
    · rw [Cert.Reference5Ideal.Read.val_main_v12_eq, a0, a1]
      exact Cert.Linear5.ref_value9 m c

theorem frame_reference6Ideal : Cert.quiescent_Reference6Ideal (hReference6Ideal := Cert.Reference6Ideal.Gen.facts) := fun m g _ =>
  (θ_run Cert.Reference6Ideal.defs _ _).mono
    (fun r h => ⟨fun c => (h c).2.2.2, Idealize.ShloMosaic.sem_eq_zero_of_no_sems (by decide) r.2⟩) (Cert.Reference6Ideal.Value.run m g)

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Linear6.product2 m c, fun c => Cert.Linear6.product3 m c, fun c => Cert.Linear6.product4 m c, ?_, ?_⟩
  · exact (θ_run Cert.Kernel6Ideal.defs _ _).mono (fun r h c => ⟨(h c).1.trans (Cert.Linear6.final2 m c),
        (h c).2.1.trans (Cert.Linear6.final3 m c),
        (h c).2.2.1.trans (Cert.Linear6.final4 m c), (h c).2.2.2⟩)
      (Cert.Kernel6Ideal.Value.run_blocks (F := Ideal) m g)
  · refine (θ_run Cert.Reference6Ideal.defs _ _).mono (fun r h c => ⟨(h c).1.trans ?_, (h c).2.1.trans ?_, (h c).2.2.1.trans ?_, (h c).2.2.2⟩)
      (Cert.Reference6Ideal.Value.run m' g')
    all_goals obtain ⟨a0, a1⟩ := hargs c
    · rw [Cert.Reference6Ideal.Read.val_main_v4_eq, a0, a1]
      exact Cert.Linear6.ref_value2 m c
    · rw [Cert.Reference6Ideal.Read.val_main_v6_eq, a0, a1]
      exact Cert.Linear6.ref_value3 m c
    · rw [Cert.Reference6Ideal.Read.val_main_v8_eq, a0, a1]
      exact Cert.Linear6.ref_value4 m c

theorem frame_reference7Ideal : Cert.quiescent_Reference7Ideal (hReference7Ideal := Cert.Reference7Ideal.Gen.facts) := fun m g _ =>
  (θ_run Cert.Reference7Ideal.defs _ _).mono
    (fun r h => ⟨fun c => (h c).2.2.2, Idealize.ShloMosaic.sem_eq_zero_of_no_sems (by decide) r.2⟩) (Cert.Reference7Ideal.Value.run m g)

theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Linear7.product10 m c, fun c => Cert.Linear7.product11 m c, fun c => Cert.Linear7.product12 m c, ?_, ?_⟩
  · exact (θ_run Cert.Kernel7Ideal.defs _ _).mono (fun r h c => ⟨(h c).1.trans (Cert.Linear7.final10 m c),
        (h c).2.1.trans (Cert.Linear7.final11 m c),
        (h c).2.2.1.trans (Cert.Linear7.final12 m c), (h c).2.2.2⟩)
      (Cert.Kernel7Ideal.Value.run_blocks (F := Ideal) m g)
  · refine (θ_run Cert.Reference7Ideal.defs _ _).mono (fun r h c => ⟨(h c).1.trans ?_, (h c).2.1.trans ?_, (h c).2.2.1.trans ?_, (h c).2.2.2⟩)
      (Cert.Reference7Ideal.Value.run m' g')
    all_goals obtain ⟨a0, a1, a2, a3, a4, a5⟩ := hargs c
    · rw [Cert.Reference7Ideal.Read.val_main_v113_eq, a0, a1, a2, a4]
      exact (Cert.Linear7.refQ _ _ _ _).trans (Cert.Linear7.product10_eq m c).symm
    · rw [Cert.Reference7Ideal.Read.val_main_v115_eq, a0, a1, a3, a5]
      exact (Cert.Linear7.refK _ _ _ _).trans (Cert.Linear7.product11_eq m c).symm
    · refine (Cert.Reference7Ideal.Read.val_main_v118_eq _ _ _ _).trans ?_
      rw [a0, a1, a3, a5]
      exact (Cert.Linear7.refV _ _ _ _).trans (Cert.Linear7.product12_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_routed.Gen.facts,
  Cert.Pre_finite2.Gen.facts,
  frame_kernel, frame_kernelIdeal, frame_referenceIdeal, frame_kernel2, frame_kernel2Ideal,
  fun m g _ => Cert.Kernel2Ideal.Gen.frame m g, frame_reference2Ideal, fun m g _ => frame_reference2Ideal m g trivial,
  fun m g _ => Cert.Kernel3.Gen.frame m g, fun m g _ => Cert.Kernel3Ideal.Gen.frame m g, frame_reference3Ideal,
  fun m g _ => Cert.Kernel4.Gen.frame m g, fun m g _ => Cert.Kernel4Ideal.Gen.frame m g, frame_reference4Ideal,
  fun m g _ => Cert.Kernel5.Gen.frame m g, fun m g _ => Cert.Kernel5Ideal.Gen.frame m g, frame_reference5Ideal,
  fun m g _ => Cert.Kernel6.Gen.frame m g, fun m g _ => Cert.Kernel6Ideal.Gen.frame m g, frame_reference6Ideal,
  fun m g _ => Cert.Kernel7.Gen.frame m g, fun m g _ => Cert.Kernel7Ideal.Gen.frame m g, frame_reference7Ideal,
  trivial, algebraic, preserves2, algebraic2, trivial, algebraic3, trivial, algebraic4, trivial, algebraic5, trivial, algebraic6, trivial, algebraic7⟩

end Cert.Proof

end
